-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_v60) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v15_0)) (v1 : (c : Dev Cert.Kernel14Ideal.nD) → Buf (Elt Ideal) ((c.tc : Thread Cert.Kernel14Ideal.nD Cert.Kernel14Ideal.τ).loc Cert.Kernel14Ideal.main_v15_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v15_0) = v0 c
          ∧ r.2.mem ((c.tc : Thread Cert.Kernel14Ideal.nD Cert.Kernel14Ideal.τ).loc Cert.Kernel14Ideal.main_v15_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v14)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v14) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v25) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v5_0)) (v1 : (c : Dev Cert.Kernel26Ideal.nD) → Buf (Elt Ideal) ((c.tc : Thread Cert.Kernel26Ideal.nD Cert.Kernel26Ideal.τ).loc Cert.Kernel26Ideal.main_v5_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v5_0) = v0 c
          ∧ r.2.mem ((c.tc : Thread Cert.Kernel26Ideal.nD Cert.Kernel26Ideal.τ).loc Cert.Kernel26Ideal.main_v5_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v45) = v0 c
          ∧ r.2.mem ((c.tc : Thread Cert.Reference26Ideal.nD Cert.Reference26Ideal.τ).loc Cert.Reference26Ideal.main_v60) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Kernel.lean ====
abbrev S16896x8192 : Shape := ⟨2, ![16896, 8192]⟩
abbrev S16896x128 : Shape := ⟨2, ![16896, 128]⟩
abbrev S2x16x1024 : Shape := ⟨3, ![2, 16, 1024]⟩
abbrev S2x1024 : Shape := ⟨2, ![2, 1024]⟩
abbrev S2x2x4x512x256 : Shape := ⟨5, ![2, 2, 4, 512, 256]⟩
abbrev S2x1x1024 : Shape := ⟨3, ![2, 1, 1024]⟩
abbrev S2x16384x2048 : Shape := ⟨3, ![2, 16384, 2048]⟩
abbrev S256x256 : Shape := ⟨2, ![256, 256]⟩
abbrev S256x512 : Shape := ⟨2, ![256, 512]⟩
abbrev S256x128 : Shape := ⟨2, ![256, 128]⟩
abbrev S1x16x256 : Shape := ⟨3, ![1, 16, 256]⟩
abbrev S1x1x256 : Shape := ⟨3, ![1, 1, 256]⟩
abbrev S1x1x1x512x256 : Shape := ⟨5, ![1, 1, 1, 512, 256]⟩
abbrev S1x256x512 : Shape := ⟨3, ![1, 256, 512]⟩
abbrev S512x256 : Shape := ⟨2, ![512, 256]⟩
abbrev S64x64 : Shape := ⟨2, ![64, 64]⟩
abbrev S16x256 : Shape := ⟨2, ![16, 256]⟩
abbrev S64x16 : Shape := ⟨2, ![64, 16]⟩
abbrev S64x256 : Shape := ⟨2, ![64, 256]⟩
abbrev S1x256 : Shape := ⟨2, ![1, 256]⟩
abbrev S64x512 : Shape := ⟨2, ![64, 512]⟩
abbrev S1x64x512 : Shape := ⟨3, ![1, 64, 512]⟩
abbrev S512x64 : Shape := ⟨2, ![512, 64]⟩

abbrev nBuf : Space → Nat
  | .hbm => 8
  | .vmem => 19
  | .smem => 0
  | _ => 0

abbrev bufTy : (tb : Table) → Fin (tcTables nBuf tb) → BufTy
  | .hbm, ⟨0, _⟩ => ⟨S16896x8192, .f32⟩
  | .hbm, ⟨1, _⟩ => ⟨S16896x128, .f32⟩
  | .hbm, ⟨2, _⟩ => ⟨S2x16x1024, .f32⟩
  | .hbm, ⟨3, _⟩ => ⟨S2x1024, .f32⟩
  | .hbm, ⟨4, _⟩ => ⟨S2x2x4x512x256, .f32⟩
  | .hbm, ⟨5, _⟩ => ⟨S2x1x1024, .f32⟩
  | .hbm, ⟨6, _⟩ => ⟨S2x16384x2048, .f32⟩
  | .hbm, ⟨7, _⟩ => ⟨S2x2x4x512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S1x16x256, .f32⟩
  | .local _ .vmem, ⟨9, _⟩ => ⟨S1x16x256, .f32⟩
  | .local _ .vmem, ⟨10, _⟩ => ⟨S1x1x256, .f32⟩
  | .local _ .vmem, ⟨11, _⟩ => ⟨S1x1x256, .f32⟩
  | .local _ .vmem, ⟨12, _⟩ => ⟨S1x1x1x512x256, .f32⟩
  | .local _ .vmem, ⟨13, _⟩ => ⟨S1x1x1x512x256, .f32⟩
  | .local _ .vmem, ⟨14, _⟩ => ⟨S1x256x512, .f32⟩
  | .local _ .vmem, ⟨15, _⟩ => ⟨S1x256x512, .f32⟩
  | .local _ .vmem, ⟨16, _⟩ => ⟨S1x1x1x512x256, .f32⟩
  | .local _ .vmem, ⟨17, _⟩ => ⟨S1x1x1x512x256, .f32⟩
  | .local _ .vmem, ⟨18, _⟩ => ⟨S512x256, .f32⟩
  | _, _ => ⟨S16896x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 4, 2, 32], ![false, false, false, false]⟩

def k0_cond2 (i : grid0.Coords) : BitVec 1 :=
  let arg2 : BitVec 32 := BitVec.ofNat 32 (i 2).val
  let c0_i32_1 : BitVec 32 := 0#32
  let v5 : BitVec 1 := Scalar.cmpi .eq arg2 c0_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def k0_cond4 (i : grid0.Coords) : BitVec 1 :=
  let arg3 : BitVec 32 := BitVec.ofNat 32 (i 3).val
  let c31_i32 : BitVec 32 := 31#32
  let v11 : BitVec 1 := Scalar.cmpi .eq arg3 c31_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg3
  let c2_i32 : BitVec 32 := 2#32
  let v2 : BitVec 32 := Scalar.muli c2_i32 arg3
  let c31_i32 : BitVec 32 := 31#32
  let v3 : BitVec 32 := Scalar.subi c31_i32 v2
  let v4 : BitVec 32 := Scalar.muli arg2 v3
  let v5 : BitVec 32 := Scalar.addi v1 v4
  let c0_i32 : BitVec 32 := 0#32
  let v6 : BitVec 32 := Scalar.addi c0_i32 v5
  let c8_i32 : BitVec 32 := 8#32
  let v7 : BitVec 32 := Scalar.addi c8_i32 arg1
  let c0_i32_0 : BitVec 32 := 0#32
  ![v6.toNat, v7.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg3
  let c2_i32 : BitVec 32 := 2#32
  let v2 : BitVec 32 := Scalar.muli c2_i32 arg3
  let c31_i32 : BitVec 32 := 31#32
  let v3 : BitVec 32 := Scalar.subi c31_i32 v2
  let v4 : BitVec 32 := Scalar.muli arg2 v3
  let v5 : BitVec 32 := Scalar.addi v1 v4
  let c0_i32 : BitVec 32 := 0#32
  let v6 : BitVec 32 := Scalar.addi c0_i32 v5
  let c12_i32 : BitVec 32 := 12#32
  let v7 : BitVec 32 := Scalar.addi c12_i32 arg1
  let c0_i32_0 : BitVec 32 := 0#32
  ![v6.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg3
  let c2_i32 : BitVec 32 := 2#32
  let v2 : BitVec 32 := Scalar.muli c2_i32 arg3
  let c31_i32 : BitVec 32 := 31#32
  let v3 : BitVec 32 := Scalar.subi c31_i32 v2
  let v4 : BitVec 32 := Scalar.muli arg2 v3
  let v5 : BitVec 32 := Scalar.addi v1 v4
  let c0_i32 : BitVec 32 := 0#32
  let v6 : BitVec 32 := Scalar.addi c0_i32 v5
  let c8_i32 : BitVec 32 := 8#32
  let v7 : BitVec 32 := Scalar.addi c8_i32 arg1
  let c0_i32_0 : BitVec 32 := 0#32
  ![v6.toNat, v7.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg3
  let c2_i32 : BitVec 32 := 2#32
  let v2 : BitVec 32 := Scalar.muli c2_i32 arg3
  let c31_i32 : BitVec 32 := 31#32
  let v3 : BitVec 32 := Scalar.subi c31_i32 v2
  let v4 : BitVec 32 := Scalar.muli arg2 v3
  let v5 : BitVec 32 := Scalar.addi v1 v4
  let c0_i32 : BitVec 32 := 0#32
  let v6 : BitVec 32 := Scalar.addi c0_i32 v5
  let c0_i32_0 : BitVec 32 := 0#32
  let c0_i32_1 : BitVec 32 := 0#32
  ![v6.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let v1 : BitVec 32 := Scalar.addi v0 arg3
  let c2_i32 : BitVec 32 := 2#32
  let v2 : BitVec 32 := Scalar.muli c2_i32 arg3
  let c31_i32 : BitVec 32 := 31#32
  let v3 : BitVec 32 := Scalar.subi c31_i32 v2
  let v4 : BitVec 32 := Scalar.muli arg2 v3
  let v5 : BitVec 32 := Scalar.addi v1 v4
  let c0_i32 : BitVec 32 := 0#32
  ![arg2.toNat, v5.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false]

abbrev stage0_6 : Fin 2 → Memref sig .tc .vmem S1x1x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 2 → Memref sig .tc .vmem S1x1x1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== ReferenceIdeal.lean ====
abbrev S16896x8192 : Shape := ⟨2, ![16896, 8192]⟩
abbrev S16896x128 : Shape := ⟨2, ![16896, 128]⟩
abbrev S2x16x1024 : Shape := ⟨3, ![2, 16, 1024]⟩
abbrev S2x1024 : Shape := ⟨2, ![2, 1024]⟩
abbrev S2x2x4x512x256 : Shape := ⟨5, ![2, 2, 4, 512, 256]⟩
abbrev S16384x1024 : Shape := ⟨2, ![16384, 1024]⟩
abbrev S2x8192x1024 : Shape := ⟨3, ![2, 8192, 1024]⟩
abbrev S16384x2048 : Shape := ⟨2, ![16384, 2048]⟩
abbrev S2x8192x2048 : Shape := ⟨3, ![2, 8192, 2048]⟩
abbrev S16384x32 : Shape := ⟨2, ![16384, 32]⟩
abbrev S2x8192x2x16 : Shape := ⟨4, ![2, 8192, 2, 16]⟩
abbrev S2x8192x4x256 : Shape := ⟨4, ![2, 8192, 4, 256]⟩
abbrev S2x4x8192x256 : Shape := ⟨4, ![2, 4, 8192, 256]⟩
abbrev S_ : Shape := ⟨0, ![]⟩
abbrev S2x8192x4x512 : Shape := ⟨4, ![2, 8192, 4, 512]⟩
abbrev S2x4x8192x512 : Shape := ⟨4, ![2, 4, 8192, 512]⟩
abbrev S2x1024x2x8192 : Shape := ⟨4, ![2, 1024, 2, 8192]⟩
abbrev S2x8192x2x1024 : Shape := ⟨4, ![2, 8192, 2, 1024]⟩
abbrev S1x1x2x1024 : Shape := ⟨4, ![1, 1, 2, 1024]⟩
abbrev S2x8192x1x1024 : Shape := ⟨4, ![2, 8192, 1, 1024]⟩
abbrev S2x8x512x256 : Shape := ⟨4, ![2, 8, 512, 256]⟩
abbrev S2x8x256x512 : Shape := ⟨4, ![2, 8, 256, 512]⟩
abbrev S2x8x8192x256 : Shape := ⟨4, ![2, 8, 8192, 256]⟩
abbrev S2x8x8192x512 : Shape := ⟨4, ![2, 8, 8192, 512]⟩
abbrev S2x8x128x64x256 : Shape := ⟨5, ![2, 8, 128, 64, 256]⟩
abbrev S2x8x128x64x512 : Shape := ⟨5, ![2, 8, 128, 64, 512]⟩
abbrev S2x8x128x1x256 : Shape := ⟨5, ![2, 8, 128, 1, 256]⟩
abbrev S2x8x128x256 : Shape := ⟨4, ![2, 8, 128, 256]⟩
abbrev S64x64 : Shape := ⟨2, ![64, 64]⟩
abbrev S2x8x128x64x64 : Shape := ⟨5, ![2, 8, 128, 64, 64]⟩
abbrev S128x2x8x64x256 : Shape := ⟨5, ![128, 2, 8, 64, 256]⟩
abbrev S128x2x8x64x512 : Shape := ⟨5, ![128, 2, 8, 64, 512]⟩
abbrev S128x2x8x256 : Shape := ⟨4, ![128, 2, 8, 256]⟩
abbrev S1x2x8x64x256 : Shape := ⟨5, ![1, 2, 8, 64, 256]⟩
abbrev S2x8x64x256 : Shape := ⟨4, ![2, 8, 64, 256]⟩
abbrev S1x2x8x64x512 : Shape := ⟨5, ![1, 2, 8, 64, 512]⟩
abbrev S2x8x64x512 : Shape := ⟨4, ![2, 8, 64, 512]⟩
abbrev S1x2x8x256 : Shape := ⟨4, ![1, 2, 8, 256]⟩
abbrev S2x8x256 : Shape := ⟨3, ![2, 8, 256]⟩
abbrev S2x8x256x1 : Shape := ⟨4, ![2, 8, 256, 1]⟩
abbrev S1x16384x2048 : Shape := ⟨3, ![1, 16384, 2048]⟩
abbrev S2x16384x2048 : Shape := ⟨3, ![2, 16384, 2048]⟩

abbrev nBuf : Space → Nat
  | .hbm => 172
  | .vmem => 0
  | .smem => 0
  | _ => 0

abbrev hbmTy0_0 (i : Nat) : BufTy := match i % 128 with
  | 0 => ⟨S16896x8192, .f32⟩
  | 1 => ⟨S16896x128, .f32⟩
  | 2 => ⟨S2x16x1024, .f32⟩
  | 3 => ⟨S2x1024, .f32⟩
  | 4 => ⟨S2x2x4x512x256, .f32⟩
  | 5 => ⟨S16384x1024, .f32⟩
  | 6 => ⟨S2x8192x1024, .f32⟩
  | 7 => ⟨S16384x1024, .f32⟩
  | 8 => ⟨S2x8192x1024, .f32⟩
  | 9 => ⟨S16384x2048, .f32⟩
  | 10 => ⟨S2x8192x2048, .f32⟩
  | 11 => ⟨S16384x32, .f32⟩
  | 12 => ⟨S2x8192x2x16, .f32⟩
  | 13 => ⟨S2x8192x4x256, .f32⟩
  | 14 => ⟨S2x4x8192x256, .f32⟩
  | 15 => ⟨S_, .f32⟩
  | 16 => ⟨S2x4x8192x256, .f32⟩
  | 17 => ⟨S2x4x8192x256, .f32⟩
  | 18 => ⟨S2x8192x4x256, .f32⟩
  | 19 => ⟨S2x4x8192x256, .f32⟩
  | 20 => ⟨S2x8192x4x512, .f32⟩
  | 21 => ⟨S2x4x8192x512, .f32⟩
  | 22 => ⟨S2x1024x2x8192, .f32⟩
  | 23 => ⟨S2x8192x2x1024, .f32⟩
  | 24 => ⟨S1x1x2x1024, .f32⟩
  | 25 => ⟨S2x8192x2x1024, .f32⟩
  | 26 => ⟨S2x8192x2x1024, .f32⟩
  | 27 => ⟨S2x8192x2x1024, .f32⟩
  | 28 => ⟨S_, .f32⟩
  | 29 => ⟨S2x8192x2x1024, .f32⟩
  | 30 => ⟨S2x8192x2x1024, .f32⟩
  | 31 => ⟨S2x8192x2x1024, .f32⟩
  | 32 => ⟨S2x8192x2x1024, .f32⟩
  | 33 => ⟨S2x8192x2x1024, .f32⟩
  | 34 => ⟨S2x8192x2x1024, .f32⟩
  | 35 => ⟨S2x8192x2x1024, .f32⟩
  | 36 => ⟨S2x8192x2x1024, .f32⟩
  | 37 => ⟨S_, .f32⟩
  | 38 => ⟨S2x8192x2x1024, .f32⟩
  | 39 => ⟨S2x8192x2x1024, .f32⟩
  | 40 => ⟨S2x8192x1x1024, .f32⟩
  | 41 => ⟨S2x8192x1024, .f32⟩
  | 42 => ⟨S2x8192x4x256, .f32⟩
  | 43 => ⟨S2x4x8192x256, .f32⟩
  | 44 => ⟨S2x8192x1x1024, .f32⟩
  | 45 => ⟨S2x8192x1024, .f32⟩
  | 46 => ⟨S2x8192x4x256, .f32⟩
  | 47 => ⟨S2x4x8192x256, .f32⟩
  | 48 => ⟨S2x8x512x256, .f32⟩
  | 49 => ⟨S2x8x256x512, .f32⟩
  | 50 => ⟨S2x4x8192x256, .f32⟩
  | 51 => ⟨S2x8x8192x256, .f32⟩
  | 52 => ⟨S2x4x8192x256, .f32⟩
  | 53 => ⟨S2x8x8192x256, .f32⟩
  | 54 => ⟨S2x4x8192x512, .f32⟩
  | 55 => ⟨S2x8x8192x512, .f32⟩
  | 56 => ⟨S2x4x8192x256, .f32⟩
  | 57 => ⟨S2x8x8192x256, .f32⟩
  | 58 => ⟨S2x8x128x64x256, .f32⟩
  | 59 => ⟨S2x8x128x64x256, .f32⟩
  | 60 => ⟨S2x8x128x64x256, .f32⟩
  | 61 => ⟨S2x8x128x64x512, .f32⟩
  | 62 => ⟨S_, .f32⟩
  | 63 => ⟨S_, .f32⟩
  | 64 => ⟨S2x8x128x64x256, .f32⟩
  | 65 => ⟨S2x8x128x1x256, .f32⟩
  | 66 => ⟨S2x8x128x256, .f32⟩
  | 67 => ⟨S2x8x128x64x256, .f32⟩
  | 68 => ⟨S2x8x128x64x256, .f32⟩
  | 69 => ⟨S2x8x128x64x256, .f32⟩
  | 70 => ⟨S2x8x128x64x256, .f32⟩
  | 71 => ⟨S2x8x128x64x256, .f32⟩
  | 72 => ⟨S2x8x128x1x256, .f32⟩
  | 73 => ⟨S2x8x128x64x256, .f32⟩
  | 74 => ⟨S2x8x128x64x256, .f32⟩
  | 75 => ⟨S2x8x128x64x256, .f32⟩
  | 76 => ⟨S2x8x128x64x256, .f32⟩
  | 77 => ⟨S_, .i1⟩
  | 78 => ⟨S64x64, .i1⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .i1⟩
  | 86 => ⟨S64x64, .i1⟩
  | 87 => ⟨S64x64, .i1⟩
  | 88 => ⟨S2x8x128x64x64, .f32⟩
  | 89 => ⟨S_, .f32⟩
  | 90 => ⟨S_, .f32⟩
  | 91 => ⟨S2x8x128x64x64, .i1⟩
  | 92 => ⟨S2x8x128x64x64, .f32⟩
  | 93 => ⟨S2x8x128x64x64, .f32⟩
  | 94 => ⟨S2x8x128x64x512, .f32⟩
  | 95 => ⟨S128x2x8x64x256, .f32⟩
  | 96 => ⟨S128x2x8x64x256, .f32⟩
  | 97 => ⟨S128x2x8x64x512, .f32⟩
  | 98 => ⟨S128x2x8x256, .f32⟩
  | 99 => ⟨S128x2x8x64x512, .f32⟩
  | 100 => ⟨S_, .f32⟩
  | 101 => ⟨S128x2x8x64x512, .f32⟩
  | 102 => ⟨S_, .i32⟩
  | 103 => ⟨S128x2x8x64x256, .f32⟩
  | 104 => ⟨S128x2x8x64x256, .f32⟩
  | 105 => ⟨S128x2x8x64x512, .f32⟩
  | 106 => ⟨S128x2x8x256, .f32⟩
  | 107 => ⟨S128x2x8x64x512, .f32⟩
  | 108 => ⟨S_, .i32⟩
  | 109 => ⟨S2x8x256x512, .f32⟩
  | 110 => ⟨S128x2x8x64x512, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S1x2x8x64x256, .f32⟩
  | 118 => ⟨S2x8x64x256, .f32⟩
  | 119 => ⟨S_, .i32⟩
  | 120 => ⟨S_, .i32⟩
  | 121 => ⟨S_, .i32⟩
  | 122 => ⟨S_, .i32⟩
  | 123 => ⟨S1x2x8x64x256, .f32⟩
  | 124 => ⟨S2x8x64x256, .f32⟩
  | 125 => ⟨S_, .i32⟩
  | 126 => ⟨S_, .i32⟩
  | 127 => ⟨S_, .i32⟩
  | _ => ⟨S16896x8192, .f32⟩

abbrev hbmTy0_1 (i : Nat) : BufTy := match i % 128 with
  | 0 => ⟨S_, .i32⟩
  | 1 => ⟨S1x2x8x64x512, .f32⟩
  | 2 => ⟨S2x8x64x512, .f32⟩
  | 3 => ⟨S_, .i32⟩
  | 4 => ⟨S_, .i32⟩
  | 5 => ⟨S_, .i32⟩
  | 6 => ⟨S1x2x8x256, .f32⟩
  | 7 => ⟨S2x8x256, .f32⟩
  | 8 => ⟨S_, .i32⟩
  | 9 => ⟨S_, .i32⟩
  | 10 => ⟨S_, .i32⟩
  | 11 => ⟨S_, .i32⟩
  | 12 => ⟨S1x2x8x64x512, .f32⟩
  | 13 => ⟨S2x8x64x512, .f32⟩
  | 14 => ⟨S2x8x64x512, .f32⟩
  | 15 => ⟨S2x8x64x512, .f32⟩
  | 16 => ⟨S2x8x256, .f32⟩
  | 17 => ⟨S2x8x256x1, .f32⟩
  | 18 => ⟨S2x8x256x512, .f32⟩
  | 19 => ⟨S2x8x256x512, .f32⟩
  | 20 => ⟨S2x8x256x512, .f32⟩
  | 21 => ⟨S2x8x256x512, .f32⟩
  | 22 => ⟨S1x2x8x64x512, .f32⟩
  | 23 => ⟨S_, .i32⟩
  | 24 => ⟨S_, .i32⟩
  | 25 => ⟨S_, .i32⟩
  | 26 => ⟨S_, .i32⟩
  | 27 => ⟨S128x2x8x64x512, .f32⟩
  | 28 => ⟨S_, .i32⟩
  | 29 => ⟨S_, .i32⟩
  | 30 => ⟨S2x8x128x64x512, .f32⟩
  | 31 => ⟨S2x8x8192x512, .f32⟩
  | 32 => ⟨S2x4x8192x512, .f32⟩
  | 33 => ⟨S2x4x8192x512, .f32⟩
  | 34 => ⟨S2x4x8192x512, .f32⟩
  | 35 => ⟨S2x8192x4x512, .f32⟩
  | 36 => ⟨S16384x2048, .f32⟩
  | 37 => ⟨S2x8192x4x512, .f32⟩
  | 38 => ⟨S16384x2048, .f32⟩
  | 39 => ⟨S1x16384x2048, .f32⟩
  | 40 => ⟨S1x16384x2048, .f32⟩
  | 41 => ⟨S2x16384x2048, .f32⟩
  | 42 => ⟨S2x8x512x256, .f32⟩
  | 43 => ⟨S2x2x4x512x256, .f32⟩
  | _ => ⟨S16896x8192, .f32⟩

abbrev hbmTy (i : Nat) : BufTy := match i / 128 with
  | 0 => hbmTy0_0 i
  | 1 => hbmTy0_1 i
  | _ => ⟨S16896x8192, .f32⟩

abbrev bufTy : (tb : Table) → Fin (tcTables nBuf tb) → BufTy
  | .hbm, ⟨i, _⟩ => hbmTy i
  | _, _ => ⟨S16896x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_call4_call0_cst : Ref sig .tc := ⟨.hbm, 62, rfl⟩
abbrev main_call4_call0_v0 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c : Ref sig .tc := ⟨.hbm, 77, rfl⟩
abbrev main_v67 : Ref sig .tc := ⟨.hbm, 78, rfl⟩
abbrev main_call5_v0 : Ref sig .tc := ⟨.hbm, 79, rfl⟩
abbrev main_call5_c : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_c_0 : Ref sig .tc := ⟨.hbm, 85, rfl⟩
abbrev main_call5_v5 : Ref sig .tc := ⟨.hbm, 86, rfl⟩
abbrev main_v68 : Ref sig .tc := ⟨.hbm, 87, rfl⟩
abbrev main_v69 : Ref sig .tc := ⟨.hbm, 88, rfl⟩
abbrev main_cst_2 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_3 : Ref sig .tc := ⟨.hbm, 100, rfl⟩
abbrev main_v77 : Ref sig .tc := ⟨.hbm, 101, rfl⟩
abbrev main_c_4 : Ref sig .tc := ⟨.hbm, 102, rfl⟩
abbrev main_v78_0 : Ref sig .tc := ⟨.hbm, 103, rfl⟩
abbrev main_v78_1 : Ref sig .tc := ⟨.hbm, 104, rfl⟩
abbrev main_v78_2 : Ref sig .tc := ⟨.hbm, 105, rfl⟩
abbrev main_v78_3 : Ref sig .tc := ⟨.hbm, 106, rfl⟩
abbrev main_v78_4 : Ref sig .tc := ⟨.hbm, 107, rfl⟩
abbrev main_v78_5 : Ref sig .tc := ⟨.hbm, 108, rfl⟩
abbrev main_v78_6 : Ref sig .tc := ⟨.hbm, 109, rfl⟩
abbrev main_v78_7 : Ref sig .tc := ⟨.hbm, 110, rfl⟩
abbrev main_while0c_c_12 : Ref sig .tc := ⟨.hbm, 111, rfl⟩
abbrev main_while0c_v93 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_c_2 : Ref sig .tc := ⟨.hbm, 116, rfl⟩
abbrev main_while0b_call7_v0 : Ref sig .tc := ⟨.hbm, 117, rfl⟩
abbrev main_while0b_v93 : Ref sig .tc := ⟨.hbm, 118, rfl⟩
abbrev main_while0b_call8_c : Ref sig .tc := ⟨.hbm, 119, rfl⟩
abbrev main_while0b_call8_c_0 : Ref sig .tc := ⟨.hbm, 120, rfl⟩
abbrev main_while0b_call8_c_1 : Ref sig .tc := ⟨.hbm, 121, rfl⟩
abbrev main_while0b_call8_c_2 : Ref sig .tc := ⟨.hbm, 122, rfl⟩
abbrev main_while0b_call8_v0 : Ref sig .tc := ⟨.hbm, 123, rfl⟩
abbrev main_while0b_v94 : Ref sig .tc := ⟨.hbm, 124, rfl⟩
abbrev main_while0b_call9_c : Ref sig .tc := ⟨.hbm, 125, rfl⟩
abbrev main_while0b_call9_c_0 : Ref sig .tc := ⟨.hbm, 126, rfl⟩
abbrev main_while0b_call9_c_1 : Ref sig .tc := ⟨.hbm, 127, rfl⟩
abbrev main_while0b_call9_c_2 : Ref sig .tc := ⟨.hbm, 128, rfl⟩
abbrev main_while0b_call9_v0 : Ref sig .tc := ⟨.hbm, 129, rfl⟩
abbrev main_while0b_v95 : Ref sig .tc := ⟨.hbm, 130, rfl⟩
abbrev main_while0b_call10_c : Ref sig .tc := ⟨.hbm, 131, rfl⟩
abbrev main_while0b_call10_c_0 : Ref sig .tc := ⟨.hbm, 132, rfl⟩
abbrev main_while0b_call10_c_1 : Ref sig .tc := ⟨.hbm, 133, rfl⟩
abbrev main_while0b_call10_v0 : Ref sig .tc := ⟨.hbm, 134, rfl⟩
abbrev main_while0b_v96 : Ref sig .tc := ⟨.hbm, 135, rfl⟩
abbrev main_while0b_call11_c : Ref sig .tc := ⟨.hbm, 136, rfl⟩
abbrev main_while0b_call11_c_0 : Ref sig .tc := ⟨.hbm, 137, rfl⟩
abbrev main_while0b_call11_c_1 : Ref sig .tc := ⟨.hbm, 138, rfl⟩
abbrev main_while0b_call11_c_2 : Ref sig .tc := ⟨.hbm, 139, rfl⟩
abbrev main_while0b_call11_v0 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_call12_v0 : Ref sig .tc := ⟨.hbm, 150, rfl⟩
abbrev main_while0b_call12_c : Ref sig .tc := ⟨.hbm, 151, rfl⟩
abbrev main_while0b_call12_c_0 : Ref sig .tc := ⟨.hbm, 152, rfl⟩
abbrev main_while0b_call12_c_1 : Ref sig .tc := ⟨.hbm, 153, rfl⟩
abbrev main_while0b_call12_c_2 : Ref sig .tc := ⟨.hbm, 154, rfl⟩
abbrev main_while0b_v106 : Ref sig .tc := ⟨.hbm, 155, rfl⟩
abbrev main_while0b_c_12 : Ref sig .tc := ⟨.hbm, 156, rfl⟩
abbrev main_while0b_v107 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16896x4096 : Shape := ⟨2, ![16896, 4096]⟩
abbrev S2x4096x16416 : Shape := ⟨3, ![2, 4096, 16416]⟩
abbrev S16896x8192 : Shape := ⟨2, ![16896, 8192]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x8192, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16896x4096 : Shape := ⟨2, ![16896, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S16896x16416 : Shape := ⟨2, ![16896, 16416]⟩
abbrev S16896x8192 : Shape := ⟨2, ![16896, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x4096, .f32⟩
  | .hbm, ⟨3, _⟩ => ⟨S1x4096x16416, .f32⟩
  | .hbm, ⟨4, _⟩ => ⟨S4096x16416, .f32⟩
  | .hbm, ⟨5, _⟩ => ⟨S16896x16416, .f32⟩
  | .hbm, ⟨6, _⟩ => ⟨S16896x8192, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S16896x4096 : Shape := ⟨2, ![16896, 4096]⟩
abbrev S2x4096x16416 : Shape := ⟨3, ![2, 4096, 16416]⟩
abbrev S1x4096x8192 : Shape := ⟨3, ![1, 4096, 8192]⟩
abbrev S4096x8192 : Shape := ⟨2, ![4096, 8192]⟩
abbrev S16896x8192 : Shape := ⟨2, ![16896, 8192]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S1x4096x8192, .f32⟩
  | .hbm, ⟨3, _⟩ => ⟨S4096x8192, .f32⟩
  | .hbm, ⟨4, _⟩ => ⟨S4096x8192, .bf16⟩
  | .hbm, ⟨5, _⟩ => ⟨S16896x8192, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16896x4096 : Shape := ⟨2, ![16896, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S16896x16416 : Shape := ⟨2, ![16896, 16416]⟩
abbrev S16896x8192 : Shape := ⟨2, ![16896, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x4096, .f32⟩
  | .hbm, ⟨3, _⟩ => ⟨S1x4096x16416, .f32⟩
  | .hbm, ⟨4, _⟩ => ⟨S4096x16416, .f32⟩
  | .hbm, ⟨5, _⟩ => ⟨S16896x16416, .f32⟩
  | .hbm, ⟨6, _⟩ => ⟨S16896x8192, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16x2048x4096 : Shape := ⟨3, ![16, 2048, 4096]⟩
abbrev S2x16x4096x1024 : Shape := ⟨4, ![2, 16, 4096, 1024]⟩
abbrev S16x2048x1024 : Shape := ⟨3, ![16, 2048, 1024]⟩
abbrev S1x512x4096 : Shape := ⟨3, ![1, 512, 4096]⟩
abbrev S1x1x4096x256 : Shape := ⟨4, ![1, 1, 4096, 256]⟩
abbrev S1x512x256 : Shape := ⟨3, ![1, 512, 256]⟩
abbrev S4096x256 : Shape := ⟨2, ![4096, 256]⟩
abbrev S512x4096 : Shape := ⟨2, ![512, 4096]⟩
abbrev S512x256 : Shape := ⟨2, ![512, 256]⟩

abbrev nBuf : Space → Nat
  | .hbm => 4
  | .vmem => 10
  | .smem => 0
  | _ => 0

abbrev bufTy : (tb : Table) → Fin (tcTables nBuf tb) → BufTy
  | .hbm, ⟨0, _⟩ => ⟨S16x2048x4096, .bf16⟩
  | .hbm, ⟨1, _⟩ => ⟨S2x16x4096x1024, .f32⟩
  | .hbm, ⟨2, _⟩ => ⟨S2x16x4096x1024, .f32⟩
  | .hbm, ⟨3, _⟩ => ⟨S16x2048x1024, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x512x256, .bf16⟩
  | .local _ .vmem, ⟨7, _⟩ => ⟨S1x512x256, .bf16⟩
  | .local _ .vmem, ⟨8, _⟩ => ⟨S4096x256, .bf16⟩
  | .local _ .vmem, ⟨9, _⟩ => ⟨S4096x256, .bf16⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference4Ideal.lean ====
abbrev S16x2048x4096 : Shape := ⟨3, ![16, 2048, 4096]⟩
abbrev S2x16x4096x1024 : Shape := ⟨4, ![2, 16, 4096, 1024]⟩
abbrev S1x16x4096x1024 : Shape := ⟨4, ![1, 16, 4096, 1024]⟩
abbrev S16x4096x1024 : Shape := ⟨3, ![16, 4096, 1024]⟩
abbrev S16x2048x1024 : Shape := ⟨3, ![16, 2048, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S2x16x4096x1024, .f32⟩
  | .hbm, ⟨2, _⟩ => ⟨S2x16x4096x1024, .f32⟩
  | .hbm, ⟨3, _⟩ => ⟨S16x2048x4096, .f32⟩
  | .hbm, ⟨4, _⟩ => ⟨S1x16x4096x1024, .f32⟩
  | .hbm, ⟨5, _⟩ => ⟨S16x4096x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S1x16x4096x1024, .f32⟩
  | .hbm, ⟨17, _⟩ => ⟨S16x4096x1024, .f32⟩
  | .hbm, ⟨18, _⟩ => ⟨S16x2048x1024, .f32⟩
  | .hbm, ⟨19, _⟩ => ⟨S16x2048x1024, .f32⟩
  | .hbm, ⟨20, _⟩ => ⟨S16x2048x1024, .bf16⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x16x1024x4096 : Shape := ⟨4, ![2, 16, 1024, 4096]⟩
abbrev S16x2048x1 : Shape := ⟨3, ![16, 2048, 1]⟩
abbrev S16x2048x4096 : Shape := ⟨3, ![16, 2048, 4096]⟩
abbrev S1x512x1024 : Shape := ⟨3, ![1, 512, 1024]⟩
abbrev S1x1x1024x1024 : Shape := ⟨4, ![1, 1, 1024, 1024]⟩
abbrev S1x512x1 : Shape := ⟨3, ![1, 512, 1]⟩
abbrev S1024x1024 : Shape := ⟨2, ![1024, 1024]⟩
abbrev S512x1024 : Shape := ⟨2, ![512, 1024]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x4096, .f32⟩
  | .hbm, ⟨2, _⟩ => ⟨S16x2048x1, .f32⟩
  | .hbm, ⟨3, _⟩ => ⟨S16x2048x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x512x1, .f32⟩
  | .local _ .vmem, ⟨5, _⟩ => ⟨S1x512x1, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S16x2048x1024 : Shape := ⟨3, ![16, 2048, 1024]⟩
abbrev S2x16x1024x4096 : Shape := ⟨4, ![2, 16, 1024, 4096]⟩
abbrev S16x2048x1 : Shape := ⟨3, ![16, 2048, 1]⟩
abbrev S1x16x1024x4096 : Shape := ⟨4, ![1, 16, 1024, 4096]⟩
abbrev S16x1024x4096 : Shape := ⟨3, ![16, 1024, 4096]⟩
abbrev S16x2048x4096 : Shape := ⟨3, ![16, 2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x4096, .f32⟩
  | .hbm, ⟨2, _⟩ => ⟨S16x2048x1, .f32⟩
  | .hbm, ⟨3, _⟩ => ⟨S16x2048x1024, .f32⟩
  | .hbm, ⟨4, _⟩ => ⟨S1x16x1024x4096, .f32⟩
  | .hbm, ⟨5, _⟩ => ⟨S16x1024x4096, .f32⟩
  | .hbm, ⟨6, _⟩ => ⟨S16x2048x4096, .f32⟩
  | .hbm, ⟨7, _⟩ => ⟨S16x2048x4096, .f32⟩
  | .hbm, ⟨8, _⟩ => ⟨S16x2048x4096, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x2048 : Shape := ⟨2, ![16384, 2048]⟩
abbrev S512x2048 : Shape := ⟨2, ![512, 2048]⟩
abbrev S2x2048x4096 : Shape := ⟨3, ![2, 2048, 4096]⟩
abbrev S16896x8192 : Shape := ⟨2, ![16896, 8192]⟩
abbrev S16896x4096 : Shape := ⟨2, ![16896, 4096]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x2048, .bf16⟩
  | .hbm, ⟨3, _⟩ => ⟨S512x2048, .bf16⟩
  | .hbm, ⟨4, _⟩ => ⟨S2x2048x4096, .f32⟩
  | .hbm, ⟨5, _⟩ => ⟨S2x2048x4096, .f32⟩
  | .hbm, ⟨6, _⟩ => ⟨S16896x8192, .f32⟩
  | .hbm, ⟨7, _⟩ => ⟨S16896x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S2048x512, .bf16⟩
  | .local _ .vmem, ⟨19, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 33], ![false, false]⟩

def k0_cond3 (i : grid0.Coords) : BitVec 1 :=
  let arg1 : BitVec 32 := BitVec.ofNat 32 (i 1).val
  let c32_i32 : BitVec 32 := 32#32
  let v6 : BitVec 1 := Scalar.cmpi .slt arg1 c32_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c32_i32_4 : BitVec 32 := 32#32
  let v9 : BitVec 1 := Scalar.cmpi .sge arg1 c32_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16384x2048 : Shape := ⟨2, ![16384, 2048]⟩
abbrev S512x2048 : Shape := ⟨2, ![512, 2048]⟩
abbrev S2x2048x4096 : Shape := ⟨3, ![2, 2048, 4096]⟩
abbrev S16896x8192 : Shape := ⟨2, ![16896, 8192]⟩
abbrev S16896x2048 : Shape := ⟨2, ![16896, 2048]⟩
abbrev S1x2048x4096 : Shape := ⟨3, ![1, 2048, 4096]⟩
abbrev S2048x4096 : Shape := ⟨2, ![2048, 4096]⟩
abbrev S16896x4096 : Shape := ⟨2, ![16896, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x2048, .bf16⟩
  | .hbm, ⟨3, _⟩ => ⟨S512x2048, .bf16⟩
  | .hbm, ⟨4, _⟩ => ⟨S2x2048x4096, .f32⟩
  | .hbm, ⟨5, _⟩ => ⟨S2x2048x4096, .f32⟩
  | .hbm, ⟨6, _⟩ => ⟨S16896x8192, .f32⟩
  | .hbm, ⟨7, _⟩ => ⟨S16896x2048, .bf16⟩
  | .hbm, ⟨8, _⟩ => ⟨S16896x2048, .f32⟩
  | .hbm, ⟨9, _⟩ => ⟨S1x2048x4096, .f32⟩
  | .hbm, ⟨10, _⟩ => ⟨S2048x4096, .f32⟩
  | .hbm, ⟨11, _⟩ => ⟨S16896x4096, .f32⟩
  | .hbm, ⟨12, _⟩ => ⟨S16896x2048, .bf16⟩
  | .hbm, ⟨13, _⟩ => ⟨S16896x2048, .f32⟩
  | .hbm, ⟨14, _⟩ => ⟨S1x2048x4096, .f32⟩
  | .hbm, ⟨15, _⟩ => ⟨S2048x4096, .f32⟩
  | .hbm, ⟨16, _⟩ => ⟨S16896x4096, .f32⟩
  | .hbm, ⟨17, _⟩ => ⟨S16896x4096, .f32⟩
  | .hbm, ⟨18, _⟩ => ⟨S16896x4096, .f32⟩
  | .hbm, ⟨19, _⟩ => ⟨S16896x4096, .f32⟩
  | .hbm, ⟨20, _⟩ => ⟨S16896x4096, .f32⟩
  | .hbm, ⟨21, _⟩ => ⟨S_, .f32⟩
  | .hbm, ⟨22, _⟩ => ⟨S16896x4096, .f32⟩
  | .hbm, ⟨23, _⟩ => ⟨S16896x4096, .f32⟩
  | .hbm, ⟨24, _⟩ => ⟨S_, .f32⟩
  | .hbm, ⟨25, _⟩ => ⟨S16896x4096, .f32⟩
  | .hbm, ⟨26, _⟩ => ⟨S16896x4096, .f32⟩
  | .hbm, ⟨27, _⟩ => ⟨S16896x4096, .f32⟩
  | .hbm, ⟨28, _⟩ => ⟨S16896x4096, .f32⟩
  | .hbm, ⟨29, _⟩ => ⟨S16896x4096, .f32⟩
  | .hbm, ⟨30, _⟩ => ⟨S_, .f32⟩
  | .hbm, ⟨31, _⟩ => ⟨S16896x4096, .f32⟩
  | .hbm, ⟨32, _⟩ => ⟨S16896x4096, .f32⟩
  | .hbm, ⟨33, _⟩ => ⟨S_, .f32⟩
  | .hbm, ⟨34, _⟩ => ⟨S16896x4096, .f32⟩
  | .hbm, ⟨35, _⟩ => ⟨S16896x4096, .f32⟩
  | .hbm, ⟨36, _⟩ => ⟨S16896x4096, .f32⟩
  | .hbm, ⟨37, _⟩ => ⟨S16896x4096, .f32⟩
  | .hbm, ⟨38, _⟩ => ⟨S16896x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel7.lean ====
abbrev S16896x4096 : Shape := ⟨2, ![16896, 4096]⟩
abbrev S2x4096x4096 : Shape := ⟨3, ![2, 4096, 4096]⟩
abbrev S48x1x4096 : Shape := ⟨3, ![48, 1, 4096]⟩
abbrev S512x4096 : Shape := ⟨2, ![512, 4096]⟩
abbrev S1x4096x512 : Shape := ⟨3, ![1, 4096, 512]⟩
abbrev S512x512 : Shape := ⟨2, ![512, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16896x4096, .f32⟩
  | .hbm, ⟨3, _⟩ => ⟨S48x1x4096, .f32⟩
  | .hbm, ⟨4, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c2_i32_4 : BitVec 32 := 2#32
  let v20 : BitVec 32 := Scalar.addi v19 c2_i32_4
  let c0_i32_5 : BitVec 32 := 0#32
  let c0_i32_6 : BitVec 32 := 0#32
  ![v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16896x4096 : Shape := ⟨2, ![16896, 4096]⟩
abbrev S2x4096x4096 : Shape := ⟨3, ![2, 4096, 4096]⟩
abbrev S48x1x4096 : Shape := ⟨3, ![48, 1, 4096]⟩
abbrev S1x4096x4096 : Shape := ⟨3, ![1, 4096, 4096]⟩
abbrev S4096x4096 : Shape := ⟨2, ![4096, 4096]⟩
abbrev S8x6x4096 : Shape := ⟨3, ![8, 6, 4096]⟩
abbrev S8x1x4096 : Shape := ⟨3, ![8, 1, 4096]⟩
abbrev S8x4096 : Shape := ⟨2, ![8, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩
abbrev S1x4096 : Shape := ⟨2, ![1, 4096]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16896x4096, .f32⟩
  | .hbm, ⟨3, _⟩ => ⟨S48x1x4096, .f32⟩
  | .hbm, ⟨4, _⟩ => ⟨S16896x4096, .f32⟩
  | .hbm, ⟨5, _⟩ => ⟨S1x4096x4096, .f32⟩
  | .hbm, ⟨6, _⟩ => ⟨S4096x4096, .f32⟩
  | .hbm, ⟨7, _⟩ => ⟨S16896x4096, .f32⟩
  | .hbm, ⟨8, _⟩ => ⟨S8x6x4096, .f32⟩
  | .hbm, ⟨9, _⟩ => ⟨S8x1x4096, .f32⟩
  | .hbm, ⟨10, _⟩ => ⟨S8x4096, .f32⟩
  | .hbm, ⟨11, _⟩ => ⟨S16384x4096, .f32⟩
  | .hbm, ⟨12, _⟩ => ⟨S2x8192x4096, .f32⟩
  | .hbm, ⟨13, _⟩ => ⟨S2x4096, .f32⟩
  | .hbm, ⟨14, _⟩ => ⟨S2x1x4096, .f32⟩
  | .hbm, ⟨15, _⟩ => ⟨S16384x4096, .f32⟩
  | .hbm, ⟨16, _⟩ => ⟨S2x8192x4096, .f32⟩
  | .hbm, ⟨17, _⟩ => ⟨S2x8192x4096, .f32⟩
  | .hbm, ⟨18, _⟩ => ⟨S2x8192x4096, .f32⟩
  | .hbm, ⟨19, _⟩ => ⟨S2x8192x4096, .f32⟩
  | .hbm, ⟨20, _⟩ => ⟨S512x4096, .f32⟩
  | .hbm, ⟨21, _⟩ => ⟨S1x4096, .f32⟩
  | .hbm, ⟨22, _⟩ => ⟨S4096, .f32⟩
  | .hbm, ⟨23, _⟩ => ⟨S512x4096, .f32⟩
  | .hbm, ⟨24, _⟩ => ⟨S1x4096, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S16384x4096, .f32⟩
  | .hbm, ⟨29, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel8.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩
abbrev S2x8192x4096 : Shape := ⟨3, ![2, 8192, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16384x4096, .f32⟩
  | .hbm, ⟨4, _⟩ => ⟨S2x8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16896x4096 : Shape := ⟨2, ![16896, 4096]⟩
abbrev S4096 : Shape := ⟨1, ![4096]⟩
abbrev S16384x4096 : Shape := ⟨2, ![16384, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16384x4096, .f32⟩
  | .hbm, ⟨3, _⟩ => ⟨S2x8192x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S16896x4096 : Shape := ⟨2, ![16896, 4096]⟩
abbrev S2x4096x16416 : Shape := ⟨3, ![2, 4096, 16416]⟩
abbrev S16896x128 : Shape := ⟨2, ![16896, 128]⟩
abbrev S512x4096 : Shape := ⟨2, ![512, 4096]⟩
abbrev S1x4096x128 : Shape := ⟨3, ![1, 4096, 128]⟩
abbrev S512x128 : Shape := ⟨2, ![512, 128]⟩
abbrev S4096x128 : Shape := ⟨2, ![4096, 128]⟩

abbrev nBuf : Space → Nat
  | .hbm => 3
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x128, .f32⟩
  | .local _ .vmem, ⟨0, _⟩ => ⟨S512x4096, .bf16⟩
  | .local _ .vmem, ⟨1, _⟩ => ⟨S512x4096, .bf16⟩
  | .local _ .vmem, ⟨2, _⟩ => ⟨S1x4096x128, .f32⟩
  | .local _ .vmem, ⟨3, _⟩ => ⟨S512x128, .f32⟩
  | .local _ .vmem, ⟨4, _⟩ => ⟨S512x128, .f32⟩
  | .local _ .vmem, ⟨5, _⟩ => ⟨S4096x128, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16896x4096 : Shape := ⟨2, ![16896, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S16896x16416 : Shape := ⟨2, ![16896, 16416]⟩
abbrev S16896x128 : Shape := ⟨2, ![16896, 128]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x4096, .f32⟩
  | .hbm, ⟨3, _⟩ => ⟨S1x4096x16416, .f32⟩
  | .hbm, ⟨4, _⟩ => ⟨S4096x16416, .f32⟩
  | .hbm, ⟨5, _⟩ => ⟨S16896x16416, .f32⟩
  | .hbm, ⟨6, _⟩ => ⟨S16896x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2x16384x2048 : Shape := ⟨3, ![2, 16384, 2048]⟩
abbrev S16896x8192 : Shape := ⟨2, ![16896, 8192]⟩
abbrev S2048 : Shape := ⟨1, ![2048]⟩
abbrev S1x2048 : Shape := ⟨2, ![1, 2048]⟩
abbrev S16384x2048 : Shape := ⟨2, ![16384, 2048]⟩
abbrev S1x256x2048 : Shape := ⟨3, ![1, 256, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S16896x8192, .f32⟩
  | .hbm, ⟨2, _⟩ => ⟨S2048, .f32⟩
  | .hbm, ⟨3, _⟩ => ⟨S1x2048, .f32⟩
  | .hbm, ⟨4, _⟩ => ⟨S16384x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2x16384x2048 : Shape := ⟨3, ![2, 16384, 2048]⟩
abbrev S16896x8192 : Shape := ⟨2, ![16896, 8192]⟩
abbrev S2048 : Shape := ⟨1, ![2048]⟩
abbrev S1x16384x2048 : Shape := ⟨3, ![1, 16384, 2048]⟩
abbrev S16384x2048 : Shape := ⟨2, ![16384, 2048]⟩
abbrev S16384x4x512 : Shape := ⟨3, ![16384, 4, 512]⟩
abbrev S_ : Shape := ⟨0, ![]⟩
abbrev S16384x4 : Shape := ⟨2, ![16384, 4]⟩
abbrev S16384x4x1 : Shape := ⟨3, ![16384, 4, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S16896x8192, .f32⟩
  | .hbm, ⟨2, _⟩ => ⟨S2048, .f32⟩
  | .hbm, ⟨3, _⟩ => ⟨S1x16384x2048, .f32⟩
  | .hbm, ⟨4, _⟩ => ⟨S16384x2048, .f32⟩
  | .hbm, ⟨5, _⟩ => ⟨S1x16384x2048, .f32⟩
  | .hbm, ⟨6, _⟩ => ⟨S16384x2048, .f32⟩
  | .hbm, ⟨7, _⟩ => ⟨S16384x2048, .f32⟩
  | .hbm, ⟨8, _⟩ => ⟨S16384x4x512, .f32⟩
  | .hbm, ⟨9, _⟩ => ⟨S16384x4x512, .f32⟩
  | .hbm, ⟨10, _⟩ => ⟨S_, .f32⟩
  | .hbm, ⟨11, _⟩ => ⟨S16384x4, .f32⟩
  | .hbm, ⟨12, _⟩ => ⟨S16384x4x1, .f32⟩
  | .hbm, ⟨13, _⟩ => ⟨S_, .f32⟩
  | .hbm, ⟨14, _⟩ => ⟨S16384x4x1, .f32⟩
  | .hbm, ⟨15, _⟩ => ⟨S16384x4x1, .f32⟩
  | .hbm, ⟨16, _⟩ => ⟨S_, .f32⟩
  | .hbm, ⟨17, _⟩ => ⟨S16384x4x1, .f32⟩
  | .hbm, ⟨18, _⟩ => ⟨S16384x4x1, .f32⟩
  | .hbm, ⟨19, _⟩ => ⟨S16384x4x1, .f32⟩
  | .hbm, ⟨20, _⟩ => ⟨S16384x4x512, .f32⟩
  | .hbm, ⟨21, _⟩ => ⟨S16384x4x512, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel11.lean ====
abbrev S16896x4096 : Shape := ⟨2, ![16896, 4096]⟩
abbrev S4096 : Shape := ⟨1, ![4096]⟩
abbrev S48x1x4096 : Shape := ⟨3, ![48, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S1x4096, .f32⟩
  | .hbm, ⟨4, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S16896x4096 : Shape := ⟨2, ![16896, 4096]⟩
abbrev S4096 : Shape := ⟨1, ![4096]⟩
abbrev S48x1x4096 : Shape := ⟨3, ![48, 1, 4096]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S8x6x4096 : Shape := ⟨3, ![8, 6, 4096]⟩
abbrev S8x1x4096 : Shape := ⟨3, ![8, 1, 4096]⟩
abbrev S8x4096 : Shape := ⟨2, ![8, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S16896x4096, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x4096, .f32⟩
  | .hbm, ⟨15, _⟩ => ⟨S16896x4096, .f32⟩
  | .hbm, ⟨16, _⟩ => ⟨S1x4096, .f32⟩
  | .hbm, ⟨17, _⟩ => ⟨S16896x4096, .f32⟩
  | .hbm, ⟨18, _⟩ => ⟨S16896x4096, .f32⟩
  | .hbm, ⟨19, _⟩ => ⟨S8x6x4096, .f32⟩
  | .hbm, ⟨20, _⟩ => ⟨S8x1x4096, .f32⟩
  | .hbm, ⟨21, _⟩ => ⟨S8x4096, .f32⟩
  | .hbm, ⟨22, _⟩ => ⟨S8x6x4096, .f32⟩
  | .hbm, ⟨23, _⟩ => ⟨S8x1x4096, .f32⟩
  | .hbm, ⟨24, _⟩ => ⟨S8x4096, .f32⟩
  | .hbm, ⟨25, _⟩ => ⟨S16384x4096, .f32⟩
  | .hbm, ⟨26, _⟩ => ⟨S2x8192x4096, .f32⟩
  | .hbm, ⟨27, _⟩ => ⟨S2x4096, .f32⟩
  | .hbm, ⟨28, _⟩ => ⟨S2x1x4096, .f32⟩
  | .hbm, ⟨29, _⟩ => ⟨S_, .f32⟩
  | .hbm, ⟨30, _⟩ => ⟨S2x1x4096, .f32⟩
  | .hbm, ⟨31, _⟩ => ⟨S2x1x4096, .f32⟩
  | .hbm, ⟨32, _⟩ => ⟨S2x8192x4096, .f32⟩
  | .hbm, ⟨33, _⟩ => ⟨S2x8192x4096, .f32⟩
  | .hbm, ⟨34, _⟩ => ⟨S2x4096, .f32⟩
  | .hbm, ⟨35, _⟩ => ⟨S2x1x4096, .f32⟩
  | .hbm, ⟨36, _⟩ => ⟨S2x8192x4096, .f32⟩
  | .hbm, ⟨37, _⟩ => ⟨S2x8192x4096, .f32⟩
  | .hbm, ⟨38, _⟩ => ⟨S512x4096, .f32⟩
  | .hbm, ⟨39, _⟩ => ⟨S1x4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S1x4096, .f32⟩
  | .hbm, ⟨45, _⟩ => ⟨S512x4096, .f32⟩
  | .hbm, ⟨46, _⟩ => ⟨S512x4096, .f32⟩
  | .hbm, ⟨47, _⟩ => ⟨S1x4096, .f32⟩
  | .hbm, ⟨48, _⟩ => ⟨S4096, .f32⟩
  | .hbm, ⟨49, _⟩ => ⟨S1x4096, .f32⟩
  | .hbm, ⟨50, _⟩ => ⟨S512x4096, .f32⟩
  | .hbm, ⟨51, _⟩ => ⟨S512x4096, .f32⟩
  | .hbm, ⟨52, _⟩ => ⟨S16384x4096, .f32⟩
  | .hbm, ⟨53, _⟩ => ⟨S16896x4096, .f32⟩
  | .hbm, ⟨54, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Kernel12.lean ====
abbrev S16896x4096 : Shape := ⟨2, ![16896, 4096]⟩
abbrev S4096 : Shape := ⟨1, ![4096]⟩
abbrev S48x1x4096 : Shape := ⟨3, ![48, 1, 4096]⟩
abbrev S2x4096x16 : Shape := ⟨3, ![2, 4096, 16]⟩
abbrev S1x4096 : Shape := ⟨2, ![1, 4096]⟩
abbrev S1x4096x16 : Shape := ⟨3, ![1, 4096, 16]⟩
abbrev S4096x16 : Shape := ⟨2, ![4096, 16]⟩
abbrev S16x4096 : Shape := ⟨2, ![16, 4096]⟩
abbrev S16x16896 : Shape := ⟨2, ![16, 16896]⟩
abbrev S256x4096 : Shape := ⟨2, ![256, 4096]⟩
abbrev S1x1x4096 : Shape := ⟨3, ![1, 1, 4096]⟩
abbrev S16x256 : Shape := ⟨2, ![16, 256]⟩
abbrev S256 : Shape := ⟨1, ![256]⟩
abbrev S256x1 : Shape := ⟨2, ![256, 1]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S2x4096x16, .f32⟩
  | .hbm, ⟨4, _⟩ => ⟨S1x4096, .f32⟩
  | .hbm, ⟨5, _⟩ => ⟨S1x4096x16, .f32⟩
  | .hbm, ⟨6, _⟩ => ⟨S4096x16, .f32⟩
  | .hbm, ⟨7, _⟩ => ⟨S16x4096, .f32⟩
  | .hbm, ⟨8, _⟩ => ⟨S16x4096, .bf16⟩
  | .hbm, ⟨9, _⟩ => ⟨S16896x4096, .f32⟩
  | .hbm, ⟨10, _⟩ => ⟨S16x16896, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S16x4096, .bf16⟩
  | .local _ .vmem, ⟨8, _⟩ => ⟨S256x4096, .f32⟩
  | .local _ .vmem, ⟨9, _⟩ => ⟨S256x4096, .f32⟩
  | .local _ .vmem, ⟨10, _⟩ => ⟨S16x256, .f32⟩
  | .local _ .vmem, ⟨11, _⟩ => ⟨S16x256, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c4_i32 : BitVec 32 := 4#32
  let v20 : BitVec 32 := Scalar.addi v19 c4_i32
  let c0_i32_4 : BitVec 32 := 0#32
  let c0_i32_5 : BitVec 32 := 0#32
  let c0_i32_6 : BitVec 32 := 0#32
  ![v20.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c3_i32 : BitVec 32 := 3#32
  let v20 : BitVec 32 := Scalar.addi v19 c3_i32
  let c0_i32_4 : BitVec 32 := 0#32
  let c0_i32_5 : BitVec 32 := 0#32
  let c0_i32_6 : BitVec 32 := 0#32
  ![v20.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S16896x4096 : Shape := ⟨2, ![16896, 4096]⟩
abbrev S4096 : Shape := ⟨1, ![4096]⟩
abbrev S48x1x4096 : Shape := ⟨3, ![48, 1, 4096]⟩
abbrev S2x4096x16 : Shape := ⟨3, ![2, 4096, 16]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S8x6x4096 : Shape := ⟨3, ![8, 6, 4096]⟩
abbrev S8x1x4096 : Shape := ⟨3, ![8, 1, 4096]⟩
abbrev S8x4096 : Shape := ⟨2, ![8, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩
abbrev S1x4096x16 : Shape := ⟨3, ![1, 4096, 16]⟩
abbrev S4096x16 : Shape := ⟨2, ![4096, 16]⟩
abbrev S16896x16 : Shape := ⟨2, ![16896, 16]⟩
abbrev S16x16896 : Shape := ⟨2, ![16, 16896]⟩

abbrev nBuf : Space → Nat
  | .hbm => 73
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S2x4096x16, .f32⟩
  | .hbm, ⟨4, _⟩ => ⟨S16896x4096, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x4096, .f32⟩
  | .hbm, ⟨16, _⟩ => ⟨S16896x4096, .f32⟩
  | .hbm, ⟨17, _⟩ => ⟨S1x4096, .f32⟩
  | .hbm, ⟨18, _⟩ => ⟨S16896x4096, .f32⟩
  | .hbm, ⟨19, _⟩ => ⟨S16896x4096, .f32⟩
  | .hbm, ⟨20, _⟩ => ⟨S8x6x4096, .f32⟩
  | .hbm, ⟨21, _⟩ => ⟨S8x1x4096, .f32⟩
  | .hbm, ⟨22, _⟩ => ⟨S8x4096, .f32⟩
  | .hbm, ⟨23, _⟩ => ⟨S8x6x4096, .f32⟩
  | .hbm, ⟨24, _⟩ => ⟨S8x1x4096, .f32⟩
  | .hbm, ⟨25, _⟩ => ⟨S8x4096, .f32⟩
  | .hbm, ⟨26, _⟩ => ⟨S16384x4096, .f32⟩
  | .hbm, ⟨27, _⟩ => ⟨S2x8192x4096, .f32⟩
  | .hbm, ⟨28, _⟩ => ⟨S2x4096, .f32⟩
  | .hbm, ⟨29, _⟩ => ⟨S2x1x4096, .f32⟩
  | .hbm, ⟨30, _⟩ => ⟨S_, .f32⟩
  | .hbm, ⟨31, _⟩ => ⟨S2x1x4096, .f32⟩
  | .hbm, ⟨32, _⟩ => ⟨S2x1x4096, .f32⟩
  | .hbm, ⟨33, _⟩ => ⟨S2x8192x4096, .f32⟩
  | .hbm, ⟨34, _⟩ => ⟨S2x8192x4096, .f32⟩
  | .hbm, ⟨35, _⟩ => ⟨S2x4096, .f32⟩
  | .hbm, ⟨36, _⟩ => ⟨S2x1x4096, .f32⟩
  | .hbm, ⟨37, _⟩ => ⟨S2x8192x4096, .f32⟩
  | .hbm, ⟨38, _⟩ => ⟨S2x8192x4096, .f32⟩
  | .hbm, ⟨39, _⟩ => ⟨S512x4096, .f32⟩
  | .hbm, ⟨40, _⟩ => ⟨S1x4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S1x4096, .f32⟩
  | .hbm, ⟨46, _⟩ => ⟨S512x4096, .f32⟩
  | .hbm, ⟨47, _⟩ => ⟨S512x4096, .f32⟩
  | .hbm, ⟨48, _⟩ => ⟨S1x4096, .f32⟩
  | .hbm, ⟨49, _⟩ => ⟨S4096, .f32⟩
  | .hbm, ⟨50, _⟩ => ⟨S1x4096, .f32⟩
  | .hbm, ⟨51, _⟩ => ⟨S512x4096, .f32⟩
  | .hbm, ⟨52, _⟩ => ⟨S512x4096, .f32⟩
  | .hbm, ⟨53, _⟩ => ⟨S16384x4096, .f32⟩
  | .hbm, ⟨54, _⟩ => ⟨S16896x4096, .f32⟩
  | .hbm, ⟨55, _⟩ => ⟨S1x4096x16, .f32⟩
  | .hbm, ⟨56, _⟩ => ⟨S4096x16, .f32⟩
  | .hbm, ⟨57, _⟩ => ⟨S16896x16, .f32⟩
  | .hbm, ⟨58, _⟩ => ⟨S_, .f32⟩
  | .hbm, ⟨59, _⟩ => ⟨S16896, .f32⟩
  | .hbm, ⟨60, _⟩ => ⟨S_, .f32⟩
  | .hbm, ⟨61, _⟩ => ⟨S16896, .f32⟩
  | .hbm, ⟨62, _⟩ => ⟨S16896, .f32⟩
  | .hbm, ⟨63, _⟩ => ⟨S16896x1, .f32⟩
  | .hbm, ⟨64, _⟩ => ⟨S16896x16, .f32⟩
  | .hbm, ⟨65, _⟩ => ⟨S16896x16, .f32⟩
  | .hbm, ⟨66, _⟩ => ⟨S16896x16, .f32⟩
  | .hbm, ⟨67, _⟩ => ⟨S_, .f32⟩
  | .hbm, ⟨68, _⟩ => ⟨S16896, .f32⟩
  | .hbm, ⟨69, _⟩ => ⟨S16896x1, .f32⟩
  | .hbm, ⟨70, _⟩ => ⟨S16896x16, .f32⟩
  | .hbm, ⟨71, _⟩ => ⟨S16896x16, .f32⟩
  | .hbm, ⟨72, _⟩ => ⟨S16x16896, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel13.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S2x24576x8 : Shape := ⟨3, ![2, 24576, 8]⟩
abbrev S2x8x24576 : Shape := ⟨3, ![2, 8, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S2x24576x8, .f32⟩
  | .hbm, ⟨13, _⟩ => ⟨S2x8x24576, .f32⟩
  | .hbm, ⟨14, _⟩ => ⟨S2x1x24576, .f32⟩
  | .hbm, ⟨15, _⟩ => ⟨S2x8x24576, .f32⟩
  | .hbm, ⟨16, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel14.lean ====
abbrev S16896x8192 : Shape := ⟨2, ![16896, 8192]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x1024 : Shape := ⟨2, ![512, 1024]⟩
abbrev S16896x2048 : Shape := ⟨2, ![16896, 2048]⟩

abbrev nBuf : Space → Nat
  | .hbm => 40
  | .vmem => 7
  | .smem => 0
  | _ => 0

abbrev bufTy : (tb : Table) → Fin (tcTables nBuf tb) → BufTy
  | .hbm, ⟨0, _⟩ => ⟨S16896x8192, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .i32⟩
  | .hbm, ⟨22, _⟩ => ⟨S_, .i1⟩
  | .hbm, ⟨23, _⟩ => ⟨S512x512, .i1⟩
  | .hbm, ⟨24, _⟩ => ⟨S512x512, .i1⟩
  | .hbm, ⟨25, _⟩ => ⟨S512x512, .i1⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x1024, .f32⟩
  | .hbm, ⟨37, _⟩ => ⟨S512x1024, .bf16⟩
  | .hbm, ⟨38, _⟩ => ⟨S16896x2048, .f32⟩
  | .hbm, ⟨39, _⟩ => ⟨S16896x2048, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16896x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15_0 : Ref sig .tc := ⟨.hbm, 38, rfl⟩
abbrev main_v15_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S16896x8192 : Shape := ⟨2, ![16896, 8192]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S16896x2048 : Shape := ⟨2, ![16896, 2048]⟩
abbrev S16896x4x512 : Shape := ⟨3, ![16896, 4, 512]⟩

abbrev nBuf : Space → Nat
  | .hbm => 42
  | .vmem => 0
  | .smem => 0
  | _ => 0

abbrev bufTy : (tb : Table) → Fin (tcTables nBuf tb) → BufTy
  | .hbm, ⟨0, _⟩ => ⟨S16896x8192, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .i32⟩
  | .hbm, ⟨22, _⟩ => ⟨S_, .i1⟩
  | .hbm, ⟨23, _⟩ => ⟨S512x512, .i1⟩
  | .hbm, ⟨24, _⟩ => ⟨S512x512, .i1⟩
  | .hbm, ⟨25, _⟩ => ⟨S512x512, .i1⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S16896x2048, .f32⟩
  | .hbm, ⟨34, _⟩ => ⟨S16896x4x512, .f32⟩
  | .hbm, ⟨35, _⟩ => ⟨S512x512, .f32⟩
  | .hbm, ⟨36, _⟩ => ⟨S16896x4x512, .f32⟩
  | .hbm, ⟨37, _⟩ => ⟨S512x512, .f32⟩
  | .hbm, ⟨38, _⟩ => ⟨S512x512, .f32⟩
  | .hbm, ⟨39, _⟩ => ⟨S16896x4x512, .f32⟩
  | .hbm, ⟨40, _⟩ => ⟨S16896x2048, .f32⟩
  | .hbm, ⟨41, _⟩ => ⟨S16896x2048, .f32⟩
  | _, _ => ⟨S16896x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩

abbrev nD : Nat := 1
abbrev τ : Topo := Topo.v7x

variable {F : FTy → Type} [FloatOps F]
-- ==== Kernel15.lean ====
abbrev S16896x2048 : Shape := ⟨2, ![16896, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S512x2048 : Shape := ⟨2, ![512, 2048]⟩
abbrev S512x512 : Shape := ⟨2, ![512, 512]⟩

abbrev nBuf : Space → Nat
  | .hbm => 39
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S_, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x512, .f32⟩
  | .hbm, ⟨37, _⟩ => ⟨S256x512, .bf16⟩
  | .hbm, ⟨38, _⟩ => ⟨S512x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S16896x2048 : Shape := ⟨2, ![16896, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S512x2048 : Shape := ⟨2, ![512, 2048]⟩
abbrev S2x256x2048 : Shape := ⟨3, ![2, 256, 2048]⟩
abbrev S2x2048x256 : Shape := ⟨3, ![2, 2048, 256]⟩

abbrev nBuf : Space → Nat
  | .hbm => 50
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S_, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S512x2048, .f32⟩
  | .hbm, ⟨35, _⟩ => ⟨S2x256x2048, .f32⟩
  | .hbm, ⟨36, _⟩ => ⟨S512x2048, .f32⟩
  | .hbm, ⟨37, _⟩ => ⟨S2x256x2048, .f32⟩
  | .hbm, ⟨38, _⟩ => ⟨S256x256, .f32⟩
  | .hbm, ⟨39, _⟩ => ⟨S2x2048x256, .f32⟩
  | .hbm, ⟨40, _⟩ => ⟨S2x256x2048, .f32⟩
  | .hbm, ⟨41, _⟩ => ⟨S256x256, .f32⟩
  | .hbm, ⟨42, _⟩ => ⟨S2x2048x256, .f32⟩
  | .hbm, ⟨43, _⟩ => ⟨S2x256x2048, .f32⟩
  | .hbm, ⟨44, _⟩ => ⟨S2x256x2048, .f32⟩
  | .hbm, ⟨45, _⟩ => ⟨S_, .f32⟩
  | .hbm, ⟨46, _⟩ => ⟨S2x256x2048, .f32⟩
  | .hbm, ⟨47, _⟩ => ⟨S2x256x2048, .f32⟩
  | .hbm, ⟨48, _⟩ => ⟨S512x2048, .f32⟩
  | .hbm, ⟨49, _⟩ => ⟨S512x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== Kernel16.lean ====
abbrev S2x512x2048 : Shape := ⟨3, ![2, 512, 2048]⟩
abbrev S16896x8192 : Shape := ⟨2, ![16896, 8192]⟩
abbrev S2048 : Shape := ⟨1, ![2048]⟩
abbrev S1x2048 : Shape := ⟨2, ![1, 2048]⟩
abbrev S512x2048 : Shape := ⟨2, ![512, 2048]⟩
abbrev S1x256x2048 : Shape := ⟨3, ![1, 256, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x512x2048, .f32⟩
  | .hbm, ⟨1, _⟩ => ⟨S16896x8192, .f32⟩
  | .hbm, ⟨2, _⟩ => ⟨S2048, .f32⟩
  | .hbm, ⟨3, _⟩ => ⟨S1x2048, .f32⟩
  | .hbm, ⟨4, _⟩ => ⟨S512x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S2x512x2048 : Shape := ⟨3, ![2, 512, 2048]⟩
abbrev S16896x8192 : Shape := ⟨2, ![16896, 8192]⟩
abbrev S2048 : Shape := ⟨1, ![2048]⟩
abbrev S1x512x2048 : Shape := ⟨3, ![1, 512, 2048]⟩
abbrev S512x2048 : Shape := ⟨2, ![512, 2048]⟩
abbrev S512x4x512 : Shape := ⟨3, ![512, 4, 512]⟩
abbrev S_ : Shape := ⟨0, ![]⟩
abbrev S512x4 : Shape := ⟨2, ![512, 4]⟩
abbrev S512x4x1 : Shape := ⟨3, ![512, 4, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S16896x8192, .f32⟩
  | .hbm, ⟨2, _⟩ => ⟨S2048, .f32⟩
  | .hbm, ⟨3, _⟩ => ⟨S1x512x2048, .f32⟩
  | .hbm, ⟨4, _⟩ => ⟨S512x2048, .f32⟩
  | .hbm, ⟨5, _⟩ => ⟨S1x512x2048, .f32⟩
  | .hbm, ⟨6, _⟩ => ⟨S512x2048, .f32⟩
  | .hbm, ⟨7, _⟩ => ⟨S512x2048, .f32⟩
  | .hbm, ⟨8, _⟩ => ⟨S512x4x512, .f32⟩
  | .hbm, ⟨9, _⟩ => ⟨S512x4x512, .f32⟩
  | .hbm, ⟨10, _⟩ => ⟨S_, .f32⟩
  | .hbm, ⟨11, _⟩ => ⟨S512x4, .f32⟩
  | .hbm, ⟨12, _⟩ => ⟨S512x4x1, .f32⟩
  | .hbm, ⟨13, _⟩ => ⟨S_, .f32⟩
  | .hbm, ⟨14, _⟩ => ⟨S512x4x1, .f32⟩
  | .hbm, ⟨15, _⟩ => ⟨S512x4x1, .f32⟩
  | .hbm, ⟨16, _⟩ => ⟨S_, .f32⟩
  | .hbm, ⟨17, _⟩ => ⟨S512x4x1, .f32⟩
  | .hbm, ⟨18, _⟩ => ⟨S512x4x1, .f32⟩
  | .hbm, ⟨19, _⟩ => ⟨S512x4x1, .f32⟩
  | .hbm, ⟨20, _⟩ => ⟨S512x4x512, .f32⟩
  | .hbm, ⟨21, _⟩ => ⟨S512x4x512, .f32⟩
  | .hbm, ⟨22, _⟩ => ⟨S512x2048, .f32⟩
  | .hbm, ⟨23, _⟩ => ⟨S1x2048, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .bf16⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel17.lean ====
abbrev S16x64x4096 : Shape := ⟨3, ![16, 64, 4096]⟩
abbrev S2x16x4096x1024 : Shape := ⟨4, ![2, 16, 4096, 1024]⟩
abbrev S16x64x1024 : Shape := ⟨3, ![16, 64, 1024]⟩
abbrev S1x64x4096 : Shape := ⟨3, ![1, 64, 4096]⟩
abbrev S1x1x4096x256 : Shape := ⟨4, ![1, 1, 4096, 256]⟩
abbrev S1x64x256 : Shape := ⟨3, ![1, 64, 256]⟩
abbrev S4096x256 : Shape := ⟨2, ![4096, 256]⟩
abbrev S64x4096 : Shape := ⟨2, ![64, 4096]⟩
abbrev S64x256 : Shape := ⟨2, ![64, 256]⟩

abbrev nBuf : Space → Nat
  | .hbm => 4
  | .vmem => 10
  | .smem => 0
  | _ => 0

abbrev bufTy : (tb : Table) → Fin (tcTables nBuf tb) → BufTy
  | .hbm, ⟨0, _⟩ => ⟨S16x64x4096, .bf16⟩
  | .hbm, ⟨1, _⟩ => ⟨S2x16x4096x1024, .f32⟩
  | .hbm, ⟨2, _⟩ => ⟨S2x16x4096x1024, .f32⟩
  | .hbm, ⟨3, _⟩ => ⟨S16x64x1024, .bf16⟩
  | .local _ .vmem, ⟨0, _⟩ => ⟨S1x64x4096, .bf16⟩
  | .local _ .vmem, ⟨1, _⟩ => ⟨S1x64x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x64x256, .bf16⟩
  | .local _ .vmem, ⟨7, _⟩ => ⟨S1x64x256, .bf16⟩
  | .local _ .vmem, ⟨8, _⟩ => ⟨S4096x256, .bf16⟩
  | .local _ .vmem, ⟨9, _⟩ => ⟨S4096x256, .bf16⟩
  | _, _ => ⟨S16x64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference17Ideal.lean ====
abbrev S16x64x4096 : Shape := ⟨3, ![16, 64, 4096]⟩
abbrev S2x16x4096x1024 : Shape := ⟨4, ![2, 16, 4096, 1024]⟩
abbrev S1x16x4096x1024 : Shape := ⟨4, ![1, 16, 4096, 1024]⟩
abbrev S16x4096x1024 : Shape := ⟨3, ![16, 4096, 1024]⟩
abbrev S16x64x1024 : Shape := ⟨3, ![16, 64, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x64x4096, .bf16⟩
  | .hbm, ⟨1, _⟩ => ⟨S2x16x4096x1024, .f32⟩
  | .hbm, ⟨2, _⟩ => ⟨S2x16x4096x1024, .f32⟩
  | .hbm, ⟨3, _⟩ => ⟨S16x64x4096, .f32⟩
  | .hbm, ⟨4, _⟩ => ⟨S1x16x4096x1024, .f32⟩
  | .hbm, ⟨5, _⟩ => ⟨S16x4096x1024, .f32⟩
  | .hbm, ⟨6, _⟩ => ⟨S16x64x1024, .f32⟩
  | .hbm, ⟨7, _⟩ => ⟨S16x64x1024, .f32⟩
  | .hbm, ⟨8, _⟩ => ⟨S16x64x1024, .f32⟩
  | .hbm, ⟨9, _⟩ => ⟨S_, .f32⟩
  | .hbm, ⟨10, _⟩ => ⟨S16x64x1024, .f32⟩
  | .hbm, ⟨11, _⟩ => ⟨S16x64x1024, .f32⟩
  | .hbm, ⟨12, _⟩ => ⟨S_, .f32⟩
  | .hbm, ⟨13, _⟩ => ⟨S16x64x1024, .f32⟩
  | .hbm, ⟨14, _⟩ => ⟨S16x64x1024, .f32⟩
  | .hbm, ⟨15, _⟩ => ⟨S16x64x1024, .f32⟩
  | .hbm, ⟨16, _⟩ => ⟨S1x16x4096x1024, .f32⟩
  | .hbm, ⟨17, _⟩ => ⟨S16x4096x1024, .f32⟩
  | .hbm, ⟨18, _⟩ => ⟨S16x64x1024, .f32⟩
  | .hbm, ⟨19, _⟩ => ⟨S16x64x1024, .f32⟩
  | .hbm, ⟨20, _⟩ => ⟨S16x64x1024, .bf16⟩
  | _, _ => ⟨S16x64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel18.lean ====
abbrev S16x64x1024 : Shape := ⟨3, ![16, 64, 1024]⟩
abbrev S2x16x1024x4096 : Shape := ⟨4, ![2, 16, 1024, 4096]⟩
abbrev S16x64x1 : Shape := ⟨3, ![16, 64, 1]⟩
abbrev S16x64x4096 : Shape := ⟨3, ![16, 64, 4096]⟩
abbrev S1x64x1024 : Shape := ⟨3, ![1, 64, 1024]⟩
abbrev S1x1x1024x1024 : Shape := ⟨4, ![1, 1, 1024, 1024]⟩
abbrev S1x64x1 : Shape := ⟨3, ![1, 64, 1]⟩
abbrev S1024x1024 : Shape := ⟨2, ![1024, 1024]⟩
abbrev S64x1024 : Shape := ⟨2, ![64, 1024]⟩
abbrev S64x1 : Shape := ⟨2, ![64, 1]⟩

abbrev nBuf : Space → Nat
  | .hbm => 4
  | .vmem => 9
  | .smem => 0
  | _ => 0

abbrev bufTy : (tb : Table) → Fin (tcTables nBuf tb) → BufTy
  | .hbm, ⟨0, _⟩ => ⟨S16x64x1024, .bf16⟩
  | .hbm, ⟨1, _⟩ => ⟨S2x16x1024x4096, .f32⟩
  | .hbm, ⟨2, _⟩ => ⟨S16x64x1, .f32⟩
  | .hbm, ⟨3, _⟩ => ⟨S16x64x4096, .f32⟩
  | .local _ .vmem, ⟨0, _⟩ => ⟨S1x64x1024, .bf16⟩
  | .local _ .vmem, ⟨1, _⟩ => ⟨S1x64x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x64x1, .f32⟩
  | .local _ .vmem, ⟨5, _⟩ => ⟨S1x64x1, .f32⟩
  | .local _ .vmem, ⟨6, _⟩ => ⟨S1x64x1024, .f32⟩
  | .local _ .vmem, ⟨7, _⟩ => ⟨S1x64x1024, .f32⟩
  | .local _ .vmem, ⟨8, _⟩ => ⟨S1024x1024, .bf16⟩
  | _, _ => ⟨S16x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference18Ideal.lean ====
abbrev S16x64x1024 : Shape := ⟨3, ![16, 64, 1024]⟩
abbrev S2x16x1024x4096 : Shape := ⟨4, ![2, 16, 1024, 4096]⟩
abbrev S16x64x1 : Shape := ⟨3, ![16, 64, 1]⟩
abbrev S1x16x1024x4096 : Shape := ⟨4, ![1, 16, 1024, 4096]⟩
abbrev S16x1024x4096 : Shape := ⟨3, ![16, 1024, 4096]⟩
abbrev S16x64x4096 : Shape := ⟨3, ![16, 64, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16x64x1024, .bf16⟩
  | .hbm, ⟨1, _⟩ => ⟨S2x16x1024x4096, .f32⟩
  | .hbm, ⟨2, _⟩ => ⟨S16x64x1, .f32⟩
  | .hbm, ⟨3, _⟩ => ⟨S16x64x1024, .f32⟩
  | .hbm, ⟨4, _⟩ => ⟨S1x16x1024x4096, .f32⟩
  | .hbm, ⟨5, _⟩ => ⟨S16x1024x4096, .f32⟩
  | .hbm, ⟨6, _⟩ => ⟨S16x64x4096, .f32⟩
  | .hbm, ⟨7, _⟩ => ⟨S16x64x4096, .f32⟩
  | .hbm, ⟨8, _⟩ => ⟨S16x64x4096, .f32⟩
  | _, _ => ⟨S16x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S16896x4096 : Shape := ⟨2, ![16896, 4096]⟩
abbrev S2x4096x16416 : Shape := ⟨3, ![2, 4096, 16416]⟩
abbrev S16896x8192 : Shape := ⟨2, ![16896, 8192]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x8192, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S16896x4096 : Shape := ⟨2, ![16896, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S16896x16416 : Shape := ⟨2, ![16896, 16416]⟩
abbrev S16896x8192 : Shape := ⟨2, ![16896, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x4096, .f32⟩
  | .hbm, ⟨3, _⟩ => ⟨S1x4096x16416, .f32⟩
  | .hbm, ⟨4, _⟩ => ⟨S4096x16416, .f32⟩
  | .hbm, ⟨5, _⟩ => ⟨S16896x16416, .f32⟩
  | .hbm, ⟨6, _⟩ => ⟨S16896x8192, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S16896x4096 : Shape := ⟨2, ![16896, 4096]⟩
abbrev S2x4096x16416 : Shape := ⟨3, ![2, 4096, 16416]⟩
abbrev S1x4096x8192 : Shape := ⟨3, ![1, 4096, 8192]⟩
abbrev S4096x8192 : Shape := ⟨2, ![4096, 8192]⟩
abbrev S16896x8192 : Shape := ⟨2, ![16896, 8192]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S1x4096x8192, .f32⟩
  | .hbm, ⟨3, _⟩ => ⟨S4096x8192, .f32⟩
  | .hbm, ⟨4, _⟩ => ⟨S4096x8192, .bf16⟩
  | .hbm, ⟨5, _⟩ => ⟨S16896x8192, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S16896x4096 : Shape := ⟨2, ![16896, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S16896x16416 : Shape := ⟨2, ![16896, 16416]⟩
abbrev S16896x8192 : Shape := ⟨2, ![16896, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x4096, .f32⟩
  | .hbm, ⟨3, _⟩ => ⟨S1x4096x16416, .f32⟩
  | .hbm, ⟨4, _⟩ => ⟨S4096x16416, .f32⟩
  | .hbm, ⟨5, _⟩ => ⟨S16896x16416, .f32⟩
  | .hbm, ⟨6, _⟩ => ⟨S16896x8192, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S16x2048x4096 : Shape := ⟨3, ![16, 2048, 4096]⟩
abbrev S2x16x4096x1024 : Shape := ⟨4, ![2, 16, 4096, 1024]⟩
abbrev S16x2048x1024 : Shape := ⟨3, ![16, 2048, 1024]⟩
abbrev S1x512x4096 : Shape := ⟨3, ![1, 512, 4096]⟩
abbrev S1x1x4096x256 : Shape := ⟨4, ![1, 1, 4096, 256]⟩
abbrev S1x512x256 : Shape := ⟨3, ![1, 512, 256]⟩
abbrev S4096x256 : Shape := ⟨2, ![4096, 256]⟩
abbrev S512x4096 : Shape := ⟨2, ![512, 4096]⟩
abbrev S512x256 : Shape := ⟨2, ![512, 256]⟩

abbrev nBuf : Space → Nat
  | .hbm => 4
  | .vmem => 10
  | .smem => 0
  | _ => 0

abbrev bufTy : (tb : Table) → Fin (tcTables nBuf tb) → BufTy
  | .hbm, ⟨0, _⟩ => ⟨S16x2048x4096, .bf16⟩
  | .hbm, ⟨1, _⟩ => ⟨S2x16x4096x1024, .f32⟩
  | .hbm, ⟨2, _⟩ => ⟨S2x16x4096x1024, .f32⟩
  | .hbm, ⟨3, _⟩ => ⟨S16x2048x1024, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x512x256, .bf16⟩
  | .local _ .vmem, ⟨7, _⟩ => ⟨S1x512x256, .bf16⟩
  | .local _ .vmem, ⟨8, _⟩ => ⟨S4096x256, .bf16⟩
  | .local _ .vmem, ⟨9, _⟩ => ⟨S4096x256, .bf16⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference21Ideal.lean ====
abbrev S16x2048x4096 : Shape := ⟨3, ![16, 2048, 4096]⟩
abbrev S2x16x4096x1024 : Shape := ⟨4, ![2, 16, 4096, 1024]⟩
abbrev S1x16x4096x1024 : Shape := ⟨4, ![1, 16, 4096, 1024]⟩
abbrev S16x4096x1024 : Shape := ⟨3, ![16, 4096, 1024]⟩
abbrev S16x2048x1024 : Shape := ⟨3, ![16, 2048, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S2x16x4096x1024, .f32⟩
  | .hbm, ⟨2, _⟩ => ⟨S2x16x4096x1024, .f32⟩
  | .hbm, ⟨3, _⟩ => ⟨S16x2048x4096, .f32⟩
  | .hbm, ⟨4, _⟩ => ⟨S1x16x4096x1024, .f32⟩
  | .hbm, ⟨5, _⟩ => ⟨S16x4096x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S1x16x4096x1024, .f32⟩
  | .hbm, ⟨17, _⟩ => ⟨S16x4096x1024, .f32⟩
  | .hbm, ⟨18, _⟩ => ⟨S16x2048x1024, .f32⟩
  | .hbm, ⟨19, _⟩ => ⟨S16x2048x1024, .f32⟩
  | .hbm, ⟨20, _⟩ => ⟨S16x2048x1024, .bf16⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel22.lean ====
abbrev S16x2048x1024 : Shape := ⟨3, ![16, 2048, 1024]⟩
abbrev S2x16x1024x4096 : Shape := ⟨4, ![2, 16, 1024, 4096]⟩
abbrev S16x2048x1 : Shape := ⟨3, ![16, 2048, 1]⟩
abbrev S16x2048x4096 : Shape := ⟨3, ![16, 2048, 4096]⟩
abbrev S1x512x1024 : Shape := ⟨3, ![1, 512, 1024]⟩
abbrev S1x1x1024x1024 : Shape := ⟨4, ![1, 1, 1024, 1024]⟩
abbrev S1x512x1 : Shape := ⟨3, ![1, 512, 1]⟩
abbrev S1024x1024 : Shape := ⟨2, ![1024, 1024]⟩
abbrev S512x1024 : Shape := ⟨2, ![512, 1024]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x4096, .f32⟩
  | .hbm, ⟨2, _⟩ => ⟨S16x2048x1, .f32⟩
  | .hbm, ⟨3, _⟩ => ⟨S16x2048x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x512x1, .f32⟩
  | .local _ .vmem, ⟨5, _⟩ => ⟨S1x512x1, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference22Ideal.lean ====
abbrev S16x2048x1024 : Shape := ⟨3, ![16, 2048, 1024]⟩
abbrev S2x16x1024x4096 : Shape := ⟨4, ![2, 16, 1024, 4096]⟩
abbrev S16x2048x1 : Shape := ⟨3, ![16, 2048, 1]⟩
abbrev S1x16x1024x4096 : Shape := ⟨4, ![1, 16, 1024, 4096]⟩
abbrev S16x1024x4096 : Shape := ⟨3, ![16, 1024, 4096]⟩
abbrev S16x2048x4096 : Shape := ⟨3, ![16, 2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x4096, .f32⟩
  | .hbm, ⟨2, _⟩ => ⟨S16x2048x1, .f32⟩
  | .hbm, ⟨3, _⟩ => ⟨S16x2048x1024, .f32⟩
  | .hbm, ⟨4, _⟩ => ⟨S1x16x1024x4096, .f32⟩
  | .hbm, ⟨5, _⟩ => ⟨S16x1024x4096, .f32⟩
  | .hbm, ⟨6, _⟩ => ⟨S16x2048x4096, .f32⟩
  | .hbm, ⟨7, _⟩ => ⟨S16x2048x4096, .f32⟩
  | .hbm, ⟨8, _⟩ => ⟨S16x2048x4096, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S16384x2048 : Shape := ⟨2, ![16384, 2048]⟩
abbrev S512x2048 : Shape := ⟨2, ![512, 2048]⟩
abbrev S2x2048x4096 : Shape := ⟨3, ![2, 2048, 4096]⟩
abbrev S16896x8192 : Shape := ⟨2, ![16896, 8192]⟩
abbrev S16896x4096 : Shape := ⟨2, ![16896, 4096]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x2048, .bf16⟩
  | .hbm, ⟨3, _⟩ => ⟨S512x2048, .bf16⟩
  | .hbm, ⟨4, _⟩ => ⟨S2x2048x4096, .f32⟩
  | .hbm, ⟨5, _⟩ => ⟨S2x2048x4096, .f32⟩
  | .hbm, ⟨6, _⟩ => ⟨S16896x8192, .f32⟩
  | .hbm, ⟨7, _⟩ => ⟨S16896x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S2048x512, .bf16⟩
  | .local _ .vmem, ⟨19, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 33], ![false, false]⟩

def k0_cond3 (i : grid0.Coords) : BitVec 1 :=
  let arg1 : BitVec 32 := BitVec.ofNat 32 (i 1).val
  let c32_i32 : BitVec 32 := 32#32
  let v6 : BitVec 1 := Scalar.cmpi .slt arg1 c32_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c32_i32_4 : BitVec 32 := 32#32
  let v9 : BitVec 1 := Scalar.cmpi .sge arg1 c32_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S16384x2048 : Shape := ⟨2, ![16384, 2048]⟩
abbrev S512x2048 : Shape := ⟨2, ![512, 2048]⟩
abbrev S2x2048x4096 : Shape := ⟨3, ![2, 2048, 4096]⟩
abbrev S16896x8192 : Shape := ⟨2, ![16896, 8192]⟩
abbrev S16896x2048 : Shape := ⟨2, ![16896, 2048]⟩
abbrev S1x2048x4096 : Shape := ⟨3, ![1, 2048, 4096]⟩
abbrev S2048x4096 : Shape := ⟨2, ![2048, 4096]⟩
abbrev S16896x4096 : Shape := ⟨2, ![16896, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x2048, .bf16⟩
  | .hbm, ⟨3, _⟩ => ⟨S512x2048, .bf16⟩
  | .hbm, ⟨4, _⟩ => ⟨S2x2048x4096, .f32⟩
  | .hbm, ⟨5, _⟩ => ⟨S2x2048x4096, .f32⟩
  | .hbm, ⟨6, _⟩ => ⟨S16896x8192, .f32⟩
  | .hbm, ⟨7, _⟩ => ⟨S16896x2048, .bf16⟩
  | .hbm, ⟨8, _⟩ => ⟨S16896x2048, .f32⟩
  | .hbm, ⟨9, _⟩ => ⟨S1x2048x4096, .f32⟩
  | .hbm, ⟨10, _⟩ => ⟨S2048x4096, .f32⟩
  | .hbm, ⟨11, _⟩ => ⟨S16896x4096, .f32⟩
  | .hbm, ⟨12, _⟩ => ⟨S16896x2048, .bf16⟩
  | .hbm, ⟨13, _⟩ => ⟨S16896x2048, .f32⟩
  | .hbm, ⟨14, _⟩ => ⟨S1x2048x4096, .f32⟩
  | .hbm, ⟨15, _⟩ => ⟨S2048x4096, .f32⟩
  | .hbm, ⟨16, _⟩ => ⟨S16896x4096, .f32⟩
  | .hbm, ⟨17, _⟩ => ⟨S16896x4096, .f32⟩
  | .hbm, ⟨18, _⟩ => ⟨S16896x4096, .f32⟩
  | .hbm, ⟨19, _⟩ => ⟨S16896x4096, .f32⟩
  | .hbm, ⟨20, _⟩ => ⟨S16896x4096, .f32⟩
  | .hbm, ⟨21, _⟩ => ⟨S_, .f32⟩
  | .hbm, ⟨22, _⟩ => ⟨S16896x4096, .f32⟩
  | .hbm, ⟨23, _⟩ => ⟨S16896x4096, .f32⟩
  | .hbm, ⟨24, _⟩ => ⟨S_, .f32⟩
  | .hbm, ⟨25, _⟩ => ⟨S16896x4096, .f32⟩
  | .hbm, ⟨26, _⟩ => ⟨S16896x4096, .f32⟩
  | .hbm, ⟨27, _⟩ => ⟨S16896x4096, .f32⟩
  | .hbm, ⟨28, _⟩ => ⟨S16896x4096, .f32⟩
  | .hbm, ⟨29, _⟩ => ⟨S16896x4096, .f32⟩
  | .hbm, ⟨30, _⟩ => ⟨S_, .f32⟩
  | .hbm, ⟨31, _⟩ => ⟨S16896x4096, .f32⟩
  | .hbm, ⟨32, _⟩ => ⟨S16896x4096, .f32⟩
  | .hbm, ⟨33, _⟩ => ⟨S_, .f32⟩
  | .hbm, ⟨34, _⟩ => ⟨S16896x4096, .f32⟩
  | .hbm, ⟨35, _⟩ => ⟨S16896x4096, .f32⟩
  | .hbm, ⟨36, _⟩ => ⟨S16896x4096, .f32⟩
  | .hbm, ⟨37, _⟩ => ⟨S16896x4096, .f32⟩
  | .hbm, ⟨38, _⟩ => ⟨S16896x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel24.lean ====
abbrev S16896x4096 : Shape := ⟨2, ![16896, 4096]⟩
abbrev S2x4096x4096 : Shape := ⟨3, ![2, 4096, 4096]⟩
abbrev S48x1x4096 : Shape := ⟨3, ![48, 1, 4096]⟩
abbrev S512x4096 : Shape := ⟨2, ![512, 4096]⟩
abbrev S1x4096x512 : Shape := ⟨3, ![1, 4096, 512]⟩
abbrev S512x512 : Shape := ⟨2, ![512, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16896x4096, .f32⟩
  | .hbm, ⟨3, _⟩ => ⟨S48x1x4096, .f32⟩
  | .hbm, ⟨4, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c2_i32_4 : BitVec 32 := 2#32
  let v20 : BitVec 32 := Scalar.addi v19 c2_i32_4
  let c0_i32_5 : BitVec 32 := 0#32
  let c0_i32_6 : BitVec 32 := 0#32
  ![v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S16896x4096 : Shape := ⟨2, ![16896, 4096]⟩
abbrev S2x4096x4096 : Shape := ⟨3, ![2, 4096, 4096]⟩
abbrev S48x1x4096 : Shape := ⟨3, ![48, 1, 4096]⟩
abbrev S1x4096x4096 : Shape := ⟨3, ![1, 4096, 4096]⟩
abbrev S4096x4096 : Shape := ⟨2, ![4096, 4096]⟩
abbrev S8x6x4096 : Shape := ⟨3, ![8, 6, 4096]⟩
abbrev S8x1x4096 : Shape := ⟨3, ![8, 1, 4096]⟩
abbrev S8x4096 : Shape := ⟨2, ![8, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩
abbrev S1x4096 : Shape := ⟨2, ![1, 4096]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16896x4096, .f32⟩
  | .hbm, ⟨3, _⟩ => ⟨S48x1x4096, .f32⟩
  | .hbm, ⟨4, _⟩ => ⟨S16896x4096, .f32⟩
  | .hbm, ⟨5, _⟩ => ⟨S1x4096x4096, .f32⟩
  | .hbm, ⟨6, _⟩ => ⟨S4096x4096, .f32⟩
  | .hbm, ⟨7, _⟩ => ⟨S16896x4096, .f32⟩
  | .hbm, ⟨8, _⟩ => ⟨S8x6x4096, .f32⟩
  | .hbm, ⟨9, _⟩ => ⟨S8x1x4096, .f32⟩
  | .hbm, ⟨10, _⟩ => ⟨S8x4096, .f32⟩
  | .hbm, ⟨11, _⟩ => ⟨S16384x4096, .f32⟩
  | .hbm, ⟨12, _⟩ => ⟨S2x8192x4096, .f32⟩
  | .hbm, ⟨13, _⟩ => ⟨S2x4096, .f32⟩
  | .hbm, ⟨14, _⟩ => ⟨S2x1x4096, .f32⟩
  | .hbm, ⟨15, _⟩ => ⟨S16384x4096, .f32⟩
  | .hbm, ⟨16, _⟩ => ⟨S2x8192x4096, .f32⟩
  | .hbm, ⟨17, _⟩ => ⟨S2x8192x4096, .f32⟩
  | .hbm, ⟨18, _⟩ => ⟨S2x8192x4096, .f32⟩
  | .hbm, ⟨19, _⟩ => ⟨S2x8192x4096, .f32⟩
  | .hbm, ⟨20, _⟩ => ⟨S512x4096, .f32⟩
  | .hbm, ⟨21, _⟩ => ⟨S1x4096, .f32⟩
  | .hbm, ⟨22, _⟩ => ⟨S4096, .f32⟩
  | .hbm, ⟨23, _⟩ => ⟨S512x4096, .f32⟩
  | .hbm, ⟨24, _⟩ => ⟨S1x4096, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S16384x4096, .f32⟩
  | .hbm, ⟨29, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel25.lean ====
abbrev S16896x4096 : Shape := ⟨2, ![16896, 4096]⟩
abbrev S2x4096x16416 : Shape := ⟨3, ![2, 4096, 16416]⟩
abbrev S16896x128 : Shape := ⟨2, ![16896, 128]⟩
abbrev S512x4096 : Shape := ⟨2, ![512, 4096]⟩
abbrev S1x4096x128 : Shape := ⟨3, ![1, 4096, 128]⟩
abbrev S512x128 : Shape := ⟨2, ![512, 128]⟩
abbrev S4096x128 : Shape := ⟨2, ![4096, 128]⟩

abbrev nBuf : Space → Nat
  | .hbm => 3
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x128, .f32⟩
  | .local _ .vmem, ⟨0, _⟩ => ⟨S512x4096, .bf16⟩
  | .local _ .vmem, ⟨1, _⟩ => ⟨S512x4096, .bf16⟩
  | .local _ .vmem, ⟨2, _⟩ => ⟨S1x4096x128, .f32⟩
  | .local _ .vmem, ⟨3, _⟩ => ⟨S512x128, .f32⟩
  | .local _ .vmem, ⟨4, _⟩ => ⟨S512x128, .f32⟩
  | .local _ .vmem, ⟨5, _⟩ => ⟨S4096x128, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S16896x4096 : Shape := ⟨2, ![16896, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S16896x16416 : Shape := ⟨2, ![16896, 16416]⟩
abbrev S16896x128 : Shape := ⟨2, ![16896, 128]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x16416, .f32⟩
  | .hbm, ⟨2, _⟩ => ⟨S16896x4096, .f32⟩
  | .hbm, ⟨3, _⟩ => ⟨S1x4096x16416, .f32⟩
  | .hbm, ⟨4, _⟩ => ⟨S4096x16416, .f32⟩
  | .hbm, ⟨5, _⟩ => ⟨S16896x16416, .f32⟩
  | .hbm, ⟨6, _⟩ => ⟨S16896x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel26.lean ====
abbrev S16896x4096 : Shape := ⟨2, ![16896, 4096]⟩
abbrev S4096 : Shape := ⟨1, ![4096]⟩
abbrev S48x1x4096 : Shape := ⟨3, ![48, 1, 4096]⟩
abbrev S2x4096x16 : Shape := ⟨3, ![2, 4096, 16]⟩
abbrev S1x4096 : Shape := ⟨2, ![1, 4096]⟩
abbrev S1x4096x16 : Shape := ⟨3, ![1, 4096, 16]⟩
abbrev S4096x16 : Shape := ⟨2, ![4096, 16]⟩
abbrev S16x4096 : Shape := ⟨2, ![16, 4096]⟩
abbrev S16x16896 : Shape := ⟨2, ![16, 16896]⟩
abbrev S256x4096 : Shape := ⟨2, ![256, 4096]⟩
abbrev S1x1x4096 : Shape := ⟨3, ![1, 1, 4096]⟩
abbrev S16x256 : Shape := ⟨2, ![16, 256]⟩
abbrev S256 : Shape := ⟨1, ![256]⟩
abbrev S256x1 : Shape := ⟨2, ![256, 1]⟩
abbrev S1x256 : Shape := ⟨2, ![1, 256]⟩

abbrev nBuf : Space → Nat
  | .hbm => 11
  | .vmem => 12
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S2x4096x16, .f32⟩
  | .hbm, ⟨4, _⟩ => ⟨S1x4096, .f32⟩
  | .hbm, ⟨5, _⟩ => ⟨S1x4096x16, .f32⟩
  | .hbm, ⟨6, _⟩ => ⟨S4096x16, .f32⟩
  | .hbm, ⟨7, _⟩ => ⟨S16x4096, .f32⟩
  | .hbm, ⟨8, _⟩ => ⟨S16x4096, .bf16⟩
  | .hbm, ⟨9, _⟩ => ⟨S16896x4096, .f32⟩
  | .hbm, ⟨10, _⟩ => ⟨S16x16896, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S16x4096, .bf16⟩
  | .local _ .vmem, ⟨8, _⟩ => ⟨S256x4096, .f32⟩
  | .local _ .vmem, ⟨9, _⟩ => ⟨S256x4096, .f32⟩
  | .local _ .vmem, ⟨10, _⟩ => ⟨S16x256, .f32⟩
  | .local _ .vmem, ⟨11, _⟩ => ⟨S16x256, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c4_i32 : BitVec 32 := 4#32
  let v20 : BitVec 32 := Scalar.addi v19 c4_i32
  let c0_i32_4 : BitVec 32 := 0#32
  let c0_i32_5 : BitVec 32 := 0#32
  let c0_i32_6 : BitVec 32 := 0#32
  ![v20.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c3_i32 : BitVec 32 := 3#32
  let v20 : BitVec 32 := Scalar.addi v19 c3_i32
  let c0_i32_4 : BitVec 32 := 0#32
  let c0_i32_5 : BitVec 32 := 0#32
  let c0_i32_6 : BitVec 32 := 0#32
  ![v20.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S16896x4096 : Shape := ⟨2, ![16896, 4096]⟩
abbrev S4096 : Shape := ⟨1, ![4096]⟩
abbrev S48x1x4096 : Shape := ⟨3, ![48, 1, 4096]⟩
abbrev S2x4096x16 : Shape := ⟨3, ![2, 4096, 16]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S8x6x4096 : Shape := ⟨3, ![8, 6, 4096]⟩
abbrev S8x1x4096 : Shape := ⟨3, ![8, 1, 4096]⟩
abbrev S8x4096 : Shape := ⟨2, ![8, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩
abbrev S1x4096x16 : Shape := ⟨3, ![1, 4096, 16]⟩
abbrev S4096x16 : Shape := ⟨2, ![4096, 16]⟩
abbrev S16896x16 : Shape := ⟨2, ![16896, 16]⟩
abbrev S16x16896 : Shape := ⟨2, ![16, 16896]⟩

abbrev nBuf : Space → Nat
  | .hbm => 73
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S2x4096x16, .f32⟩
  | .hbm, ⟨4, _⟩ => ⟨S16896x4096, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x4096, .f32⟩
  | .hbm, ⟨16, _⟩ => ⟨S16896x4096, .f32⟩
  | .hbm, ⟨17, _⟩ => ⟨S1x4096, .f32⟩
  | .hbm, ⟨18, _⟩ => ⟨S16896x4096, .f32⟩
  | .hbm, ⟨19, _⟩ => ⟨S16896x4096, .f32⟩
  | .hbm, ⟨20, _⟩ => ⟨S8x6x4096, .f32⟩
  | .hbm, ⟨21, _⟩ => ⟨S8x1x4096, .f32⟩
  | .hbm, ⟨22, _⟩ => ⟨S8x4096, .f32⟩
  | .hbm, ⟨23, _⟩ => ⟨S8x6x4096, .f32⟩
  | .hbm, ⟨24, _⟩ => ⟨S8x1x4096, .f32⟩
  | .hbm, ⟨25, _⟩ => ⟨S8x4096, .f32⟩
  | .hbm, ⟨26, _⟩ => ⟨S16384x4096, .f32⟩
  | .hbm, ⟨27, _⟩ => ⟨S2x8192x4096, .f32⟩
  | .hbm, ⟨28, _⟩ => ⟨S2x4096, .f32⟩
  | .hbm, ⟨29, _⟩ => ⟨S2x1x4096, .f32⟩
  | .hbm, ⟨30, _⟩ => ⟨S_, .f32⟩
  | .hbm, ⟨31, _⟩ => ⟨S2x1x4096, .f32⟩
  | .hbm, ⟨32, _⟩ => ⟨S2x1x4096, .f32⟩
  | .hbm, ⟨33, _⟩ => ⟨S2x8192x4096, .f32⟩
  | .hbm, ⟨34, _⟩ => ⟨S2x8192x4096, .f32⟩
  | .hbm, ⟨35, _⟩ => ⟨S2x4096, .f32⟩
  | .hbm, ⟨36, _⟩ => ⟨S2x1x4096, .f32⟩
  | .hbm, ⟨37, _⟩ => ⟨S2x8192x4096, .f32⟩
  | .hbm, ⟨38, _⟩ => ⟨S2x8192x4096, .f32⟩
  | .hbm, ⟨39, _⟩ => ⟨S512x4096, .f32⟩
  | .hbm, ⟨40, _⟩ => ⟨S1x4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S1x4096, .f32⟩
  | .hbm, ⟨46, _⟩ => ⟨S512x4096, .f32⟩
  | .hbm, ⟨47, _⟩ => ⟨S512x4096, .f32⟩
  | .hbm, ⟨48, _⟩ => ⟨S1x4096, .f32⟩
  | .hbm, ⟨49, _⟩ => ⟨S4096, .f32⟩
  | .hbm, ⟨50, _⟩ => ⟨S1x4096, .f32⟩
  | .hbm, ⟨51, _⟩ => ⟨S512x4096, .f32⟩
  | .hbm, ⟨52, _⟩ => ⟨S512x4096, .f32⟩
  | .hbm, ⟨53, _⟩ => ⟨S16384x4096, .f32⟩
  | .hbm, ⟨54, _⟩ => ⟨S16896x4096, .f32⟩
  | .hbm, ⟨55, _⟩ => ⟨S1x4096x16, .f32⟩
  | .hbm, ⟨56, _⟩ => ⟨S4096x16, .f32⟩
  | .hbm, ⟨57, _⟩ => ⟨S16896x16, .f32⟩
  | .hbm, ⟨58, _⟩ => ⟨S_, .f32⟩
  | .hbm, ⟨59, _⟩ => ⟨S16896, .f32⟩
  | .hbm, ⟨60, _⟩ => ⟨S_, .f32⟩
  | .hbm, ⟨61, _⟩ => ⟨S16896, .f32⟩
  | .hbm, ⟨62, _⟩ => ⟨S16896, .f32⟩
  | .hbm, ⟨63, _⟩ => ⟨S16896x1, .f32⟩
  | .hbm, ⟨64, _⟩ => ⟨S16896x16, .f32⟩
  | .hbm, ⟨65, _⟩ => ⟨S16896x16, .f32⟩
  | .hbm, ⟨66, _⟩ => ⟨S16896x16, .f32⟩
  | .hbm, ⟨67, _⟩ => ⟨S_, .f32⟩
  | .hbm, ⟨68, _⟩ => ⟨S16896, .f32⟩
  | .hbm, ⟨69, _⟩ => ⟨S16896x1, .f32⟩
  | .hbm, ⟨70, _⟩ => ⟨S16896x16, .f32⟩
  | .hbm, ⟨71, _⟩ => ⟨S16896x16, .f32⟩
  | .hbm, ⟨72, _⟩ => ⟨S16x16896, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Proof.Gla.Spec.lean ====
/- Chunked gated linear attention over the extended reals: what one chunk of 64 tokens of one head makes of the
   state that it is handed, and the states of a sequence of chunks. Nothing here speaks of a program. -/
module

public import Idealize.ShloMosaic.PureOps.Ideal
public import Idealize.ShloMosaic.Lib.Pointwise

@[expose] public section

noncomputable section

namespace Cert.Gla

open Idealize.ShloMosaic

/-- One chunk of one head, in the order in which the recurrence visits its tokens: the scaled queries, the keys, the
    values and the logarithms of the gates. -/
@[ext]
structure Chunk where
  q : Fin 64 → Fin 256 → EReal
  k : Fin 64 → Fin 256 → EReal
  v : Fin 64 → Fin 512 → EReal
  g : Fin 64 → Fin 256 → EReal

/-- The state of one head: value channel by key channel. -/
abbrev State := Fin 512 → Fin 256 → EReal

namespace Chunk

variable (C : Chunk)

/-- The running sum of the gates' logarithms up to and including token `i`. -/
def cum (i : Fin 64) (d : Fin 256) : EReal := ∑ j : Fin 64, if j ≤ i then C.g j d else 0

/-- The sum over the whole chunk. -/
def tot (d : Fin 256) : EReal := C.cum 63 d

def qDec (i : Fin 64) (d : Fin 256) : EReal := C.q i d * Ideal.exp (C.cum i d)

def kInv (i : Fin 64) (d : Fin 256) : EReal := C.k i d * Ideal.exp (-(C.cum i d))

def kTail (i : Fin 64) (d : Fin 256) : EReal := C.k i d * Ideal.exp (C.tot d - C.cum i d)

/-- The causal scores within the chunk. -/
def att (i j : Fin 64) : EReal := if j ≤ i then ∑ d : Fin 256, C.qDec i d * C.kInv j d else 0

/-- The chunk's output rows over the state before it. -/
def out (st : State) (i : Fin 64) (e : Fin 512) : EReal :=
  (∑ j : Fin 64, C.att i j * C.v j e) + ∑ d : Fin 256, C.qDec i d * st e d

/-- The state after the chunk. -/
def next (st : State) : State := fun e d =>
  st e d * Ideal.exp (C.tot d) + ∑ i : Fin 64, C.v i e * C.kTail i d

end Chunk

/-- The states before chunk 0, 1, 2, … of a sequence of chunks. -/
def states (D : ℕ → Chunk) (st : State) : ℕ → State
  | 0 => st
  | n + 1 => (D n).next (states D st n)

theorem states_succ (D : ℕ → Chunk) (st : State) (n : ℕ) : states D st (n + 1) = (D n).next (states D st n) := rfl

theorem states_add (D : ℕ → Chunk) (st : State) (a n : ℕ) :
    states D st (a + n) = states (fun i => D (a + i)) (states D st a) n := by
  induction n with
  | zero => rfl
  | succ n ih => rw [← Nat.add_assoc, states_succ, ih, states_succ]

/-- The states up to the `n`-th depend on the first `n` chunks alone. -/
theorem states_congr (D D' : ℕ → Chunk) (st : State) (n : ℕ) (h : ∀ i < n, D i = D' i) :
    states D st n = states D' st n := by
  induction n with
  | zero => rfl
  | succ n ih => rw [states_succ, states_succ, ih fun i hi => h i (Nat.lt_succ_of_lt hi), h n (Nat.lt_succ_self n)]

/-! ## The gate -/

/-- A sixteenth of the logarithm of the logistic function. -/
def gate (x : EReal) : EReal := (min x 0 - Ideal.log1p (Ideal.exp (-(max x (-x))))) * ((1 / 16 : ℝ) : EReal)

theorem sixteenth : Ideal.ofBits .f32 0x3D800000#32 = ((1 / 16 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem exp_neg_abs (x : EReal) : ∃ r : ℝ, 0 ≤ r ∧ Ideal.exp (-(max x (-x))) = (r : EReal) := by
  induction x using EReal.rec with
  | bot => exact ⟨0, le_refl _, by rw [EReal.neg_bot, max_eq_right bot_le, EReal.neg_top]; rfl⟩
  | top => exact ⟨0, le_refl _, by rw [max_eq_left le_top, EReal.neg_top]; rfl⟩
  | coe x =>
    refine ⟨Real.exp (-(max x (-x))), (Real.exp_pos _).le, ?_⟩
    rw [show (-(max (x : EReal) (-(x : EReal)))) = ((-(max x (-x)) : ℝ) : EReal) by
      push_cast; rfl]
    rfl

theorem log1p_real (x : EReal) : ∃ r : ℝ, Ideal.log1p (Ideal.exp (-(max x (-x)))) = (r : EReal) := by
  obtain ⟨r, hr, h⟩ := exp_neg_abs x
  rw [h]
  refine ⟨Real.log (1 + r), ?_⟩
  have h1 : (0 : ℝ) < 1 + r := by linarith
  rw [Ideal.log1p, show (1 : EReal) + (r : EReal) = ((1 + r : ℝ) : EReal) by push_cast; rfl]
  exact if_neg (not_le.mpr h1)

/-- The gate's logarithm is never `+∞`. -/
theorem gate_ne_top (x : EReal) : gate x ≠ ⊤ := by
  obtain ⟨r, h⟩ := log1p_real x
  unfold gate
  rw [h]
  have h0 : min x 0 ≤ 0 := min_le_right _ _
  generalize min x 0 = y at h0
  induction y using EReal.rec with
  | bot => rw [EReal.bot_sub, EReal.bot_mul_coe_of_pos (by norm_num)]; exact bot_ne_top
  | top => exact absurd h0 (by simp)
  | coe y => rw [← EReal.coe_sub, ← EReal.coe_mul]; exact EReal.coe_ne_top _

theorem neg_max_neg (x : EReal) : -(max (-x) 0) = min x 0 := by
  induction x using EReal.rec with
  | bot => simp
  | top => simp
  | coe x =>
    rcases le_total x 0 with h | h
    · rw [max_eq_left (by norm_cast; linarith), min_eq_left (by exact_mod_cast h), neg_neg]
    · rw [max_eq_right (by norm_cast; linarith), min_eq_right (by exact_mod_cast h), neg_zero]

/-- The gate as a negated softplus of the negated logit, over sixteen. -/
theorem gate_eq (x : EReal) :
    Ideal.div (-(max (-x) 0 + Ideal.log1p (Ideal.exp (-(max x (-x)))))) ((16 : ℝ) : EReal) = gate x := by
  obtain ⟨r, h⟩ := log1p_real x
  unfold gate
  rw [h, EReal.neg_add (Or.inr (EReal.coe_ne_top r)) (Or.inr (EReal.coe_ne_bot r)), neg_max_neg, Ideal.div,
    if_neg (by norm_cast)]
  congr 1
  rw [← EReal.coe_inv]; norm_num

/-- The sum of a value below `+∞`, of what is left of it, and of what is left of that, each under a factor of one or
    zero, is the value under that factor. -/
theorem three_parts (p : Prop) [Decidable p] (v : EReal) (hv : v ≠ ⊤) :
    (if p then (1 : EReal) else 0) * v + (if p then (1 : EReal) else 0) * (v - v)
      + (if p then (1 : EReal) else 0) * (v - v - (v - v)) = if p then v else 0 := by
  split
  · induction v using EReal.rec with
    | bot => simp
    | top => exact absurd rfl hv
    | coe v => simp only [one_mul]; norm_cast; simp
  · simp

end Cert.Gla

end
-- ==== Proof.Gla.Chunk.lean ====
/- The kernel's arithmetic on one chunk of 64 tokens, read entry by entry, in both directions: `σ` takes a token's place in
   the recurrence to its row in the chunk (the identity forward, the reversal backward). -/
module

public import proofs.«01_k».proof.Proof.Gla.Spec
public import proofs.«01_k».proof.Proof.Gen.KernelIdeal.Skeleton
public import Idealize.ShloMosaic.Lib.Pointwise

@[expose] public section

set_option maxRecDepth 16384

noncomputable section

namespace Cert.Gla

open Idealize.ShloMosaic Cert.KernelIdeal Cert.KernelIdeal.Gen

/-- The chunk that the rows of a block's slices hold, taken in the order `σ`. -/
def tile (σ : Equiv.Perm (Fin 64)) (q k : Vec Ideal S64x256 .f32) (v : Vec Ideal S64x512 .f32)
    (lr : Vec Ideal S64x16 .f32) (w : Vec Ideal S1x16x256 .f32) (b : Vec Ideal S1x1x256 .f32) : Chunk where
  q i d := q (ix2 (σ i) d) * ((1 / 16 : ℝ) : EReal)
  k i d := k (ix2 (σ i) d)
  v i e := v (ix2 (σ i) e)
  g i d := gate ((∑ r : Fin 16, lr (ix2 (σ i) r) * w (ix3 0 r d)) + b (ix3 0 0 d))

/-- A state as the scratch holds it. -/
def toState (st : Vec Ideal S512x256 .f32) : State := fun e d => st (ix2 e d)

/-! ## The three formulas over any mask -/

section Formulas

variable (σ : Equiv.Perm (Fin 64)) (tri : FVec Ideal S64x64 .bf16) (keep : IVec S64x64 1)
  (w : Vec Ideal S1x16x256 .f32) (lr : Vec Ideal S64x16 .f32) (b : Vec Ideal S1x1x256 .f32)
  (q k : Vec Ideal S64x256 .f32) (v : Vec Ideal S64x512 .f32) (st : Vec Ideal S512x256 .f32)

theorem cum_read (ht : ∀ i j, tri (ix2 (σ i) (σ j)) = if j ≤ i then (1 : EReal) else 0) (i : Fin 64) (d : Fin 256) :
    k0_pay13 tri (k0_pay7 w) lr b (ix2 (σ i) d) = (tile σ q k v lr w b).cum i d := by
  pointwise [k0_pay13, k0_pay7]
  have hg : ∀ x : Fin 64, (min (∑ r : Fin 16, lr (ix2 x r) * w (ix3 0 r d) + b (ix3 0 0 d)) 0
      - Ideal.log1p (Ideal.exp (0 - FloatOps.absf (F := Ideal) (φ := .f32) (∑ r : Fin 16, lr (ix2 x r) * w (ix3 0 r d) + b (ix3 0 0 d)))))
        * Ideal.ofBits .f32 1031798784#32
      = gate (∑ r : Fin 16, lr (ix2 x r) * w (ix3 0 r d) + b (ix3 0 0 d)) := fun x => by
    rw [sixteenth, zero_sub]; rfl
  simp only [hg]
  rw [← Finset.sum_add_distrib, ← Finset.sum_add_distrib, ← Equiv.sum_comp σ]
  refine Finset.sum_congr rfl fun j _ => ?_
  rw [ht]
  exact three_parts _ _ (gate_ne_top _)

variable {σ w lr b q k v}
variable (C : Chunk) (hC : C = tile σ q k v lr w b) (cum : FVec Ideal S64x256 .f32) (tot : FVec Ideal S1x256 .f32)
  (hcum : ∀ i d, cum (ix2 (σ i) d) = C.cum i d) (htot : ∀ d, tot (ix2 0 d) = C.tot d)

include hC hcum in
theorem out_read (hk : ∀ i j (a b : EReal), Scalar.select (keep (ix2 (σ i) (σ j))) a b = if j ≤ i then a else b)
    (i : Fin 64) (e : Fin 512) :
    k0_pay11 keep cum q k0_pay10 k v st (ix3 0 (σ i) e) = C.out (toState st) i e := by
  pointwise [k0_pay11, k0_pay10]
  rw [← Equiv.sum_comp σ]
  simp only [hk, hcum, sixteenth, zero_sub]
  subst hC
  refine congrArg₂ (· + ·) (Finset.sum_congr rfl fun j _ => ?_) rfl
  unfold Chunk.att
  split
  · rfl
  · rw [zero_mul]

include hC hcum htot in
theorem next_read : toState (k0_pay12 cum tot k v st) = C.next (toState st) := by
  funext e d
  unfold toState
  pointwise [k0_pay12]
  rw [← Equiv.sum_comp σ]
  simp only [hcum, htot]
  subst hC
  rfl

end Formulas

theorem select_le (a b : Fin 64) (x y : EReal) :
    Scalar.select (IntOp.cmpi .sle (BitVec.ofNat 32 a) (BitVec.ofNat 32 b)) x y = if a ≤ b then x else y := by
  revert a b
  have h : ∀ a b : Fin 64, IntOp.cmpi .sle (BitVec.ofNat 32 a) (BitVec.ofNat 32 b) = if a ≤ b then 1#1 else 0#1 := by
    decide
  intro a b
  rw [h]
  split <;> rfl

theorem select_ge (a b : Fin 64) (x y : EReal) :
    Scalar.select (IntOp.cmpi .sge (BitVec.ofNat 32 a) (BitVec.ofNat 32 b)) x y = if b ≤ a then x else y :=
  select_le b a x y

theorem one_bits : Ideal.ofBits .f32 0x3F800000#32 = 1 := by
  simp [Ideal.ofBits, Ideal.ieee, -EReal.coe_mul]
  norm_num

theorem zero_bits : Ideal.ofBits .f32 0x00000000#32 = 0 := by
  simp [Ideal.ofBits, Ideal.ieee, -EReal.coe_mul]

/-! ## Forward -/

section Forward

/-- The row and the column numbers of the chunk's square mask. -/
abbrev rowNo : IVec S64x64 32 := iota .tc S64x64 32 [0] iota_S64x64_d0_w32
abbrev colNo : IVec S64x64 32 := iota .tc S64x64 32 [1] iota_S64x64_d1_w32

variable (q k : Vec Ideal S64x256 .f32) (v : Vec Ideal S64x512 .f32) (lr : Vec Ideal S64x16 .f32)
  (w : Vec Ideal S1x16x256 .f32) (b : Vec Ideal S1x1x256 .f32) (st : Vec Ideal S512x256 .f32)

/-- What the body writes of one chunk, forward, and the state it leaves. -/
def outF : FVec Ideal S1x64x512 .f32 :=
  k0_pay11 (k0_pay5 rowNo colNo) (k0_pay8 rowNo colNo w lr b) q k0_pay10 k v st
def nextF : FVec Ideal S512x256 .f32 :=
  k0_pay12 (k0_pay8 rowNo colNo w lr b) (k0_pay9 rowNo colNo w lr b) k v st

theorem keepF (i j : Fin 64) (x y : EReal) :
    Scalar.select (k0_pay5 rowNo colNo (ix2 i j)) x y = if j ≤ i then x else y := by
  pointwise [k0_pay5]
  rw [select_le]

theorem triF (i j : Fin 64) : k0_pay6 (F := Ideal) rowNo colNo (ix2 i j) = if j ≤ i then (1 : EReal) else 0 := by
  have h : k0_pay6 (F := Ideal) rowNo colNo (ix2 i j)
      = Scalar.select (k0_pay5 rowNo colNo (ix2 i j)) (Ideal.ofBits .f32 0x3F800000#32) (Ideal.ofBits .f32 0x00000000#32) := rfl
  rw [h, keepF, one_bits, zero_bits]

theorem cumF (i : Fin 64) (d : Fin 256) :
    k0_pay8 rowNo colNo w lr b (ix2 i d) = (tile 1 q k v lr w b).cum i d :=
  cum_read 1 (k0_pay6 rowNo colNo) w lr b q k v triF i d

theorem totF (d : Fin 256) : k0_pay9 rowNo colNo w lr b (ix2 0 d) = (tile 1 q k v lr w b).tot d := by
  pointwise [k0_pay9]
  exact cumF q k v lr w b 63 d

theorem outF_read (i : Fin 64) (e : Fin 512) :
    outF q k v lr w b st (ix3 0 i e) = (tile 1 q k v lr w b).out (toState st) i e :=
  out_read (σ := 1) (k0_pay5 rowNo colNo) st (tile 1 q k v lr w b) rfl (k0_pay8 rowNo colNo w lr b)
    (cumF q k v lr w b) keepF i e

theorem nextF_read : toState (nextF k v lr w b st) = (tile 1 q k v lr w b).next (toState st) :=
  next_read (σ := 1) (q := q) st (tile 1 q k v lr w b) rfl (k0_pay8 rowNo colNo w lr b) (k0_pay9 rowNo colNo w lr b)
    (cumF q k v lr w b) (totF q k v lr w b)

end Forward

/-! ## Backward -/

section Backward

variable (q k : Vec Ideal S64x256 .f32) (v : Vec Ideal S64x512 .f32) (lr : Vec Ideal S64x16 .f32)
  (w : Vec Ideal S1x16x256 .f32) (b : Vec Ideal S1x1x256 .f32) (st : Vec Ideal S512x256 .f32)

/-- What the body writes of one chunk, backward, and the state it leaves. -/
def outB : FVec Ideal S1x64x512 .f32 :=
  k0_pay11 (k0_pay39 rowNo colNo) (k0_pay42 rowNo colNo w lr b) q k0_pay10 k v st
def nextB : FVec Ideal S512x256 .f32 :=
  k0_pay12 (k0_pay42 rowNo colNo w lr b) (k0_pay43 rowNo colNo w lr b) k v st

theorem keepB (i j : Fin 64) (x y : EReal) :
    Scalar.select (k0_pay39 rowNo colNo (ix2 (Fin.revPerm i) (Fin.revPerm j))) x y = if j ≤ i then x else y := by
  pointwise [k0_pay39]
  rw [select_ge]
  simp only [Fin.revPerm_apply, Fin.rev_le_rev]

theorem triB (i j : Fin 64) :
    k0_pay40 (F := Ideal) rowNo colNo (ix2 (Fin.revPerm i) (Fin.revPerm j)) = if j ≤ i then (1 : EReal) else 0 := by
  have h : k0_pay40 (F := Ideal) rowNo colNo (ix2 (Fin.revPerm i) (Fin.revPerm j))
      = Scalar.select (k0_pay39 rowNo colNo (ix2 (Fin.revPerm i) (Fin.revPerm j))) (Ideal.ofBits .f32 0x3F800000#32)
        (Ideal.ofBits .f32 0x00000000#32) := rfl
  rw [h, keepB, one_bits, zero_bits]

theorem cumB (i : Fin 64) (d : Fin 256) :
    k0_pay42 rowNo colNo w lr b (ix2 (Fin.revPerm i) d) = (tile Fin.revPerm q k v lr w b).cum i d :=
  cum_read Fin.revPerm (k0_pay40 rowNo colNo) w lr b q k v triB i d

theorem totB (d : Fin 256) : k0_pay43 rowNo colNo w lr b (ix2 0 d) = (tile Fin.revPerm q k v lr w b).tot d := by
  pointwise [k0_pay43]
  exact cumB q k v lr w b 63 d

theorem outB_read (i : Fin 64) (e : Fin 512) :
    outB q k v lr w b st (ix3 0 (Fin.revPerm i) e) = (tile Fin.revPerm q k v lr w b).out (toState st) i e :=
  out_read (σ := Fin.revPerm) (k0_pay39 rowNo colNo) st (tile Fin.revPerm q k v lr w b) rfl
    (k0_pay42 rowNo colNo w lr b) (cumB q k v lr w b) keepB i e

theorem nextB_read : toState (nextB k v lr w b st) = (tile Fin.revPerm q k v lr w b).next (toState st) :=
  next_read (σ := Fin.revPerm) (q := q) st (tile Fin.revPerm q k v lr w b) rfl (k0_pay42 rowNo colNo w lr b)
    (k0_pay43 rowNo colNo w lr b) (cumB q k v lr w b) (totB q k v lr w b)

end Backward

/-! ## The spellings that the body's other chunks have -/

section Spellings

variable (q k : Vec Ideal S64x256 .f32) (v : Vec Ideal S64x512 .f32) (lr : Vec Ideal S64x16 .f32)
  (w : Vec Ideal S1x16x256 .f32) (b : Vec Ideal S1x1x256 .f32) (st : Vec Ideal S512x256 .f32)

example : k0_pay17 (k0_pay5 rowNo colNo) v (k0_pay15 (k0_pay6 rowNo colNo) (k0_pay7 w) lr b q)
   (k0_pay16 (k0_pay6 rowNo colNo) (k0_pay7 w) lr b k) st = outF q k v lr w b st := rfl
example : k0_pay18 (k0_pay13 (k0_pay6 rowNo colNo) (k0_pay7 w) lr b)
   (k0_pay14 (k0_pay6 rowNo colNo) (k0_pay7 w) lr b) k v st = nextF k v lr w b st := rfl

end Spellings

end Cert.Gla

end
-- ==== Proof.Gla.Block.lean ====
/- What one grid point of the kernel makes of its blocks: four chunks of 64 rows, forward or backward. -/
module

public import proofs.«01_k».proof.Proof.Gla.Chunk

@[expose] public section

set_option maxRecDepth 16384

noncomputable section

namespace Cert.Gla

open Idealize.ShloMosaic Cert.KernelIdeal Cert.KernelIdeal.Gen

/-- The block's row at place `i` of the `n`-th chunk visited. -/
def place (rev : Bool) (n : ℕ) (i : Fin 64) : Fin 256 :=
  if rev then Fin.rev ⟨(64 * n + i) % 256, Nat.mod_lt _ (by norm_num)⟩ else ⟨(64 * n + i) % 256, Nat.mod_lt _ (by norm_num)⟩

/-- The column of the low-rank activations: the second direction's stand after the first's. -/
def rankCol (rev : Bool) (r : Fin 16) : Fin 128 := if rev then ⟨16 + r, by omega⟩ else ⟨r, by omega⟩

/-- The `n`-th chunk visited of a point's blocks. -/
def blkChunk (rev : Bool) (x0 x1 : Vec Ideal S256x256 .f32) (x2 : Vec Ideal S256x512 .f32) (x3 : Vec Ideal S256x128 .f32)
    (x4 : Vec Ideal S1x16x256 .f32) (x5 : Vec Ideal S1x1x256 .f32) (n : ℕ) : Chunk where
  q i d := x0 (ix2 (place rev n i) d) * ((1 / 16 : ℝ) : EReal)
  k i d := x1 (ix2 (place rev n i) d)
  v i e := x2 (ix2 (place rev n i) e)
  g i d := gate ((∑ r : Fin 16, x3 (ix2 (place rev n i) (rankCol rev r)) * x4 (ix3 0 r d)) + x5 (ix3 0 0 d))

/-! ## Loads of 64 rows -/

section Loads

variable (o : ℕ)

theorem ld_256 (x : Vec Ideal S256x256 .f32) (h) (a : Fin 64) (d : Fin 256) (b : Fin 256) (hb : b.val = o + a) :
    View.ld x (Rect.unit ![o, 0] ![64, 256] h) (ix2 a d) = x (ix2 b d) := by
  pointwise []
  exact congrArg (fun y => x (ix2 y d)) (Fin.ext hb.symm)

theorem ld_512 (x : Vec Ideal S256x512 .f32) (h) (a : Fin 64) (d : Fin 512) (b : Fin 256) (hb : b.val = o + a) :
    View.ld x (Rect.unit ![o, 0] ![64, 512] h) (ix2 a d) = x (ix2 b d) := by
  pointwise []
  exact congrArg (fun y => x (ix2 y d)) (Fin.ext hb.symm)

theorem ld_16 (x : Vec Ideal S256x128 .f32) (p : ℕ) (h) (a : Fin 64) (r : Fin 16) (b : Fin 256) (c : Fin 128)
    (hb : b.val = o + a) (hc : c.val = p + r) :
    View.ld x (Rect.unit ![o, p] ![64, 16] h) (ix2 a r) = x (ix2 b c) := by
  pointwise []
  exact congrArg₂ (fun y z => x (ix2 y z)) (Fin.ext hb.symm) (Fin.ext hc.symm)

end Loads

section Tiles

variable (x0 x1 : Vec Ideal S256x256 .f32) (x2 : Vec Ideal S256x512 .f32) (x3 : Vec Ideal S256x128 .f32)
    (x4 : Vec Ideal S1x16x256 .f32) (x5 : Vec Ideal S1x1x256 .f32)

theorem tile_loads (rev : Bool) (σ : Equiv.Perm (Fin 64)) (n o p : ℕ) (h0 h1 h2 h3)
    (ho : ∀ i, (place rev n i).val = o + σ i) (hp : ∀ r, (rankCol rev r).val = p + r) :
    tile σ (View.ld x0 (Rect.unit ![o, 0] ![64, 256] h0)) (View.ld x1 (Rect.unit ![o, 0] ![64, 256] h1))
      (View.ld x2 (Rect.unit ![o, 0] ![64, 512] h2)) (View.ld x3 (Rect.unit ![o, p] ![64, 16] h3)) x4 x5
    = blkChunk rev x0 x1 x2 x3 x4 x5 n := by
  unfold tile blkChunk
  congr 1
  · funext i d; rw [ld_256 o x0 h0 _ _ _ (ho i)]
  · funext i d; rw [ld_256 o x1 h1 _ _ _ (ho i)]
  · funext i d; rw [ld_512 o x2 h2 _ _ _ (ho i)]
  · funext i d
    refine congrArg gate (congrArg (· + _) (Finset.sum_congr rfl fun r _ => ?_))
    rw [ld_16 o x3 p h3 _ _ _ _ (ho i) (hp r)]

theorem place_fwd (n : ℕ) (hn : n < 4) (i : Fin 64) : (place false n i).val = 64 * n + i := by
  have := i.isLt
  show (64 * n + i) % 256 = _
  omega

theorem place_bwd (n : ℕ) (hn : n < 4) (i : Fin 64) : (place true n i).val = 64 * (3 - n) + Fin.revPerm i := by
  have := i.isLt
  show 256 - ((64 * n + i) % 256 + 1) = 64 * (3 - n) + (64 - (i + 1))
  omega

end Tiles

/-! ## Four chunks -/

section Four

variable (q k : ℕ → Vec Ideal S64x256 .f32) (v : ℕ → Vec Ideal S64x512 .f32) (lr : ℕ → Vec Ideal S64x16 .f32)
  (w : Vec Ideal S1x16x256 .f32) (b : Vec Ideal S1x1x256 .f32) (st : Vec Ideal S512x256 .f32)

/-- The scratch after `n` chunks, forward and backward. -/
def scrF : ℕ → Vec Ideal S512x256 .f32
  | 0 => st
  | n + 1 => nextF (k n) (v n) (lr n) w b (scrF n)

def scrB : ℕ → Vec Ideal S512x256 .f32
  | 0 => st
  | n + 1 => nextB (k n) (v n) (lr n) w b (scrB n)

theorem scrF_read (D : ℕ → Chunk) (N : ℕ) (h : ∀ n < N, tile 1 (q n) (k n) (v n) (lr n) w b = D n) :
    ∀ n ≤ N, toState (scrF k v lr w b st n) = states D (toState st) n
  | 0, _ => rfl
  | n + 1, hn => by
    rw [states_succ, ← scrF_read D N h n (Nat.le_of_succ_le hn), ← h n hn]
    exact nextF_read (q n) (k n) (v n) (lr n) w b _

theorem scrB_read (D : ℕ → Chunk) (N : ℕ) (h : ∀ n < N, tile Fin.revPerm (q n) (k n) (v n) (lr n) w b = D n) :
    ∀ n ≤ N, toState (scrB k v lr w b st n) = states D (toState st) n
  | 0, _ => rfl
  | n + 1, hn => by
    rw [states_succ, ← scrB_read D N h n (Nat.le_of_succ_le hn), ← h n hn]
    exact nextB_read (q n) (k n) (v n) (lr n) w b _

end Four

/-- The output row of the `p`-th token that four chunks visit. -/
def rowOut (D : ℕ → Chunk) (st : State) (p : Fin 256) (e : Fin 512) : EReal :=
  (D (p / 64)).out (states D st (p / 64)) ⟨p % 64, Nat.mod_lt _ (by norm_num)⟩ e

/-- The block of output rows: row `ρ` is place `i` of the `n`-th chunk visited. -/
def blkOut (rev : Bool) (D : ℕ → Chunk) (st : State) (ρ : Fin 256) (e : Fin 512) : EReal :=
  rowOut D st (if rev then Fin.rev ρ else ρ) e

theorem blkOut_place (rev : Bool) (D : ℕ → Chunk) (st : State) (n : ℕ) (hn : n < 4) (i : Fin 64) (ρ : Fin 256) (e : Fin 512)
    (h : ρ = place rev n i) : blkOut rev D st ρ e = (D n).out (states D st n) i e := by
  have hi := i.isLt
  have hp : (if rev then Fin.rev ρ else ρ) = ⟨64 * n + i, by omega⟩ := by
    subst h
    unfold place
    cases rev
    · exact Fin.ext (Nat.mod_eq_of_lt (by omega))
    · simp only [if_true, Fin.rev_rev]; exact Fin.ext (Nat.mod_eq_of_lt (by omega))
  unfold blkOut
  generalize (if rev then Fin.rev ρ else ρ) = p at hp ⊢
  unfold rowOut
  have hv : p.val = 64 * n + i := congrArg Fin.val hp
  have h1 : p.val / 64 = n := by omega
  have h2 : (⟨p.val % 64, Nat.mod_lt _ (by norm_num)⟩ : Fin 64) = i := Fin.ext (by show p.val % 64 = i; omega)
  simp only [h1, h2]

/-! ## The body's stores -/

section Stores

variable (x0 x1 : Vec Ideal S256x256 .f32) (x2 : Vec Ideal S256x512 .f32) (x3 : Vec Ideal S256x128 .f32)
    (x4 : Vec Ideal S1x16x256 .f32) (x5 : Vec Ideal S1x1x256 .f32) (st : Vec Ideal S512x256 .f32)

theorem rows_inb {o : ℕ} (ho : o ≤ 192) {c p W : ℕ} (hc : p + c ≤ W) :
    ∀ a : Fin 2, (![o, p] : Fin 2 → ℕ) a + ![64, c] a ≤ (![256, W] : Fin 2 → ℕ) a := by
  intro a
  fin_cases a
  · show o + 64 ≤ 256; omega
  · exact hc

/-- The `n`-th 64 rows of each block. -/
def q4 (n : ℕ) : Vec Ideal S64x256 .f32 :=
  View.ld x0 (Rect.unit (s := S256x256) ![64 * (n % 4), 0] ![64, 256] (rows_inb (by omega) (by omega)))
def v4 (n : ℕ) : Vec Ideal S64x512 .f32 :=
  View.ld x2 (Rect.unit (s := S256x512) ![64 * (n % 4), 0] ![64, 512] (rows_inb (by omega) (by omega)))
def r4 (p : ℕ) (hp : p ≤ 112) (n : ℕ) : Vec Ideal S64x16 .f32 :=
  View.ld x3 (Rect.unit (s := S256x128) ![64 * (n % 4), p] ![64, 16] (rows_inb (by omega) (by omega)))

theorem tileF (n : ℕ) (hn : n < 4) :
    tile 1 (q4 x0 n) (q4 x1 n) (v4 x2 n) (r4 x3 0 (by omega) n) x4 x5 = blkChunk false x0 x1 x2 x3 x4 x5 n :=
  tile_loads x0 x1 x2 x3 x4 x5 false 1 n (64 * (n % 4)) 0 _ _ _ _
    (fun i => by rw [place_fwd n hn, Nat.mod_eq_of_lt hn]; rfl) (fun r => (Nat.zero_add _).symm)

theorem tileB (n : ℕ) (hn : n < 4) :
    tile Fin.revPerm (q4 x0 (3 - n)) (q4 x1 (3 - n)) (v4 x2 (3 - n)) (r4 x3 16 (by omega) (3 - n)) x4 x5
      = blkChunk true x0 x1 x2 x3 x4 x5 n :=
  tile_loads x0 x1 x2 x3 x4 x5 true Fin.revPerm n (64 * ((3 - n) % 4)) 16 _ _ _ _
    (fun i => by rw [place_bwd n hn, Nat.mod_eq_of_lt (by omega)]) (fun r => rfl)

/-- The scratch after `n` of the point's chunks. -/
def scr4F : ℕ → Vec Ideal S512x256 .f32 := scrF (q4 x1) (v4 x2) (r4 x3 0 (by omega)) x4 x5 st
def scr4B : ℕ → Vec Ideal S512x256 .f32 :=
  scrB (fun n => q4 x1 (3 - n)) (fun n => v4 x2 (3 - n)) (fun n => r4 x3 16 (by omega) (3 - n)) x4 x5 st

theorem scr4F_read (n : ℕ) (hn : n ≤ 4) :
    toState (scr4F x1 x2 x3 x4 x5 st n) = states (blkChunk false x0 x1 x2 x3 x4 x5) (toState st) n :=
  scrF_read (q4 x0) (q4 x1) (v4 x2) (r4 x3 0 (by omega)) x4 x5 st _ 4 (tileF x0 x1 x2 x3 x4 x5) n hn

theorem scr4B_read (n : ℕ) (hn : n ≤ 4) :
    toState (scr4B x1 x2 x3 x4 x5 st n) = states (blkChunk true x0 x1 x2 x3 x4 x5) (toState st) n :=
  scrB_read (fun n => q4 x0 (3 - n)) (fun n => q4 x1 (3 - n)) (fun n => v4 x2 (3 - n)) (fun n => r4 x3 16 (by omega) (3 - n))
    x4 x5 st _ 4 (tileB x0 x1 x2 x3 x4 x5) n hn

/-- The rows stored for the `n`-th chunk visited, forward. -/
theorem pieceF (n : ℕ) (hn : n < 4) (y : S1x256x512.Idx) (u : S1x64x512.Idx) (h1 : (y 1 : ℕ) = 64 * n + (u 1 : ℕ))
    (h2 : (y 2 : ℕ) = (u 2 : ℕ)) :
    outF (q4 x0 n) (q4 x1 n) (v4 x2 n) (r4 x3 0 (by omega) n) x4 x5 (scr4F x1 x2 x3 x4 x5 st n) u
      = blkOut false (blkChunk false x0 x1 x2 x3 x4 x5) (toState st) (y 1) (y 2) := by
  idx_vars u
  idx_vars y
  rename' u0 => z, u1 => l, u2 => e, y1 => ρ, y2 => e'
  obtain rfl : z = 0 := Subsingleton.elim _ _
  change ρ.val = 64 * n + l.val at h1
  obtain rfl : e' = e := Fin.ext h2
  show _ = blkOut false _ _ ρ e'
  rw [blkOut_place false _ _ n hn l ρ e' (Fin.ext (by rw [place_fwd n hn]; exact h1)),
    ← scr4F_read x0 x1 x2 x3 x4 x5 st n hn.le, ← tileF x0 x1 x2 x3 x4 x5 n hn]
  exact outF_read ..

/-- The rows stored for the `n`-th chunk visited, backward. -/
theorem pieceB (n : ℕ) (hn : n < 4) (y : S1x256x512.Idx) (u : S1x64x512.Idx) (h1 : (y 1 : ℕ) = 64 * (3 - n) + (u 1 : ℕ))
    (h2 : (y 2 : ℕ) = (u 2 : ℕ)) :
    outB (q4 x0 (3 - n)) (q4 x1 (3 - n)) (v4 x2 (3 - n)) (r4 x3 16 (by omega) (3 - n)) x4 x5
        (scr4B x1 x2 x3 x4 x5 st n) u
      = blkOut true (blkChunk true x0 x1 x2 x3 x4 x5) (toState st) (y 1) (y 2) := by
  idx_vars u
  idx_vars y
  rename' u0 => z, u1 => l, u2 => e, y1 => ρ, y2 => e'
  obtain rfl : z = 0 := Subsingleton.elim _ _
  change ρ.val = 64 * (3 - n) + l.val at h1
  obtain rfl : e' = e := Fin.ext h2
  obtain ⟨l, rfl⟩ := Fin.revPerm.surjective l
  show _ = blkOut true _ _ ρ e'
  rw [blkOut_place true _ _ n hn l ρ e' (Fin.ext (by rw [place_bwd n hn]; exact h1)),
    ← scr4B_read x0 x1 x2 x3 x4 x5 st n hn.le, ← tileB x0 x1 x2 x3 x4 x5 n hn]
  exact outB_read ..

end Stores

end Cert.Gla

end
-- ==== Proof.Gla.Points.lean ====
/- Every grid point of the kernel, by the cases that its branches make: what it leaves in the scratch and in its two
   output blocks. -/
module

public import proofs.«01_k».proof.Proof.Gla.Block
public import proofs.«01_k».proof.Proof.Gen.KernelIdeal.Value
public import Idealize.ShloMosaic.Lib.Pipeline.ReadBack
public import Idealize.ShloMosaic.Lib.Pipeline.ValueKit

@[expose] public section

set_option maxRecDepth 16384
set_option maxHeartbeats 1000000

noncomputable section

namespace Cert.Gla

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)

/-- The point's blocks: queries, keys, values, low-rank activations, gate weights, gate biases, first state. -/
abbrev X0 : Vec Ideal S256x256 .f32 := iblk m c 0 t
abbrev X1 : Vec Ideal S256x256 .f32 := iblk m c 1 t
abbrev X2 : Vec Ideal S256x512 .f32 := iblk m c 2 t
abbrev X3 : Vec Ideal S256x128 .f32 := iblk m c 3 t
abbrev X4 : Vec Ideal S1x16x256 .f32 := iblk m c 4 t
abbrev X5 : Vec Ideal S1x1x256 .f32 := iblk m c 5 t
abbrev X6 : Vec Ideal S1x1x1x512x256 .f32 := iblk m c 6 t

/-- The chunks that the point visits. -/
abbrev ptChunk (rev : Bool) (n : ℕ) : Chunk := blkChunk rev (X0 m c t) (X1 m c t) (X2 m c t) (X3 m c t) (X4 m c t) (X5 m c t) n

/-- The scratch that the point before left. -/
abbrev before : Vec Ideal S512x256 .f32 := (outsAt0 m c (t.val - 1) (Nat.lt_of_le_of_lt (Nat.sub_le _ _) t.isLt)).2.2

abbrev endF (st : Vec Ideal S512x256 .f32) (n : ℕ) : Vec Ideal S512x256 .f32 :=
  scr4F (X1 m c t) (X2 m c t) (X3 m c t) (X4 m c t) (X5 m c t) st n
abbrev endB (st : Vec Ideal S512x256 .f32) (n : ℕ) : Vec Ideal S512x256 .f32 :=
  scr4B (X1 m c t) (X2 m c t) (X3 m c t) (X4 m c t) (X5 m c t) st n

theorem scr_A (h0 : t.val % 32 = 0) (h1 : t.val / 32 % 2 = 0) (h2 : ¬t.val / 32 % 2 = 1)
    (h3 : ¬t.val % 32 = 31) :
    (outsAt0 m c t.val t.isLt).2.2 = endF m c t (k0_pay1 (X6 m c t)) 4 := by
  rw [outsAt0_A m c t h0 h1 h2 h3]
  frame_open
  simp (disch := decide) only [↓ View.readCov_skip, ↓ View.readCov_cons_toLoadRect, ↓ View.readCov_fill]
  frame_out
  rfl

theorem rows_A (h0 : t.val % 32 = 0) (h1 : t.val / 32 % 2 = 0) (h2 : ¬t.val / 32 % 2 = 1)
    (h3 : ¬t.val % 32 = 31) (y : S1x256x512.Idx) :
    (outsAt0 m c t.val t.isLt).1 y = blkOut false (ptChunk m c t false) (toState (k0_pay1 (X6 m c t))) (y 1) (y 2) := by
  rw [outsAt0_A m c t h0 h1 h2 h3]
  frame_open
  simp (disch := decide) only [↓ View.readCov_skip, ↓ View.readCov_cons_toLoadRect, ↓ View.readCov_fill]
  frame_out
  canon_tiles x hx
  · exact pieceF (X0 m c t) (X1 m c t) (X2 m c t) (X3 m c t) (X4 m c t) (X5 m c t) (k0_pay1 (X6 m c t)) 3 (by norm_num) y x (hx1) hx2
  · exact pieceF (X0 m c t) (X1 m c t) (X2 m c t) (X3 m c t) (X4 m c t) (X5 m c t) (k0_pay1 (X6 m c t)) 2 (by norm_num) y x hx1 hx2
  · exact pieceF (X0 m c t) (X1 m c t) (X2 m c t) (X3 m c t) (X4 m c t) (X5 m c t) (k0_pay1 (X6 m c t)) 1 (by norm_num) y x hx1 hx2
  · exact pieceF (X0 m c t) (X1 m c t) (X2 m c t) (X3 m c t) (X4 m c t) (X5 m c t) (k0_pay1 (X6 m c t)) 0 (by norm_num) y x (by simpa using hx1) hx2

theorem scr_B (h0 : ¬t.val % 32 = 0) (h1 : t.val / 32 % 2 = 0) (h2 : ¬t.val / 32 % 2 = 1)
    (h3 : ¬t.val % 32 = 31) :
    (outsAt0 m c t.val t.isLt).2.2 = endF m c t (before m c t) 4 := by
  rw [outsAt0_B m c t h0 h1 h2 h3]
  frame_open
  simp (disch := decide) only [↓ View.readCov_skip, ↓ View.readCov_cons_toLoadRect, ↓ View.readCov_fill]
  frame_out
  simp only [read_unread_whole]
  rfl

theorem rows_B (h0 : ¬t.val % 32 = 0) (h1 : t.val / 32 % 2 = 0) (h2 : ¬t.val / 32 % 2 = 1)
    (h3 : ¬t.val % 32 = 31) (y : S1x256x512.Idx) :
    (outsAt0 m c t.val t.isLt).1 y = blkOut false (ptChunk m c t false) (toState (before m c t)) (y 1) (y 2) := by
  rw [outsAt0_B m c t h0 h1 h2 h3]
  frame_open
  simp (disch := decide) only [↓ View.readCov_skip, ↓ View.readCov_cons_toLoadRect, ↓ View.readCov_fill]
  frame_out
  simp only [read_unread_whole]
  canon_tiles x hx
  · exact pieceF (X0 m c t) (X1 m c t) (X2 m c t) (X3 m c t) (X4 m c t) (X5 m c t) (before m c t) 3 (by norm_num) y x (hx1) hx2
  · exact pieceF (X0 m c t) (X1 m c t) (X2 m c t) (X3 m c t) (X4 m c t) (X5 m c t) (before m c t) 2 (by norm_num) y x hx1 hx2
  · exact pieceF (X0 m c t) (X1 m c t) (X2 m c t) (X3 m c t) (X4 m c t) (X5 m c t) (before m c t) 1 (by norm_num) y x hx1 hx2
  · exact pieceF (X0 m c t) (X1 m c t) (X2 m c t) (X3 m c t) (X4 m c t) (X5 m c t) (before m c t) 0 (by norm_num) y x (by simpa using hx1) hx2

theorem scr_C (h0 : ¬t.val % 32 = 0) (h1 : t.val / 32 % 2 = 0) (h2 : ¬t.val / 32 % 2 = 1)
    (h3 : t.val % 32 = 31) :
    (outsAt0 m c t.val t.isLt).2.2 = endF m c t (before m c t) 4 := by
  rw [outsAt0_C m c t h0 h1 h2 h3]
  frame_open
  simp (disch := decide) only [↓ View.readCov_skip, ↓ View.readCov_cons_toLoadRect, ↓ View.readCov_fill]
  frame_out
  simp only [read_unread_whole]
  rfl

theorem last_C (h0 : ¬t.val % 32 = 0) (h1 : t.val / 32 % 2 = 0) (h2 : ¬t.val / 32 % 2 = 1)
    (h3 : t.val % 32 = 31) :
    (outsAt0 m c t.val t.isLt).2.1 = k0_pay4 (endF m c t (before m c t) 4) := by
  rw [outsAt0_C m c t h0 h1 h2 h3]
  frame_open
  simp (disch := decide) only [↓ View.readCov_skip, ↓ View.readCov_cons_toLoadRect, ↓ View.readCov_fill]
  frame_out
  simp only [read_unread_whole]
  rfl

theorem rows_C (h0 : ¬t.val % 32 = 0) (h1 : t.val / 32 % 2 = 0) (h2 : ¬t.val / 32 % 2 = 1)
    (h3 : t.val % 32 = 31) (y : S1x256x512.Idx) :
    (outsAt0 m c t.val t.isLt).1 y = blkOut false (ptChunk m c t false) (toState (before m c t)) (y 1) (y 2) := by
  rw [outsAt0_C m c t h0 h1 h2 h3]
  frame_open
  simp (disch := decide) only [↓ View.readCov_skip, ↓ View.readCov_cons_toLoadRect, ↓ View.readCov_fill]
  frame_out
  simp only [read_unread_whole]
  canon_tiles x hx
  · exact pieceF (X0 m c t) (X1 m c t) (X2 m c t) (X3 m c t) (X4 m c t) (X5 m c t) (before m c t) 3 (by norm_num) y x (hx1) hx2
  · exact pieceF (X0 m c t) (X1 m c t) (X2 m c t) (X3 m c t) (X4 m c t) (X5 m c t) (before m c t) 2 (by norm_num) y x hx1 hx2
  · exact pieceF (X0 m c t) (X1 m c t) (X2 m c t) (X3 m c t) (X4 m c t) (X5 m c t) (before m c t) 1 (by norm_num) y x hx1 hx2
  · exact pieceF (X0 m c t) (X1 m c t) (X2 m c t) (X3 m c t) (X4 m c t) (X5 m c t) (before m c t) 0 (by norm_num) y x (by simpa using hx1) hx2

theorem scr_D (h0 : t.val % 32 = 0) (h1 : ¬t.val / 32 % 2 = 0) (h2 : t.val / 32 % 2 = 1)
    (h3 : ¬t.val % 32 = 31) :
    (outsAt0 m c t.val t.isLt).2.2 = endB m c t (k0_pay1 (X6 m c t)) 4 := by
  rw [outsAt0_D m c t h0 h1 h2 h3]
  frame_open
  simp (disch := decide) only [↓ View.readCov_skip, ↓ View.readCov_cons_toLoadRect, ↓ View.readCov_fill]
  frame_out
  rfl

theorem rows_D (h0 : t.val % 32 = 0) (h1 : ¬t.val / 32 % 2 = 0) (h2 : t.val / 32 % 2 = 1)
    (h3 : ¬t.val % 32 = 31) (y : S1x256x512.Idx) :
    (outsAt0 m c t.val t.isLt).1 y = blkOut true (ptChunk m c t true) (toState (k0_pay1 (X6 m c t))) (y 1) (y 2) := by
  rw [outsAt0_D m c t h0 h1 h2 h3]
  frame_open
  simp (disch := decide) only [↓ View.readCov_skip, ↓ View.readCov_cons_toLoadRect, ↓ View.readCov_fill]
  frame_out
  canon_tiles x hx
  · exact pieceB (X0 m c t) (X1 m c t) (X2 m c t) (X3 m c t) (X4 m c t) (X5 m c t) (k0_pay1 (X6 m c t)) 3 (by norm_num) y x (by simpa using hx1) hx2
  · exact pieceB (X0 m c t) (X1 m c t) (X2 m c t) (X3 m c t) (X4 m c t) (X5 m c t) (k0_pay1 (X6 m c t)) 2 (by norm_num) y x hx1 hx2
  · exact pieceB (X0 m c t) (X1 m c t) (X2 m c t) (X3 m c t) (X4 m c t) (X5 m c t) (k0_pay1 (X6 m c t)) 1 (by norm_num) y x hx1 hx2
  · exact pieceB (X0 m c t) (X1 m c t) (X2 m c t) (X3 m c t) (X4 m c t) (X5 m c t) (k0_pay1 (X6 m c t)) 0 (by norm_num) y x (hx1) hx2

theorem scr_E (h0 : ¬t.val % 32 = 0) (h1 : ¬t.val / 32 % 2 = 0) (h2 : t.val / 32 % 2 = 1)
    (h3 : ¬t.val % 32 = 31) :
    (outsAt0 m c t.val t.isLt).2.2 = endB m c t (before m c t) 4 := by
  rw [outsAt0_E m c t h0 h1 h2 h3]
  frame_open
  simp (disch := decide) only [↓ View.readCov_skip, ↓ View.readCov_cons_toLoadRect, ↓ View.readCov_fill]
  frame_out
  simp only [read_unread_whole]
  rfl

theorem rows_E (h0 : ¬t.val % 32 = 0) (h1 : ¬t.val / 32 % 2 = 0) (h2 : t.val / 32 % 2 = 1)
    (h3 : ¬t.val % 32 = 31) (y : S1x256x512.Idx) :
    (outsAt0 m c t.val t.isLt).1 y = blkOut true (ptChunk m c t true) (toState (before m c t)) (y 1) (y 2) := by
  rw [outsAt0_E m c t h0 h1 h2 h3]
  frame_open
  simp (disch := decide) only [↓ View.readCov_skip, ↓ View.readCov_cons_toLoadRect, ↓ View.readCov_fill]
  frame_out
  simp only [read_unread_whole]
  canon_tiles x hx
  · exact pieceB (X0 m c t) (X1 m c t) (X2 m c t) (X3 m c t) (X4 m c t) (X5 m c t) (before m c t) 3 (by norm_num) y x (by simpa using hx1) hx2
  · exact pieceB (X0 m c t) (X1 m c t) (X2 m c t) (X3 m c t) (X4 m c t) (X5 m c t) (before m c t) 2 (by norm_num) y x hx1 hx2
  · exact pieceB (X0 m c t) (X1 m c t) (X2 m c t) (X3 m c t) (X4 m c t) (X5 m c t) (before m c t) 1 (by norm_num) y x hx1 hx2
  · exact pieceB (X0 m c t) (X1 m c t) (X2 m c t) (X3 m c t) (X4 m c t) (X5 m c t) (before m c t) 0 (by norm_num) y x (hx1) hx2

theorem scr_F (h0 : ¬t.val % 32 = 0) (h1 : ¬t.val / 32 % 2 = 0) (h2 : t.val / 32 % 2 = 1)
    (h3 : t.val % 32 = 31) :
    (outsAt0 m c t.val t.isLt).2.2 = endB m c t (before m c t) 4 := by
  rw [outsAt0_F m c t h0 h1 h2 h3]
  frame_open
  simp (disch := decide) only [↓ View.readCov_skip, ↓ View.readCov_cons_toLoadRect, ↓ View.readCov_fill]
  frame_out
  simp only [read_unread_whole]
  rfl

theorem last_F (h0 : ¬t.val % 32 = 0) (h1 : ¬t.val / 32 % 2 = 0) (h2 : t.val / 32 % 2 = 1)
    (h3 : t.val % 32 = 31) :
    (outsAt0 m c t.val t.isLt).2.1 = k0_pay4 (endB m c t (before m c t) 4) := by
  rw [outsAt0_F m c t h0 h1 h2 h3]
  frame_open
  simp (disch := decide) only [↓ View.readCov_skip, ↓ View.readCov_cons_toLoadRect, ↓ View.readCov_fill]
  frame_out
  simp only [read_unread_whole]
  rfl

theorem rows_F (h0 : ¬t.val % 32 = 0) (h1 : ¬t.val / 32 % 2 = 0) (h2 : t.val / 32 % 2 = 1)
    (h3 : t.val % 32 = 31) (y : S1x256x512.Idx) :
    (outsAt0 m c t.val t.isLt).1 y = blkOut true (ptChunk m c t true) (toState (before m c t)) (y 1) (y 2) := by
  rw [outsAt0_F m c t h0 h1 h2 h3]
  frame_open
  simp (disch := decide) only [↓ View.readCov_skip, ↓ View.readCov_cons_toLoadRect, ↓ View.readCov_fill]
  frame_out
  simp only [read_unread_whole]
  canon_tiles x hx
  · exact pieceB (X0 m c t) (X1 m c t) (X2 m c t) (X3 m c t) (X4 m c t) (X5 m c t) (before m c t) 3 (by norm_num) y x (by simpa using hx1) hx2
  · exact pieceB (X0 m c t) (X1 m c t) (X2 m c t) (X3 m c t) (X4 m c t) (X5 m c t) (before m c t) 2 (by norm_num) y x hx1 hx2
  · exact pieceB (X0 m c t) (X1 m c t) (X2 m c t) (X3 m c t) (X4 m c t) (X5 m c t) (before m c t) 1 (by norm_num) y x hx1 hx2
  · exact pieceB (X0 m c t) (X1 m c t) (X2 m c t) (X3 m c t) (X4 m c t) (X5 m c t) (before m c t) 0 (by norm_num) y x (hx1) hx2

end Cert.Gla

end
-- ==== Proof.Gla.Layer.lean ====
/- What the layer's gated linear attention computes from its arrays: for every segment, direction and head the states of
   128 chunks of 64 tokens, and from them the output rows. Nothing here speaks of a program. -/
module

public import proofs.«01_k».proof.Proof.Gla.Spec

@[expose] public section

noncomputable section

namespace Cert.Gla

/-- The five arrays. -/
structure Arrays where
  Z : Fin 16896 → Fin 8192 → EReal
  L : Fin 16896 → Fin 128 → EReal
  W : Fin 2 → Fin 16 → Fin 1024 → EReal
  B : Fin 2 → Fin 1024 → EReal
  S : Fin 2 → Fin 2 → Fin 4 → State

/-- The token visited as the `p`-th, in direction `z`; read the other way, the place of a token in the order of visits. -/
def token (z : Fin 2) (p : ℕ) : Fin 8192 :=
  if z = 1 then Fin.rev ⟨p % 8192, Nat.mod_lt _ (by norm_num)⟩ else ⟨p % 8192, Nat.mod_lt _ (by norm_num)⟩

theorem token_val (z : Fin 2) (p : ℕ) (hp : p < 8192) : (token z p).val = if z.val = 1 then 8191 - p else p := by
  unfold token
  have hm := Nat.mod_eq_of_lt hp
  by_cases hz : z = 1
  · rw [if_pos hz, if_pos (show z.val = 1 from congrArg Fin.val hz)]
    show 8192 - (p % 8192 + 1) = _
    omega
  · rw [if_neg hz, if_neg (show ¬z.val = 1 from fun h => hz (Fin.ext h))]
    exact hm

/-- The row of a segment's token. -/
def row (b : Fin 2) (p : Fin 8192) : Fin 16896 := ⟨b * 8192 + p, by omega⟩

/-- The column of a head's key channel. -/
def chan (h : Fin 4) (d : Fin 256) : Fin 1024 := ⟨h * 256 + d, by omega⟩

namespace Arrays

variable (A : Arrays) (b z : Fin 2) (h : Fin 4)

/-- The logarithm of the gate at a row. -/
def logGate (r : Fin 16896) (d : Fin 256) : EReal :=
  gate ((∑ x : Fin 16, A.L r ⟨z * 16 + x, by omega⟩ * A.W z x (chan h d)) + A.B z (chan h d))

/-- The `n`-th chunk visited. -/
def chunk (n : ℕ) : Chunk where
  q i d := A.Z (row b (token z (64 * n + i))) ⟨2048 + (chan h d).val, by have := (chan h d).isLt; omega⟩ * ((1 / 16 : ℝ) : EReal)
  k i d := A.Z (row b (token z (64 * n + i))) ⟨3072 + (chan h d).val, by have := (chan h d).isLt; omega⟩
  v i e := A.Z (row b (token z (64 * n + i))) ⟨4096 + (h * 512 + e), by omega⟩
  g i d := A.logGate z h (row b (token z (64 * n + i))) d

/-- The state before the `n`-th chunk. -/
def state (n : ℕ) : State := states (A.chunk b z h) (A.S b z h) n

/-- The output at the `i`-th token of the `n`-th chunk. -/
def chunkOut (n : ℕ) (i : Fin 64) (e : Fin 512) : EReal := (A.chunk b z h n).out (A.state b z h n) i e

/-- The output at the `p`-th token visited. -/
def visitOut (p : Fin 8192) (e : Fin 512) : EReal :=
  A.chunkOut b z h (p / 64) ⟨p % 64, Nat.mod_lt _ (by norm_num)⟩ e

/-- The output at a token. -/
def rows (p : Fin 8192) (e : Fin 512) : EReal := A.visitOut b z h (token z p) e

end Arrays

end Cert.Gla

end
-- ==== Proof.Gla.Fold.lean ====
/- The kernel's grid as the recurrence: what the points leave in the scratch are the states, segment by segment, head by
   head and direction by direction. -/
module

public import proofs.«01_k».proof.Proof.Gla.Points
public import proofs.«01_k».proof.Proof.Gla.Layer

@[expose] public section

set_option maxRecDepth 16384

noncomputable section

namespace Cert.Gla

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)

/-- The kernel's arguments as the layer's arrays. -/
def arrays : Arrays where
  Z r j := (m ((c.tc : Thread nD τ).loc main_arg0) : Vec Ideal S16896x8192 .f32) (ix2 r j)
  L r j := (m ((c.tc : Thread nD τ).loc main_arg1) : Vec Ideal S16896x128 .f32) (ix2 r j)
  W z x j := (m ((c.tc : Thread nD τ).loc main_arg2) : Vec Ideal S2x16x1024 .f32) (ix3 z x j)
  B z j := (m ((c.tc : Thread nD τ).loc main_arg3) : Vec Ideal S2x1024 .f32) (ix2 z j)
  S b z h e d := (m ((c.tc : Thread nD τ).loc main_arg4) : Vec Ideal S2x2x4x512x256 .f32) (ix5 b z h e d)

theorem lt_512 : t.val < 512 := lt_of_lt_of_eq t.isLt N_0

/-- The point's segment, head and direction. -/
def seg : Fin 2 := ⟨t.val / 256, by have := lt_512 t; omega⟩
def head : Fin 4 := ⟨t.val / 64 % 4, by omega⟩
def dir : Fin 2 := ⟨t.val / 32 % 2, by omega⟩

theorem idx_in (t : Fin cfg0.N) :
    win0_0.index t = ![t.val / 256 * 32 + (if t.val / 32 % 2 = 1 then 31 - t.val % 32 else t.val % 32), 8 + t.val / 64 % 4]
    ∧ win0_1.index t = ![t.val / 256 * 32 + (if t.val / 32 % 2 = 1 then 31 - t.val % 32 else t.val % 32), 12 + t.val / 64 % 4]
    ∧ win0_2.index t = ![t.val / 256 * 32 + (if t.val / 32 % 2 = 1 then 31 - t.val % 32 else t.val % 32), 8 + t.val / 64 % 4]
    ∧ win0_3.index t = ![t.val / 256 * 32 + (if t.val / 32 % 2 = 1 then 31 - t.val % 32 else t.val % 32), 0]
    ∧ win0_4.index t = ![t.val / 32 % 2, 0, t.val / 64 % 4]
    ∧ win0_5.index t = ![t.val / 32 % 2, 0, t.val / 64 % 4]
    ∧ win0_6.index t = ![t.val / 256, t.val / 32 % 2, t.val / 64 % 4, 0, 0] := by
  revert t
  decide +kernel

theorem X0_read (ρ : Fin 256) (d : Fin 256) :
    X0 m c t (ix2 ρ d) = (m ((c.tc : Thread nD τ).loc main_arg0) : Vec Ideal S16896x8192 .f32) (ix2
      ⟨(t.val / 256 * 32 + (if t.val / 32 % 2 = 1 then 31 - t.val % 32 else t.val % 32)) * 256 + ρ, by
        have := lt_512 t; split <;> omega⟩ ⟨(8 + t.val / 64 % 4) * 256 + d, by omega⟩) := by
  blk_ext [iblk, V, idx_in t]

theorem X1_read (ρ : Fin 256) (d : Fin 256) :
    X1 m c t (ix2 ρ d) = (m ((c.tc : Thread nD τ).loc main_arg0) : Vec Ideal S16896x8192 .f32) (ix2
      ⟨(t.val / 256 * 32 + (if t.val / 32 % 2 = 1 then 31 - t.val % 32 else t.val % 32)) * 256 + ρ, by
        have := lt_512 t; split <;> omega⟩ ⟨(12 + t.val / 64 % 4) * 256 + d, by omega⟩) := by
  blk_ext [iblk, V, idx_in t]

theorem X2_read (ρ : Fin 256) (e : Fin 512) :
    X2 m c t (ix2 ρ e) = (m ((c.tc : Thread nD τ).loc main_arg0) : Vec Ideal S16896x8192 .f32) (ix2
      ⟨(t.val / 256 * 32 + (if t.val / 32 % 2 = 1 then 31 - t.val % 32 else t.val % 32)) * 256 + ρ, by
        have := lt_512 t; split <;> omega⟩ ⟨(8 + t.val / 64 % 4) * 512 + e, by omega⟩) := by
  blk_ext [iblk, V, idx_in t]

theorem X3_read (ρ : Fin 256) (r : Fin 128) :
    X3 m c t (ix2 ρ r) = (m ((c.tc : Thread nD τ).loc main_arg1) : Vec Ideal S16896x128 .f32) (ix2
      ⟨(t.val / 256 * 32 + (if t.val / 32 % 2 = 1 then 31 - t.val % 32 else t.val % 32)) * 256 + ρ, by
        have := lt_512 t; split <;> omega⟩ r) := by
  blk_ext [iblk, V, idx_in t]

theorem X4_read (x : Fin 16) (d : Fin 256) :
    X4 m c t (ix3 0 x d) = (m ((c.tc : Thread nD τ).loc main_arg2) : Vec Ideal S2x16x1024 .f32) (ix3 (dir t) x (chan (head t) d)) := by
  blk_ext [iblk, V, idx_in t, dir, head, chan]

theorem bias_entry : V m c main_v0 = shapeCast S2x1x1024 (m ((c.tc : Thread nD τ).loc main_arg3)) shapeCasts_S2x1024_S2x1x1024 := by
  entry_read
  rfl

theorem X5_read (d : Fin 256) :
    X5 m c t (ix3 0 0 d) = (m ((c.tc : Thread nD τ).loc main_arg3) : Vec Ideal S2x1024 .f32) (ix2 (dir t) (chan (head t) d)) := by
  have h : X5 m c t (ix3 0 0 d) = (V m c main_v0 : Vec Ideal S2x1x1024 .f32) (ix3 (dir t) 0 (chan (head t) d)) := by
    blk_ext [iblk, idx_in t, dir, head, chan]
  rw [h, bias_entry]
  pointwise []

theorem X6_read (e : Fin 512) (d : Fin 256) :
    X6 m c t (ix5 0 0 0 e d) = (m ((c.tc : Thread nD τ).loc main_arg4) : Vec Ideal S2x2x4x512x256 .f32) (ix5 (seg t) (dir t) (head t) e d) := by
  blk_ext [iblk, V, idx_in t, dir, head, seg]

/-! ## The point's chunks are the layer's -/

/-- Whether the point goes backward. -/
def back : Bool := decide (t.val / 32 % 2 = 1)

theorem place_token (n : ℕ) (hn : n < 4) (i : Fin 64) :
    (t.val / 256 * 32 + (if t.val / 32 % 2 = 1 then 31 - t.val % 32 else t.val % 32)) * 256 + (place (back t) n i).val
      = (row (seg t) (token (dir t) (64 * (4 * (t.val % 32) + n) + i))).val := by
  have hi := i.isLt
  have ht := lt_512 t
  have hp : 64 * (4 * (t.val % 32) + n) + i.val < 8192 := by omega
  show _ = t.val / 256 * 8192 + (token (dir t) (64 * (4 * (t.val % 32) + n) + i)).val
  rw [token_val _ _ hp]
  show _ = t.val / 256 * 8192 + if t.val / 32 % 2 = 1 then _ else _
  by_cases hz : t.val / 32 % 2 = 1
  · rw [if_pos hz, if_pos hz, show back t = true from decide_eq_true hz, place_bwd n hn]
    show _ + (64 * (3 - n) + (64 - (i.val + 1))) = _
    omega
  · rw [if_neg hz, if_neg hz, show back t = false from decide_eq_false hz, place_fwd n hn]
    omega

theorem rankCol_val (r : Fin 16) : (rankCol (back t) r).val = (dir t).val * 16 + r := by
  unfold rankCol back dir
  by_cases hz : t.val / 32 % 2 = 1
  · simp only [hz, decide_true, if_true]
  · have : t.val / 32 % 2 = 0 := by omega
    simp only [this]; simp

theorem ptChunk_eq (n : ℕ) (hn : n < 4) :
    ptChunk m c t (back t) n = (arrays m c).chunk (seg t) (dir t) (head t) (4 * (t.val % 32) + n) := by
  apply Chunk.ext
  · funext i d
    show X0 m c t (ix2 _ d) * _ = _
    rw [X0_read]
    refine congrArg (· * _) (congrArg₂ (fun a b => (m ((c.tc : Thread nD τ).loc main_arg0) : Vec Ideal S16896x8192 .f32) (ix2 a b)) (Fin.ext (place_token t n hn i)) (Fin.ext ?_))
    show (8 + t.val / 64 % 4) * 256 + d.val = 2048 + (t.val / 64 % 4 * 256 + d.val)
    omega
  · funext i d
    show X1 m c t (ix2 _ d) = _
    rw [X1_read]
    refine congrArg₂ (fun a b => (m ((c.tc : Thread nD τ).loc main_arg0) : Vec Ideal S16896x8192 .f32) (ix2 a b)) (Fin.ext (place_token t n hn i)) (Fin.ext ?_)
    show (12 + t.val / 64 % 4) * 256 + d.val = 3072 + (t.val / 64 % 4 * 256 + d.val)
    omega
  · funext i e
    show X2 m c t (ix2 _ e) = _
    rw [X2_read]
    refine congrArg₂ (fun a b => (m ((c.tc : Thread nD τ).loc main_arg0) : Vec Ideal S16896x8192 .f32) (ix2 a b)) (Fin.ext (place_token t n hn i)) (Fin.ext ?_)
    show (8 + t.val / 64 % 4) * 512 + e.val = 4096 + (t.val / 64 % 4 * 512 + e.val)
    omega
  · funext i d
    show gate ((∑ r : Fin 16, X3 m c t (ix2 _ (rankCol (back t) r)) * X4 m c t (ix3 0 r d)) + X5 m c t (ix3 0 0 d)) = _
    rw [X5_read]
    refine congrArg gate (congrArg (· + _) (Finset.sum_congr rfl fun x _ => ?_))
    rw [X3_read, X4_read]
    exact congrArg (· * _) (congrArg₂ (fun a b => (m ((c.tc : Thread nD τ).loc main_arg1) : Vec Ideal S16896x128 .f32) (ix2 a b)) (Fin.ext (place_token t n hn i)) (Fin.ext (rankCol_val t x)))

theorem first_state : toState (k0_pay1 (X6 m c t)) = (arrays m c).S (seg t) (dir t) (head t) := by
  funext e d
  unfold toState
  have h : k0_pay1 (X6 m c t) (ix2 e d) = X6 m c t (ix5 0 0 0 e d) := by pointwise [k0_pay1]
  rw [h, X6_read]
  rfl

/-! ## The steps, all cases at once -/

/-- The state that the point starts from. -/
def entry : State := if t.val % 32 = 0 then (arrays m c).S (seg t) (dir t) (head t) else toState (before m c t)

theorem endF_read (st : Vec Ideal S512x256 .f32) :
    toState (endF m c t st 4) = states (ptChunk m c t false) (toState st) 4 :=
  scr4F_read (X0 m c t) (X1 m c t) (X2 m c t) (X3 m c t) (X4 m c t) (X5 m c t) st 4 le_rfl

theorem endB_read (st : Vec Ideal S512x256 .f32) :
    toState (endB m c t st 4) = states (ptChunk m c t true) (toState st) 4 :=
  scr4B_read (X0 m c t) (X1 m c t) (X2 m c t) (X3 m c t) (X4 m c t) (X5 m c t) st 4 le_rfl

theorem back_false (h : t.val / 32 % 2 = 0) : back t = false := decide_eq_false (by omega)
theorem back_true (h : t.val / 32 % 2 = 1) : back t = true := decide_eq_true h

theorem entry_first (h : t.val % 32 = 0) : entry m c t = toState (k0_pay1 (X6 m c t)) := by
  unfold entry; rw [if_pos h, first_state]
theorem entry_later (h : ¬t.val % 32 = 0) : entry m c t = toState (before m c t) := if_neg h

theorem scr_step : toState (outsAt0 m c t.val t.isLt).2.2 = states (ptChunk m c t (back t)) (entry m c t) 4 := by
  rcases (by omega : t.val / 32 % 2 = 0 ∨ t.val / 32 % 2 = 1) with hz | hz
  · have h2 : ¬t.val / 32 % 2 = 1 := by omega
    rw [back_false t hz]
    by_cases h0 : t.val % 32 = 0
    · rw [scr_A m c t h0 hz h2 (by omega), endF_read, entry_first m c t h0]
    · rw [entry_later m c t h0]
      by_cases h3 : t.val % 32 = 31
      · rw [scr_C m c t h0 hz h2 h3, endF_read]
      · rw [scr_B m c t h0 hz h2 h3, endF_read]
  · have h1 : ¬t.val / 32 % 2 = 0 := by omega
    rw [back_true t hz]
    by_cases h0 : t.val % 32 = 0
    · rw [scr_D m c t h0 h1 hz (by omega), endB_read, entry_first m c t h0]
    · rw [entry_later m c t h0]
      by_cases h3 : t.val % 32 = 31
      · rw [scr_F m c t h0 h1 hz h3, endB_read]
      · rw [scr_E m c t h0 h1 hz h3, endB_read]

theorem rows_step (y : S1x256x512.Idx) :
    (outsAt0 m c t.val t.isLt).1 y = blkOut (back t) (ptChunk m c t (back t)) (entry m c t) (y 1) (y 2) := by
  rcases (by omega : t.val / 32 % 2 = 0 ∨ t.val / 32 % 2 = 1) with hz | hz
  · have h2 : ¬t.val / 32 % 2 = 1 := by omega
    rw [back_false t hz]
    by_cases h0 : t.val % 32 = 0
    · rw [rows_A m c t h0 hz h2 (by omega), entry_first m c t h0]
    · rw [entry_later m c t h0]
      by_cases h3 : t.val % 32 = 31
      · rw [rows_C m c t h0 hz h2 h3]
      · rw [rows_B m c t h0 hz h2 h3]
  · have h1 : ¬t.val / 32 % 2 = 0 := by omega
    rw [back_true t hz]
    by_cases h0 : t.val % 32 = 0
    · rw [rows_D m c t h0 h1 hz (by omega), entry_first m c t h0]
    · rw [entry_later m c t h0]
      by_cases h3 : t.val % 32 = 31
      · rw [rows_F m c t h0 h1 hz h3]
      · rw [rows_E m c t h0 h1 hz h3]

theorem last_step (h3 : t.val % 32 = 31) (e : Fin 512) (d : Fin 256) :
    (outsAt0 m c t.val t.isLt).2.1 (ix5 0 0 0 e d) = states (ptChunk m c t (back t)) (entry m c t) 4 e d := by
  have h0 : ¬t.val % 32 = 0 := by omega
  have hp : ∀ x : Vec Ideal S512x256 .f32, k0_pay4 x (ix5 0 0 0 e d) = toState x e d := fun x => by
    unfold toState; pointwise [k0_pay4]
  rw [entry_later m c t h0]
  rcases (by omega : t.val / 32 % 2 = 0 ∨ t.val / 32 % 2 = 1) with hz | hz
  · rw [back_false t hz, last_C m c t h0 hz (by omega) h3, hp, endF_read]
  · rw [back_true t hz, last_F m c t h0 (by omega) hz h3, hp, endB_read]

/-! ## The recurrence over the points -/

/-- Four chunks more. -/
theorem four_more (h : entry m c t = (arrays m c).state (seg t) (dir t) (head t) (4 * (t.val % 32))) (n : ℕ) (hn : n ≤ 4) :
    states (ptChunk m c t (back t)) (entry m c t) n
      = (arrays m c).state (seg t) (dir t) (head t) (4 * (t.val % 32) + n) := by
  rw [h, Arrays.state, Arrays.state, states_add]
  exact states_congr _ _ _ _ fun i hi => ptChunk_eq m c t i (by omega)

theorem entry_eq : ∀ (n : ℕ) (t : Fin cfg0.N), t.val = n →
    entry m c t = (arrays m c).state (seg t) (dir t) (head t) (4 * (t.val % 32)) := by
  intro n
  induction n with
  | zero =>
    intro t ht
    have h0 : t.val % 32 = 0 := by omega
    unfold entry
    rw [if_pos h0, h0]
    rfl
  | succ n ih =>
    intro t ht
    by_cases h0 : t.val % 32 = 0
    · unfold entry
      rw [if_pos h0, h0]
      rfl
    · rw [entry_later m c t h0]
      have hlt := lt_512 t
      let p : Fin cfg0.N := ⟨t.val - 1, Nat.lt_of_le_of_lt (Nat.sub_le _ _) t.isLt⟩
      have hp : p.val = n := by show t.val - 1 = n; omega
      have hs : seg p = seg t := Fin.ext (by show p.val / 256 = t.val / 256; omega)
      have hd : dir p = dir t := Fin.ext (by show p.val / 32 % 2 = t.val / 32 % 2; omega)
      have hh : head p = head t := Fin.ext (by show p.val / 64 % 4 = t.val / 64 % 4; omega)
      have h4 : 4 * (p.val % 32) + 4 = 4 * (t.val % 32) := by omega
      have h := scr_step m c p
      rw [four_more m c p (ih p hp) 4 le_rfl, hs, hd, hh, h4] at h
      exact h

/-- The rows that a point leaves are the layer's. -/
theorem rows_point (y : S1x256x512.Idx) (p : Fin 8192)
    (hp : t.val / 256 * 8192 + p.val = (t.val / 256 * 32 + (if t.val / 32 % 2 = 1 then 31 - t.val % 32 else t.val % 32)) * 256 + (y 1 : ℕ)) :
    (outsAt0 m c t.val t.isLt).1 y = (arrays m c).rows (seg t) (dir t) (head t) p (y 2) := by
  have ht := lt_512 t
  have he := entry_eq m c t.val t rfl
  idx_vars y
  rename' y0 => y0, y1 => ρ, y2 => e
  change t.val / 256 * 8192 + p.val = _ + ρ.val at hp
  rw [rows_step]
  show blkOut (back t) _ _ ρ e = (arrays m c).visitOut _ _ _ (token (dir t) p) e
  have hρ := ρ.isLt
  -- the row's place in the order of visits
  obtain ⟨q, hq, hb⟩ : ∃ q : Fin 256, (token (dir t) p).val = 256 * (t.val % 32) + q
      ∧ ρ = place (back t) (q / 64) ⟨q % 64, Nat.mod_lt _ (by norm_num)⟩ := by
    rw [token_val _ _ p.isLt]
    show ∃ q : Fin 256, (if t.val / 32 % 2 = 1 then _ else _) = _ ∧ _
    by_cases hz : t.val / 32 % 2 = 1
    · rw [if_pos hz] at hp ⊢
      have hr : (Fin.rev ρ).val = 255 - ρ.val := by rw [Fin.val_rev]; omega
      refine ⟨Fin.rev ρ, by omega, Fin.ext ?_⟩
      rw [show back t = true from decide_eq_true hz, place_bwd _ (by omega)]
      show ρ.val = 64 * (3 - (Fin.rev ρ).val / 64) + (64 - ((Fin.rev ρ).val % 64 + 1))
      omega
    · rw [if_neg hz] at hp ⊢
      refine ⟨ρ, by omega, Fin.ext ?_⟩
      rw [show back t = false from decide_eq_false hz, place_fwd _ (by omega)]
      show ρ.val = 64 * (ρ.val / 64) + ρ.val % 64
      omega
  have hq4 : q.val / 64 < 4 := by have := q.isLt; omega
  rw [blkOut_place _ _ _ (q / 64) hq4 ⟨q % 64, Nat.mod_lt _ (by norm_num)⟩ ρ e hb, four_more m c t he _ hq4.le,
    ptChunk_eq m c t _ hq4]
  unfold Arrays.visitOut Arrays.chunkOut
  have h1 : (token (dir t) p).val / 64 = 4 * (t.val % 32) + q / 64 := by omega
  have h2 : (⟨(token (dir t) p).val % 64, Nat.mod_lt _ (by norm_num)⟩ : Fin 64) = ⟨q % 64, Nat.mod_lt _ (by norm_num)⟩ :=
    Fin.ext (by show (token (dir t) p).val % 64 = q % 64; omega)
  rw [h1, h2]

/-- The state that a segment's last point leaves is the layer's. -/
theorem last_point (h3 : t.val % 32 = 31) (e : Fin 512) (d : Fin 256) :
    (outsAt0 m c t.val t.isLt).2.1 (ix5 0 0 0 e d) = (arrays m c).state (seg t) (dir t) (head t) 128 e d := by
  rw [last_step m c t h3, four_more m c t (entry_eq m c t.val t rfl) 4 le_rfl, h3]

end Cert.Gla

end
-- ==== Proof.Gla.Result.lean ====
/- The kernel's two result arrays: every output row and every last state is the layer's. -/
module

public import Idealize.ShloMosaic.Lib.Pipeline.Covers
public import proofs.«01_k».proof.Proof.Gla.Fold
public import proofs.«01_k».proof.Proof.Gen.KernelIdeal.Value

@[expose] public section

set_option maxRecDepth 16384

noncomputable section

namespace Cert.Gla

open Idealize.ShloMosaic Idealize.ShloMosaic.TcCoe Idealize.SL.Sem Idealize.ShloMosaic.Pipeline Cert.KernelIdeal Cert.KernelIdeal.Gen

variable (m : (ℓ : Loc nD τ sig) → Buf (Elt Ideal) ℓ) (c : Dev nD)

theorem idx_out (t : Fin cfg0.N) :
    win0_7.index t = ![t.val / 32 % 2, t.val / 256 * 32 + (if t.val / 32 % 2 = 1 then 31 - t.val % 32 else t.val % 32), t.val / 64 % 4]
    ∧ win0_8.index t = ![t.val / 256, t.val / 32 % 2, t.val / 64 % 4, 0, 0] := by
  revert t
  decide +kernel

/-- The rows array, as the layer has it. -/
def rowsArr (A : Arrays) : Vec Ideal S2x16384x2048 .f32 := fun u =>
  A.rows ⟨u 1 / 8192, by have : (u 1).val < 16384 := (u 1).isLt; omega⟩ (u 0)
    ⟨u 2 / 512, by have : (u 2).val < 2048 := (u 2).isLt; omega⟩
    ⟨u 1 % 8192, Nat.mod_lt _ (by norm_num)⟩ ⟨u 2 % 512, Nat.mod_lt _ (by norm_num)⟩

/-- The last states, as the layer has them. -/
def lastArr (A : Arrays) : Vec Ideal S2x2x4x512x256 .f32 := fun u => A.state (u 0) (u 1) (u 2) 128 (u 3) (u 4)

theorem covers_rows : (cfg0.win 7).Covers := by
  refine (cfg0.win 7).covers_of_index_surj rfl (by decide) fun β => ?_
  have b0 : (β 0).val < 2 := lt_of_lt_of_eq (β 0).isLt (by decide)
  have b1 : (β 1).val < 64 := lt_of_lt_of_eq (β 1).isLt (by decide)
  have b2 : (β 2).val < 4 := lt_of_lt_of_eq (β 2).isLt (by decide)
  obtain ⟨n, hn⟩ : ∃ n, n = (β 1).val / 32 * 256 + (β 2).val * 64 + (β 0).val * 32
      + (if (β 0).val = 1 then 31 - (β 1).val % 32 else (β 1).val % 32) := ⟨_, rfl⟩
  have hs : (if (β 0).val = 1 then 31 - (β 1).val % 32 else (β 1).val % 32) < 32 := by split <;> omega
  have hlt : n < 512 := by omega
  refine ⟨⟨n, lt_of_lt_of_eq hlt N_0.symm⟩, fun a => ?_⟩
  refine (congrFun (idx_out ⟨n, lt_of_lt_of_eq hlt N_0.symm⟩).1 a).trans ?_
  match a with
  | ⟨0, _⟩ =>
    show n / 32 % 2 = (β 0).val
    omega
  | ⟨1, _⟩ =>
    show n / 256 * 32 + (if n / 32 % 2 = 1 then 31 - n % 32 else n % 32) = (β 1).val
    have e : n / 32 % 2 = (β 0).val := by omega
    rw [e]
    split at hn <;> split <;> omega
  | ⟨2, _⟩ =>
    show n / 64 % 4 = (β 2).val
    omega

theorem covers_last : (cfg0.win 8).Covers := by
  refine (cfg0.win 8).covers_of_index_surj rfl (by decide) fun β => ?_
  have b0 : (β 0).val < 2 := lt_of_lt_of_eq (β 0).isLt (by decide)
  have b1 : (β 1).val < 2 := lt_of_lt_of_eq (β 1).isLt (by decide)
  have b2 : (β 2).val < 4 := lt_of_lt_of_eq (β 2).isLt (by decide)
  have b3 : (β 3).val < 1 := lt_of_lt_of_eq (β 3).isLt (by decide)
  have b4 : (β 4).val < 1 := lt_of_lt_of_eq (β 4).isLt (by decide)
  have hlt : (β 0).val * 256 + (β 2).val * 64 + (β 1).val * 32 < 512 := by omega
  refine ⟨⟨_, lt_of_lt_of_eq hlt N_0.symm⟩, fun a => ?_⟩
  refine (congrFun (idx_out ⟨_, lt_of_lt_of_eq hlt N_0.symm⟩).2 a).trans ?_
  match a with
  | ⟨0, _⟩ =>
    show ((β 0).val * 256 + (β 2).val * 64 + (β 1).val * 32) / 256 = (β 0).val
    omega
  | ⟨1, _⟩ =>
    show ((β 0).val * 256 + (β 2).val * 64 + (β 1).val * 32) / 32 % 2 = (β 1).val
    omega
  | ⟨2, _⟩ =>
    show ((β 0).val * 256 + (β 2).val * 64 + (β 1).val * 32) / 64 % 4 = (β 2).val
    omega
  | ⟨3, _⟩ =>
    show 0 = (β 3).val
    omega
  | ⟨4, _⟩ =>
    show 0 = (β 4).val
    omega

/-- Where an output block's entries lie in the rows array. -/
theorem rows_at (t : Fin cfg0.N) (y : S1x256x512.Idx) (u : S2x16384x2048.Idx) (e : ((cfg0.win 7).blk t).view.emb y = u) :
    u 0 = dir t
    ∧ (u 1).val = (t.val / 256 * 32 + (if t.val / 32 % 2 = 1 then 31 - t.val % 32 else t.val % 32)) * 256 + (y 1 : ℕ)
    ∧ (u 2).val = t.val / 64 % 4 * 512 + (y 2 : ℕ) := by
  subst e
  have h0 : (y 0).val < 1 := (y 0).isLt
  have k : ∀ a : Fin 3, (((cfg0.win 7).blk t).view.emb y a).val = win0_7.index t a * S1x256x512.size a + (y a).val :=
    fun a => win0_7.rect_emb_val t y a
  refine ⟨Fin.ext ?_, ?_, ?_⟩
  · refine (k 0).trans ?_
    rw [(idx_out t).1]
    show t.val / 32 % 2 * 1 + (y 0).val = t.val / 32 % 2
    omega
  · refine (k 1).trans ?_
    rw [(idx_out t).1]
    rfl
  · refine (k 2).trans ?_
    rw [(idx_out t).1]
    rfl

theorem last_at (t : Fin cfg0.N) (e : Fin 512) (d : Fin 256) :
    ((cfg0.win 8).blk t).view.emb (ix5 0 0 0 e d) = (ix5 (seg t) (dir t) (head t) e d : S2x2x4x512x256.Idx) := by
  have k : ∀ a : Fin 5, (((cfg0.win 8).blk t).view.emb (ix5 0 0 0 e d) a).val
      = win0_8.index t a * S1x1x1x512x256.size a + ((ix5 0 0 0 e d : S1x1x1x512x256.Idx) a).val :=
    fun a => win0_8.rect_emb_val t (ix5 0 0 0 e d : S1x1x1x512x256.Idx) a
  funext a
  refine Fin.ext ((k a).trans ?_)
  rw [(idx_out t).2]
  match a with
  | ⟨0, _⟩ => show t.val / 256 * 1 + 0 = t.val / 256; omega
  | ⟨1, _⟩ => show t.val / 32 % 2 * 1 + 0 = t.val / 32 % 2; omega
  | ⟨2, _⟩ => show t.val / 64 % 4 * 1 + 0 = t.val / 64 % 4; omega
  | ⟨3, _⟩ => show 0 * 512 + e.val = e.val; omega
  | ⟨4, _⟩ => show 0 * 256 + d.val = d.val; omega

theorem rows_array : (dats m 0 c).arrAt 7 cfg0.N = rowsArr (arrays m c) := by
  refine (dats m 0 c).arrAt_eq_of_covers 7 _ covers_rows fun t hf y => ?_
  blk_simp
  rw [after0_7]
  obtain ⟨u, hu⟩ : ∃ u : S2x16384x2048.Idx, ((cfg0.win 7).blk t).view.emb y = u := ⟨_, rfl⟩
  obtain ⟨u0, u1, u2⟩ := rows_at t y u hu
  refine Eq.trans ?_ (congrArg (rowsArr (arrays m c)) hu.symm)
  have y1 : (y 1).val < 256 := (y 1).isLt
  have y2 : (y 2).val < 512 := (y 2).isLt
  have ht := lt_512 t
  have hb : (if t.val / 32 % 2 = 1 then 31 - t.val % 32 else t.val % 32) < 32 := by split <;> omega
  rw [rows_point m c t y ⟨(u 1).val % 8192, Nat.mod_lt _ (by norm_num)⟩ (by
    show t.val / 256 * 8192 + (u 1).val % 8192 = _
    rw [← u1]
    omega)]
  unfold rowsArr
  have e0 : (⟨(u 1).val / 8192, by have : (u 1).val < 16384 := (u 1).isLt; omega⟩ : Fin 2) = seg t :=
    Fin.ext (by show (u 1).val / 8192 = t.val / 256; omega)
  have e1 : (⟨(u 2).val / 512, by have : (u 2).val < 2048 := (u 2).isLt; omega⟩ : Fin 4) = head t :=
    Fin.ext (by show (u 2).val / 512 = t.val / 64 % 4; omega)
  have e2 : (⟨(u 2).val % 512, Nat.mod_lt _ (by norm_num)⟩ : Fin 512) = y 2 :=
    Fin.ext (by show (u 2).val % 512 = (y 2).val; omega)
  rw [e0, e1, e2, u0]

theorem last_array : (dats m 0 c).arrAt 8 cfg0.N = lastArr (arrays m c) := by
  refine (dats m 0 c).arrAt_eq_of_covers 8 _ covers_last fun t hf y => ?_
  have h3 := (flush0_8 t).1 hf
  blk_simp
  rw [after0_8]
  idx_vars y
  obtain rfl : y0 = 0 := Subsingleton.elim _ _
  obtain rfl : y1 = 0 := Subsingleton.elim _ _
  obtain rfl : y2 = 0 := Subsingleton.elim _ _
  refine (last_point m c t h3 y3 y4).trans ?_
  exact (congrArg (lastArr (arrays m c)) (last_at t y3 y4)).symm

end Cert.Gla

end
-- ==== Proof.Gla.Prefix.lean ====
/- The host's running sum along the fourth axis of a five-axis array, read at an index. -/
module

public import Idealize.ShloMosaic.Lib.Pointwise

@[expose] public section

noncomputable section

namespace Cert.Gla

open Idealize.ShloMosaic

/-- A shape of five axes. -/
abbrev five (a b n l d : ℕ) : Shape := ⟨5, ![a, b, n, l, d]⟩

/-- A window of `l` positions along the fourth axis: the position numbered `w` is `w` along that axis. -/
theorem window_pos (l : ℕ) (w : Fin (five 1 1 1 l 1).numel) :
    ((five 1 1 1 l 1).rowMajor.symm w 3).val = w.val ∧ ∀ a : Fin 5, a ≠ 3 → ((five 1 1 1 l 1).rowMajor.symm w a).val = 0 := by
  obtain ⟨u, rfl⟩ := (five 1 1 1 l 1).rowMajor.surjective w
  rw [Equiv.symm_apply_apply]
  have h0 : (u 0).val < 1 := (u 0).isLt
  have h1 : (u 1).val < 1 := (u 1).isLt
  have h2 : (u 2).val < 1 := (u 2).isLt
  have h4 : (u 4).val < 1 := (u 4).isLt
  refine ⟨?_, fun a ha => ?_⟩
  · rw [Shape.rowMajor_val_five]
    show (u 3).val = ((((u 0).val * 1 + (u 1).val) * 1 + (u 2).val) * l + (u 3).val) * 1 + (u 4).val
    have e0 : (u 0).val = 0 := by omega
    have e1 : (u 1).val = 0 := by omega
    have e2 : (u 2).val = 0 := by omega
    rw [e0, e1, e2]
    omega
  · match a with
    | ⟨0, _⟩ => show (u 0).val = 0; omega
    | ⟨1, _⟩ => show (u 1).val = 0; omega
    | ⟨2, _⟩ => show (u 2).val = 0; omega
    | ⟨3, _⟩ => exact absurd rfl ha
    | ⟨4, _⟩ => show (u 4).val = 0; omega

/-- A fold of sums over a list is the sum of the list's values over the start. -/
theorem fold_sum {ι : Type} (l : List ι) (f : ι → EReal) (z : EReal) :
    l.foldl (fun r x => r + f x) z = z + (l.map f).sum := by
  induction l generalizing z with
  | nil => simp
  | cons a l ih => rw [List.foldl_cons, ih, List.map_cons, List.sum_cons, add_assoc]

/-- Only the last `i + 1` of the window's `l` positions lie in the array: their sum is the sum of the entries up to `i`. -/
theorem sum_tail {l : ℕ} (f : Fin l → EReal) (i : Fin l) :
    (∑ w : Fin l, if h : l - 1 ≤ i.val + w.val then f ⟨i.val + w.val - (l - 1), by omega⟩ else 0) = ∑ j : Fin l, if j ≤ i then f j else 0 := by
  rw [Finset.sum_dite, Finset.sum_const_zero, add_zero, ← Finset.sum_filter]
  refine Finset.sum_bij (fun w _ => ⟨i.val + w.1.val - (l - 1), by omega⟩) (fun w _ => ?_) (fun w _ w' _ h => ?_) (fun j hj => ?_) fun w _ => rfl
  · rw [Finset.mem_filter]
    refine ⟨Finset.mem_univ _, ?_⟩
    show i.val + w.1.val - (l - 1) ≤ i.val
    have := w.1.isLt
    omega
  · have hw := (Finset.mem_filter.1 w.2).2
    have hw' := (Finset.mem_filter.1 w'.2).2
    have h' : i.val + w.1.val - (l - 1) = i.val + w'.1.val - (l - 1) := congrArg Fin.val h
    exact Subtype.ext (Fin.ext (by omega))
  · have hji : j.val ≤ i.val := (Finset.mem_filter.1 hj).2
    have := i.isLt
    refine ⟨⟨⟨j.val + (l - 1) - i.val, by omega⟩, Finset.mem_filter.2 ⟨Finset.mem_univ _, ?_⟩⟩, Finset.mem_univ _, Fin.ext ?_⟩
    · show l - 1 ≤ i.val + (j.val + (l - 1) - i.val)
      omega
    · show i.val + (j.val + (l - 1) - i.val) - (l - 1) = j.val
      omega

/-- The running sum along the fourth axis. -/
theorem prefix_sum {A B N L D P : ℕ} (hP : P + 1 = L) (x : Vec Ideal (five A B N L D) .f32) (init : Vec Ideal ⟨0, ![]⟩ .f32)
    (hinit : ∀ u, init u = 0)
    (h : (five A B N L D).ReduceWindows (![1, 1, 1, L, 1] : Fin 5 → ℕ) ![1, 1, 1, 1, 1] ![0, 0, 0, P, 0] ![0, 0, 0, 0, 0] (five A B N L D))
    (hu : 0 < (⟨0, ![]⟩ : Shape).numel) (a : Fin A) (b : Fin B) (n : Fin N) (i : Fin L) (d : Fin D) :
    (Host.reduceWindowAdd (F := Ideal) (φ := .f32) ![1, 1, 1, L, 1] ![1, 1, 1, 1, 1] ![0, 0, 0, P, 0] ![0, 0, 0, 0, 0] x init h hu : FVec Ideal (five A B N L D) .f32) (ix5 a b n i d)
      = ∑ j : Fin L, if j ≤ i then x (ix5 a b n j d) else 0 := by
  subst hP
  show Host.reduceWindow (· + ·) _ _ _ _ x (fun _ : (⟨0, ![]⟩ : Shape).Idx => init (Shape.Idx.first hu)) h (by decide) (ix5 a b n i d) = _
  unfold Host.reduceWindow
  rw [hinit]
  have hnum : (five 1 1 1 (P + 1) 1).numel = P + 1 := by simp [Shape.numel, Fin.prod_univ_succ]
  refine (fold_sum _ _ _).trans ?_
  rw [zero_add, ← List.ofFn_eq_map, List.sum_ofFn, ← sum_tail (fun j => x (ix5 a b n j d)) i]
  refine Fintype.sum_equiv (finCongr hnum) _ _ fun w => ?_
  obtain ⟨hw, ho⟩ := window_pos (P + 1) w
  have hlt : w.val < P + 1 := lt_of_lt_of_eq w.isLt hnum
  have hi := i.isLt
  have eqv : ((finCongr hnum) w).val = w.val := rfl
  by_cases hle : P ≤ i.val + w.val
  · rw [dif_pos (show P + 1 - 1 ≤ i.val + ((finCongr hnum) w).val by omega), dif_pos (fun k => ?_)]
    · refine congrArg x (funext fun k => Fin.ext ?_)
      match k with
      | ⟨0, _⟩ => exact (congrArg (fun s => a.val * 1 + s - 0) (ho 0 (by decide))).trans (by simp)
      | ⟨1, _⟩ => exact (congrArg (fun s => b.val * 1 + s - 0) (ho 1 (by decide))).trans (by simp)
      | ⟨2, _⟩ => exact (congrArg (fun s => n.val * 1 + s - 0) (ho 2 (by decide))).trans (by simp)
      | ⟨3, _⟩ =>
        refine (congrArg (fun s => i.val * 1 + s - P) hw).trans ?_
        show i.val * 1 + w.val - P = i.val + w.val - (P + 1 - 1)
        omega
      | ⟨4, _⟩ => exact (congrArg (fun s => d.val * 1 + s - 0) (ho 4 (by decide))).trans (by simp)
    · match k with
      | ⟨0, _⟩ =>
        show 0 ≤ a.val * 1 + ((five 1 1 1 (P + 1) 1).rowMajor.symm w 0).val ∧ a.val * 1 + ((five 1 1 1 (P + 1) 1).rowMajor.symm w 0).val - 0 < A
        rw [ho 0 (by decide)]
        omega
      | ⟨1, _⟩ =>
        show 0 ≤ b.val * 1 + ((five 1 1 1 (P + 1) 1).rowMajor.symm w 1).val ∧ b.val * 1 + ((five 1 1 1 (P + 1) 1).rowMajor.symm w 1).val - 0 < B
        rw [ho 1 (by decide)]
        omega
      | ⟨2, _⟩ =>
        show 0 ≤ n.val * 1 + ((five 1 1 1 (P + 1) 1).rowMajor.symm w 2).val ∧ n.val * 1 + ((five 1 1 1 (P + 1) 1).rowMajor.symm w 2).val - 0 < N
        rw [ho 2 (by decide)]
        omega
      | ⟨3, _⟩ =>
        show P ≤ i.val * 1 + ((five 1 1 1 (P + 1) 1).rowMajor.symm w 3).val ∧ i.val * 1 + ((five 1 1 1 (P + 1) 1).rowMajor.symm w 3).val - P < P + 1
        rw [hw]
        omega
      | ⟨4, _⟩ =>
        show 0 ≤ d.val * 1 + ((five 1 1 1 (P + 1) 1).rowMajor.symm w 4).val ∧ d.val * 1 + ((five 1 1 1 (P + 1) 1).rowMajor.symm w 4).val - 0 < D
        rw [ho 4 (by decide)]
        omega
  · rw [dif_neg (show ¬P + 1 - 1 ≤ i.val + ((finCongr hnum) w).val by omega), dif_neg fun hin => hle ?_]
    have h3 := (hin 3).1
    change P ≤ i.val * 1 + ((five 1 1 1 (P + 1) 1).rowMajor.symm w 3).val at h3
    rw [hw] at h3
    omega

end Cert.Gla

end
-- ==== Proof.Gla.Stages.lean ====
/- The reference before its loop, stage by stage, read at an index: the queries, keys, values and logarithms of the gates
   of every head, then both directions stacked on the head axis in the order of visits. -/
module

public import Idealize.ShloMosaic.Lib.Pointwise
public import proofs.«01_k».proof.Proof.Gla.Layer
public import proofs.«01_k».proof.Proof.Gla.Prefix
public import proofs.«01_k».proof.Proof.Gen.ReferenceIdeal.Step

@[expose] public section

set_option maxRecDepth 16384

noncomputable section

namespace Cert.Gla.Reference

open Idealize.ShloMosaic Idealize.ShloMosaic.TcCoe Idealize.ShloMosaic.StableHlo
open Cert.ReferenceIdeal Cert.ReferenceIdeal.Gen Cert.ReferenceIdeal.Step

variable (x0 : Vec Ideal S16896x8192 .f32) (x1 : Vec Ideal S16896x128 .f32) (x2 : Vec Ideal S2x16x1024 .f32)
  (x3 : Vec Ideal S2x1024 .f32) (x4 : Vec Ideal S2x2x4x512x256 .f32)

/-- The reference's arguments as the layer's arrays. -/
def named : Arrays where
  Z r j := x0 (ix2 r j)
  L r j := x1 (ix2 r j)
  W z x j := x2 (ix3 z x j)
  B z j := x3 (ix2 z j)
  S b z h e d := x4 (ix5 b z h e d)

variable (b z : Fin 2) (h : Fin 4) (p : Fin 8192)

/-- The place of a direction's head on the stacked axis. -/
def place (z : Fin 2) (h : Fin 4) : Fin 8 := ⟨z * 4 + h, by omega⟩

theorem queries (d : Fin 256) : A_main_v11 x0 x1 x2 x3 x4 (ix4 b h p d)
    = x0 (ix2 (row b p) ⟨2048 + (chan h d).val, by have := (chan h d).isLt; omega⟩) * ((1 / 16 : ℝ) : EReal) := by
  pointwise [A_main_v11, A_main_v9, A_main_v8, A_main_v1, A_main_v0, K_main_v10, K_main_cst, row, chan, sixteenth]

theorem keys (d : Fin 256) : A_main_v13 x0 x1 x2 x3 x4 (ix4 b h p d)
    = x0 (ix2 (row b p) ⟨3072 + (chan h d).val, by have := (chan h d).isLt; omega⟩) := by
  pointwise [A_main_v13, A_main_v12, A_main_v3, A_main_v2, row, chan]

theorem values (e : Fin 512) : A_main_v15 x0 x1 x2 x3 x4 (ix4 b h p e)
    = x0 (ix2 (row b p) ⟨4096 + (h * 512 + e), by omega⟩) := by
  pointwise [A_main_v15, A_main_v14, A_main_v5, A_main_v4, row, chan]

theorem logit (k : Fin 1024) : A_main_v20 x0 x1 x2 x3 x4 (ix4 b p z k)
    = (∑ r : Fin 16, x1 (ix2 (row b p) ⟨z * 16 + r, by omega⟩) * x2 (ix3 z r k)) + x3 (ix2 z k) := by
  pointwise [A_main_v20, A_main_v19, A_main_v18, A_main_v17, A_main_v16, A_main_v7, A_main_v6, row, chan]
  exact congrArg (· + _) (Finset.sum_congr rfl fun r _ => mul_comm _ _)

theorem log_gate (k : Fin 1024) : A_main_v31 x0 x1 x2 x3 x4 (ix4 b p z k)
    = gate ((∑ r : Fin 16, x1 (ix2 (row b p) ⟨z * 16 + r, by omega⟩) * x2 (ix3 z r k)) + x3 (ix2 z k)) := by
  rw [← logit x0 x1 x2 x3 x4, ← gate_eq]
  pointwise [A_main_v31, A_main_v29, A_main_v28, A_main_v27, A_main_v26, A_main_v25, A_main_v24, A_main_v23, A_main_v21,
    K_main_v30, K_main_cst_1, K_main_v22, K_main_cst_0, sixteen]
  rfl

theorem log_gate_heads (d : Fin 256) : A_main_v35 x0 x1 x2 x3 x4 (ix4 b h p d) = A_main_v31 x0 x1 x2 x3 x4 (ix4 b p 0 (chan h d))
    ∧ A_main_v39 x0 x1 x2 x3 x4 (ix4 b h p d) = A_main_v31 x0 x1 x2 x3 x4 (ix4 b p 1 (chan h d)) := by
  constructor
  · pointwise [A_main_v35, A_main_v34, A_main_v33, A_main_v32, chan]
  · pointwise [A_main_v39, A_main_v38, A_main_v37, A_main_v36, chan]

/-- Two arrays stacked on the head axis, the second read from its last token: the array of the direction at the token visited. -/
theorem stacked {α : Type} (f g : Fin 4 → Fin 8192 → α) (hl : ¬(z.val * 4 + h.val < 4) → z.val * 4 + h.val - 4 < 4) :
    (if hh : z.val * 4 + h.val < 4 then f ⟨z * 4 + h, hh⟩ p else g ⟨z * 4 + h - 4, hl hh⟩ p.rev)
      = (if z = 0 then f else g) h (token z p) := by
  have hp : p.val % 8192 = p.val := Nat.mod_eq_of_lt p.isLt
  have ht : (⟨p.val % 8192, Nat.mod_lt _ (by norm_num)⟩ : Fin 8192) = p := Fin.ext hp
  unfold token
  rw [ht]
  have hz := z.isLt
  by_cases z0 : z.val = 0
  · rw [dif_pos (show z.val * 4 + h.val < 4 by omega), if_pos (show z = 0 from Fin.ext z0),
      if_neg (show ¬z = 1 from fun e => by rw [e] at z0; exact absurd z0 (by decide))]
    exact congrArg (f · p) (Fin.ext (by show z.val * 4 + h.val = h.val; omega))
  · rw [dif_neg (show ¬z.val * 4 + h.val < 4 by omega), if_neg (show ¬z = 0 from fun e => z0 (congrArg Fin.val e)),
      if_pos (show z = 1 from Fin.ext (by show z.val = 1; omega))]
    exact congrArg (g · p.rev) (Fin.ext (by show z.val * 4 + h.val - 4 = h.val; omega))

end Cert.Gla.Reference

end
-- ==== Proof.Gla.Stack.lean ====
/- The reference's two directions stacked on the head axis, read at a token's place in the order of visits. -/
module

public import proofs.«01_k».proof.Proof.Gla.Stages

@[expose] public section

set_option maxRecDepth 16384

noncomputable section

namespace Cert.Gla.Reference

open Idealize.ShloMosaic Idealize.ShloMosaic.TcCoe Idealize.ShloMosaic.StableHlo
open Cert.ReferenceIdeal Cert.ReferenceIdeal.Gen Cert.ReferenceIdeal.Step

variable (x0 : Vec Ideal S16896x8192 .f32) (x1 : Vec Ideal S16896x128 .f32) (x2 : Vec Ideal S2x16x1024 .f32)
  (x3 : Vec Ideal S2x1024 .f32) (x4 : Vec Ideal S2x2x4x512x256 .f32)
  (b z : Fin 2) (h : Fin 4) (p : Fin 8192)

theorem stack_queries (d : Fin 256) : A_main_v43 x0 x1 x2 x3 x4 (ix4 b (place z h) p d)
    = A_main_v11 x0 x1 x2 x3 x4 (ix4 b h (token z p) d) := by
  pointwise [A_main_v43, A_main_v42, place]
  refine (stacked z h p (fun h p => A_main_v11 x0 x1 x2 x3 x4 (ix4 b h p d)) (fun h p => A_main_v11 x0 x1 x2 x3 x4 (ix4 b h p d)) fun _ => by omega).trans ?_
  rw [ite_self]

theorem stack_keys (d : Fin 256) : A_main_v45 x0 x1 x2 x3 x4 (ix4 b (place z h) p d)
    = A_main_v13 x0 x1 x2 x3 x4 (ix4 b h (token z p) d) := by
  pointwise [A_main_v45, A_main_v44, place]
  refine (stacked z h p (fun h p => A_main_v13 x0 x1 x2 x3 x4 (ix4 b h p d)) (fun h p => A_main_v13 x0 x1 x2 x3 x4 (ix4 b h p d)) fun _ => by omega).trans ?_
  rw [ite_self]

theorem stack_values (e : Fin 512) : A_main_v47 x0 x1 x2 x3 x4 (ix4 b (place z h) p e)
    = A_main_v15 x0 x1 x2 x3 x4 (ix4 b h (token z p) e) := by
  pointwise [A_main_v47, A_main_v46, place]
  refine (stacked z h p (fun h p => A_main_v15 x0 x1 x2 x3 x4 (ix4 b h p e)) (fun h p => A_main_v15 x0 x1 x2 x3 x4 (ix4 b h p e)) fun _ => by omega).trans ?_
  rw [ite_self]

theorem stack_gates (d : Fin 256) : A_main_v49 x0 x1 x2 x3 x4 (ix4 b (place z h) p d)
    = A_main_v31 x0 x1 x2 x3 x4 (ix4 b (token z p) z (chan h d)) := by
  pointwise [A_main_v49, A_main_v48, place]
  refine (stacked z h p (fun h p => A_main_v35 x0 x1 x2 x3 x4 (ix4 b h p d)) (fun h p => A_main_v39 x0 x1 x2 x3 x4 (ix4 b h p d)) fun _ => by omega).trans ?_
  have hz := z.isLt
  by_cases z0 : z.val = 0
  · obtain rfl : z = 0 := Fin.ext z0
    rw [if_pos rfl]
    exact (log_gate_heads x0 x1 x2 x3 x4 b h _ d).1
  · obtain rfl : z = 1 := Fin.ext (by show z.val = 1; omega)
    rw [if_neg (by decide)]
    exact (log_gate_heads x0 x1 x2 x3 x4 b h _ d).2

end Cert.Gla.Reference

end
-- ==== Proof.Gla.Chunks.lean ====
/- The reference's chunks: what it computes of every chunk before the loop, and what the loop starts from. -/
module

public import proofs.«01_k».proof.Proof.Gla.Stack

@[expose] public section

set_option maxRecDepth 16384

noncomputable section

namespace Cert.Gla.Reference

open Idealize.ShloMosaic Idealize.ShloMosaic.TcCoe Idealize.ShloMosaic.StableHlo
open Cert.ReferenceIdeal Cert.ReferenceIdeal.Gen Cert.ReferenceIdeal.Step

variable (x0 : Vec Ideal S16896x8192 .f32) (x1 : Vec Ideal S16896x128 .f32) (x2 : Vec Ideal S2x16x1024 .f32)
  (x3 : Vec Ideal S2x1024 .f32) (x4 : Vec Ideal S2x2x4x512x256 .f32)
  (b z : Fin 2) (h : Fin 4) (n : Fin 128) (i : Fin 64)

/-- The layer's chunk, of the reference's arguments. -/
abbrev piece : Chunk := (named x0 x1 x2 x3 x4).chunk b z h n

/-- A chunk's token in the order of visits. -/
def spot (n : Fin 128) (i : Fin 64) : Fin 8192 := ⟨64 * n + i, by omega⟩

theorem spot_eq (hl : n.val * 64 + i.val < 8192) : (⟨n.val * 64 + i.val, hl⟩ : Fin 8192) = spot n i :=
  Fin.ext (by show n.val * 64 + i.val = 64 * n.val + i.val; omega)

theorem chunk_q (d : Fin 256) : A_main_v50 x0 x1 x2 x3 x4 (ix5 b (place z h) n i d) = (piece x0 x1 x2 x3 x4 b z h n).q i d := by
  have e : A_main_v50 x0 x1 x2 x3 x4 (ix5 b (place z h) n i d) = A_main_v43 x0 x1 x2 x3 x4 (ix4 b (place z h) (spot n i) d) := by
    pointwise [A_main_v50]
    exact congrArg (fun p => A_main_v43 x0 x1 x2 x3 x4 (ix4 b (place z h) p d)) (spot_eq n i _)
  rw [e, stack_queries, queries]
  rfl

theorem chunk_k (d : Fin 256) : A_main_v51 x0 x1 x2 x3 x4 (ix5 b (place z h) n i d) = (piece x0 x1 x2 x3 x4 b z h n).k i d := by
  have e : A_main_v51 x0 x1 x2 x3 x4 (ix5 b (place z h) n i d) = A_main_v45 x0 x1 x2 x3 x4 (ix4 b (place z h) (spot n i) d) := by
    pointwise [A_main_v51]
    exact congrArg (fun p => A_main_v45 x0 x1 x2 x3 x4 (ix4 b (place z h) p d)) (spot_eq n i _)
  rw [e, stack_keys, keys]
  rfl

theorem chunk_v (u : Fin 512) : A_main_v53 x0 x1 x2 x3 x4 (ix5 b (place z h) n i u) = (piece x0 x1 x2 x3 x4 b z h n).v i u := by
  have e : A_main_v53 x0 x1 x2 x3 x4 (ix5 b (place z h) n i u) = A_main_v47 x0 x1 x2 x3 x4 (ix4 b (place z h) (spot n i) u) := by
    pointwise [A_main_v53]
    exact congrArg (fun p => A_main_v47 x0 x1 x2 x3 x4 (ix4 b (place z h) p u)) (spot_eq n i _)
  rw [e, stack_values, values]
  rfl

theorem chunk_g (d : Fin 256) : A_main_v52 x0 x1 x2 x3 x4 (ix5 b (place z h) n i d) = (piece x0 x1 x2 x3 x4 b z h n).g i d := by
  have e : A_main_v52 x0 x1 x2 x3 x4 (ix5 b (place z h) n i d) = A_main_v49 x0 x1 x2 x3 x4 (ix4 b (place z h) (spot n i) d) := by
    pointwise [A_main_v52]
    exact congrArg (fun p => A_main_v49 x0 x1 x2 x3 x4 (ix4 b (place z h) p d)) (spot_eq n i _)
  rw [e, stack_gates, log_gate]
  rfl

theorem chunk_cum (d : Fin 256) : A_main_v54 x0 x1 x2 x3 x4 (ix5 b (place z h) n i d) = (piece x0 x1 x2 x3 x4 b z h n).cum i d := by
  unfold A_main_v54
  refine (prefix_sum (P := 63) rfl _ _ (fun u => ?_) _ _ b (place z h) n i d).trans ?_
  · pointwise [K_main_call4_call0_v0, K_main_call4_call0_cst]
  · exact Finset.sum_congr rfl fun j _ => by rw [chunk_g]

theorem chunk_tot (d : Fin 256) : A_main_v56 x0 x1 x2 x3 x4 (ix4 b (place z h) n d) = (piece x0 x1 x2 x3 x4 b z h n).tot d := by
  have e : A_main_v56 x0 x1 x2 x3 x4 (ix4 b (place z h) n d) = A_main_v54 x0 x1 x2 x3 x4 (ix5 b (place z h) n 63 d) := by
    pointwise [A_main_v56, A_main_v55]
  rw [e, chunk_cum]
  rfl

/-- A product, and an exponential, at an index. -/
theorem mul_at (f g : Vec Ideal S2x8x128x64x256 .f32) (u) : mulf (F := Ideal) (φ := .f32) f g u = f u * g u := rfl

theorem neg_at (f : Vec Ideal S2x8x128x64x256 .f32) (d : Fin 256) :
    Host.exp (F := Ideal) (φ := .f32) (Host.negf (F := Ideal) (φ := .f32) f) (ix5 b (place z h) n i d) = Ideal.exp (-(f (ix5 b (place z h) n i d))) := by
  pointwise

theorem exp_at (f : Vec Ideal S2x8x128x64x256 .f32) (d : Fin 256) :
    Host.exp (F := Ideal) (φ := .f32) f (ix5 b (place z h) n i d) = Ideal.exp (f (ix5 b (place z h) n i d)) := by
  pointwise

theorem tail_at (f : Vec Ideal S2x8x128x64x256 .f32) (g : Vec Ideal S2x8x128x256 .f32) (d : Fin 256) :
    Host.exp (F := Ideal) (φ := .f32) (subf (F := Ideal) (φ := .f32)
      (broadcastInDim S2x8x128x64x256 ![0, 1, 2, 3, 4] bcast_S2x8x128x1x256_S2x8x128x64x256_0_1_2_3_4
        (broadcastInDim S2x8x128x1x256 ![0, 1, 2, 4] bcast_S2x8x128x256_S2x8x128x1x256_0_1_2_4 g)) f) (ix5 b (place z h) n i d)
      = Ideal.exp (g (ix4 b (place z h) n d) - f (ix5 b (place z h) n i d)) := by
  pointwise

theorem scan_order_256 (f : Vec Ideal S2x8x128x64x256 .f32) (d : Fin 256) :
    transpose S128x2x8x64x256 [2, 0, 1, 3, 4] f transposes_S2x8x128x64x256_S128x2x8x64x256_2_0_1_3_4 (ix5 n b (place z h) i d)
      = f (ix5 b (place z h) n i d) := by
  pointwise

theorem scan_order_512 (f : Vec Ideal S2x8x128x64x512 .f32) (u : Fin 512) :
    transpose S128x2x8x64x512 [2, 0, 1, 3, 4] f transposes_S2x8x128x64x512_S128x2x8x64x512_2_0_1_3_4 (ix5 n b (place z h) i u)
      = f (ix5 b (place z h) n i u) := by
  pointwise

theorem chunk_qDec (d : Fin 256) : A_main_v58 x0 x1 x2 x3 x4 (ix5 b (place z h) n i d) = (piece x0 x1 x2 x3 x4 b z h n).qDec i d := by
  refine (mul_at _ _ _).trans ?_
  rw [chunk_q]
  refine congrArg (_ * ·) ((exp_at b z h n i _ d).trans ?_)
  rw [chunk_cum]

theorem chunk_kInv (d : Fin 256) : A_main_v61 x0 x1 x2 x3 x4 (ix5 b (place z h) n i d) = (piece x0 x1 x2 x3 x4 b z h n).kInv i d := by
  refine (mul_at _ _ _).trans ?_
  rw [chunk_k]
  refine congrArg (_ * ·) ((neg_at b z h n i _ d).trans ?_)
  rw [chunk_cum]

theorem chunk_kTail (d : Fin 256) : A_main_v66 x0 x1 x2 x3 x4 (ix5 b (place z h) n i d) = (piece x0 x1 x2 x3 x4 b z h n).kTail i d := by
  refine (mul_at _ _ _).trans ?_
  rw [chunk_k]
  refine congrArg (_ * ·) ((tail_at b z h n i _ _ d).trans ?_)
  rw [chunk_cum, chunk_tot]

theorem lower (i j : Fin 64) : K_main_v68 (F := Ideal) (ix2 i j) = if j ≤ i then 1#1 else 0#1 := by
  pointwise [K_main_v68, K_main_call5_v4, K_main_call5_v3, K_main_call5_v2, K_main_call5_v1, K_main_call5_v0, K_main_call5_c, K_main_call5_v5,
    K_main_call5_c_0, K_main_v67, K_main_c]
  revert i j
  decide +kernel

theorem zero_at : id (constant (F := Ideal) S_ FTy.f32 0#32) ix0 = 0 := by
  show Ideal.ofBits .f32 0#32 = 0
  pointwise

theorem chunk_att (j : Fin 64) : A_main_v70 x0 x1 x2 x3 x4 (ix5 b (place z h) n i j) = (piece x0 x1 x2 x3 x4 b z h n).att i j := by
  have e : A_main_v70 x0 x1 x2 x3 x4 (ix5 b (place z h) n i j)
      = Scalar.select (if j ≤ i then 1#1 else 0#1) (∑ d, (piece x0 x1 x2 x3 x4 b z h n).qDec i d * (piece x0 x1 x2 x3 x4 b z h n).kInv j d) (id (constant (F := Ideal) S_ FTy.f32 0#32) ix0) := by
    pointwise [A_main_v70, K_main_call6_v1, K_main_call6_v2, K_main_call6_v0, K_main_cst_2, lower, A_main_v69, chunk_qDec, chunk_kInv]
  rw [e, zero_at]
  unfold Chunk.att
  by_cases hji : j ≤ i
  · rw [if_pos hji, if_pos hji]
    rfl
  · rw [if_neg hji, if_neg hji]
    rfl

theorem chunk_intra (u : Fin 512) : A_main_v71 x0 x1 x2 x3 x4 (ix5 b (place z h) n i u)
    = ∑ j : Fin 64, (piece x0 x1 x2 x3 x4 b z h n).att i j * (piece x0 x1 x2 x3 x4 b z h n).v j u := by
  pointwise [A_main_v71, chunk_att, chunk_v]

/-! ## What the loop starts from -/

theorem start_qDec (d : Fin 256) : A_main_v72 x0 x1 x2 x3 x4 (ix5 n b (place z h) i d) = (piece x0 x1 x2 x3 x4 b z h n).qDec i d :=
  (scan_order_256 b z h n i _ d).trans (chunk_qDec x0 x1 x2 x3 x4 b z h n i d)

theorem start_kTail (d : Fin 256) : A_main_v73 x0 x1 x2 x3 x4 (ix5 n b (place z h) i d) = (piece x0 x1 x2 x3 x4 b z h n).kTail i d :=
  (scan_order_256 b z h n i _ d).trans (chunk_kTail x0 x1 x2 x3 x4 b z h n i d)

theorem start_v (u : Fin 512) : A_main_v74 x0 x1 x2 x3 x4 (ix5 n b (place z h) i u) = (piece x0 x1 x2 x3 x4 b z h n).v i u :=
  (scan_order_512 b z h n i _ u).trans (chunk_v x0 x1 x2 x3 x4 b z h n i u)

theorem start_tot (d : Fin 256) : A_main_v75 x0 x1 x2 x3 x4 (ix4 n b (place z h) d) = (piece x0 x1 x2 x3 x4 b z h n).tot d := by
  pointwise [A_main_v75, chunk_tot]

theorem start_intra (u : Fin 512) : A_main_v76 x0 x1 x2 x3 x4 (ix5 n b (place z h) i u)
    = ∑ j : Fin 64, (piece x0 x1 x2 x3 x4 b z h n).att i j * (piece x0 x1 x2 x3 x4 b z h n).v j u :=
  (scan_order_512 b z h n i _ u).trans (chunk_intra x0 x1 x2 x3 x4 b z h n i u)

theorem start_state (d : Fin 256) (e : Fin 512) : A_main_v41 x0 x1 x2 x3 x4 (ix4 b (place z h) d e) = (named x0 x1 x2 x3 x4).S b z h e d := by
  pointwise [A_main_v41, A_main_v40, place]
  rfl

end Cert.Gla.Reference

end
-- ==== Proof.Gla.Trips.lean ====
/- The reference's loop as a sequence of states: the run's valuation before every trip holds the corresponding state of
   the step, so the results are read from state number 128. -/
module

public import proofs.«01_k».proof.Proof.Gen.ReferenceIdeal.Run
public import proofs.«01_k».proof.Proof.Gen.ReferenceIdeal.Step

@[expose] public section

noncomputable section

namespace Cert.Gla.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- A valuation's carried buffers, gathered into a state. -/
def gather (V : Valuation τ sig (Elt F)) : State F where
  main_v78_6 := V (Proc.devRef .tc main_v78_6)
  main_v78_7 := V (Proc.devRef .tc main_v78_7)
  main_v78_0 := V (Proc.devRef .tc main_v78_0)
  main_v78_1 := V (Proc.devRef .tc main_v78_1)
  main_v78_2 := V (Proc.devRef .tc main_v78_2)
  main_v78_3 := V (Proc.devRef .tc main_v78_3)
  main_v78_4 := V (Proc.devRef .tc main_v78_4)

/-- The trip's number, as the loop's counter holds it. -/
def Counts (V : Valuation τ sig (Elt F)) (j : ℕ) : Prop :=
  V (Proc.devRef .tc main_v78_5) = constantI S_ 32 (BitVec.ofNat 32 j)

variable {V : Valuation τ sig (Elt F)} {j : ℕ}

set_option maxRecDepth 8192 in
theorem state_step (h : Counts V j) : step_main_v78_6 V = (step j (gather V)).main_v78_6 := by
  unfold Counts at h
  unfold step_main_v78_6
  rw [h]
  rfl

set_option maxRecDepth 8192 in
theorem output_step (h : Counts V j) : step_main_v78_7 V = (step j (gather V)).main_v78_7 := by
  unfold Counts at h
  unfold step_main_v78_7
  rw [h]
  rfl

theorem counter_step (h : Counts V j) : Counts (STEP V) (j + 1) := by
  unfold Counts at h ⊢
  rw [STEP_main_v78_5]
  unfold step_main_v78_5
  rw [h]
  funext i
  show BitVec.ofNat 32 j + 1#32 = BitVec.ofNat 32 (j + 1)
  simp only [BitVec.ofNat_add]

theorem gather_step (h : Counts V j) : gather (STEP V) = step j (gather V) := by
  have h6 := (STEP_main_v78_6 V).trans (state_step h)
  have h7 := (STEP_main_v78_7 V).trans (output_step h)
  have e : step j (gather V) = { gather V with
      main_v78_6 := (step j (gather V)).main_v78_6
      main_v78_7 := (step j (gather V)).main_v78_7 } := rfl
  rw [e, ← h6, ← h7]
  exact (State.mk.injEq ..).mpr ⟨rfl, rfl, STEP_main_v78_0 V, STEP_main_v78_1 V, STEP_main_v78_2 V,
    STEP_main_v78_3 V, STEP_main_v78_4 V⟩

/-- What the host's operations before the loop leave. -/
abbrev start (m : (ℓ : Loc nD τ sig) → Buf (Elt F) ℓ) (c : Dev nD) : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

variable (m : (ℓ : Loc nD τ sig) → Buf (Elt F) ℓ) (c : Dev nD)

theorem counts_entry : Counts (entryContents preI m c) 0 := ctr_entry m c

set_option maxRecDepth 65536 in
set_option maxHeartbeats 1600000 in
theorem gather_entry : gather (entryContents preI m c) = start m c := by
  refine (State.mk.injEq ..).mpr ⟨?_, ?_, ?_, ?_, ?_, ?_, ?_⟩ <;>
    (simp only [entryContents, afterL_cons, afterL_nil]; after_reads_simp) <;> rfl

/-- The states before trip 0, 1, 2, … -/
def trips (s : State F) : ℕ → State F
  | 0 => s
  | n + 1 => step n (trips s n)

theorem gather_trips : ∀ k, Counts (STEP^[k] (entryContents preI m c)) k
    ∧ gather (STEP^[k] (entryContents preI m c)) = trips (start m c) k
  | 0 => ⟨counts_entry m c, gather_entry m c⟩
  | k + 1 => by
    obtain ⟨hc, hg⟩ := gather_trips k
    rw [Function.iterate_succ_apply']
    exact ⟨counter_step hc, (gather_step hc).trans (congrArg (step k) hg)⟩

set_option maxRecDepth 8192 in
theorem rows_read (V : Valuation τ sig (Elt F)) :
    out_main_v90 V = Cert.ReferenceIdeal.Step.R_main_v90 (gather V) := rfl

set_option maxRecDepth 8192 in
theorem last_read (V : Valuation τ sig (Elt F)) :
    out_main_v92 V = Cert.ReferenceIdeal.Step.R_main_v92 (gather V) := rfl

/-- Every weakly fair execution of the reference ends with its two results read from state number 128, and with its
    arguments as they were. -/
theorem run_trips (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v90) = Cert.ReferenceIdeal.Step.R_main_v90 (trips (start m c) 128)
      ∧ r.2.mem ((c.tc : Thread nD τ).loc main_v92) = Cert.ReferenceIdeal.Step.R_main_v92 (trips (start m c) 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    have hg := (gather_trips m c 128).2
    exact ⟨(h c).1.trans ((rows_read _).trans (congrArg _ hg)), (h c).2.1.trans ((last_read _).trans (congrArg _ hg)),
      (h c).2.2⟩) (Value.run m ρ)

end Cert.Gla.Trips

end
-- ==== Proof.Gla.Loop.lean ====
/- The reference's loop: before trip `n` its carried state is the layer's state before chunk `n`, and the first `n` chunks
   of its output are the layer's. -/
module

public import Idealize.ShloMosaic.Lib.DynamicIndex
public import Idealize.ShloMosaic.Lib.Pipeline.Value
public import proofs.«01_k».proof.Proof.Gla.Chunks
public import proofs.«01_k».proof.Proof.Gla.Trips

@[expose] public section

set_option maxRecDepth 16384

noncomputable section

namespace Cert.Gla.Reference

open Idealize.ShloMosaic Idealize.ShloMosaic.TcCoe Idealize.ShloMosaic.StableHlo
open Cert.ReferenceIdeal Cert.ReferenceIdeal.Gen Cert.ReferenceIdeal.Step

/-! ## One trip, over any state -/

variable (j : Fin 128) (s : Cert.ReferenceIdeal.Step.State Ideal) (b : Fin 2) (hh : Fin 8) (i : Fin 64)

/-- The starts of a trip's slices: the trip's number on the first axis and zero on the others. -/
theorem starts5 (k : Fin 5) : ((![(constantI S_ 32 (BitVec.ofNat 32 j.val) : (⟨S_, .i32⟩ : BufTy).Contents (Elt Ideal)), constantI S_ 32 0#32, constantI S_ 32 0#32,
      constantI S_ 32 0#32, constantI S_ 32 0#32] : Fin 5 → (⟨S_, .i32⟩ : BufTy).Contents (Elt Ideal)) k (Shape.Idx.first h_S_)).toInt
    = ((![j.val, 0, 0, 0, 0] : Fin 5 → ℕ) k : Int) := by
  have hj := j.isLt
  match k with
  | ⟨0, _⟩ => exact toInt_ofNat_of_lt (by omega)
  | ⟨1, _⟩ => rfl
  | ⟨2, _⟩ => rfl
  | ⟨3, _⟩ => rfl
  | ⟨4, _⟩ => rfl

theorem starts4 (k : Fin 4) : ((![(constantI S_ 32 (BitVec.ofNat 32 j.val) : (⟨S_, .i32⟩ : BufTy).Contents (Elt Ideal)), constantI S_ 32 0#32, constantI S_ 32 0#32,
      constantI S_ 32 0#32] : Fin 4 → (⟨S_, .i32⟩ : BufTy).Contents (Elt Ideal)) k (Shape.Idx.first h_S_)).toInt
    = ((![j.val, 0, 0, 0] : Fin 4 → ℕ) k : Int) := by
  have hj := j.isLt
  match k with
  | ⟨0, _⟩ => exact toInt_ofNat_of_lt (by omega)
  | ⟨1, _⟩ => rfl
  | ⟨2, _⟩ => rfl
  | ⟨3, _⟩ => rfl

theorem fits_256 : S128x2x8x64x256.Slices ![j.val, 0, 0, 0, 0] S1x2x8x64x256 :=
  ⟨rfl, fun k => by
    have hj := j.isLt
    match k with
    | ⟨0, _⟩ => show j.val + 1 ≤ 128; omega
    | ⟨1, _⟩ => exact le_rfl
    | ⟨2, _⟩ => exact le_rfl
    | ⟨3, _⟩ => exact le_rfl
    | ⟨4, _⟩ => exact le_rfl⟩

theorem fits_512 : S128x2x8x64x512.Slices ![j.val, 0, 0, 0, 0] S1x2x8x64x512 :=
  ⟨rfl, fun k => by
    have hj := j.isLt
    match k with
    | ⟨0, _⟩ => show j.val + 1 ≤ 128; omega
    | ⟨1, _⟩ => exact le_rfl
    | ⟨2, _⟩ => exact le_rfl
    | ⟨3, _⟩ => exact le_rfl
    | ⟨4, _⟩ => exact le_rfl⟩

theorem fits_tot : S128x2x8x256.Slices ![j.val, 0, 0, 0] S1x2x8x256 :=
  ⟨rfl, fun k => by
    have hj := j.isLt
    match k with
    | ⟨0, _⟩ => show j.val + 1 ≤ 128; omega
    | ⟨1, _⟩ => exact le_rfl
    | ⟨2, _⟩ => exact le_rfl
    | ⟨3, _⟩ => exact le_rfl⟩

theorem trip_qDec (d : Fin 256) : b5 j.val s (ix4 b hh i d) = s.main_v78_0 (ix5 j b hh i d) := by
  have e : b4 j.val s = extractStridedSlice _ ![j.val, 0, 0, 0, 0] s.main_v78_0 (fits_256 j) :=
    Host.dynamicSlice_eq_extractStridedSlice _ _ _ _ _ (fits_256 j) (starts5 j)
  unfold b5
  rw [e]
  pointwise

theorem trip_kTail (d : Fin 256) : b11 j.val s (ix4 b hh i d) = s.main_v78_1 (ix5 j b hh i d) := by
  have e : b10 j.val s = extractStridedSlice _ ![j.val, 0, 0, 0, 0] s.main_v78_1 (fits_256 j) :=
    Host.dynamicSlice_eq_extractStridedSlice _ _ _ _ _ (fits_256 j) (starts5 j)
  unfold b11
  rw [e]
  pointwise

theorem trip_v (e : Fin 512) : b17 j.val s (ix4 b hh i e) = s.main_v78_2 (ix5 j b hh i e) := by
  have e : b16 j.val s = extractStridedSlice _ ![j.val, 0, 0, 0, 0] s.main_v78_2 (fits_512 j) :=
    Host.dynamicSlice_eq_extractStridedSlice _ _ _ _ _ (fits_512 j) (starts5 j)
  unfold b17
  rw [e]
  pointwise

theorem trip_intra (e : Fin 512) : b28 j.val s (ix4 b hh i e) = s.main_v78_4 (ix5 j b hh i e) := by
  have e : b27 j.val s = extractStridedSlice _ ![j.val, 0, 0, 0, 0] s.main_v78_4 (fits_512 j) :=
    Host.dynamicSlice_eq_extractStridedSlice _ _ _ _ _ (fits_512 j) (starts5 j)
  unfold b28
  rw [e]
  pointwise

theorem trip_tot (d : Fin 256) : b22 j.val s (ix3 b hh d) = s.main_v78_3 (ix4 j b hh d) := by
  have e : b21 j.val s = extractStridedSlice _ ![j.val, 0, 0, 0] s.main_v78_3 (fits_tot j) :=
    Host.dynamicSlice_eq_extractStridedSlice _ _ _ _ _ (fits_tot j) (starts4 j)
  unfold b22
  rw [e]
  pointwise

theorem trip_out (e : Fin 512) : b30 j.val s (ix4 b hh i e)
    = s.main_v78_4 (ix5 j b hh i e) + ∑ d : Fin 256, s.main_v78_0 (ix5 j b hh i d) * s.main_v78_6 (ix4 b hh d e) := by
  pointwise [b30, b29, trip_intra, trip_qDec]

theorem trip_state (d : Fin 256) (e : Fin 512) : b36 j.val s (ix4 b hh d e)
    = s.main_v78_6 (ix4 b hh d e) * Ideal.exp (s.main_v78_3 (ix4 j b hh d))
      + ∑ i : Fin 64, s.main_v78_1 (ix5 j b hh i d) * s.main_v78_2 (ix5 j b hh i e) := by
  pointwise [b36, b35, b34, b33, b32, b31, trip_tot, trip_kTail, trip_v]

theorem trip_rows (n : Fin 128) (e : Fin 512) : b42 j.val s (ix5 n b hh i e)
    = if n = j then b30 j.val s (ix4 b hh i e) else s.main_v78_7 (ix5 n b hh i e) := by
  have u : b42 j.val s = updateSlice s.main_v78_7 (b37 j.val s) ![j.val, 0, 0, 0, 0] (fits_512 j) :=
    Host.dynamicUpdateSlice_eq_updateSlice _ _ _ _ _ (fun a => by
      have e := starts5 j a
      have f := (fits_512 j).2 a
      refine (congrArg (fun w : Int => (min (max w 0) _).toNat) e).trans ?_
      omega) (fits_512 j)
  rw [u]
  pointwise [b37]
  have hn : (j.val ≤ n.val ∧ n.val < j.val + 1) ↔ n = j := by
    rw [Fin.ext_iff]
    omega
  by_cases hj : n = j
  · rw [dif_pos (hn.2 hj), if_pos hj]
  · rw [dif_neg (fun h => hj (hn.1 h)), if_neg hj]

/-! ## The loop -/

variable (x0 : Vec Ideal S16896x8192 .f32) (x1 : Vec Ideal S16896x128 .f32) (x2 : Vec Ideal S2x16x1024 .f32)
  (x3 : Vec Ideal S2x1024 .f32) (x4 : Vec Ideal S2x2x4x512x256 .f32) (z : Fin 2) (h : Fin 4)

/-- What a trip does not touch. -/
theorem kept (n : ℕ) : (Trips.trips s n).main_v78_0 = s.main_v78_0 ∧ (Trips.trips s n).main_v78_1 = s.main_v78_1
    ∧ (Trips.trips s n).main_v78_2 = s.main_v78_2 ∧ (Trips.trips s n).main_v78_3 = s.main_v78_3
    ∧ (Trips.trips s n).main_v78_4 = s.main_v78_4 := by
  induction n with
  | zero => exact ⟨rfl, rfl, rfl, rfl, rfl⟩
  | succ n ih =>
    obtain ⟨a0, a1, a2, a3, a4⟩ := ih
    exact ⟨a0, a1, a2, a3, a4⟩

/-- The state before trip `n`. -/
abbrev before (n : ℕ) : Cert.ReferenceIdeal.Step.State Ideal := Trips.trips (init x0 x1 x2 x3 x4) n

theorem before_qDec (n : ℕ) (d : Fin 256) : (before x0 x1 x2 x3 x4 n).main_v78_0 (ix5 j b (place z h) i d)
    = (piece x0 x1 x2 x3 x4 b z h j).qDec i d :=
  (congrFun (kept _ n).1 _).trans (start_qDec x0 x1 x2 x3 x4 b z h j i d)

theorem before_kTail (n : ℕ) (d : Fin 256) : (before x0 x1 x2 x3 x4 n).main_v78_1 (ix5 j b (place z h) i d)
    = (piece x0 x1 x2 x3 x4 b z h j).kTail i d :=
  (congrFun (kept _ n).2.1 _).trans (start_kTail x0 x1 x2 x3 x4 b z h j i d)

theorem before_v (n : ℕ) (e : Fin 512) : (before x0 x1 x2 x3 x4 n).main_v78_2 (ix5 j b (place z h) i e)
    = (piece x0 x1 x2 x3 x4 b z h j).v i e :=
  (congrFun (kept _ n).2.2.1 _).trans (start_v x0 x1 x2 x3 x4 b z h j i e)

theorem before_tot (n : ℕ) (d : Fin 256) : (before x0 x1 x2 x3 x4 n).main_v78_3 (ix4 j b (place z h) d)
    = (piece x0 x1 x2 x3 x4 b z h j).tot d :=
  (congrFun (kept _ n).2.2.2.1 _).trans (start_tot x0 x1 x2 x3 x4 b z h j d)

theorem before_intra (n : ℕ) (e : Fin 512) : (before x0 x1 x2 x3 x4 n).main_v78_4 (ix5 j b (place z h) i e)
    = ∑ w : Fin 64, (piece x0 x1 x2 x3 x4 b z h j).att i w * (piece x0 x1 x2 x3 x4 b z h j).v w e :=
  (congrFun (kept _ n).2.2.2.2 _).trans (start_intra x0 x1 x2 x3 x4 b z h j i e)

theorem before_state (n : ℕ) (hn : n ≤ 128) (d : Fin 256) (e : Fin 512) :
    (before x0 x1 x2 x3 x4 n).main_v78_6 (ix4 b (place z h) d e) = (named x0 x1 x2 x3 x4).state b z h n e d := by
  induction n with
  | zero => exact start_state x0 x1 x2 x3 x4 b z h d e
  | succ n ih =>
    have k := trip_state ⟨n, hn⟩ (before x0 x1 x2 x3 x4 n) b (place z h) d e
    refine Eq.trans (b := b36 n (before x0 x1 x2 x3 x4 n) (ix4 b (place z h) d e)) rfl (k.trans ?_)
    rw [ih (by omega), before_tot]
    simp only [before_kTail, before_v]
    unfold Arrays.state
    rw [states_succ]
    exact congrArg (_ + ·) (Finset.sum_congr rfl fun w _ => mul_comm _ _)

theorem before_rows (n : ℕ) (hn : n ≤ 128) (hj : j.val < n) (e : Fin 512) :
    (before x0 x1 x2 x3 x4 n).main_v78_7 (ix5 j b (place z h) i e) = (named x0 x1 x2 x3 x4).chunkOut b z h j i e := by
  induction n with
  | zero => exact absurd hj (Nat.not_lt_zero _)
  | succ n ih =>
    have k := trip_rows ⟨n, hn⟩ (before x0 x1 x2 x3 x4 n) b (place z h) i j e
    refine Eq.trans (b := b42 n (before x0 x1 x2 x3 x4 n) (ix5 j b (place z h) i e)) rfl (k.trans ?_)
    by_cases hjn : j = ⟨n, hn⟩
    · rw [if_pos hjn, trip_out, ← hjn, before_intra]
      simp only [before_qDec]
      have hjn' : j.val = n := congrArg Fin.val hjn
      simp only [before_state b x0 x1 x2 x3 x4 z h n (by omega)]
      rw [← hjn']
      rfl
    · rw [if_neg hjn]
      exact ih (by omega) (by
        have : j.val ≠ n := fun e => hjn (Fin.ext e)
        omega)

end Cert.Gla.Reference

end
-- ==== Proof.Gla.Read.lean ====
/- The reference's two results, read from its loop's last state. -/
module

public import proofs.«01_k».proof.Proof.Gla.Stages

@[expose] public section

set_option maxRecDepth 16384

noncomputable section

namespace Cert.Gla.Reference

open Idealize.ShloMosaic Idealize.ShloMosaic.TcCoe Idealize.ShloMosaic.StableHlo
open Cert.ReferenceIdeal Cert.ReferenceIdeal.Gen Cert.ReferenceIdeal.Step

variable (s : Cert.ReferenceIdeal.Step.State Ideal) (b z : Fin 2) (h : Fin 4) (hh : Fin 8) (p : Fin 8192) (e : Fin 512)

theorem read_last (d : Fin 256) : R_main_v92 s (ix5 b z h e d) = s.main_v78_6 (ix4 b (place z h) d e) := by
  pointwise [R_main_v92, place]

/-- The output of every stacked head, token after token. -/
def byHead : Vec Ideal S2x8x8192x512 .f32 :=
  shapeCast _ (transpose S2x8x128x64x512 [1, 2, 0, 3, 4] (s.main_v78_7) transposes_S128x2x8x64x512_S2x8x128x64x512_1_2_0_3_4)
    shapeCasts_S2x8x128x64x512_S2x8x8192x512

theorem byHead_at : byHead s (ix4 b hh p e)
    = s.main_v78_7 (ix5 ⟨p.val / 64, by omega⟩ b hh ⟨p.val % 64, Nat.mod_lt _ (by norm_num)⟩ e) := by
  pointwise [byHead]

/-- Four heads' outputs side by side, one row a token. -/
def sideBySide (f : Vec Ideal S2x4x8192x512 .f32) : Vec Ideal S16384x2048 .f32 :=
  shapeCast _ (transpose S2x8192x4x512 [0, 2, 1, 3] f transposes_S2x4x8192x512_S2x8192x4x512_0_2_1_3) shapeCasts_S2x8192x4x512_S16384x2048

theorem sideBySide_at (f : Vec Ideal S2x4x8192x512 .f32) (r : Fin 16384) (k : Fin 2048) :
    sideBySide f (ix2 r k) = f (ix4 ⟨r.val / 8192, by omega⟩ ⟨k.val / 512, by omega⟩ ⟨r.val % 8192, Nat.mod_lt _ (by norm_num)⟩
      ⟨k.val % 512, Nat.mod_lt _ (by norm_num)⟩) := by
  pointwise [sideBySide]

theorem forward_at : extractStridedSlice S2x4x8192x512 ![0, 0, 0, 0] (byHead s) slices_S2x8x8192x512_S2x4x8192x512_0_0_0_0 (ix4 b h p e)
    = byHead s (ix4 b (place 0 h) p e) := by
  pointwise [place]

theorem backward_at : Host.reverse [2] (extractStridedSlice S2x4x8192x512 ![0, 4, 0, 0] (byHead s) slices_S2x8x8192x512_S2x4x8192x512_0_4_0_0) (ix4 b h p e)
    = byHead s (ix4 b (place 1 h) p.rev e) := by
  pointwise [place]
  rfl

theorem two_at (f g : Vec Ideal S16384x2048 .f32) (r : Fin 16384) (k : Fin 2048) :
    concatenate S2x16384x2048 0 [⟨S1x16384x2048, (broadcastInDim S1x16384x2048 ![1, 2] bcast_S16384x2048_S1x16384x2048_1_2 f)⟩,
      ⟨S1x16384x2048, (broadcastInDim S1x16384x2048 ![1, 2] bcast_S16384x2048_S1x16384x2048_1_2 g)⟩]
      concatenates_S1x16384x2048_S1x16384x2048_S2x16384x2048_d0 (ix3 z r k) = if z.val < 1 then f (ix2 r k) else g (ix2 r k) := by
  pointwise
  by_cases hz : z.val < 1
  · rw [dif_pos hz, if_pos hz]
  · rw [dif_neg hz, if_neg hz]

theorem rows_open : R_main_v90 s = concatenate S2x16384x2048 0
      [⟨S1x16384x2048, (broadcastInDim S1x16384x2048 ![1, 2] bcast_S16384x2048_S1x16384x2048_1_2
        (sideBySide (extractStridedSlice S2x4x8192x512 ![0, 0, 0, 0] (byHead s) slices_S2x8x8192x512_S2x4x8192x512_0_0_0_0)))⟩,
      ⟨S1x16384x2048, (broadcastInDim S1x16384x2048 ![1, 2] bcast_S16384x2048_S1x16384x2048_1_2
        (sideBySide (Host.reverse [2] (extractStridedSlice S2x4x8192x512 ![0, 4, 0, 0] (byHead s) slices_S2x8x8192x512_S2x4x8192x512_0_4_0_0))))⟩]
      concatenates_S1x16384x2048_S1x16384x2048_S2x16384x2048_d0 := by
  unfold R_main_v90 sideBySide byHead
  rfl

theorem read_rows (r : Fin 16384) (k : Fin 2048) :
    R_main_v90 s (ix3 z r k) = byHead s (ix4 ⟨r.val / 8192, by omega⟩ (place z ⟨k.val / 512, by omega⟩) (token z (r.val % 8192))
      ⟨k.val % 512, Nat.mod_lt _ (by norm_num)⟩) := by
  rw [rows_open, two_at]
  have hz := z.isLt
  have hr : r.val % 8192 < 8192 := Nat.mod_lt _ (by norm_num)
  by_cases z0 : z.val < 1
  · obtain rfl : z = 0 := Fin.ext (by show z.val = 0; omega)
    rw [if_pos z0, sideBySide_at, forward_at]
    refine congrArg (fun p => byHead s (ix4 _ _ p _)) (Fin.ext ?_)
    rw [token_val 0 _ hr]
    rfl
  · obtain rfl : z = 1 := Fin.ext (by show z.val = 1; omega)
    rw [if_neg z0, sideBySide_at, backward_at]
    refine congrArg (fun p => byHead s (ix4 _ _ p _)) (Fin.ext ?_)
    rw [token_val 1 _ hr]
    show 8192 - (r.val % 8192 + 1) = 8191 - r.val % 8192
    omega

end Cert.Gla.Reference

end
-- ==== Proof.Gla.Equal.lean ====
/- The two programs' results are the same arrays of the layer. -/
module

public import proofs.«01_k».proof.Proof.Gla.Result
public import proofs.«01_k».proof.Proof.Gla.Loop
public import proofs.«01_k».proof.Proof.Gla.Read

@[expose] public section

set_option maxRecDepth 16384

noncomputable section

namespace Cert.Gla.Reference

open Idealize.ShloMosaic Idealize.ShloMosaic.TcCoe Idealize.ShloMosaic.StableHlo
open Cert.ReferenceIdeal Cert.ReferenceIdeal.Gen Cert.ReferenceIdeal.Step

variable (x0 : Vec Ideal S16896x8192 .f32) (x1 : Vec Ideal S16896x128 .f32) (x2 : Vec Ideal S2x16x1024 .f32)
  (x3 : Vec Ideal S2x1024 .f32) (x4 : Vec Ideal S2x2x4x512x256 .f32)

theorem rows_result : R_main_v90 (before x0 x1 x2 x3 x4 128) = rowsArr (named x0 x1 x2 x3 x4) := by
  funext u
  idx_vars u
  rw [read_rows, byHead_at, before_rows _ _ _ _ _ _ _ _ _ _ 128 le_rfl (by
    have := (token u0 (u1.val % 8192)).isLt
    show (token u0 (u1.val % 8192)).val / 64 < 128
    omega)]
  rfl

theorem last_result : R_main_v92 (before x0 x1 x2 x3 x4 128) = lastArr (named x0 x1 x2 x3 x4) := by
  funext u
  idx_vars u
  rw [read_last, before_state _ _ _ _ _ _ _ _ 128 le_rfl]
  rfl

end Cert.Gla.Reference

end
-- ==== Proof.Proj.Spec.lean ====
/- A linear layer's product: rows of activations by columns of weights. -/
module

public import Idealize.ShloMosaic.Lib.Pointwise

@[expose] public section

noncomputable section

namespace Cert.Proj

/-- The inner product of an activation row with a weight column. -/
def inner {n : ℕ} (x w : Fin n → EReal) : EReal := ∑ k, x k * w k

/-- The logistic function. -/
def sigmoid (v : EReal) : EReal := Idealize.ShloMosaic.Ideal.div 1 (1 + Idealize.ShloMosaic.Ideal.exp (-v))

/-- The gated unit: the gate's logistic times the gate, times the other product. -/
def swiglu (g u : EReal) : EReal := g * sigmoid g * u

end Cert.Proj

end
-- ==== Proof.Proj.Wide.lean ====
/- The first 8192 columns of the input projection, block by block, with each weight block converted once and kept. -/
module

public import proofs.«01_k».proof.Proof.Proj.Spec
public import proofs.«01_k».proof.Proof.Gen.Kernel2Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Wide

open Idealize.ShloMosaic Idealize.ShloMosaic.TcCoe Idealize.SL.Sem Idealize.ShloMosaic.Pipeline Cert.Kernel2Ideal Cert.Kernel2Ideal.Gen

/-! ## The block products -/

theorem cached_at (w : Vec Ideal S1x4096x512 .f32) (k : Fin 4096) (n : Fin 512) :
    k0_pay1 w (ix2 k n) = w (ix3 0 k n) := by
  pointwise [k0_pay1]

theorem product_at (x : Vec Ideal S512x4096 .bf16) (w : Vec Ideal S4096x512 .bf16) (r : Fin 512) (n : Fin 512) :
    k0_pay2 x w (ix2 r n) = inner (fun k => x (ix2 r k)) (fun k => w (ix2 k n)) := by
  pointwise [k0_pay2, inner]

/-! ## The points -/

variable (m : (ℓ : Loc nD τ sig) → Buf (Elt Ideal) ℓ) (c : Dev nD) (t : Fin cfg0.N)

theorem lt_528 : t.val < 528 := lt_of_lt_of_eq t.isLt N_0

abbrev rowsBlk : Vec Ideal S512x4096 .bf16 := iblk m c 0 t
abbrev colsBlk : Vec Ideal S1x4096x512 .f32 := X0_1 m c t

/-- The weight block that the point before left in the scratch. -/
abbrev before : Vec Ideal S4096x512 .bf16 := (outsAt0 m c (t.val - 1) (Nat.lt_of_le_of_lt (Nat.sub_le _ _) t.isLt)).2

theorem scratch_first (h0 : t.val % 33 = 0) : (outsAt0 m c t.val t.isLt).2 = k0_pay1 (colsBlk m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = before m c t := by
  rw [outsAt0_B m c t h0]
  rfl

theorem block_first (h0 : t.val % 33 = 0) :
    (outsAt0 m c t.val t.isLt).1 = k0_pay2 (rowsBlk m c t) (k0_pay1 (colsBlk m c t)) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (rowsBlk m c t) (before m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (rowsBlk m c t) (outsAt0 m c t.val t.isLt).2 := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![0, 0, t.val / 33]
    ∧ win0_2.index t = ![t.val % 33, t.val / 33] := by
  revert t
  decide +kernel

/-- The activations and the weights. -/
abbrev acts : Vec Ideal S16896x4096 .bf16 := m ((c.tc : Thread nD τ).loc main_arg0)
abbrev weights : Vec Ideal S2x4096x16416 .f32 := m ((c.tc : Thread nD τ).loc main_arg1)

theorem rows_read (r : Fin 512) (k : Fin 4096) :
    rowsBlk m c t (ix2 r k) = acts m c (ix2 ⟨t.val % 33 * 512 + r, by omega⟩ k) := by
  blk_ext [iblk, V, idx_in t]

theorem cols_read (k : Fin 4096) (n : Fin 512) :
    colsBlk m c t (ix3 0 k n) = weights m c (ix3 0 k ⟨t.val / 33 * 512 + n, by have := lt_528 t; omega⟩) := by
  show (cfg0.win 1).fill (cfg0.grid.coords t) dflt0_1 (iblk m c 1 t) (ix3 0 k n : S1x4096x512.Idx) = _
  unfold Window.fill
  rw [dif_pos (moved0_1 t _)]
  refine congrArg (weights m c) (funext fun a => Fin.ext ?_)
  refine (win0_1.rect_emb_val t _ a).trans ?_
  rw [(idx_in t).2.1]
  match a with
  | ⟨0, _⟩ => rfl
  | ⟨1, _⟩ => show 0 * 4096 + k.val = k.val; omega
  | ⟨2, _⟩ => rfl

/-- After every point the scratch holds the weight columns of the point's block column. -/
theorem scratch_read (k : Fin 4096) (n : Fin 512) :
    (outsAt0 m c t.val t.isLt).2 (ix2 k n) = weights m c (ix3 0 k ⟨t.val / 33 * 512 + n, by have := lt_528 t; omega⟩) := by
  obtain ⟨p, hp⟩ := t
  induction p with
  | zero =>
    rw [scratch_first m c ⟨0, hp⟩ rfl, cached_at]
    exact cols_read m c ⟨0, hp⟩ k n
  | succ p ih =>
    by_cases h0 : (p + 1) % 33 = 0
    · rw [scratch_first m c ⟨p + 1, hp⟩ h0, cached_at]
      exact cols_read m c ⟨p + 1, hp⟩ k n
    · rw [scratch_later m c ⟨p + 1, hp⟩ h0]
      refine (ih (Nat.lt_of_succ_lt hp)).trans (congrArg (weights m c) (congrArg (ix3 0 k) (Fin.ext ?_)))
      show (p / 33 * 512 + n.val) = ((p + 1) / 33 * 512 + n.val)
      omega

/-! ## The result array -/

/-- The product as an array. -/
def projArr (x : Vec Ideal S16896x4096 .bf16) (w : Vec Ideal S2x4096x16416 .f32) : Vec Ideal S16896x8192 .f32 := fun u =>
  inner (fun k => x (ix2 (u 0) k)) (fun k => w (ix3 0 k ⟨u 1, by have : (u 1).val < 8192 := (u 1).isLt; omega⟩))

theorem covers_out : (cfg0.win 2).Covers := by
  refine (cfg0.win 2).covers_of_index_surj rfl (by decide) fun β => ?_
  have b0 : (β 0).val < 33 := lt_of_lt_of_eq (β 0).isLt (by decide)
  have b1 : (β 1).val < 16 := lt_of_lt_of_eq (β 1).isLt (by decide)
  have hlt : (β 1).val * 33 + (β 0).val < 528 := by omega
  refine ⟨⟨_, lt_of_lt_of_eq hlt N_0.symm⟩, fun a => ?_⟩
  refine (congrFun (idx_in ⟨_, lt_of_lt_of_eq hlt N_0.symm⟩).2.2 a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) :
    ((cfg0.win 2).blk t).view.emb (ix2 r n) = (ix2 ⟨t.val % 33 * 512 + r, by omega⟩ ⟨t.val / 33 * 512 + n, by have := lt_528 t; omega⟩ : S16896x8192.Idx) := by
  funext a
  refine Fin.ext ((win0_2.rect_emb_val t (ix2 r n : S512x512.Idx) a).trans ?_)
  rw [(idx_in t).2.2]
  match a with
  | ⟨0, _⟩ => rfl
  | ⟨1, _⟩ => rfl

theorem result_array : (dats m 0 c).arrAt 2 cfg0.N = projArr (acts m c) (weights m c) := by
  refine (dats m 0 c).arrAt_eq_of_covers 2 _ covers_out fun t hf y => ?_
  blk_simp
  rw [after0_2]
  obtain ⟨r, n, rfl⟩ : ∃ r n : Fin 512, y = (ix2 r n : S512x512.Idx) := ⟨y 0, y 1, by idx_vars y⟩
  refine Eq.trans ?_ (congrArg (projArr (acts m c) (weights m c)) (result_at t r n).symm)
  rw [block_at, product_at]
  unfold projArr
  refine congrArg₂ inner (funext fun k => rows_read m c t r k) (funext fun k => scratch_read m c t k n)

end Cert.Proj.Wide

end
-- ==== Proof.Proj.WideClaim.lean ====
/- The reference's product is the same array as the kernel's, and the claims about the two. -/
module

public import proofs.«01_k».proof.Defs
public import proofs.«01_k».proof.Proof.Proj.Wide
public import proofs.«01_k».proof.Proof.Gen.Reference2Ideal.Run
public import Idealize.ShloMosaic.Lib.Quiescent

@[expose] public section

set_option maxRecDepth 16384

noncomputable section

namespace Cert.Proj.Wide

open Idealize.ShloMosaic Idealize.ShloMosaic.TcCoe Idealize.SL.Sem Cert.Reference2Ideal Cert.Reference2Ideal.Gen

theorem reference_array (x : FVec Ideal S16896x4096 .bf16) (w : FVec Ideal S2x4096x16416 .f32) :
    (extractStridedSlice S16896x8192 ![0, 0] (Host.dotGeneral dot_S16896x4096_S4096x16416_S16896x16416_1_0_0_1_n_n none
      (extf .f32 x bitsLt_bf16_f32) (shapeCast S4096x16416 (extractStridedSlice S1x4096x16416 ![0, 0, 0] w
        slices_S2x4096x16416_S1x4096x16416_0_0_0) shapeCasts_S1x4096x16416_S4096x16416))
      slices_S16896x16416_S16896x8192_0_0 : FVec Ideal S16896x8192 .f32) = projArr x w := by
  funext u
  idx_vars u
  pointwise [projArr, inner]

/-- The kernel and the reference end with equal products. -/
theorem algebraic : @algebraic_Kernel2Ideal_Reference2Ideal Cert.Kernel2Ideal.Gen.facts Cert.Reference2Ideal.Gen.facts := by
  intro m g m' g' _ hm
  refine ⟨fun c => projArr (acts m c) (weights m c), ?_, ?_⟩
  · refine (θ_run _ _ _).mono (fun r h c => ?_) (Cert.Kernel2Ideal.Value.run_blocks m g)
    exact ⟨(h c).1.trans (result_array m c), (h c).2⟩
  · refine (θ_run _ _ _).mono (fun r h c => ?_) (Cert.Reference2Ideal.Value.run m' g')
    refine ⟨(h c).1.trans ?_, (h c).2⟩
    rw [(hm c).1, (hm c).2]
    exact reference_array _ _

/-- The reference runs, keeps its arguments, and has no semaphore counter that could end off zero. -/
theorem reference_frame : @quiescent_Reference2Ideal Cert.Reference2Ideal.Gen.facts := fun m g _ =>
  (θ_run _ _ _).mono (fun r h => ⟨fun c => (h c).2, sem_eq_zero_of_no_sems (by decide) r.2⟩)
    (Cert.Reference2Ideal.Value.run m g)

end Cert.Proj.Wide

end
-- ==== Proof.Proj.Gates.lean ====
/- The gate columns of the input projection, block by block, with each weight block kept in the scratch. -/
module

public import proofs.«01_k».proof.Proof.Proj.Spec
public import proofs.«01_k».proof.Proof.Gen.Kernel3Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Gates

open Idealize.ShloMosaic Idealize.ShloMosaic.TcCoe Idealize.SL.Sem Idealize.ShloMosaic.Pipeline Cert.Kernel3Ideal Cert.Kernel3Ideal.Gen

/-! ## The block products -/

theorem cached_at (w : Vec Ideal S4096x512 .bf16) (k : Fin 4096) (n : Fin 512) :
    k0_pay1 w (ix2 k n) = w (ix2 k n) := by
  pointwise [k0_pay1]

theorem product_at (x : Vec Ideal S512x4096 .bf16) (w : Vec Ideal S4096x512 .bf16) (r : Fin 512) (n : Fin 512) :
    k0_pay2 x w (ix2 r n) = inner (fun k => x (ix2 r k)) (fun k => w (ix2 k n)) := by
  pointwise [k0_pay2, inner]

/-! ## The points -/

variable (m : (ℓ : Loc nD τ sig) → Buf (Elt Ideal) ℓ) (c : Dev nD) (t : Fin cfg0.N)

theorem lt_528 : t.val < 528 := lt_of_lt_of_eq t.isLt N_0

abbrev rowsBlk : Vec Ideal S512x4096 .bf16 := iblk m c 0 t
abbrev colsBlk : Vec Ideal S4096x512 .bf16 := iblk m c 1 t

/-- The weight block that the point before left in the scratch. -/
abbrev before : Vec Ideal S4096x512 .bf16 := (outsAt0 m c (t.val - 1) (Nat.lt_of_le_of_lt (Nat.sub_le _ _) t.isLt)).2

theorem scratch_first (h0 : t.val % 33 = 0) : (outsAt0 m c t.val t.isLt).2 = k0_pay1 (colsBlk m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = before m c t := by
  rw [outsAt0_B m c t h0]
  rfl

theorem block_first (h0 : t.val % 33 = 0) :
    (outsAt0 m c t.val t.isLt).1 = k0_pay2 (rowsBlk m c t) (k0_pay1 (colsBlk m c t)) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (rowsBlk m c t) (before m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (rowsBlk m c t) (outsAt0 m c t.val t.isLt).2 := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![0, t.val / 33]
    ∧ win0_2.index t = ![t.val % 33, t.val / 33] := by
  revert t
  decide +kernel

/-- The activations and the weights. -/
abbrev acts : Vec Ideal S16896x4096 .bf16 := m ((c.tc : Thread nD τ).loc main_arg0)
abbrev weights : Vec Ideal S2x4096x16416 .f32 := m ((c.tc : Thread nD τ).loc main_arg1)

theorem rows_read (r : Fin 512) (k : Fin 4096) :
    rowsBlk m c t (ix2 r k) = acts m c (ix2 ⟨t.val % 33 * 512 + r, by omega⟩ k) := by
  blk_ext [iblk, V, idx_in t]

theorem sliced_at (w : Vec Ideal S2x4096x16416 .f32) (k : Fin 4096) (n : Fin 8192) :
    (truncf .bf16 (shapeCast S4096x8192 (extractStridedSlice S1x4096x8192 ![0, 0, 8224] w slices_S2x4096x16416_S1x4096x8192_0_0_8224)
      shapeCasts_S1x4096x8192_S4096x8192) bitsLt_bf16_f32 : FVec Ideal S4096x8192 .bf16) (ix2 k n) = w (ix3 0 k ⟨8224 + n, by omega⟩) := by
  pointwise []

theorem weights_entry : V m c main_v2 = (truncf .bf16 (shapeCast S4096x8192
      (extractStridedSlice S1x4096x8192 ![0, 0, 8224] (weights m c) slices_S2x4096x16416_S1x4096x8192_0_0_8224)
      shapeCasts_S1x4096x8192_S4096x8192) bitsLt_bf16_f32 : FVec Ideal S4096x8192 .bf16) := by
  entry_read
  rfl

theorem cols_read (k : Fin 4096) (n : Fin 512) :
    colsBlk m c t (ix2 k n) = weights m c (ix3 0 k ⟨8224 + (t.val / 33 * 512 + n), by have := lt_528 t; omega⟩) := by
  have h : colsBlk m c t (ix2 k n) = (V m c main_v2 : Vec Ideal S4096x8192 .bf16)
      (ix2 k ⟨t.val / 33 * 512 + n, by have := lt_528 t; omega⟩) := by
    blk_ext [iblk, idx_in t]
  rw [h, weights_entry]
  exact sliced_at _ k _

/-- After every point the scratch holds the weight columns of the point's block column. -/
theorem scratch_read (k : Fin 4096) (n : Fin 512) :
    (outsAt0 m c t.val t.isLt).2 (ix2 k n) = weights m c (ix3 0 k ⟨8224 + (t.val / 33 * 512 + n), by have := lt_528 t; omega⟩) := by
  obtain ⟨p, hp⟩ := t
  induction p with
  | zero =>
    rw [scratch_first m c ⟨0, hp⟩ rfl, cached_at]
    exact cols_read m c ⟨0, hp⟩ k n
  | succ p ih =>
    by_cases h0 : (p + 1) % 33 = 0
    · rw [scratch_first m c ⟨p + 1, hp⟩ h0, cached_at]
      exact cols_read m c ⟨p + 1, hp⟩ k n
    · rw [scratch_later m c ⟨p + 1, hp⟩ h0]
      refine (ih (Nat.lt_of_succ_lt hp)).trans (congrArg (weights m c) (congrArg (ix3 0 k) (Fin.ext ?_)))
      show 8224 + (p / 33 * 512 + n.val) = 8224 + ((p + 1) / 33 * 512 + n.val)
      omega

/-! ## The result array -/

/-- The product as an array. -/
def projArr (x : Vec Ideal S16896x4096 .bf16) (w : Vec Ideal S2x4096x16416 .f32) : Vec Ideal S16896x8192 .f32 := fun u =>
  inner (fun k => x (ix2 (u 0) k)) (fun k => w (ix3 0 k ⟨8224 + u 1, by have : (u 1).val < 8192 := (u 1).isLt; omega⟩))

theorem covers_out : (cfg0.win 2).Covers := by
  refine (cfg0.win 2).covers_of_index_surj rfl (by decide) fun β => ?_
  have b0 : (β 0).val < 33 := lt_of_lt_of_eq (β 0).isLt (by decide)
  have b1 : (β 1).val < 16 := lt_of_lt_of_eq (β 1).isLt (by decide)
  have hlt : (β 1).val * 33 + (β 0).val < 528 := by omega
  refine ⟨⟨_, lt_of_lt_of_eq hlt N_0.symm⟩, fun a => ?_⟩
  refine (congrFun (idx_in ⟨_, lt_of_lt_of_eq hlt N_0.symm⟩).2.2 a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) :
    ((cfg0.win 2).blk t).view.emb (ix2 r n) = (ix2 ⟨t.val % 33 * 512 + r, by omega⟩ ⟨t.val / 33 * 512 + n, by have := lt_528 t; omega⟩ : S16896x8192.Idx) := by
  funext a
  refine Fin.ext ((win0_2.rect_emb_val t (ix2 r n : S512x512.Idx) a).trans ?_)
  rw [(idx_in t).2.2]
  match a with
  | ⟨0, _⟩ => rfl
  | ⟨1, _⟩ => rfl

theorem result_array : (dats m 0 c).arrAt 2 cfg0.N = projArr (acts m c) (weights m c) := by
  refine (dats m 0 c).arrAt_eq_of_covers 2 _ covers_out fun t hf y => ?_
  blk_simp
  rw [after0_2]
  obtain ⟨r, n, rfl⟩ : ∃ r n : Fin 512, y = (ix2 r n : S512x512.Idx) := ⟨y 0, y 1, by idx_vars y⟩
  refine Eq.trans ?_ (congrArg (projArr (acts m c) (weights m c)) (result_at t r n).symm)
  rw [block_at, product_at]
  unfold projArr
  refine congrArg₂ inner (funext fun k => rows_read m c t r k) (funext fun k => scratch_read m c t k n)

end Cert.Proj.Gates

end
-- ==== Proof.Proj.GatesClaim.lean ====
/- The reference's product is the same array as the kernel's, and the claims about the two. -/
module

public import proofs.«01_k».proof.Defs
public import proofs.«01_k».proof.Proof.Proj.Gates
public import proofs.«01_k».proof.Proof.Gen.Reference3Ideal.Run
public import Idealize.ShloMosaic.Lib.Quiescent

@[expose] public section

set_option maxRecDepth 16384

noncomputable section

namespace Cert.Proj.Gates

open Idealize.ShloMosaic Idealize.ShloMosaic.TcCoe Idealize.SL.Sem Cert.Reference3Ideal Cert.Reference3Ideal.Gen

theorem reference_array (x : FVec Ideal S16896x4096 .bf16) (w : FVec Ideal S2x4096x16416 .f32) :
    (extractStridedSlice S16896x8192 ![0, 8224] (Host.dotGeneral dot_S16896x4096_S4096x16416_S16896x16416_1_0_0_1_n_n none
      (extf .f32 x bitsLt_bf16_f32) (shapeCast S4096x16416 (extractStridedSlice S1x4096x16416 ![0, 0, 0] w
        slices_S2x4096x16416_S1x4096x16416_0_0_0) shapeCasts_S1x4096x16416_S4096x16416))
      slices_S16896x16416_S16896x8192_0_8224 : FVec Ideal S16896x8192 .f32) = projArr x w := by
  funext u
  idx_vars u
  pointwise [projArr, inner]

/-- The kernel and the reference end with equal products. -/
theorem algebraic : @algebraic_Kernel3Ideal_Reference3Ideal Cert.Kernel3Ideal.Gen.facts Cert.Reference3Ideal.Gen.facts := by
  intro m g m' g' _ hm
  refine ⟨fun c => projArr (acts m c) (weights m c), ?_, ?_⟩
  · refine (θ_run _ _ _).mono (fun r h c => ?_) (Cert.Kernel3Ideal.Value.run_blocks m g)
    exact ⟨(h c).1.trans (result_array m c), (h c).2⟩
  · refine (θ_run _ _ _).mono (fun r h c => ?_) (Cert.Reference3Ideal.Value.run m' g')
    refine ⟨(h c).1.trans ?_, (h c).2⟩
    rw [(hm c).1, (hm c).2]
    exact reference_array _ _

/-- The reference runs, keeps its arguments, and has no semaphore counter that could end off zero. -/
theorem reference_frame : @quiescent_Reference3Ideal Cert.Reference3Ideal.Gen.facts := fun m g _ =>
  (θ_run _ _ _).mono (fun r h => ⟨fun c => (h c).2, sem_eq_zero_of_no_sems (by decide) r.2⟩)
    (Cert.Reference3Ideal.Value.run m g)

end Cert.Proj.Gates

end
-- ==== Proof.Proj.Up.lean ====
/- The experts' hidden units, block by block, with the two weight blocks converted once and kept. -/
module

public import proofs.«01_k».proof.Proof.Proj.Spec
public import proofs.«01_k».proof.Proof.Gen.Kernel4Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Up

open Idealize.ShloMosaic Idealize.ShloMosaic.TcCoe Idealize.SL.Sem Idealize.ShloMosaic.Pipeline Cert.Kernel4Ideal Cert.Kernel4Ideal.Gen

/-! ## The block's values -/

theorem cached_at (w : Vec Ideal S1x1x4096x256 .f32) (k : Fin 4096) (f : Fin 256) :
    k0_pay1 w (ix2 k f) = w (ix4 0 0 k f) := by
  pointwise [k0_pay1]

theorem cached'_at (w : Vec Ideal S1x1x4096x256 .f32) (k : Fin 4096) (f : Fin 256) :
    k0_pay2 w (ix2 k f) = w (ix4 0 0 k f) := by
  pointwise [k0_pay2]

theorem hidden_at (x : Vec Ideal S1x512x4096 .bf16) (wg wu : Vec Ideal S4096x256 .bf16) (r : Fin 512) (f : Fin 256) :
    k0_pay3 x wg wu (ix3 0 r f) = swiglu (inner (fun k => x (ix3 0 r k)) (fun k => wg (ix2 k f)))
      (inner (fun k => x (ix3 0 r k)) (fun k => wu (ix2 k f))) := by
  pointwise [k0_pay3]
  rw [zero_sub]
  rfl

/-! ## The points -/

variable (m : (ℓ : Loc nD τ sig) → Buf (Elt Ideal) ℓ) (c : Dev nD) (t : Fin cfg0.N)

theorem lt_256 : t.val < 256 := lt_of_lt_of_eq t.isLt N_0

/-- The point's rows, gate weights and up weights. -/
abbrev X0 : Vec Ideal S1x512x4096 .bf16 := iblk m c 0 t
abbrev X1 : Vec Ideal S1x1x4096x256 .f32 := iblk m c 1 t
abbrev X2 : Vec Ideal S1x1x4096x256 .f32 := iblk m c 2 t

/-- What the point before left: the output block and the two weight blocks. -/
abbrev before := outsAt0 m c (t.val - 1) (Nat.lt_of_le_of_lt (Nat.sub_le _ _) t.isLt)

theorem gate_first (h0 : t.val % 4 = 0) : (outsAt0 m c t.val t.isLt).2.1 = k0_pay1 (X1 m c t) := by
  rw [outsAt0_A m c t h0 h0]
  frame_open
  simp (disch := decide) only [↓ View.readCov_skip, ↓ View.readCov_cons_toLoadRect, ↓ View.readCov_fill]
  frame_out

theorem gate_later (h0 : ¬t.val % 4 = 0) : (outsAt0 m c t.val t.isLt).2.1 = (before m c t).2.1 := by
  rw [outsAt0_B m c t h0 h0]
  rfl

theorem up_first (h0 : t.val % 4 = 0) : (outsAt0 m c t.val t.isLt).2.2 = k0_pay2 (X2 m c t) := by
  rw [outsAt0_A m c t h0 h0]
  frame_open
  simp (disch := decide) only [↓ View.readCov_skip, ↓ View.readCov_cons_toLoadRect, ↓ View.readCov_fill]
  frame_out

theorem up_later (h0 : ¬t.val % 4 = 0) : (outsAt0 m c t.val t.isLt).2.2 = (before m c t).2.2 := by
  rw [outsAt0_B m c t h0 h0]
  rfl

theorem block_first (h0 : t.val % 4 = 0) :
    (outsAt0 m c t.val t.isLt).1 = k0_pay3 (X0 m c t) (k0_pay1 (X1 m c t)) (k0_pay2 (X2 m c t)) := by
  rw [outsAt0_A m c t h0 h0]
  frame_open
  simp (disch := decide) only [↓ View.readCov_skip, ↓ View.readCov_cons_toLoadRect, ↓ View.readCov_fill]
  frame_out

theorem block_later (h0 : ¬t.val % 4 = 0) :
    (outsAt0 m c t.val t.isLt).1 = k0_pay3 (X0 m c t) (before m c t).2.1 (before m c t).2.2 := by
  rw [outsAt0_B m c t h0 h0]
  frame_open
  simp (disch := decide) only [↓ View.readCov_skip, ↓ View.readCov_cons_toLoadRect, ↓ View.readCov_fill]
  frame_out
  simp only [read_unread_whole]

/-- Every point multiplies its rows by the weight blocks that it leaves in the scratch. -/
theorem block_at : (outsAt0 m c t.val t.isLt).1
    = k0_pay3 (X0 m c t) (outsAt0 m c t.val t.isLt).2.1 (outsAt0 m c t.val t.isLt).2.2 := by
  by_cases h0 : t.val % 4 = 0
  · rw [block_first m c t h0, gate_first m c t h0, up_first m c t h0]
  · rw [block_later m c t h0, gate_later m c t h0, up_later m c t h0]

/-! ## What the blocks hold -/

theorem idx_in (t : Fin cfg0.N) : win0_0.index t = ![t.val / 16, t.val % 4, 0]
    ∧ win0_1.index t = ![0, t.val / 16, 0, t.val / 4 % 4] ∧ win0_2.index t = ![0, t.val / 16, 0, t.val / 4 % 4]
    ∧ win0_3.index t = ![t.val / 16, t.val % 4, t.val / 4 % 4] := by
  revert t
  decide +kernel

/-- The rows, the gate weights and the up weights. -/
abbrev rows : Vec Ideal S16x2048x4096 .bf16 := m ((c.tc : Thread nD τ).loc main_arg0)
abbrev gateW : Vec Ideal S2x16x4096x1024 .f32 := m ((c.tc : Thread nD τ).loc main_arg1)
abbrev upW : Vec Ideal S2x16x4096x1024 .f32 := m ((c.tc : Thread nD τ).loc main_arg2)

/-- The point's expert. -/
def expert : Fin 16 := ⟨t.val / 16, by have := lt_256 t; omega⟩

theorem rows_read (r : Fin 512) (k : Fin 4096) :
    X0 m c t (ix3 0 r k) = rows m c (ix3 (expert t) ⟨t.val % 4 * 512 + r, by omega⟩ k) := by
  blk_ext [iblk, V, idx_in t, expert]

theorem gateW_read (k : Fin 4096) (f : Fin 256) :
    X1 m c t (ix4 0 0 k f) = gateW m c (ix4 0 (expert t) k ⟨t.val / 4 % 4 * 256 + f, by omega⟩) := by
  blk_ext [iblk, V, idx_in t, expert]

theorem upW_read (k : Fin 4096) (f : Fin 256) :
    X2 m c t (ix4 0 0 k f) = upW m c (ix4 0 (expert t) k ⟨t.val / 4 % 4 * 256 + f, by omega⟩) := by
  blk_ext [iblk, V, idx_in t, expert]

/-- A point that does not start a block column has the expert and the column of the point before it. -/
theorem same_column (p : ℕ) (hp : p + 1 < cfg0.N) (h0 : ¬(p + 1) % 4 = 0) (w : Vec Ideal S2x16x4096x1024 .f32)
    (k : Fin 4096) (f : Fin 256) :
    w (ix4 0 (expert ⟨p, Nat.lt_of_succ_lt hp⟩) k ⟨p / 4 % 4 * 256 + f, by omega⟩)
      = w (ix4 0 (expert ⟨p + 1, hp⟩) k ⟨(p + 1) / 4 % 4 * 256 + f, by omega⟩) := by
  have e0 : expert ⟨p, Nat.lt_of_succ_lt hp⟩ = expert ⟨p + 1, hp⟩ :=
    Fin.ext (by show p / 16 = (p + 1) / 16; omega)
  have e1 : p / 4 % 4 = (p + 1) / 4 % 4 := by omega
  simp only [e0, e1]

/-- After every point the scratches hold the expert's weight columns of the point's block column. -/
theorem scratch_read (k : Fin 4096) (f : Fin 256) :
    (outsAt0 m c t.val t.isLt).2.1 (ix2 k f) = gateW m c (ix4 0 (expert t) k ⟨t.val / 4 % 4 * 256 + f, by omega⟩)
    ∧ (outsAt0 m c t.val t.isLt).2.2 (ix2 k f) = upW m c (ix4 0 (expert t) k ⟨t.val / 4 % 4 * 256 + f, by omega⟩) := by
  obtain ⟨p, hp⟩ := t
  induction p with
  | zero =>
    rw [gate_first m c ⟨0, hp⟩ rfl, up_first m c ⟨0, hp⟩ rfl, cached_at, cached'_at]
    exact ⟨gateW_read m c ⟨0, hp⟩ k f, upW_read m c ⟨0, hp⟩ k f⟩
  | succ p ih =>
    by_cases h0 : (p + 1) % 4 = 0
    · rw [gate_first m c ⟨p + 1, hp⟩ h0, up_first m c ⟨p + 1, hp⟩ h0, cached_at, cached'_at]
      exact ⟨gateW_read m c ⟨p + 1, hp⟩ k f, upW_read m c ⟨p + 1, hp⟩ k f⟩
    · rw [gate_later m c ⟨p + 1, hp⟩ h0, up_later m c ⟨p + 1, hp⟩ h0]
      exact ⟨(ih (Nat.lt_of_succ_lt hp)).1.trans (same_column p hp h0 _ k f),
        (ih (Nat.lt_of_succ_lt hp)).2.trans (same_column p hp h0 _ k f)⟩

/-! ## The result array -/

/-- The hidden units as an array. -/
def hiddenArr (x : Vec Ideal S16x2048x4096 .bf16) (wg wu : Vec Ideal S2x16x4096x1024 .f32) : Vec Ideal S16x2048x1024 .bf16 := fun u =>
  swiglu (inner (fun k => x (ix3 (u 0) (u 1) k)) (fun k => wg (ix4 0 (u 0) k (u 2))))
    (inner (fun k => x (ix3 (u 0) (u 1) k)) (fun k => wu (ix4 0 (u 0) k (u 2))))

theorem covers_out : (cfg0.win 3).Covers := by
  refine (cfg0.win 3).covers_of_index_surj rfl (by decide) fun β => ?_
  have b0 : (β 0).val < 16 := lt_of_lt_of_eq (β 0).isLt (by decide)
  have b1 : (β 1).val < 4 := lt_of_lt_of_eq (β 1).isLt (by decide)
  have b2 : (β 2).val < 4 := lt_of_lt_of_eq (β 2).isLt (by decide)
  have hlt : (β 0).val * 16 + (β 2).val * 4 + (β 1).val < 256 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 16 + (β 2).val * 4 + (β 1).val) / 16 = (β 0).val
    omega
  | ⟨1, _⟩ =>
    show ((β 0).val * 16 + (β 2).val * 4 + (β 1).val) % 4 = (β 1).val
    omega
  | ⟨2, _⟩ =>
    show ((β 0).val * 16 + (β 2).val * 4 + (β 1).val) / 4 % 4 = (β 2).val
    omega

theorem result_at (r : Fin 512) (f : Fin 256) :
    ((cfg0.win 3).blk t).view.emb (ix3 0 r f) = (ix3 (expert t) ⟨t.val % 4 * 512 + r, by omega⟩
      ⟨t.val / 4 % 4 * 256 + f, by omega⟩ : S16x2048x1024.Idx) := by
  funext a
  refine Fin.ext ((win0_3.rect_emb_val t (ix3 0 r f : S1x512x256.Idx) a).trans ?_)
  rw [(idx_in t).2.2.2]
  match a with
  | ⟨0, _⟩ => show t.val / 16 * 1 + 0 = t.val / 16; omega
  | ⟨1, _⟩ => rfl
  | ⟨2, _⟩ => rfl

theorem result_array : (dats m 0 c).arrAt 3 cfg0.N = hiddenArr (rows m c) (gateW m c) (upW m c) := by
  refine (dats m 0 c).arrAt_eq_of_covers 3 _ covers_out fun t hf y => ?_
  blk_simp
  rw [after0_3]
  obtain ⟨r, f, rfl⟩ : ∃ (r : Fin 512) (f : Fin 256), y = (ix3 0 r f : S1x512x256.Idx) := ⟨y 1, y 2, by
    idx_vars y
    rw [Subsingleton.elim y0 0]⟩
  refine Eq.trans ?_ (congrArg (hiddenArr (rows m c) (gateW m c) (upW m c)) (result_at t r f).symm)
  rw [block_at, hidden_at]
  unfold hiddenArr
  have hx : (fun k => X0 m c t (ix3 0 r k)) = fun k => rows m c (ix3 (expert t) ⟨t.val % 4 * 512 + r, by omega⟩ k) :=
    funext fun k => rows_read m c t r k
  rw [hx]
  exact congrArg₂ swiglu (congrArg (inner _) (funext fun k => (scratch_read m c t k f).1))
    (congrArg (inner _) (funext fun k => (scratch_read m c t k f).2))

end Cert.Proj.Up

end
-- ==== Proof.Proj.UpClaim.lean ====
/- The reference's result is the same array as the kernel's, and the claims about the two. -/
module

public import proofs.«01_k».proof.Defs
public import proofs.«01_k».proof.Proof.Proj.Up
public import proofs.«01_k».proof.Proof.Gen.Reference4Ideal.Run
public import Idealize.ShloMosaic.Lib.Quiescent

@[expose] public section

set_option maxRecDepth 16384

noncomputable section

namespace Cert.Proj.Up

open Idealize.ShloMosaic Idealize.ShloMosaic.TcCoe Idealize.SL.Sem Cert.Reference4Ideal Cert.Reference4Ideal.Gen

/-- The rows' product with the first layer's weights. -/
def product (x : FVec Ideal S16x2048x4096 .bf16) (w : FVec Ideal S2x16x4096x1024 .f32) : FVec Ideal S16x2048x1024 .f32 :=
  Host.dotGeneral dot_S16x2048x4096_S16x4096x1024_S16x2048x1024_2_1_1_2_0_0 none (extf .f32 x bitsLt_bf16_f32)
    (shapeCast S16x4096x1024 (extractStridedSlice S1x16x4096x1024 ![0, 0, 0, 0] w slices_S2x16x4096x1024_S1x16x4096x1024_0_0_0_0)
      shapeCasts_S1x16x4096x1024_S16x4096x1024)

theorem product_at (x : FVec Ideal S16x2048x4096 .bf16) (w : FVec Ideal S2x16x4096x1024 .f32) (e : Fin 16) (r : Fin 2048)
    (f : Fin 1024) : product x w (ix3 e r f) = inner (fun k => x (ix3 e r k)) (fun k => w (ix4 0 e k f)) := by
  pointwise [product, inner]

/-- The gated unit as the reference writes it. -/
def unit (g u : FVec Ideal S16x2048x1024 .f32) : FVec Ideal S16x2048x1024 .bf16 :=
  truncf .bf16 (mulf (mulf g (Host.divf (broadcastInDim S16x2048x1024 ![] bcast_S_S16x2048x1024 (constant S_ .f32 0x3F800000#32))
    (addf (broadcastInDim S16x2048x1024 ![] bcast_S_S16x2048x1024 (constant S_ .f32 0x3F800000#32))
      (Host.exp (Host.negf g))))) u) bitsLt_bf16_f32

theorem unit_at (g u : FVec Ideal S16x2048x1024 .f32) (e : Fin 16) (r : Fin 2048) (f : Fin 1024) :
    unit g u (ix3 e r f) = swiglu (g (ix3 e r f)) (u (ix3 e r f)) := by
  pointwise [unit]
  rfl

theorem reference_array (x : FVec Ideal S16x2048x4096 .bf16) (wg wu : FVec Ideal S2x16x4096x1024 .f32) :
    unit (product x wg) (product x wu) = hiddenArr x wg wu := by
  funext u
  idx_vars u
  rw [unit_at, product_at, product_at]
  rfl

/-- The kernel and the reference end with equal results. -/
theorem algebraic : @algebraic_Kernel4Ideal_Reference4Ideal Cert.Kernel4Ideal.Gen.facts Cert.Reference4Ideal.Gen.facts := by
  intro m g m' g' _ hm
  refine ⟨fun c => hiddenArr (rows m c) (gateW m c) (upW m c), ?_, ?_⟩
  · refine (θ_run _ _ _).mono (fun r h c => ?_) (Cert.Kernel4Ideal.Value.run_blocks m g)
    exact ⟨(h c).1.trans (result_array m c), (h c).2⟩
  · refine (θ_run _ _ _).mono (fun r h c => ?_) (Cert.Reference4Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference4Ideal Cert.Reference4Ideal.Gen.facts := fun m g _ =>
  (θ_run _ _ _).mono (fun r h => ⟨fun c => (h c).2, sem_eq_zero_of_no_sems (by decide) r.2⟩)
    (Cert.Reference4Ideal.Value.run m g)

end Cert.Proj.Up

end
-- ==== Proof.Proj.Down.lean ====
/- The experts' gated outputs, block by block, with each weight block converted once and kept. -/
module

public import proofs.«01_k».proof.Proof.Proj.Spec
public import proofs.«01_k».proof.Proof.Gen.Kernel5Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Down

open Idealize.ShloMosaic Idealize.ShloMosaic.TcCoe Idealize.SL.Sem Idealize.ShloMosaic.Pipeline Cert.Kernel5Ideal Cert.Kernel5Ideal.Gen

/-! ## The block's values -/

theorem cached_at (w : Vec Ideal S1x1x1024x1024 .f32) (k n : Fin 1024) : k0_pay1 w (ix2 k n) = w (ix4 0 0 k n) := by
  pointwise [k0_pay1]

theorem gated_at (x : Vec Ideal S1x512x1024 .bf16) (w : Vec Ideal S1024x1024 .bf16) (g : Vec Ideal S1x512x1 .f32) (r : Fin 512)
    (n : Fin 1024) : k0_pay2 x w g (ix3 0 r n) = inner (fun k => x (ix3 0 r k)) (fun k => w (ix2 k n)) * g (ix3 0 r 0) := by
  pointwise [k0_pay2, inner]

/-! ## The points -/

variable (m : (ℓ : Loc nD τ sig) → Buf (Elt Ideal) ℓ) (c : Dev nD) (t : Fin cfg0.N)

theorem lt_256 : t.val < 256 := lt_of_lt_of_eq t.isLt N_0

/-- The point's hidden units, weights and gates. -/
abbrev X0 : Vec Ideal S1x512x1024 .bf16 := iblk m c 0 t
abbrev X1 : Vec Ideal S1x1x1024x1024 .f32 := iblk m c 1 t
abbrev X2 : Vec Ideal S1x512x1 .f32 := iblk m c 2 t

/-- What the point before left: the output block and the weight block. -/
abbrev before := outsAt0 m c (t.val - 1) (Nat.lt_of_le_of_lt (Nat.sub_le _ _) t.isLt)

theorem scratch_first (h0 : t.val % 4 = 0) : (outsAt0 m c t.val t.isLt).2 = k0_pay1 (X1 m c t) := by
  rw [outsAt0_A m c t h0]
  frame_open
  simp (disch := decide) only [↓ View.readCov_skip, ↓ View.readCov_cons_toLoadRect, ↓ View.readCov_fill]
  frame_out

theorem scratch_later (h0 : ¬t.val % 4 = 0) : (outsAt0 m c t.val t.isLt).2 = (before m c t).2 := by
  rw [outsAt0_B m c t h0]
  rfl

theorem block_first (h0 : t.val % 4 = 0) :
    (outsAt0 m c t.val t.isLt).1 = k0_pay2 (X0 m c t) (k0_pay1 (X1 m c t)) (X2 m c t) := by
  rw [outsAt0_A m c t h0]
  frame_open
  simp (disch := decide) only [↓ View.readCov_skip, ↓ View.readCov_cons_toLoadRect, ↓ View.readCov_fill]
  frame_out

theorem block_later (h0 : ¬t.val % 4 = 0) :
    (outsAt0 m c t.val t.isLt).1 = k0_pay2 (X0 m c t) (before m c t).2 (X2 m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (X0 m c t) (outsAt0 m c t.val t.isLt).2 (X2 m c t) := by
  by_cases h0 : t.val % 4 = 0
  · rw [block_first m c t h0, scratch_first m c t h0]
  · rw [block_later m c t h0, scratch_later m c t h0]

/-! ## What the blocks hold -/

theorem idx_in (t : Fin cfg0.N) : win0_0.index t = ![t.val / 16, t.val % 4, 0]
    ∧ win0_1.index t = ![0, t.val / 16, 0, t.val / 4 % 4] ∧ win0_2.index t = ![t.val / 16, t.val % 4, 0]
    ∧ win0_3.index t = ![t.val / 16, t.val % 4, t.val / 4 % 4] := by
  revert t
  decide +kernel

/-- The hidden units, the weights and the gates. -/
abbrev hidden : Vec Ideal S16x2048x1024 .bf16 := m ((c.tc : Thread nD τ).loc main_arg0)
abbrev weights : Vec Ideal S2x16x1024x4096 .f32 := m ((c.tc : Thread nD τ).loc main_arg1)
abbrev gates : Vec Ideal S16x2048x1 .f32 := m ((c.tc : Thread nD τ).loc main_arg2)

/-- The point's expert. -/
def expert : Fin 16 := ⟨t.val / 16, by have := lt_256 t; omega⟩

theorem hidden_read (r : Fin 512) (k : Fin 1024) :
    X0 m c t (ix3 0 r k) = hidden m c (ix3 (expert t) ⟨t.val % 4 * 512 + r, by omega⟩ k) := by
  blk_ext [iblk, V, idx_in t, expert]

theorem weights_read (k n : Fin 1024) :
    X1 m c t (ix4 0 0 k n) = weights m c (ix4 0 (expert t) k ⟨t.val / 4 % 4 * 1024 + n, by omega⟩) := by
  blk_ext [iblk, V, idx_in t, expert]

theorem gates_read (r : Fin 512) :
    X2 m c t (ix3 0 r 0) = gates m c (ix3 (expert t) ⟨t.val % 4 * 512 + r, by omega⟩ 0) := by
  blk_ext [iblk, V, idx_in t, expert]

/-- After every point the scratch holds the expert's weight columns of the point's block column. -/
theorem scratch_read (k n : Fin 1024) :
    (outsAt0 m c t.val t.isLt).2 (ix2 k n) = weights m c (ix4 0 (expert t) k ⟨t.val / 4 % 4 * 1024 + n, by omega⟩) := by
  obtain ⟨p, hp⟩ := t
  induction p with
  | zero =>
    rw [scratch_first m c ⟨0, hp⟩ rfl, cached_at]
    exact weights_read m c ⟨0, hp⟩ k n
  | succ p ih =>
    by_cases h0 : (p + 1) % 4 = 0
    · rw [scratch_first m c ⟨p + 1, hp⟩ h0, cached_at]
      exact weights_read m c ⟨p + 1, hp⟩ k n
    · rw [scratch_later m c ⟨p + 1, hp⟩ h0]
      refine (ih (Nat.lt_of_succ_lt hp)).trans ?_
      have e0 : expert ⟨p, Nat.lt_of_succ_lt hp⟩ = expert ⟨p + 1, hp⟩ :=
        Fin.ext (by show p / 16 = (p + 1) / 16; omega)
      have e1 : p / 4 % 4 = (p + 1) / 4 % 4 := by omega
      simp only [e0, e1]

/-! ## The result array -/

/-- The experts' gated outputs as an array. -/
def outArr (x : Vec Ideal S16x2048x1024 .bf16) (w : Vec Ideal S2x16x1024x4096 .f32) (g : Vec Ideal S16x2048x1 .f32) :
    Vec Ideal S16x2048x4096 .f32 := fun u =>
  inner (fun k => x (ix3 (u 0) (u 1) k)) (fun k => w (ix4 0 (u 0) k (u 2))) * g (ix3 (u 0) (u 1) 0)

theorem covers_out : (cfg0.win 3).Covers := by
  refine (cfg0.win 3).covers_of_index_surj rfl (by decide) fun β => ?_
  have b0 : (β 0).val < 16 := lt_of_lt_of_eq (β 0).isLt (by decide)
  have b1 : (β 1).val < 4 := lt_of_lt_of_eq (β 1).isLt (by decide)
  have b2 : (β 2).val < 4 := lt_of_lt_of_eq (β 2).isLt (by decide)
  have hlt : (β 0).val * 16 + (β 2).val * 4 + (β 1).val < 256 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 16 + (β 2).val * 4 + (β 1).val) / 16 = (β 0).val
    omega
  | ⟨1, _⟩ =>
    show ((β 0).val * 16 + (β 2).val * 4 + (β 1).val) % 4 = (β 1).val
    omega
  | ⟨2, _⟩ =>
    show ((β 0).val * 16 + (β 2).val * 4 + (β 1).val) / 4 % 4 = (β 2).val
    omega

theorem result_at (r : Fin 512) (n : Fin 1024) :
    ((cfg0.win 3).blk t).view.emb (ix3 0 r n) = (ix3 (expert t) ⟨t.val % 4 * 512 + r, by omega⟩
      ⟨t.val / 4 % 4 * 1024 + n, by omega⟩ : S16x2048x4096.Idx) := by
  funext a
  refine Fin.ext ((win0_3.rect_emb_val t (ix3 0 r n : S1x512x1024.Idx) a).trans ?_)
  rw [(idx_in t).2.2.2]
  match a with
  | ⟨0, _⟩ => show t.val / 16 * 1 + 0 = t.val / 16; omega
  | ⟨1, _⟩ => rfl
  | ⟨2, _⟩ => rfl

theorem result_array : (dats m 0 c).arrAt 3 cfg0.N = outArr (hidden m c) (weights m c) (gates m c) := by
  refine (dats m 0 c).arrAt_eq_of_covers 3 _ covers_out fun t hf y => ?_
  blk_simp
  rw [after0_3]
  obtain ⟨r, n, rfl⟩ : ∃ (r : Fin 512) (n : Fin 1024), y = (ix3 0 r n : S1x512x1024.Idx) := ⟨y 1, y 2, by
    idx_vars y
    rw [Subsingleton.elim y0 0]⟩
  refine Eq.trans ?_ (congrArg (outArr (hidden m c) (weights m c) (gates m c)) (result_at t r n).symm)
  rw [block_at, gated_at, gates_read]
  unfold outArr
  exact congrArg (· * _) (congrArg₂ inner (funext fun k => hidden_read m c t r k) (funext fun k => scratch_read m c t k n))

end Cert.Proj.Down

end
-- ==== Proof.Proj.DownClaim.lean ====
/- The reference's result is the same array as the kernel's, and the claims about the two. -/
module

public import proofs.«01_k».proof.Defs
public import proofs.«01_k».proof.Proof.Proj.Down
public import proofs.«01_k».proof.Proof.Gen.Reference5Ideal.Run
public import Idealize.ShloMosaic.Lib.Quiescent

@[expose] public section

set_option maxRecDepth 16384

noncomputable section

namespace Cert.Proj.Down

open Idealize.ShloMosaic Idealize.ShloMosaic.TcCoe Idealize.SL.Sem Cert.Reference5Ideal Cert.Reference5Ideal.Gen

theorem reference_array (x : FVec Ideal S16x2048x1024 .bf16) (w : FVec Ideal S2x16x1024x4096 .f32) (g : FVec Ideal S16x2048x1 .f32) :
    (mulf (Host.dotGeneral dot_S16x2048x1024_S16x1024x4096_S16x2048x4096_2_1_1_2_0_0 none (extf .f32 x bitsLt_bf16_f32)
      (shapeCast S16x1024x4096 (extractStridedSlice S1x16x1024x4096 ![0, 0, 0, 0] w slices_S2x16x1024x4096_S1x16x1024x4096_0_0_0_0)
        shapeCasts_S1x16x1024x4096_S16x1024x4096))
      (broadcastInDim S16x2048x4096 ![0, 1, 2] bcast_S16x2048x1_S16x2048x4096_0_1_2 g) : FVec Ideal S16x2048x4096 .f32)
      = outArr x w g := by
  funext u
  idx_vars u
  pointwise [outArr, inner]

/-- The kernel and the reference end with equal results. -/
theorem algebraic : @algebraic_Kernel5Ideal_Reference5Ideal Cert.Kernel5Ideal.Gen.facts Cert.Reference5Ideal.Gen.facts := by
  intro m g m' g' _ hm
  refine ⟨fun c => outArr (hidden m c) (weights m c) (gates m c), ?_, ?_⟩
  · refine (θ_run _ _ _).mono (fun r h c => ?_) (Cert.Kernel5Ideal.Value.run_blocks m g)
    exact ⟨(h c).1.trans (result_array m c), (h c).2⟩
  · refine (θ_run _ _ _).mono (fun r h c => ?_) (Cert.Reference5Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference5Ideal Cert.Reference5Ideal.Gen.facts := fun m g _ =>
  (θ_run _ _ _).mono (fun r h => ⟨fun c => (h c).2, sem_eq_zero_of_no_sems (by decide) r.2⟩)
    (Cert.Reference5Ideal.Value.run m g)

end Cert.Proj.Down

end
-- ==== Proof.Proj.Merge.lean ====
/- The gated sum of the two branches, block by block, with the two weight blocks converted once and kept. -/
module

public import proofs.«01_k».proof.Proof.Proj.Spec
public import proofs.«01_k».proof.Proof.Gen.Kernel6Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Merge

open Idealize.ShloMosaic Idealize.ShloMosaic.TcCoe Idealize.SL.Sem Idealize.ShloMosaic.Pipeline Cert.Kernel6Ideal Cert.Kernel6Ideal.Gen

/-! ## The block's values -/

theorem cached_at (w : Vec Ideal S1x2048x512 .f32) (k : Fin 2048) (n : Fin 512) : k0_pay1 w (ix2 k n) = w (ix3 0 k n) := by
  pointwise [k0_pay1]

theorem cached'_at (w : Vec Ideal S1x2048x512 .f32) (k : Fin 2048) (n : Fin 512) : k0_pay2 w (ix2 k n) = w (ix3 0 k n) := by
  pointwise [k0_pay2]

section Values

variable (x : Vec Ideal S512x2048 .bf16) (wa : Vec Ideal S2048x512 .bf16) (y : Vec Ideal S512x2048 .bf16)
  (wb : Vec Ideal S2048x512 .bf16) (ga gb : Vec Ideal S512x512 .f32) (r n : Fin 512)

theorem merged_at : k0_pay3 x wa y wb ga gb (ix2 r n)
    = sigmoid (ga (ix2 r n)) * inner (fun k => x (ix2 r k)) (fun k => wa (ix2 k n))
      + sigmoid (gb (ix2 r n)) * inner (fun k => y (ix2 r k)) (fun k => wb (ix2 k n)) := by
  pointwise [k0_pay3]
  simp only [zero_sub]
  rfl

theorem merged'_at : k0_pay4 x wa y wb ga gb (ix2 r n)
    = sigmoid (ga (ix2 r n)) * inner (fun k => x (ix2 r k)) (fun k => wa (ix2 k n))
      + sigmoid (gb (ix2 r n)) * inner (fun k => y (ix2 r k)) (fun k => wb (ix2 k n)) := by
  pointwise [k0_pay4]
  simp only [zero_sub]
  rfl

end Values

/-! ## The points -/

variable (m : (ℓ : Loc nD τ sig) → Buf (Elt Ideal) ℓ) (c : Dev nD) (t : Fin cfg0.N)

theorem lt_264 : t.val < 264 := lt_of_lt_of_eq t.isLt N_0

/-- The point's Fourier rows (latent, context), attention rows (latent, context), weights and gates. -/
abbrev X0 : Vec Ideal S512x2048 .bf16 := iblk m c 0 t
abbrev X1 : Vec Ideal S512x2048 .bf16 := iblk m c 1 t
abbrev X2 : Vec Ideal S512x2048 .bf16 := iblk m c 2 t
abbrev X3 : Vec Ideal S512x2048 .bf16 := iblk m c 3 t
abbrev X4 : Vec Ideal S1x2048x512 .f32 := iblk m c 4 t
abbrev X5 : Vec Ideal S1x2048x512 .f32 := iblk m c 5 t
abbrev X6 : Vec Ideal S512x512 .f32 := iblk m c 6 t
abbrev X7 : Vec Ideal S512x512 .f32 := iblk m c 7 t

/-- What the point before left: the output block and the two weight blocks. -/
abbrev before := outsAt0 m c (t.val - 1) (Nat.lt_of_le_of_lt (Nat.sub_le _ _) t.isLt)

theorem first_lat (h0 : t.val % 33 = 0) : t.val % 33 ≤ 31 ∧ ¬t.val % 33 = 32 := by omega

theorem a_first (h0 : t.val % 33 = 0) : (outsAt0 m c t.val t.isLt).2.1 = k0_pay1 (X4 m c t) := by
  rw [outsAt0_A m c t h0 h0 (first_lat t h0).1 (first_lat t h0).2]
  frame_open
  simp (disch := decide) only [↓ View.readCov_skip, ↓ View.readCov_cons_toLoadRect, ↓ View.readCov_fill]
  frame_out

theorem b_first (h0 : t.val % 33 = 0) : (outsAt0 m c t.val t.isLt).2.2 = k0_pay2 (X5 m c t) := by
  rw [outsAt0_A m c t h0 h0 (first_lat t h0).1 (first_lat t h0).2]
  frame_open
  simp (disch := decide) only [↓ View.readCov_skip, ↓ View.readCov_cons_toLoadRect, ↓ View.readCov_fill]
  frame_out

theorem a_later (h0 : ¬t.val % 33 = 0) : (outsAt0 m c t.val t.isLt).2.1 = (before m c t).2.1 := by
  by_cases h2 : t.val % 33 ≤ 31
  · rw [outsAt0_B m c t h0 h0 h2 (by omega)]
    rfl
  · rw [outsAt0_C m c t h0 h0 h2 (by omega)]
    rfl

theorem b_later (h0 : ¬t.val % 33 = 0) : (outsAt0 m c t.val t.isLt).2.2 = (before m c t).2.2 := by
  by_cases h2 : t.val % 33 ≤ 31
  · rw [outsAt0_B m c t h0 h0 h2 (by omega)]
    rfl
  · rw [outsAt0_C m c t h0 h0 h2 (by omega)]
    rfl

theorem block_first (h0 : t.val % 33 = 0) : (outsAt0 m c t.val t.isLt).1
    = k0_pay3 (X0 m c t) (k0_pay1 (X4 m c t)) (X2 m c t) (k0_pay2 (X5 m c t)) (X6 m c t) (X7 m c t) := by
  rw [outsAt0_A m c t h0 h0 (first_lat t h0).1 (first_lat t h0).2]
  frame_open
  simp (disch := decide) only [↓ View.readCov_skip, ↓ View.readCov_cons_toLoadRect, ↓ View.readCov_fill]
  frame_out

theorem block_later (h0 : ¬t.val % 33 = 0) (h2 : t.val % 33 ≤ 31) (h3 : ¬t.val % 33 = 32) : (outsAt0 m c t.val t.isLt).1
    = k0_pay3 (X0 m c t) (before m c t).2.1 (X2 m c t) (before m c t).2.2 (X6 m c t) (X7 m c t) := by
  rw [outsAt0_B m c t h0 h0 h2 h3]
  frame_open
  simp (disch := decide) only [↓ View.readCov_skip, ↓ View.readCov_cons_toLoadRect, ↓ View.readCov_fill]
  frame_out
  simp only [read_unread_whole]

theorem block_last (h0 : ¬t.val % 33 = 0) (h2 : ¬t.val % 33 ≤ 31) (h3 : t.val % 33 = 32) : (outsAt0 m c t.val t.isLt).1
    = k0_pay4 (X1 m c t) (before m c t).2.1 (X3 m c t) (before m c t).2.2 (X6 m c t) (X7 m c t) := by
  rw [outsAt0_C m c t h0 h0 h2 h3]
  frame_open
  simp (disch := decide) only [↓ View.readCov_skip, ↓ View.readCov_cons_toLoadRect, ↓ View.readCov_fill]
  frame_out
  simp only [read_unread_whole]

/-- Every latent point merges its rows through the weight blocks that it leaves in the scratches. -/
theorem block_lat (h2 : t.val % 33 ≤ 31) : (outsAt0 m c t.val t.isLt).1 = k0_pay3 (X0 m c t) (outsAt0 m c t.val t.isLt).2.1
    (X2 m c t) (outsAt0 m c t.val t.isLt).2.2 (X6 m c t) (X7 m c t) := by
  by_cases h0 : t.val % 33 = 0
  · rw [block_first m c t h0, a_first m c t h0, b_first m c t h0]
  · rw [block_later m c t h0 h2 (by omega), a_later m c t h0, b_later m c t h0]

/-- Every context point does so with the context's rows. -/
theorem block_ctx (h3 : t.val % 33 = 32) : (outsAt0 m c t.val t.isLt).1 = k0_pay4 (X1 m c t) (outsAt0 m c t.val t.isLt).2.1
    (X3 m c t) (outsAt0 m c t.val t.isLt).2.2 (X6 m c t) (X7 m c t) := by
  have h0 : ¬t.val % 33 = 0 := by omega
  rw [block_last m c t h0 (by omega) h3, a_later m c t h0, b_later m c t h0]

/-! ## What the blocks hold -/

theorem idx_in (t : Fin cfg0.N) : win0_0.index t = ![min (t.val % 33) 31, 0] ∧ win0_1.index t = ![0, 0]
    ∧ win0_2.index t = ![min (t.val % 33) 31, 0] ∧ win0_3.index t = ![0, 0] ∧ win0_4.index t = ![0, 0, t.val / 33]
    ∧ win0_5.index t = ![0, 0, t.val / 33] ∧ win0_6.index t = ![t.val % 33, t.val / 33]
    ∧ win0_7.index t = ![t.val % 33, 8 + t.val / 33] := by
  revert t
  decide +kernel

theorem idx_out (t : Fin cfg0.N) : win0_8.index t = ![t.val % 33, t.val / 33] := by
  revert t
  decide +kernel

/-- The two branches' rows (latent, context), the two weights and the gates. -/
abbrev fourLat : Vec Ideal S16384x2048 .bf16 := m ((c.tc : Thread nD τ).loc main_arg0)
abbrev fourCtx : Vec Ideal S512x2048 .bf16 := m ((c.tc : Thread nD τ).loc main_arg1)
abbrev attnLat : Vec Ideal S16384x2048 .bf16 := m ((c.tc : Thread nD τ).loc main_arg2)
abbrev attnCtx : Vec Ideal S512x2048 .bf16 := m ((c.tc : Thread nD τ).loc main_arg3)
abbrev weightsA : Vec Ideal S2x2048x4096 .f32 := m ((c.tc : Thread nD τ).loc main_arg4)
abbrev weightsB : Vec Ideal S2x2048x4096 .f32 := m ((c.tc : Thread nD τ).loc main_arg5)
abbrev gates : Vec Ideal S16896x8192 .f32 := m ((c.tc : Thread nD τ).loc main_arg6)

/-- The token and the channel of an entry of the point's output block. -/
def row (r : Fin 512) : Fin 16896 := ⟨t.val % 33 * 512 + r, by omega⟩
def col (n : Fin 512) : Fin 4096 := ⟨t.val / 33 * 512 + n, by have := lt_264 t; omega⟩

/-- The latent rows and then the context's. -/
def rows (lat : Vec Ideal S16384x2048 .bf16) (ctx : Vec Ideal S512x2048 .bf16) (s : Fin 16896) (k : Fin 2048) : EReal :=
  if h : s.val < 16384 then lat (ix2 ⟨s.val, h⟩ k) else ctx (ix2 ⟨s.val - 16384, by omega⟩ k)

theorem X0_read (h2 : t.val % 33 ≤ 31) (r : Fin 512) (k : Fin 2048) :
    X0 m c t (ix2 r k) = rows (fourLat m c) (fourCtx m c) (row t r) k := by
  have hs : (row t r).val < 16384 := by show t.val % 33 * 512 + r.val < 16384; omega
  have e : min (t.val % 33) 31 = t.val % 33 := by omega
  unfold rows
  rw [dif_pos hs]
  blk_ext [iblk, V, idx_in t, row, e]

theorem X2_read (h2 : t.val % 33 ≤ 31) (r : Fin 512) (k : Fin 2048) :
    X2 m c t (ix2 r k) = rows (attnLat m c) (attnCtx m c) (row t r) k := by
  have hs : (row t r).val < 16384 := by show t.val % 33 * 512 + r.val < 16384; omega
  have e : min (t.val % 33) 31 = t.val % 33 := by omega
  unfold rows
  rw [dif_pos hs]
  blk_ext [iblk, V, idx_in t, row, e]

theorem X1_read (h3 : t.val % 33 = 32) (r : Fin 512) (k : Fin 2048) :
    X1 m c t (ix2 r k) = rows (fourLat m c) (fourCtx m c) (row t r) k := by
  have hs : ¬(row t r).val < 16384 := by show ¬t.val % 33 * 512 + r.val < 16384; omega
  have e : (⟨(row t r).val - 16384, by have := (row t r).isLt; omega⟩ : Fin 512) = r :=
    Fin.ext (by show t.val % 33 * 512 + r.val - 16384 = r.val; omega)
  unfold rows
  rw [dif_neg hs, e]
  blk_ext [iblk, V, idx_in t]

theorem X3_read (h3 : t.val % 33 = 32) (r : Fin 512) (k : Fin 2048) :
    X3 m c t (ix2 r k) = rows (attnLat m c) (attnCtx m c) (row t r) k := by
  have hs : ¬(row t r).val < 16384 := by show ¬t.val % 33 * 512 + r.val < 16384; omega
  have e : (⟨(row t r).val - 16384, by have := (row t r).isLt; omega⟩ : Fin 512) = r :=
    Fin.ext (by show t.val % 33 * 512 + r.val - 16384 = r.val; omega)
  unfold rows
  rw [dif_neg hs, e]
  blk_ext [iblk, V, idx_in t]

theorem weightsA_read (k : Fin 2048) (n : Fin 512) : X4 m c t (ix3 0 k n) = weightsA m c (ix3 0 k (col t n)) := by
  blk_ext [iblk, V, idx_in t, col]

theorem weightsB_read (k : Fin 2048) (n : Fin 512) : X5 m c t (ix3 0 k n) = weightsB m c (ix3 0 k (col t n)) := by
  blk_ext [iblk, V, idx_in t, col]

theorem gateA_read (r n : Fin 512) :
    X6 m c t (ix2 r n) = gates m c (ix2 (row t r) ⟨col t n, by have := (col t n).isLt; omega⟩) := by
  blk_ext [iblk, V, idx_in t, row, col]

theorem gateB_read (r n : Fin 512) :
    X7 m c t (ix2 r n) = gates m c (ix2 (row t r) ⟨4096 + col t n, by have := (col t n).isLt; omega⟩) := by
  have e : (⟨4096 + col t n, by have := (col t n).isLt; omega⟩ : Fin 8192)
      = ⟨(8 + t.val / 33) * 512 + n, by have := lt_264 t; omega⟩ :=
    Fin.ext (by show 4096 + (t.val / 33 * 512 + n.val) = (8 + t.val / 33) * 512 + n.val; omega)
  rw [e]
  blk_ext [iblk, V, idx_in t, row]

/-- After every point the scratches hold the weight columns of the point's block column. -/
theorem scratchA_read (k : Fin 2048) (n : Fin 512) :
    (outsAt0 m c t.val t.isLt).2.1 (ix2 k n) = weightsA m c (ix3 0 k (col t n)) := by
  obtain ⟨p, hp⟩ := t
  induction p with
  | zero =>
    rw [a_first m c ⟨0, hp⟩ rfl, cached_at]
    exact weightsA_read m c ⟨0, hp⟩ k n
  | succ p ih =>
    by_cases h0 : (p + 1) % 33 = 0
    · rw [a_first m c ⟨p + 1, hp⟩ h0, cached_at]
      exact weightsA_read m c ⟨p + 1, hp⟩ k n
    · rw [a_later m c ⟨p + 1, hp⟩ h0]
      refine (ih (Nat.lt_of_succ_lt hp)).trans (congrArg (weightsA m c) (congrArg (ix3 0 k) (Fin.ext ?_)))
      show p / 33 * 512 + n.val = (p + 1) / 33 * 512 + n.val
      omega

theorem scratchB_read (k : Fin 2048) (n : Fin 512) :
    (outsAt0 m c t.val t.isLt).2.2 (ix2 k n) = weightsB m c (ix3 0 k (col t n)) := by
  obtain ⟨p, hp⟩ := t
  induction p with
  | zero =>
    rw [b_first m c ⟨0, hp⟩ rfl, cached'_at]
    exact weightsB_read m c ⟨0, hp⟩ k n
  | succ p ih =>
    by_cases h0 : (p + 1) % 33 = 0
    · rw [b_first m c ⟨p + 1, hp⟩ h0, cached'_at]
      exact weightsB_read m c ⟨p + 1, hp⟩ k n
    · rw [b_later m c ⟨p + 1, hp⟩ h0]
      refine (ih (Nat.lt_of_succ_lt hp)).trans (congrArg (weightsB m c) (congrArg (ix3 0 k) (Fin.ext ?_)))
      show p / 33 * 512 + n.val = (p + 1) / 33 * 512 + n.val
      omega

/-! ## The result array -/

/-- The two branches' gated sum. -/
def mergeArr (fl : Vec Ideal S16384x2048 .bf16) (fc : Vec Ideal S512x2048 .bf16) (al : Vec Ideal S16384x2048 .bf16)
    (ac : Vec Ideal S512x2048 .bf16) (wa wb : Vec Ideal S2x2048x4096 .f32) (g : Vec Ideal S16896x8192 .f32) :
    Vec Ideal S16896x4096 .bf16 := fun u =>
  sigmoid (g (ix2 (u 0) ⟨u 1, by have : (u 1).val < 4096 := (u 1).isLt; omega⟩))
      * inner (rows fl fc (u 0)) (fun k => wa (ix3 0 k (u 1)))
    + sigmoid (g (ix2 (u 0) ⟨4096 + u 1, by have : (u 1).val < 4096 := (u 1).isLt; omega⟩))
      * inner (rows al ac (u 0)) (fun k => wb (ix3 0 k (u 1)))

theorem covers_out : (cfg0.win 8).Covers := by
  refine (cfg0.win 8).covers_of_index_surj rfl (by decide) fun β => ?_
  have b0 : (β 0).val < 33 := lt_of_lt_of_eq (β 0).isLt (by decide)
  have b1 : (β 1).val < 8 := lt_of_lt_of_eq (β 1).isLt (by decide)
  have hlt : (β 1).val * 33 + (β 0).val < 264 := by omega
  refine ⟨⟨_, lt_of_lt_of_eq hlt N_0.symm⟩, fun a => ?_⟩
  refine (congrFun (idx_out ⟨_, lt_of_lt_of_eq hlt N_0.symm⟩) a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) : ((cfg0.win 8).blk t).view.emb (ix2 r n) = (ix2 (row t r) (col t n) : S16896x4096.Idx) := by
  funext a
  refine Fin.ext ((win0_8.rect_emb_val t (ix2 r n : S512x512.Idx) a).trans ?_)
  rw [idx_out t]
  match a with
  | ⟨0, _⟩ => rfl
  | ⟨1, _⟩ => rfl

/-- The kernel's result, from its arguments. -/
abbrev result : Vec Ideal S16896x4096 .bf16 :=
  mergeArr (fourLat m c) (fourCtx m c) (attnLat m c) (attnCtx m c) (weightsA m c) (weightsB m c) (gates m c)

theorem result_array : (dats m 0 c).arrAt 8 cfg0.N = result m c := by
  refine (dats m 0 c).arrAt_eq_of_covers 8 _ covers_out fun t hf y => ?_
  blk_simp
  rw [after0_8]
  obtain ⟨r, n, rfl⟩ : ∃ r n : Fin 512, y = (ix2 r n : S512x512.Idx) := ⟨y 0, y 1, by idx_vars y⟩
  refine Eq.trans ?_ (congrArg (result m c) (result_at t r n).symm)
  have hA : (fun k => (outsAt0 m c t.val t.isLt).2.1 (ix2 k n)) = fun k => weightsA m c (ix3 0 k (col t n)) :=
    funext fun k => scratchA_read m c t k n
  have hB : (fun k => (outsAt0 m c t.val t.isLt).2.2 (ix2 k n)) = fun k => weightsB m c (ix3 0 k (col t n)) :=
    funext fun k => scratchB_read m c t k n
  unfold result mergeArr
  by_cases h2 : t.val % 33 ≤ 31
  · rw [block_lat m c t h2, merged_at, hA, hB, gateA_read, gateB_read]
    exact congrArg₂ (· + ·)
      (congrArg₂ (· * ·) rfl (congrArg (inner · _) (funext fun k => X0_read m c t h2 r k)))
      (congrArg₂ (· * ·) rfl (congrArg (inner · _) (funext fun k => X2_read m c t h2 r k)))
  · have h3 : t.val % 33 = 32 := by omega
    rw [block_ctx m c t h3, merged'_at, hA, hB, gateA_read, gateB_read]
    exact congrArg₂ (· + ·)
      (congrArg₂ (· * ·) rfl (congrArg (inner · _) (funext fun k => X1_read m c t h3 r k)))
      (congrArg₂ (· * ·) rfl (congrArg (inner · _) (funext fun k => X3_read m c t h3 r k)))

end Cert.Proj.Merge

end
-- ==== Proof.Proj.MergeClaim.lean ====
/- The reference's result is the same array as the kernel's, and the claims about the two. -/
module

public import proofs.«01_k».proof.Defs
public import proofs.«01_k».proof.Proof.Proj.Merge
public import proofs.«01_k».proof.Proof.Gen.Reference6Ideal.Run
public import Idealize.ShloMosaic.Lib.Quiescent

@[expose] public section

set_option maxRecDepth 16384

noncomputable section

namespace Cert.Proj.Merge

open Idealize.ShloMosaic Idealize.ShloMosaic.TcCoe Idealize.SL.Sem Cert.Reference6Ideal Cert.Reference6Ideal.Gen

/-- The latent rows and then the context's, times the first layer's weights. -/
def product (lat : FVec Ideal S16384x2048 .bf16) (ctx : FVec Ideal S512x2048 .bf16) (w : FVec Ideal S2x2048x4096 .f32) :
    FVec Ideal S16896x4096 .f32 :=
  Host.dotGeneral dot_S16896x2048_S2048x4096_S16896x4096_1_0_0_1_n_n none (extf .f32 (concatenate S16896x2048 0
      [⟨S16384x2048, lat⟩, ⟨S512x2048, ctx⟩] concatenates_S16384x2048_S512x2048_S16896x2048_d0) bitsLt_bf16_f32)
    (shapeCast S2048x4096 (extractStridedSlice S1x2048x4096 ![0, 0, 0] w slices_S2x2048x4096_S1x2048x4096_0_0_0)
      shapeCasts_S1x2048x4096_S2048x4096)

theorem product_at (lat : FVec Ideal S16384x2048 .bf16) (ctx : FVec Ideal S512x2048 .bf16) (w : FVec Ideal S2x2048x4096 .f32)
    (s : Fin 16896) (n : Fin 4096) : product lat ctx w (ix2 s n) = inner (rows lat ctx s) (fun k => w (ix3 0 k n)) := by
  pointwise [product, inner, rows]

/-- The gated sum as the reference writes it. -/
def gated (g : FVec Ideal S16896x8192 .f32) (ya yb : FVec Ideal S16896x4096 .f32) : FVec Ideal S16896x4096 .bf16 :=
  truncf .bf16 (addf
    (mulf (Host.divf (broadcastInDim S16896x4096 ![] bcast_S_S16896x4096 (constant S_ .f32 0x3F800000#32))
      (addf (broadcastInDim S16896x4096 ![] bcast_S_S16896x4096 (constant S_ .f32 0x3F800000#32)) (Host.exp (Host.negf
        (extractStridedSlice S16896x4096 ![0, 0] g slices_S16896x8192_S16896x4096_0_0))))) ya)
    (mulf (Host.divf (broadcastInDim S16896x4096 ![] bcast_S_S16896x4096 (constant S_ .f32 0x3F800000#32))
      (addf (broadcastInDim S16896x4096 ![] bcast_S_S16896x4096 (constant S_ .f32 0x3F800000#32)) (Host.exp (Host.negf
        (extractStridedSlice S16896x4096 ![0, 4096] g slices_S16896x8192_S16896x4096_0_4096))))) yb)) bitsLt_bf16_f32

theorem gated_at (g : FVec Ideal S16896x8192 .f32) (ya yb : FVec Ideal S16896x4096 .f32) (s : Fin 16896) (n : Fin 4096) :
    gated g ya yb (ix2 s n) = sigmoid (g (ix2 s ⟨n, by omega⟩)) * ya (ix2 s n)
      + sigmoid (g (ix2 s ⟨4096 + n, by omega⟩)) * yb (ix2 s n) := by
  pointwise [gated]
  rfl

theorem reference_array (fl : FVec Ideal S16384x2048 .bf16) (fc : FVec Ideal S512x2048 .bf16) (al : FVec Ideal S16384x2048 .bf16)
    (ac : FVec Ideal S512x2048 .bf16) (wa wb : FVec Ideal S2x2048x4096 .f32) (g : FVec Ideal S16896x8192 .f32) :
    gated g (product fl fc wa) (product al ac wb) = mergeArr fl fc al ac wa wb g := by
  funext u
  idx_vars u
  rw [gated_at, product_at, product_at]
  rfl

/-- The kernel and the reference end with equal results. -/
theorem algebraic : @algebraic_Kernel6Ideal_Reference6Ideal Cert.Kernel6Ideal.Gen.facts Cert.Reference6Ideal.Gen.facts := by
  intro m g m' g' _ hm
  refine ⟨fun c => result m c, ?_, ?_⟩
  · refine (θ_run _ _ _).mono (fun r h c => ?_) (Cert.Kernel6Ideal.Value.run_blocks m g)
    exact ⟨(h c).1.trans (result_array m c), (h c).2⟩
  · refine (θ_run _ _ _).mono (fun r h c => ?_) (Cert.Reference6Ideal.Value.run m' g')
    refine ⟨(h c).1.trans ?_, (h c).2⟩
    obtain ⟨e0, e1, e2, e3, e4, e5, e6⟩ := hm c
    rw [e0, e1, e2, e3, e4, e5, e6]
    exact reference_array _ _ _ _ _ _ _

/-- The reference runs, keeps its arguments, and has no semaphore counter that could end off zero. -/
theorem reference_frame : @quiescent_Reference6Ideal Cert.Reference6Ideal.Gen.facts := fun m g _ =>
  (θ_run _ _ _).mono (fun r h => ⟨fun c => (h c).2, sem_eq_zero_of_no_sems (by decide) r.2⟩)
    (Cert.Reference6Ideal.Value.run m g)

end Cert.Proj.Merge

end
-- ==== Proof.Proj.Out.lean ====
/- The output projection's gated residual, block by block, with each weight block converted once and kept. -/
module

public import proofs.«01_k».proof.Proof.Proj.Spec
public import proofs.«01_k».proof.Proof.Gen.Kernel7Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Out

open Idealize.ShloMosaic Idealize.ShloMosaic.TcCoe Idealize.SL.Sem Idealize.ShloMosaic.Pipeline Cert.Kernel7Ideal Cert.Kernel7Ideal.Gen

/-! ## The block's values -/

theorem cached_at (w : Vec Ideal S1x4096x512 .f32) (k : Fin 4096) (n : Fin 512) : k0_pay1 w (ix2 k n) = w (ix3 0 k n) := by
  pointwise [k0_pay1]

theorem residual_at (a : Vec Ideal S512x4096 .bf16) (w : Vec Ideal S4096x512 .bf16) (x : Vec Ideal S512x512 .f32)
    (g : Vec Ideal S1x1x512 .f32) (r n : Fin 512) :
    k0_pay2 a w x g (ix2 r n) = x (ix2 r n) + g (ix3 0 0 n) * inner (fun k => a (ix2 r k)) (fun k => w (ix2 k n)) := by
  pointwise [k0_pay2, inner]

/-! ## The points -/

variable (m : (ℓ : Loc nD τ sig) → Buf (Elt Ideal) ℓ) (c : Dev nD) (t : Fin cfg0.N)

theorem lt_264 : t.val < 264 := lt_of_lt_of_eq t.isLt N_0

/-- The point's merged rows, weights, stream and gates. -/
abbrev X0 : Vec Ideal S512x4096 .bf16 := iblk m c 0 t
abbrev X1 : Vec Ideal S1x4096x512 .f32 := iblk m c 1 t
abbrev X2 : Vec Ideal S512x512 .f32 := iblk m c 2 t
abbrev X3 : Vec Ideal S1x1x512 .f32 := iblk m c 3 t

/-- What the point before left: the output block and the weight block. -/
abbrev before := outsAt0 m c (t.val - 1) (Nat.lt_of_le_of_lt (Nat.sub_le _ _) t.isLt)

theorem scratch_first (h0 : t.val % 33 = 0) : (outsAt0 m c t.val t.isLt).2 = k0_pay1 (X1 m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = (before m c t).2 := by
  rw [outsAt0_B m c t h0]
  rfl

theorem block_first (h0 : t.val % 33 = 0) :
    (outsAt0 m c t.val t.isLt).1 = k0_pay2 (X0 m c t) (k0_pay1 (X1 m c t)) (X2 m c t) (X3 m c t) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (X0 m c t) (before m c t).2 (X2 m c t) (X3 m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1
    = k0_pay2 (X0 m c t) (outsAt0 m c t.val t.isLt).2 (X2 m c t) (X3 m c t) := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![0, 0, t.val / 33]
    ∧ win0_2.index t = ![t.val % 33, t.val / 33] ∧ win0_3.index t = ![min (t.val % 33 / 16) 2 * 6 + 2, 0, t.val / 33] := by
  revert t
  decide +kernel

theorem idx_out (t : Fin cfg0.N) : win0_4.index t = ![t.val % 33, t.val / 33] := by
  revert t
  decide +kernel

/-- The merged rows, the weights, the stream and the modulation rows. -/
abbrev merged : Vec Ideal S16896x4096 .bf16 := m ((c.tc : Thread nD τ).loc main_arg0)
abbrev weights : Vec Ideal S2x4096x4096 .f32 := m ((c.tc : Thread nD τ).loc main_arg1)
abbrev stream : Vec Ideal S16896x4096 .f32 := m ((c.tc : Thread nD τ).loc main_arg2)
abbrev modulation : Vec Ideal S48x1x4096 .f32 := m ((c.tc : Thread nD τ).loc main_arg3)

/-- The token and the channel of an entry of the point's output block. -/
def row (r : Fin 512) : Fin 16896 := ⟨t.val % 33 * 512 + r, by omega⟩
def col (n : Fin 512) : Fin 4096 := ⟨t.val / 33 * 512 + n, by have := lt_264 t; omega⟩

/-- The modulation row that gates a token: the third of the six of its sample, the context's for a context token. -/
def gateRow (s : Fin 16896) : Fin 48 := ⟨min (s.val / 8192) 2 * 6 + 2, by omega⟩

theorem merged_read (r : Fin 512) (k : Fin 4096) : X0 m c t (ix2 r k) = merged m c (ix2 (row t r) k) := by
  blk_ext [iblk, V, idx_in t, row]

theorem weights_read (k : Fin 4096) (n : Fin 512) : X1 m c t (ix3 0 k n) = weights m c (ix3 0 k (col t n)) := by
  blk_ext [iblk, V, idx_in t, col]

theorem stream_read (r n : Fin 512) : X2 m c t (ix2 r n) = stream m c (ix2 (row t r) (col t n)) := by
  blk_ext [iblk, V, idx_in t, row, col]

theorem gate_read (r n : Fin 512) : X3 m c t (ix3 0 0 n) = modulation m c (ix3 (gateRow (row t r)) 0 (col t n)) := by
  have e : gateRow (row t r) = ⟨min (t.val % 33 / 16) 2 * 6 + 2, by omega⟩ := Fin.ext (by
    show min ((t.val % 33 * 512 + r.val) / 8192) 2 * 6 + 2 = min (t.val % 33 / 16) 2 * 6 + 2
    have : (t.val % 33 * 512 + r.val) / 8192 = t.val % 33 / 16 := by omega
    rw [this])
  rw [e]
  blk_ext [iblk, V, idx_in t, col]

/-- After every point the scratch holds the weight columns of the point's block column. -/
theorem scratch_read (k : Fin 4096) (n : Fin 512) :
    (outsAt0 m c t.val t.isLt).2 (ix2 k n) = weights m c (ix3 0 k (col t n)) := by
  obtain ⟨p, hp⟩ := t
  induction p with
  | zero =>
    rw [scratch_first m c ⟨0, hp⟩ rfl, cached_at]
    exact weights_read m c ⟨0, hp⟩ k n
  | succ p ih =>
    by_cases h0 : (p + 1) % 33 = 0
    · rw [scratch_first m c ⟨p + 1, hp⟩ h0, cached_at]
      exact weights_read m c ⟨p + 1, hp⟩ k n
    · rw [scratch_later m c ⟨p + 1, hp⟩ h0]
      refine (ih (Nat.lt_of_succ_lt hp)).trans (congrArg (weights m c) (congrArg (ix3 0 k) (Fin.ext ?_)))
      show p / 33 * 512 + n.val = (p + 1) / 33 * 512 + n.val
      omega

/-! ## The result array -/

/-- The stream after the output projection's gated residual. -/
def streamArr (a : Vec Ideal S16896x4096 .bf16) (w : Vec Ideal S2x4096x4096 .f32) (x : Vec Ideal S16896x4096 .f32)
    (g : Vec Ideal S48x1x4096 .f32) : Vec Ideal S16896x4096 .f32 := fun u =>
  x (ix2 (u 0) (u 1)) + g (ix3 (gateRow (u 0)) 0 (u 1)) * inner (fun k => a (ix2 (u 0) k)) (fun k => w (ix3 0 k (u 1)))

theorem covers_out : (cfg0.win 4).Covers := by
  refine (cfg0.win 4).covers_of_index_surj rfl (by decide) fun β => ?_
  have b0 : (β 0).val < 33 := lt_of_lt_of_eq (β 0).isLt (by decide)
  have b1 : (β 1).val < 8 := lt_of_lt_of_eq (β 1).isLt (by decide)
  have hlt : (β 1).val * 33 + (β 0).val < 264 := by omega
  refine ⟨⟨_, lt_of_lt_of_eq hlt N_0.symm⟩, fun a => ?_⟩
  refine (congrFun (idx_out ⟨_, lt_of_lt_of_eq hlt N_0.symm⟩) a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) : ((cfg0.win 4).blk t).view.emb (ix2 r n) = (ix2 (row t r) (col t n) : S16896x4096.Idx) := by
  funext a
  refine Fin.ext ((win0_4.rect_emb_val t (ix2 r n : S512x512.Idx) a).trans ?_)
  rw [idx_out t]
  match a with
  | ⟨0, _⟩ => rfl
  | ⟨1, _⟩ => rfl

theorem result_array : (dats m 0 c).arrAt 4 cfg0.N = streamArr (merged m c) (weights m c) (stream m c) (modulation m c) := by
  refine (dats m 0 c).arrAt_eq_of_covers 4 _ covers_out fun t hf y => ?_
  blk_simp
  rw [after0_4]
  obtain ⟨r, n, rfl⟩ : ∃ r n : Fin 512, y = (ix2 r n : S512x512.Idx) := ⟨y 0, y 1, by idx_vars y⟩
  refine Eq.trans ?_ (congrArg (streamArr (merged m c) (weights m c) (stream m c) (modulation m c)) (result_at t r n).symm)
  rw [block_at, residual_at, stream_read, gate_read m c t r n]
  unfold streamArr
  exact congrArg₂ (· + ·) rfl (congrArg₂ (· * ·) rfl
    (congrArg₂ inner (funext fun k => merged_read m c t r k) (funext fun k => scratch_read m c t k n)))

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v0) = streamArr (merged m c) (weights m c) (stream m c) (modulation m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  have keep : ∀ (c : Dev nD) (w : Fin 5), (cfg0.win w).isOut = false →
      (dats m 0 c).arrAt w cfg0.N = V m c (arrRef spec0 w) := fun c w hw =>
    ((dats m 0 c).arrAt_in w hw _).trans (A_eq m c w)
  refine (θ_run defs _ _).mono (fun r h c => ?_) (run_main m ρ)
  have hw := (h c).1
  exact ⟨(hw 4).trans (result_array m c), (hw 0).trans (keep c 0 rfl), (hw 1).trans (keep c 1 rfl),
    (hw 2).trans (keep c 2 rfl), (hw 3).trans (keep c 3 rfl)⟩

end Cert.Proj.Out

end
-- ==== Proof.Proj.OutClaim.lean ====
/- The reference's result is the same array as the kernel's, and the claims about the two. -/
module

public import proofs.«01_k».proof.Defs
public import proofs.«01_k».proof.Proof.Proj.Out
public import proofs.«01_k».proof.Proof.Gen.Reference7Ideal.Run
public import Idealize.ShloMosaic.Lib.Quiescent

@[expose] public section

set_option maxRecDepth 16384

noncomputable section

namespace Cert.Proj.Out

open Idealize.ShloMosaic Idealize.ShloMosaic.TcCoe Idealize.SL.Sem Cert.Reference7Ideal Cert.Reference7Ideal.Gen

/-- The merged rows' product with the first layer's weights. -/
def product (a : FVec Ideal S16896x4096 .bf16) (w : FVec Ideal S2x4096x4096 .f32) : FVec Ideal S16896x4096 .f32 :=
  Host.dotGeneral dot_S16896x4096_S4096x4096_S16896x4096_1_0_0_1_n_n none (extf .f32 a bitsLt_bf16_f32)
    (shapeCast S4096x4096 (extractStridedSlice S1x4096x4096 ![0, 0, 0] w slices_S2x4096x4096_S1x4096x4096_0_0_0)
      shapeCasts_S1x4096x4096_S4096x4096)

theorem product_at (a : FVec Ideal S16896x4096 .bf16) (w : FVec Ideal S2x4096x4096 .f32) (s : Fin 16896) (n : Fin 4096) :
    product a w (ix2 s n) = inner (fun k => a (ix2 s k)) (fun k => w (ix3 0 k n)) := by
  pointwise [product, inner]

/-- The gate of every sample and of the context. -/
def gateRows (g : FVec Ideal S48x1x4096 .f32) : FVec Ideal S8x4096 .f32 :=
  shapeCast S8x4096 (extractStridedSlice S8x1x4096 ![0, 2, 0] (shapeCast S8x6x4096 g shapeCasts_S48x1x4096_S8x6x4096)
    slices_S8x6x4096_S8x1x4096_0_2_0) shapeCasts_S8x1x4096_S8x4096

theorem gateRows_at (g : FVec Ideal S48x1x4096 .f32) (b : Fin 8) (n : Fin 4096) :
    gateRows g (ix2 b n) = g (ix3 ⟨b * 6 + 2, by omega⟩ 0 n) := by
  pointwise [gateRows]

/-- The latent rows' gated residual. -/
def latent (x : FVec Ideal S16896x4096 .f32) (g : FVec Ideal S8x4096 .f32) (y : FVec Ideal S16896x4096 .f32) :
    FVec Ideal S16384x4096 .f32 :=
  shapeCast S16384x4096 (addf
    (shapeCast S2x8192x4096 (extractStridedSlice S16384x4096 ![0, 0] x slices_S16896x4096_S16384x4096_0_0)
      shapeCasts_S16384x4096_S2x8192x4096)
    (mulf (broadcastInDim S2x8192x4096 ![0, 1, 2] bcast_S2x1x4096_S2x8192x4096_0_1_2
        (broadcastInDim S2x1x4096 ![0, 2] bcast_S2x4096_S2x1x4096_0_2
          (extractStridedSlice S2x4096 ![0, 0] g slices_S8x4096_S2x4096_0_0)))
      (shapeCast S2x8192x4096 (extractStridedSlice S16384x4096 ![0, 0] y slices_S16896x4096_S16384x4096_0_0)
        shapeCasts_S16384x4096_S2x8192x4096)))
    shapeCasts_S2x8192x4096_S16384x4096

theorem latent_at (x : FVec Ideal S16896x4096 .f32) (g : FVec Ideal S8x4096 .f32) (y : FVec Ideal S16896x4096 .f32)
    (s : Fin 16384) (n : Fin 4096) : latent x g y (ix2 s n)
      = x (ix2 ⟨s, by omega⟩ n) + g (ix2 ⟨s / 8192, by omega⟩ n) * y (ix2 ⟨s, by omega⟩ n) := by
  pointwise [latent]

/-- The context rows' gated residual. -/
def context (x : FVec Ideal S16896x4096 .f32) (g : FVec Ideal S8x4096 .f32) (y : FVec Ideal S16896x4096 .f32) :
    FVec Ideal S512x4096 .f32 :=
  addf (extractStridedSlice S512x4096 ![16384, 0] x slices_S16896x4096_S512x4096_16384_0)
    (mulf (broadcastInDim S512x4096 ![0, 1] bcast_S1x4096_S512x4096_0_1 (broadcastInDim S1x4096 ![1] bcast_S4096_S1x4096_1
        (shapeCast S4096 (extractStridedSlice S1x4096 ![2, 0] g slices_S8x4096_S1x4096_2_0) shapeCasts_S1x4096_S4096)))
      (extractStridedSlice S512x4096 ![16384, 0] y slices_S16896x4096_S512x4096_16384_0))

theorem context_at (x : FVec Ideal S16896x4096 .f32) (g : FVec Ideal S8x4096 .f32) (y : FVec Ideal S16896x4096 .f32)
    (s : Fin 512) (n : Fin 4096) : context x g y (ix2 s n)
      = x (ix2 ⟨16384 + s, by omega⟩ n) + g (ix2 2 n) * y (ix2 ⟨16384 + s, by omega⟩ n) := by
  pointwise [context]

/-- The latent rows and then the context's. -/
theorem stacked_at (l : FVec Ideal S16384x4096 .f32) (x : FVec Ideal S512x4096 .f32) (s : Fin 16896) (n : Fin 4096) :
    (concatenate S16896x4096 0 [⟨S16384x4096, l⟩, ⟨S512x4096, x⟩] concatenates_S16384x4096_S512x4096_S16896x4096_d0
      : FVec Ideal S16896x4096 .f32) (ix2 s n)
      = if h : s.val < 16384 then l (ix2 ⟨s, h⟩ n) else x (ix2 ⟨s - 16384, by omega⟩ n) := by
  pointwise []

theorem reference_array (a : FVec Ideal S16896x4096 .bf16) (w : FVec Ideal S2x4096x4096 .f32) (x : FVec Ideal S16896x4096 .f32)
    (g : FVec Ideal S48x1x4096 .f32) :
    (concatenate S16896x4096 0 [⟨S16384x4096, latent x (gateRows g) (product a w)⟩,
      ⟨S512x4096, context x (gateRows g) (product a w)⟩] concatenates_S16384x4096_S512x4096_S16896x4096_d0
      : FVec Ideal S16896x4096 .f32) = streamArr a w x g := by
  funext u
  idx_vars u
  rw [stacked_at]
  unfold streamArr
  split
  · next h =>
    rw [latent_at, product_at, gateRows_at]
    have e : (⟨u0.val / 8192 * 6 + 2, by omega⟩ : Fin 48) = gateRow u0 :=
      Fin.ext (by show u0.val / 8192 * 6 + 2 = min (u0.val / 8192) 2 * 6 + 2; omega)
    exact congrArg₂ (· + ·) rfl (congrArg₂ (· * ·) (congrArg g (congrArg (ix3 · 0 u1) e)) rfl)
  · next h =>
    rw [context_at, product_at, gateRows_at]
    have e : (⟨16384 + (u0.val - 16384), by omega⟩ : Fin 16896) = u0 := Fin.ext (by show 16384 + (u0.val - 16384) = u0.val; omega)
    have e2 : (⟨(2 : Fin 8).val * 6 + 2, by decide⟩ : Fin 48) = gateRow u0 :=
      Fin.ext (by show 2 * 6 + 2 = min (u0.val / 8192) 2 * 6 + 2; omega)
    rw [e]
    exact congrArg₂ (· + ·) rfl (congrArg₂ (· * ·) (congrArg g (congrArg (ix3 · 0 u1) e2)) rfl)

/-- The kernel and the reference end with equal results. -/
theorem algebraic : @algebraic_Kernel7Ideal_Reference7Ideal Cert.Kernel7Ideal.Gen.facts Cert.Reference7Ideal.Gen.facts := by
  intro m g m' g' _ hm
  refine ⟨fun c => streamArr (merged m c) (weights m c) (stream m c) (modulation m c), ?_, ?_⟩
  · exact result_run m g
  · refine (θ_run _ _ _).mono (fun r h c => ?_) (Cert.Reference7Ideal.Value.run m' g')
    refine ⟨(h c).1.trans ?_, (h c).2⟩
    obtain ⟨e0, e1, e2, e3⟩ := hm c
    rw [e0, e1, e2, e3]
    exact reference_array _ _ _ _

/-- The reference runs, keeps its arguments, and has no semaphore counter that could end off zero. -/
theorem reference_frame : @quiescent_Reference7Ideal Cert.Reference7Ideal.Gen.facts := fun m g _ =>
  (θ_run _ _ _).mono (fun r h => ⟨fun c => (h c).2, sem_eq_zero_of_no_sems (by decide) r.2⟩)
    (Cert.Reference7Ideal.Value.run m g)

end Cert.Proj.Out

end
-- ==== Proof.Proj.Rms.lean ====
/- The root mean square norm of a row, and its modulation. -/
module

public import proofs.«01_k».proof.Proof.Proj.Spec

@[expose] public section

noncomputable section

namespace Cert.Proj

open Idealize.ShloMosaic

/-- The reciprocal of a row's root mean square: the sum of squares over 4096, with the f32 nearest to 1e-6 added. -/
def invRms (x : Fin 4096 → EReal) : EReal :=
  Ideal.rsqrt (Ideal.div (inner x x) (Ideal.ofBits FTy.f32 0x45800000#32) + Ideal.ofBits FTy.f32 0x358637BD#32)

/-- The modulation row of a token: its sample's (the context's for a context token) `k`-th of six. -/
def modRow (k : ℕ) (hk : k < 6) (s : Fin 16896) : Fin 48 := ⟨min (s.val / 8192) 2 * 6 + k, by omega⟩

end Cert.Proj

end
-- ==== Proof.Proj.Norm.lean ====
/- The last norm of the stream, block by block. -/
module

public import proofs.«01_k».proof.Proof.Proj.Rms
public import proofs.«01_k».proof.Proof.Gen.Kernel8Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Norm

open Idealize.ShloMosaic Idealize.ShloMosaic.TcCoe Idealize.SL.Sem Idealize.ShloMosaic.Pipeline Cert.Kernel8Ideal Cert.Kernel8Ideal.Gen

theorem normed_at (x : Vec Ideal S256x4096 .f32) (g : Vec Ideal S1x4096 .f32) (r : Fin 256) (n : Fin 4096) :
    k0_pay1 x g (ix2 r n) = x (ix2 r n) * invRms (fun k => x (ix2 r k)) * g (ix2 0 n) := by
  pointwise [k0_pay1, invRms, inner]

/-! ## What the blocks hold -/

variable (m : (ℓ : Loc nD τ sig) → Buf (Elt Ideal) ℓ) (c : Dev nD) (t : Fin cfg0.N)

theorem lt_64 : t.val < 64 := lt_of_lt_of_eq t.isLt N_0

/-- The point's rows and the weights, as the point finds them. -/
abbrev X0 : Vec Ideal S256x4096 .f32 := iblk m c 0 t
abbrev X1 : Vec Ideal S1x4096 .f32 := iblk m c 1 t

theorem idx_in (t : Fin cfg0.N) : win0_0.index t = ![t.val, 0] ∧ win0_1.index t = ![0, 0] ∧ win0_2.index t = ![t.val, 0] := by
  revert t
  decide +kernel

/-- The stream and the norm's weights. -/
abbrev stream : Vec Ideal S16896x4096 .f32 := m ((c.tc : Thread nD τ).loc main_arg0)
abbrev weights : Vec Ideal S4096 .f32 := m ((c.tc : Thread nD τ).loc main_arg1)

theorem stream_read (r : Fin 256) (n : Fin 4096) :
    X0 m c t (ix2 r n) = stream m c (ix2 ⟨t.val * 256 + r, by have := lt_64 t; omega⟩ n) := by
  have e : V m c (arrRef spec0 0) = stream m c := V_main_arg0 m c
  show ((cfg0.win 0).blk t).view.read (Elt Ideal) (V m c (arrRef spec0 0)) (ix2 r n) = _
  rw [e]
  blk_ext [idx_in t]

/-- The weights as one row: the host's reshape before the call. -/
theorem weights_row (n : Fin 4096) : (V m c main_v0 : Vec Ideal S1x4096 .f32) (ix2 0 n) = weights m c (ix1 n) := by
  have e : (V m c main_v0 : Vec Ideal S1x4096 .f32) = broadcastInDim S1x4096 ![1] bcast_S4096_S1x4096_1 (weights m c) := by
    unfold V V0
    simp only [hostOps0, List.flatten_cons, List.flatten_nil, List.append_nil]
    after_results
  rw [e]
  pointwise []

theorem weights_read (n : Fin 4096) : X1 m c t (ix2 0 n) = weights m c (ix1 n) := by
  rw [← weights_row m c n]
  generalize hv : V m c main_v0 = v
  have e : V m c (arrRef spec0 1) = v := hv
  show ((cfg0.win 1).blk t).view.read (Elt Ideal) (V m c (arrRef spec0 1)) (ix2 0 n) = _
  rw [e]
  blk_ext [idx_in t]

/-! ## The result array -/

/-- The normed rows. -/
def rowsArr (x : Vec Ideal S16896x4096 .f32) (g : Vec Ideal S4096 .f32) : Vec Ideal S16384x4096 .f32 := fun u =>
  x (ix2 ((u 0).castLE (by decide)) (u 1)) * invRms (fun k => x (ix2 ((u 0).castLE (by decide)) k)) * g (ix1 (u 1))

theorem covers_out : (cfg0.win 2).Covers := by
  refine (cfg0.win 2).covers_of_index_surj rfl (by decide) fun β => ?_
  have b0 : (β 0).val < 64 := lt_of_lt_of_eq (β 0).isLt (by decide)
  have b1 : (β 1).val < 1 := lt_of_lt_of_eq (β 1).isLt (by decide)
  refine ⟨⟨(β 0).val, lt_of_lt_of_eq b0 N_0.symm⟩, fun a => ?_⟩
  refine (congrFun (idx_in ⟨(β 0).val, lt_of_lt_of_eq b0 N_0.symm⟩).2.2 a).trans ?_
  match a with
  | ⟨0, _⟩ => rfl
  | ⟨1, _⟩ =>
    show 0 = (β 1).val
    omega

theorem result_at (r : Fin 256) (n : Fin 4096) : ((cfg0.win 2).blk t).view.emb (ix2 r n)
    = (ix2 ⟨t.val * 256 + r, by have := lt_64 t; omega⟩ n : S16384x4096.Idx) := by
  funext a
  refine Fin.ext ((win0_2.rect_emb_val t (ix2 r n : S256x4096.Idx) a).trans ?_)
  rw [(idx_in t).2.2]
  match a with
  | ⟨0, _⟩ => rfl
  | ⟨1, _⟩ => show 0 * 4096 + n.val = n.val; omega

theorem result_array : (dats m 0 c).arrAt 2 cfg0.N = rowsArr (stream m c) (weights m c) := by
  refine (dats m 0 c).arrAt_eq_of_covers 2 _ covers_out fun t hf y => ?_
  blk_simp
  rw [after0_2]
  frame_out
  obtain ⟨r, n, rfl⟩ : ∃ (r : Fin 256) (n : Fin 4096), y = (ix2 r n : S256x4096.Idx) := ⟨y 0, y 1, by idx_vars y⟩
  refine Eq.trans ?_ (congrArg (rowsArr (stream m c) (weights m c)) (result_at t r n).symm)
  refine (normed_at (X0 m c t) (X1 m c t) r n).trans ?_
  rw [stream_read, weights_read, funext fun k => stream_read m c t r k]
  rfl

/-- The normed rows of every sample. -/
def normArr (x : Vec Ideal S16896x4096 .f32) (g : Vec Ideal S4096 .f32) : Vec Ideal S2x8192x4096 .f32 :=
  shapeCast S2x8192x4096 (rowsArr x g) shapeCasts_S16384x4096_S2x8192x4096

/-- The kernel runs to the normed rows and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v2) = normArr (stream m c) (weights m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run_main m ρ)
  refine ⟨((h c).2 main_v2 (mem_restRefs_of main_v2 (by decide) (by decide))).trans ?_,
    ((h c).1 0).trans (((dats m 0 c).arrAt_in 0 rfl _).trans ((A_eq m c 0).trans (V_main_arg0 m c))),
    ((h c).2 main_arg1 (mem_restRefs_of main_arg1 (by decide) (by decide))).trans (W_main_arg1 m (dats m) c)⟩
  have hw : withArrays spec0 c (V0 m c) (fun w => (dats m 0 c).arrAt w cfg0.N) (Proc.devRef .tc main_v1)
      = rowsArr (stream m c) (weights m c) :=
    (withArrays_arr spec0 (by decide) c (V0 m c) _ 2).trans (result_array m c)
  unfold afterTail₀ normArr
  rw [← hw]
  after_results
  rfl

end Cert.Proj.Norm

end
-- ==== Proof.Proj.NormClaim.lean ====
/- The reference's result is the same array as the kernel's, and the claims about the two. -/
module

public import proofs.«01_k».proof.Defs
public import proofs.«01_k».proof.Proof.Proj.Norm
public import proofs.«01_k».proof.Proof.Gen.Reference8Ideal.Run
public import Idealize.ShloMosaic.Lib.Quiescent

@[expose] public section

set_option maxRecDepth 16384

noncomputable section

namespace Cert.Proj.Norm

open Idealize.ShloMosaic Idealize.ShloMosaic.TcCoe Idealize.SL.Sem Cert.Reference8Ideal Cert.Reference8Ideal.Gen

/-- The latent rows of the stream. -/
def latentRows (x : FVec Ideal S16896x4096 .f32) : FVec Ideal S2x8192x4096 .f32 :=
  shapeCast S2x8192x4096 (extractStridedSlice S16384x4096 ![0, 0] x slices_S16896x4096_S16384x4096_0_0)
    shapeCasts_S16384x4096_S2x8192x4096

theorem normArr_at (x : FVec Ideal S16896x4096 .f32) (g : FVec Ideal S4096 .f32) (b : Fin 2) (s : Fin 8192) (n : Fin 4096) :
    normArr x g (ix3 b s n) = x (ix2 ⟨b * 8192 + s, by omega⟩ n) * invRms (fun k => x (ix2 ⟨b * 8192 + s, by omega⟩ k))
      * g (ix1 n) := by
  have e : normArr x g (ix3 b s n) = rowsArr x g (ix2 ⟨b * 8192 + s, by omega⟩ n) := by
    unfold normArr
    generalize rowsArr x g = y
    pointwise []
  rw [e]
  rfl

theorem reference_array (x : FVec Ideal S16896x4096 .f32) (g : FVec Ideal S4096 .f32) :
    (mulf (mulf (latentRows x) (broadcastInDim S2x8192x4096 ![0, 1, 2] bcast_S2x8192x1_S2x8192x4096_0_1_2 (Host.rsqrt (addf
      (Host.divf (broadcastInDim S2x8192x1 ![0, 1] bcast_S2x8192_S2x8192x1_0_1 (Host.reduceAdd (mulf (latentRows x) (latentRows x))
        (constant S_ .f32 0x00000000#32) reducesTo_S2x8192x4096_S2x8192_d2 h_S_))
        (broadcastInDim S2x8192x1 ![] bcast_S_S2x8192x1 (constant S_ .f32 0x45800000#32)))
      (broadcastInDim S2x8192x1 ![] bcast_S_S2x8192x1 (constant S_ .f32 0x358637BD#32))))))
      (broadcastInDim S2x8192x4096 ![0, 1, 2] bcast_S1x1x4096_S2x8192x4096_0_1_2
        (broadcastInDim S1x1x4096 ![2] bcast_S4096_S1x1x4096_2 g)) : FVec Ideal S2x8192x4096 .f32) = normArr x g := by
  funext u
  idx_vars u
  rw [normArr_at]
  pointwise [latentRows, invRms, inner]

/-- The kernel and the reference end with equal results. -/
theorem algebraic : @algebraic_Kernel8Ideal_Reference8Ideal Cert.Kernel8Ideal.Gen.facts Cert.Reference8Ideal.Gen.facts := by
  intro m g m' g' _ hm
  refine ⟨fun c => normArr (stream m c) (weights m c), ?_, ?_⟩
  · exact result_run m g
  · refine (θ_run _ _ _).mono (fun r h c => ?_) (Cert.Reference8Ideal.Value.run m' g')
    refine ⟨(h c).1.trans ?_, (h c).2⟩
    obtain ⟨e0, e1⟩ := hm c
    rw [e0, e1]
    exact reference_array _ _

/-- The reference runs, keeps its arguments, and has no semaphore counter that could end off zero. -/
theorem reference_frame : @quiescent_Reference8Ideal Cert.Reference8Ideal.Gen.facts := fun m g _ =>
  (θ_run _ _ _).mono (fun r h => ⟨fun c => (h c).2, sem_eq_zero_of_no_sems (by decide) r.2⟩)
    (Cert.Reference8Ideal.Value.run m g)

end Cert.Proj.Norm

end
-- ==== Proof.Proj.Lr.lean ====
/- The input projection's columns from 8192 on that feed the low-rank gates, with the weight block converted once and kept. -/
module

public import proofs.«01_k».proof.Proof.Proj.Spec
public import proofs.«01_k».proof.Proof.Gen.Kernel9Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Lr

open Idealize.ShloMosaic Idealize.ShloMosaic.TcCoe Idealize.SL.Sem Idealize.ShloMosaic.Pipeline Cert.Kernel9Ideal Cert.Kernel9Ideal.Gen

/-! ## The block products -/

theorem cached_at (w : Vec Ideal S1x4096x128 .f32) (k : Fin 4096) (n : Fin 128) :
    k0_pay1 w (ix2 k n) = w (ix3 0 k n) := by
  pointwise [k0_pay1]

theorem product_at (x : Vec Ideal S512x4096 .bf16) (w : Vec Ideal S4096x128 .bf16) (r : Fin 512) (n : Fin 128) :
    k0_pay2 x w (ix2 r n) = inner (fun k => x (ix2 r k)) (fun k => w (ix2 k n)) := by
  pointwise [k0_pay2, inner]

/-! ## The points -/

variable (m : (ℓ : Loc nD τ sig) → Buf (Elt Ideal) ℓ) (c : Dev nD) (t : Fin cfg0.N)

theorem lt_33 : t.val < 33 := lt_of_lt_of_eq t.isLt N_0

abbrev rowsBlk : Vec Ideal S512x4096 .bf16 := iblk m c 0 t
abbrev colsBlk : Vec Ideal S1x4096x128 .f32 := X0_1 m c t

/-- The weight block that the point before left in the scratch. -/
abbrev before : Vec Ideal S4096x128 .bf16 := (outsAt0 m c (t.val - 1) (Nat.lt_of_le_of_lt (Nat.sub_le _ _) t.isLt)).2

theorem scratch_first (h0 : t.val % 33 = 0) : (outsAt0 m c t.val t.isLt).2 = k0_pay1 (colsBlk m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = before m c t := by
  rw [outsAt0_B m c t h0]
  rfl

theorem block_first (h0 : t.val % 33 = 0) :
    (outsAt0 m c t.val t.isLt).1 = k0_pay2 (rowsBlk m c t) (k0_pay1 (colsBlk m c t)) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (rowsBlk m c t) (before m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (rowsBlk m c t) (outsAt0 m c t.val t.isLt).2 := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![0, 0, 64]
    ∧ win0_2.index t = ![t.val % 33, 0] := by
  revert t
  decide +kernel

/-- The activations and the weights. -/
abbrev acts : Vec Ideal S16896x4096 .bf16 := m ((c.tc : Thread nD τ).loc main_arg0)
abbrev weights : Vec Ideal S2x4096x16416 .f32 := m ((c.tc : Thread nD τ).loc main_arg1)

theorem rows_read (r : Fin 512) (k : Fin 4096) :
    rowsBlk m c t (ix2 r k) = acts m c (ix2 ⟨t.val % 33 * 512 + r, by omega⟩ k) := by
  blk_ext [iblk, V, idx_in t]

theorem cols_read (k : Fin 4096) (n : Fin 128) :
    colsBlk m c t (ix3 0 k n) = weights m c (ix3 0 k ⟨8192 + n, by omega⟩) := by
  show (cfg0.win 1).fill (cfg0.grid.coords t) dflt0_1 (iblk m c 1 t) (ix3 0 k n : S1x4096x128.Idx) = _
  unfold Window.fill
  rw [dif_pos (moved0_1 t _)]
  refine congrArg (weights m c) (funext fun a => Fin.ext ?_)
  refine (win0_1.rect_emb_val t _ a).trans ?_
  rw [(idx_in t).2.1]
  match a with
  | ⟨0, _⟩ => rfl
  | ⟨1, _⟩ => show 0 * 4096 + k.val = k.val; omega
  | ⟨2, _⟩ => rfl

/-- After every point the scratch holds the weight columns of the point's block column. -/
theorem scratch_read (k : Fin 4096) (n : Fin 128) :
    (outsAt0 m c t.val t.isLt).2 (ix2 k n) = weights m c (ix3 0 k ⟨8192 + n, by omega⟩) := by
  obtain ⟨p, hp⟩ := t
  induction p with
  | zero =>
    rw [scratch_first m c ⟨0, hp⟩ rfl, cached_at]
    exact cols_read m c ⟨0, hp⟩ k n
  | succ p ih =>
    by_cases h0 : (p + 1) % 33 = 0
    · rw [scratch_first m c ⟨p + 1, hp⟩ h0, cached_at]
      exact cols_read m c ⟨p + 1, hp⟩ k n
    · rw [scratch_later m c ⟨p + 1, hp⟩ h0]
      refine (ih (Nat.lt_of_succ_lt hp)).trans rfl

/-! ## The result array -/

/-- The product as an array. -/
def projArr (x : Vec Ideal S16896x4096 .bf16) (w : Vec Ideal S2x4096x16416 .f32) : Vec Ideal S16896x128 .f32 := fun u =>
  inner (fun k => x (ix2 (u 0) k)) (fun k => w (ix3 0 k ⟨8192 + (u 1).val, by have : (u 1).val < 128 := (u 1).isLt; omega⟩))

theorem covers_out : (cfg0.win 2).Covers := by
  refine (cfg0.win 2).covers_of_index_surj rfl (by decide) fun β => ?_
  have b0 : (β 0).val < 33 := lt_of_lt_of_eq (β 0).isLt (by decide)
  have b1 : (β 1).val < 1 := lt_of_lt_of_eq (β 1).isLt (by decide)
  refine ⟨⟨_, lt_of_lt_of_eq b0 N_0.symm⟩, fun a => ?_⟩
  refine (congrFun (idx_in ⟨_, lt_of_lt_of_eq b0 N_0.symm⟩).2.2 a).trans ?_
  match a with
  | ⟨0, _⟩ =>
    show (β 0).val % 33 = (β 0).val
    omega
  | ⟨1, _⟩ =>
    show 0 = (β 1).val
    omega

theorem result_at (r : Fin 512) (n : Fin 128) :
    ((cfg0.win 2).blk t).view.emb (ix2 r n) = (ix2 ⟨t.val % 33 * 512 + r, by omega⟩ n : S16896x128.Idx) := by
  funext a
  refine Fin.ext ((win0_2.rect_emb_val t (ix2 r n : S512x128.Idx) a).trans ?_)
  rw [(idx_in t).2.2]
  match a with
  | ⟨0, _⟩ => rfl
  | ⟨1, _⟩ => show 0 * 128 + n.val = n.val; omega

theorem result_array : (dats m 0 c).arrAt 2 cfg0.N = projArr (acts m c) (weights m c) := by
  refine (dats m 0 c).arrAt_eq_of_covers 2 _ covers_out fun t hf y => ?_
  blk_simp
  rw [after0_2]
  obtain ⟨r, n, rfl⟩ : ∃ (r : Fin 512) (n : Fin 128), y = (ix2 r n : S512x128.Idx) := ⟨y 0, y 1, by idx_vars y⟩
  refine Eq.trans ?_ (congrArg (projArr (acts m c) (weights m c)) (result_at t r n).symm)
  rw [block_at, product_at]
  unfold projArr
  refine congrArg₂ inner (funext fun k => rows_read m c t r k) (funext fun k => scratch_read m c t k n)

/-- The kernel runs to the product and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v0) = projArr (acts m c) (weights m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run_main m ρ)
  exact ⟨((h c).1 2).trans (result_array m c),
    ((h c).1 0).trans (((dats m 0 c).arrAt_in 0 rfl _).trans (A_eq m c 0)),
    ((h c).1 1).trans (((dats m 0 c).arrAt_in 1 rfl _).trans (A_eq m c 1))⟩

end Cert.Proj.Lr

end
-- ==== Proof.Proj.LrClaim.lean ====
/- The reference's product is the same array as the kernel's, and the claims about the two. -/
module

public import proofs.«01_k».proof.Defs
public import proofs.«01_k».proof.Proof.Proj.Lr
public import proofs.«01_k».proof.Proof.Gen.Reference9Ideal.Run
public import Idealize.ShloMosaic.Lib.Quiescent

@[expose] public section

set_option maxRecDepth 16384

noncomputable section

namespace Cert.Proj.Lr

open Idealize.ShloMosaic Idealize.ShloMosaic.TcCoe Idealize.SL.Sem Cert.Reference9Ideal Cert.Reference9Ideal.Gen

theorem reference_array (x : FVec Ideal S16896x4096 .bf16) (w : FVec Ideal S2x4096x16416 .f32) :
    (extractStridedSlice S16896x128 ![0, 8192] (Host.dotGeneral dot_S16896x4096_S4096x16416_S16896x16416_1_0_0_1_n_n none
      (extf .f32 x bitsLt_bf16_f32) (shapeCast S4096x16416 (extractStridedSlice S1x4096x16416 ![0, 0, 0] w
        slices_S2x4096x16416_S1x4096x16416_0_0_0) shapeCasts_S1x4096x16416_S4096x16416))
      slices_S16896x16416_S16896x128_0_8192 : FVec Ideal S16896x128 .f32) = projArr x w := by
  funext u
  idx_vars u
  pointwise [projArr, inner]

/-- The kernel and the reference end with equal products. -/
theorem algebraic : @algebraic_Kernel9Ideal_Reference9Ideal Cert.Kernel9Ideal.Gen.facts Cert.Reference9Ideal.Gen.facts := by
  intro m g m' g' _ hm
  refine ⟨fun c => projArr (acts m c) (weights m c), ?_, ?_⟩
  · exact result_run m g
  · refine (θ_run _ _ _).mono (fun r h c => ?_) (Cert.Reference9Ideal.Value.run m' g')
    refine ⟨(h c).1.trans ?_, (h c).2⟩
    rw [(hm c).1, (hm c).2]
    exact reference_array _ _

/-- The reference runs, keeps its arguments, and has no semaphore counter that could end off zero. -/
theorem reference_frame : @quiescent_Reference9Ideal Cert.Reference9Ideal.Gen.facts := fun m g _ =>
  (θ_run _ _ _).mono (fun r h => ⟨fun c => (h c).2, sem_eq_zero_of_no_sems (by decide) r.2⟩)
    (Cert.Reference9Ideal.Value.run m g)

end Cert.Proj.Lr

end
-- ==== Proof.Proj.Post.lean ====
/- The two directions' outputs added, every head normed, weighted and gated. -/
module

public import proofs.«01_k».proof.Proof.Proj.Spec
public import proofs.«01_k».proof.Proof.Gen.Kernel10Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Post

open Idealize.ShloMosaic Idealize.ShloMosaic.TcCoe Idealize.SL.Sem Idealize.ShloMosaic.Pipeline Cert.Kernel10Ideal Cert.Kernel10Ideal.Gen

/-- The reciprocal of a head's root mean square: the sum of squares over 512, with the f32 nearest to 1e-6 added. -/
def headRms (x : Fin 512 → EReal) : EReal :=
  Ideal.rsqrt (Ideal.div (inner x x) (Ideal.ofBits FTy.f32 0x44000000#32) + Ideal.ofBits FTy.f32 0x358637BD#32)

/-- The columns of the `q`-th head. -/
def headCol (q : ℕ) (hq : q < 4) (k : Fin 512) : Fin 2048 := ⟨q * 512 + k, by omega⟩

/-! ## The block's arithmetic -/

theorem sum_at (x y : Vec Ideal S1x256x2048 .f32) (r : Fin 256) (j : Fin 2048) :
    k0_pay4 x y (ix2 r j) = x (ix3 0 r j) + y (ix3 0 r j) := by
  pointwise [k0_pay4]

theorem gate_at (z : Vec Ideal S256x2048 .f32) (g : Vec Ideal S1x2048 .f32) (r : Fin 256) (j : Fin 2048) :
    k0_pay5 z g (ix2 r j) = g (ix2 0 j) * (z (ix2 r j) * sigmoid (z (ix2 r j))) := by
  pointwise [k0_pay5, sigmoid]
  simp only [sub_eq_add_neg, zero_add]

/-- A normed and gated entry of the block: `o` the sum, `v` the gate. -/
def blkEntry (o v : FVec Ideal S256x2048 .f32) (r : Fin 256) (j : Fin 2048) : EReal :=
  o (ix2 r j) * headRms (fun k => o (ix2 r (headCol (j.val / 512) (by omega) k))) * v (ix2 r j)

theorem blkEntry_head (o v : FVec Ideal S256x2048 .f32) (r : Fin 256) (q : ℕ) (hq : q < 4) (n : Fin 512) :
    blkEntry o v r (headCol q hq n) = o (ix2 r (headCol q hq n)) * headRms (fun k => o (ix2 r (headCol q hq k)))
      * v (ix2 r (headCol q hq n)) := by
  have e : (headCol q hq n).val / 512 = q := by
    show (q * 512 + n.val) / 512 = q
    omega
  unfold blkEntry
  simp only [e]

theorem head0_at (x y : Vec Ideal S1x256x2048 .f32) (z : Vec Ideal S256x2048 .f32) (g : Vec Ideal S1x2048 .f32) (r : Fin 256)
    (n : Fin 512) : k0_pay6 x y z g (ix2 r n) = blkEntry (k0_pay4 x y) (k0_pay5 z g) r (headCol 0 (by decide) n) := by
  rw [blkEntry_head]
  unfold k0_pay6
  generalize k0_pay4 x y = o
  generalize k0_pay5 z g = v
  pointwise [headRms, inner, headCol]

theorem head1_at (x y : Vec Ideal S1x256x2048 .f32) (v : FVec Ideal S256x2048 .f32) (r : Fin 256) (n : Fin 512) :
    k0_pay1 v (k0_pay7 x y) (k0_pay8 x y) k0_pay9 (ix2 r n) = blkEntry (k0_pay4 x y) v r (headCol 1 (by decide) n) := by
  rw [blkEntry_head]
  unfold k0_pay1 k0_pay8 k0_pay7
  generalize k0_pay4 x y = o
  pointwise [k0_pay9, headRms, inner, headCol]

theorem head2_at (o v : FVec Ideal S256x2048 .f32) (r : Fin 256) (n : Fin 512) :
    k0_pay2 o v (ix2 r n) = blkEntry o v r (headCol 2 (by decide) n) := by
  rw [blkEntry_head]
  pointwise [k0_pay2, headRms, inner, headCol]

theorem head3_at (o v : FVec Ideal S256x2048 .f32) (r : Fin 256) (n : Fin 512) :
    k0_pay3 o v (ix2 r n) = blkEntry o v r (headCol 3 (by decide) n) := by
  rw [blkEntry_head]
  pointwise [k0_pay3, headRms, inner, headCol]

/-- A stored head's entry is the block's at its place. -/
theorem at_place (o v : FVec Ideal S256x2048 .f32) (p : Vec Ideal S256x512 .bf16) (q : ℕ) (hq : q < 4)
    (hp : ∀ (r : Fin 256) (n : Fin 512), p (ix2 r n) = blkEntry o v r (headCol q hq n)) (r : Fin 256) (j : Fin 2048)
    (u : S256x512.Idx) (h0 : r.val = (u 0 : ℕ)) (h1 : j.val = q * 512 + (u 1 : ℕ)) : p u = blkEntry o v r j := by
  idx_vars u
  obtain rfl : r = u0 := Fin.ext h0
  obtain rfl : j = headCol q hq u1 := Fin.ext h1
  exact hp _ _

/-! ## What the blocks hold -/

variable (m : (ℓ : Loc nD τ sig) → Buf (Elt Ideal) ℓ) (c : Dev nD) (t : Fin cfg0.N)

theorem lt_64 : t.val < 64 := lt_of_lt_of_eq t.isLt N_0

/-- The two directions' rows, the gate's rows and the heads' weights, as the point finds them. -/
abbrev X0 : Vec Ideal S1x256x2048 .f32 := iblk m c 0 t
abbrev X1 : Vec Ideal S1x256x2048 .f32 := iblk m c 1 t
abbrev X2 : Vec Ideal S256x2048 .f32 := iblk m c 2 t
abbrev X3 : Vec Ideal S1x2048 .f32 := iblk m c 3 t

/-- What the point leaves in the result's block. -/
theorem block_at (y : S256x2048.Idx) : out0_4 (X0 m c t) (X1 m c t) (X2 m c t) (X3 m c t) y
    = blkEntry (k0_pay4 (X0 m c t) (X1 m c t)) (k0_pay5 (X2 m c t) (X3 m c t)) (y 0) (y 1) := by
  unfold_out out0_4
  frame_out
  canon_tiles x hx
  · exact at_place _ _ _ 3 (by decide) (head3_at _ _) (y 0) (y 1) x hx0 hx1
  · exact at_place _ _ _ 2 (by decide) (head2_at _ _) (y 0) (y 1) x hx0 hx1
  · exact at_place _ _ _ 1 (by decide) (head1_at _ _ _) (y 0) (y 1) x hx0 hx1
  · exact at_place _ _ _ 0 (by decide) (head0_at _ _ _ _) (y 0) (y 1) x hx0 (by simpa using hx1)

theorem idx_in (t : Fin cfg0.N) : win0_0.index t = ![0, t.val, 0] ∧ win0_1.index t = ![1, t.val, 0]
    ∧ win0_2.index t = ![t.val, 3] ∧ win0_3.index t = ![0, 0] ∧ win0_4.index t = ![t.val, 0] := by
  revert t
  decide +kernel

/-- The two directions' outputs, the projections and the heads' weights. -/
abbrev scans : Vec Ideal S2x16384x2048 .f32 := m ((c.tc : Thread nD τ).loc main_arg0)
abbrev proj : Vec Ideal S16896x8192 .f32 := m ((c.tc : Thread nD τ).loc main_arg1)
abbrev weights : Vec Ideal S2048 .f32 := m ((c.tc : Thread nD τ).loc main_arg2)

/-- The token of a row of the point's block. -/
def row (r : Fin 256) : Fin 16384 := ⟨t.val * 256 + r, by have := lt_64 t; omega⟩

/-- A token's row of the projections, and the output gate's columns in it. -/
def tok (s : Fin 16384) : Fin 16896 := ⟨s, by omega⟩
def gateCol (j : Fin 2048) : Fin 8192 := ⟨6144 + j, by omega⟩

theorem forward_read (r : Fin 256) (j : Fin 2048) : X0 m c t (ix3 0 r j) = scans m c (ix3 0 (row t r) j) := by
  have e : V m c (arrRef spec0 0) = scans m c := V_main_arg0 m c
  show ((cfg0.win 0).blk t).view.read (Elt Ideal) (V m c (arrRef spec0 0)) (ix3 0 r j) = _
  rw [e]
  blk_ext [idx_in t, row]

theorem backward_read (r : Fin 256) (j : Fin 2048) : X1 m c t (ix3 0 r j) = scans m c (ix3 1 (row t r) j) := by
  have e : V m c (arrRef spec0 1) = scans m c := V_main_arg0 m c
  show ((cfg0.win 1).blk t).view.read (Elt Ideal) (V m c (arrRef spec0 1)) (ix3 0 r j) = _
  rw [e]
  blk_ext [idx_in t, row]

theorem gate_read (r : Fin 256) (j : Fin 2048) : X2 m c t (ix2 r j) = proj m c (ix2 (tok (row t r)) (gateCol j)) := by
  have e : V m c (arrRef spec0 2) = proj m c := V_main_arg1 m c
  show ((cfg0.win 2).blk t).view.read (Elt Ideal) (V m c (arrRef spec0 2)) (ix2 r j) = _
  rw [e]
  blk_ext [idx_in t, row, tok, gateCol]

/-- The heads' weights as one row: the host's reshape before the call. -/
theorem weights_row (j : Fin 2048) : (V m c main_v0 : Vec Ideal S1x2048 .f32) (ix2 0 j) = weights m c (ix1 j) := by
  have e : (V m c main_v0 : Vec Ideal S1x2048 .f32) = broadcastInDim S1x2048 ![1] bcast_S2048_S1x2048_1 (weights m c) := by
    unfold V
    after_results
  rw [e]
  pointwise []

theorem weights_read (j : Fin 2048) : X3 m c t (ix2 0 j) = weights m c (ix1 j) := by
  rw [← weights_row m c j]
  generalize hv : V m c main_v0 = v
  have e : V m c (arrRef spec0 3) = v := hv
  show ((cfg0.win 3).blk t).view.read (Elt Ideal) (V m c (arrRef spec0 3)) (ix2 0 j) = _
  rw [e]
  blk_ext [idx_in t]

/-! ## The result array -/

/-- The two directions' sum at a token's column. -/
def added (o : Vec Ideal S2x16384x2048 .f32) (s : Fin 16384) (j : Fin 2048) : EReal := o (ix3 0 s j) + o (ix3 1 s j)

/-- A token's column: the sum over its head's root mean square, times the weight and silu of the gate. -/
def entry (o : Vec Ideal S2x16384x2048 .f32) (z : Vec Ideal S16896x8192 .f32) (g : Vec Ideal S2048 .f32) (s : Fin 16384)
    (j : Fin 2048) : EReal :=
  added o s j * headRms (fun k => added o s (headCol (j.val / 512) (by omega) k))
    * (g (ix1 j) * (z (ix2 (tok s) (gateCol j)) * sigmoid (z (ix2 (tok s) (gateCol j)))))

/-- The gated heads as an array. -/
def postArr (o : Vec Ideal S2x16384x2048 .f32) (z : Vec Ideal S16896x8192 .f32) (g : Vec Ideal S2048 .f32) :
    Vec Ideal S16384x2048 .bf16 := fun u => entry o z g (u 0) (u 1)

theorem covers_out : (cfg0.win 4).Covers := by
  refine (cfg0.win 4).covers_of_index_surj rfl (by decide) fun β => ?_
  have b0 : (β 0).val < 64 := lt_of_lt_of_eq (β 0).isLt (by decide)
  have b1 : (β 1).val < 1 := lt_of_lt_of_eq (β 1).isLt (by decide)
  refine ⟨⟨(β 0).val, lt_of_lt_of_eq b0 N_0.symm⟩, fun a => ?_⟩
  refine (congrFun (idx_in ⟨(β 0).val, lt_of_lt_of_eq b0 N_0.symm⟩).2.2.2.2 a).trans ?_
  match a with
  | ⟨0, _⟩ => rfl
  | ⟨1, _⟩ =>
    show 0 = (β 1).val
    omega

theorem result_at (r : Fin 256) (j : Fin 2048) :
    ((cfg0.win 4).blk t).view.emb (ix2 r j) = (ix2 (row t r) j : S16384x2048.Idx) := by
  funext a
  refine Fin.ext ((win0_4.rect_emb_val t (ix2 r j : S256x2048.Idx) a).trans ?_)
  rw [(idx_in t).2.2.2.2]
  match a with
  | ⟨0, _⟩ => rfl
  | ⟨1, _⟩ => show 0 * 2048 + j.val = j.val; omega

theorem result_array : (dats m 0 c).arrAt 4 cfg0.N = postArr (scans m c) (proj m c) (weights m c) := by
  refine (dats m 0 c).arrAt_eq_of_covers 4 _ covers_out fun t hf y => ?_
  blk_simp
  rw [after0_4]
  obtain ⟨r, j, rfl⟩ : ∃ (r : Fin 256) (j : Fin 2048), y = (ix2 r j : S256x2048.Idx) := ⟨y 0, y 1, by idx_vars y⟩
  refine Eq.trans ?_ (congrArg (postArr (scans m c) (proj m c) (weights m c)) (result_at t r j).symm)
  refine (block_at m c t (ix2 r j)).trans ?_
  show blkEntry _ _ r j = _
  simp only [blkEntry, sum_at, gate_at, forward_read, backward_read, gate_read, weights_read]
  rfl

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v1) = postArr (scans m c) (proj m c) (weights m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 4).trans (result_array m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (mem_restRefs_of main_arg2 (by decide) (by decide))).trans (V_main_arg2 m c)⟩

end Cert.Proj.Post

end
-- ==== Proof.Proj.PostClaim.lean ====
/- The reference's product is the same array as the kernel's, and the claims about the two. -/
module

public import proofs.«01_k».proof.Defs
public import proofs.«01_k».proof.Proof.Proj.Post
public import proofs.«01_k».proof.Proof.Gen.Reference10Ideal.Run
public import Idealize.ShloMosaic.Lib.Quiescent

@[expose] public section

set_option maxRecDepth 16384

noncomputable section

namespace Cert.Proj.Post

open Idealize.ShloMosaic Idealize.ShloMosaic.TcCoe Idealize.SL.Sem Cert.Reference10Ideal Cert.Reference10Ideal.Gen

/-- The two directions' sum, head by head. -/
def summed (o : FVec Ideal S2x16384x2048 .f32) : FVec Ideal S16384x4x512 .f32 :=
  shapeCast S16384x4x512 (addf
    (shapeCast S16384x2048 (extractStridedSlice S1x16384x2048 ![0, 0, 0] o slices_S2x16384x2048_S1x16384x2048_0_0_0)
      shapeCasts_S1x16384x2048_S16384x2048)
    (shapeCast S16384x2048 (extractStridedSlice S1x16384x2048 ![1, 0, 0] o slices_S2x16384x2048_S1x16384x2048_1_0_0)
      shapeCasts_S1x16384x2048_S16384x2048)) shapeCasts_S16384x2048_S16384x4x512

theorem summed_at (o : FVec Ideal S2x16384x2048 .f32) (s : Fin 16384) (q : Fin 4) (k : Fin 512) :
    summed o (ix3 s q k) = added o s (headCol q q.isLt k) := by
  pointwise [summed, added, headCol]

/-- Every head over its root mean square. -/
def normedHeads (o : FVec Ideal S16384x4x512 .f32) : FVec Ideal S16384x2048 .f32 :=
  shapeCast S16384x2048 (mulf o (broadcastInDim S16384x4x512 ![0, 1, 2] bcast_S16384x4x1_S16384x4x512_0_1_2
    (Host.rsqrt (addf (Host.divf (broadcastInDim S16384x4x1 ![0, 1] bcast_S16384x4_S16384x4x1_0_1
        (Host.reduceAdd (mulf o o) (constant S_ .f32 0x00000000#32) reducesTo_S16384x4x512_S16384x4_d2 h_S_))
      (broadcastInDim S16384x4x1 ![] bcast_S_S16384x4x1 (constant S_ .f32 0x44000000#32)))
      (broadcastInDim S16384x4x1 ![] bcast_S_S16384x4x1 (constant S_ .f32 0x358637BD#32))))))
    shapeCasts_S16384x4x512_S16384x2048

theorem normedHeads_at (o : FVec Ideal S16384x4x512 .f32) (s : Fin 16384) (j : Fin 2048) :
    normedHeads o (ix2 s j) = o (ix3 s ⟨j / 512, by omega⟩ ⟨j % 512, by omega⟩)
      * headRms (fun k => o (ix3 s ⟨j / 512, by omega⟩ k)) := by
  pointwise [normedHeads, headRms, inner]

/-- silu of the output gate's columns. -/
def gate (z : FVec Ideal S16896x8192 .f32) : FVec Ideal S16384x2048 .f32 :=
  mulf (extractStridedSlice S16384x2048 ![0, 6144] z slices_S16896x8192_S16384x2048_0_6144)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, 6144] z slices_S16896x8192_S16384x2048_0_6144)))))

theorem gate_rows (z : FVec Ideal S16896x8192 .f32) (s : Fin 16384) (j : Fin 2048) :
    gate z (ix2 s j) = z (ix2 (tok s) (gateCol j)) * sigmoid (z (ix2 (tok s) (gateCol j))) := by
  pointwise [gate, sigmoid, tok, gateCol]

/-- The reference multiplies by the weight and then by the gate, the kernel by their product. -/
theorem reference_array (o : FVec Ideal S2x16384x2048 .f32) (z : FVec Ideal S16896x8192 .f32) (g : FVec Ideal S2048 .f32) :
    truncf .bf16 (mulf (mulf (normedHeads (summed o)) (broadcastInDim S16384x2048 ![0, 1] bcast_S1x2048_S16384x2048_0_1
      (broadcastInDim S1x2048 ![1] bcast_S2048_S1x2048_1 g))) (gate z)) bitsLt_bf16_f32 = postArr o z g := by
  funext u
  idx_vars u
  have hg : (broadcastInDim S16384x2048 ![0, 1] bcast_S1x2048_S16384x2048_0_1
      (broadcastInDim S1x2048 ![1] bcast_S2048_S1x2048_1 g) : FVec Ideal S16384x2048 .f32) (ix2 u0 u1) = g (ix1 u1) := by
    pointwise []
  have e : headCol (u1.val / 512) (by omega) ⟨u1.val % 512, by omega⟩ = u1 :=
    Fin.ext (by show u1.val / 512 * 512 + u1.val % 512 = u1.val; omega)
  show normedHeads (summed o) (ix2 u0 u1) * _ * gate z (ix2 u0 u1) = _
  rw [normedHeads_at, gate_rows, hg, summed_at, mul_assoc]
  simp only [summed_at]
  show added o u0 (headCol (u1.val / 512) _ ⟨u1.val % 512, _⟩) * _ * _ = _
  rw [e]
  rfl

/-- The kernel and the reference end with equal results. -/
theorem algebraic : @algebraic_Kernel10Ideal_Reference10Ideal Cert.Kernel10Ideal.Gen.facts Cert.Reference10Ideal.Gen.facts := by
  intro m g m' g' _ hm
  refine ⟨fun c => postArr (scans m c) (proj m c) (weights m c), ?_, ?_⟩
  · exact result_run m g
  · refine (θ_run _ _ _).mono (fun r h c => ?_) (Cert.Reference10Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference10Ideal Cert.Reference10Ideal.Gen.facts := fun m g _ =>
  (θ_run _ _ _).mono (fun r h => ⟨fun c => (h c).2, sem_eq_zero_of_no_sems (by decide) r.2⟩)
    (Cert.Reference10Ideal.Value.run m g)

end Cert.Proj.Post

end
-- ==== Proof.Proj.Mod.lean ====
/- The stream normed and modulated, block by block. -/
module

public import proofs.«01_k».proof.Proof.Proj.Rms
public import proofs.«01_k».proof.Proof.Gen.Kernel11Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Mod

open Idealize.ShloMosaic Idealize.ShloMosaic.TcCoe Idealize.SL.Sem Idealize.ShloMosaic.Pipeline Cert.Kernel11Ideal Cert.Kernel11Ideal.Gen

theorem modulated_at (x : Vec Ideal S256x4096 .f32) (g : Vec Ideal S1x4096 .f32) (sc sh : Vec Ideal S1x1x4096 .f32) (r : Fin 256)
    (n : Fin 4096) : k0_pay1 x g sc sh (ix2 r n)
      = x (ix2 r n) * invRms (fun k => x (ix2 r k)) * g (ix2 0 n) * (1 + sc (ix3 0 0 n)) + sh (ix3 0 0 n) := by
  pointwise [k0_pay1, invRms, inner]

/-! ## What the blocks hold -/

variable (m : (ℓ : Loc nD τ sig) → Buf (Elt Ideal) ℓ) (c : Dev nD) (t : Fin cfg0.N)

theorem lt_66 : t.val < 66 := lt_of_lt_of_eq t.isLt N_0

/-- The point's rows, weights, scales and shifts, as the point finds them. -/
abbrev X0 : Vec Ideal S256x4096 .f32 := iblk m c 0 t
abbrev X1 : Vec Ideal S1x4096 .f32 := iblk m c 1 t
abbrev X2 : Vec Ideal S1x1x4096 .f32 := iblk m c 2 t
abbrev X3 : Vec Ideal S1x1x4096 .f32 := iblk m c 3 t

theorem idx_in (t : Fin cfg0.N) : win0_0.index t = ![t.val, 0] ∧ win0_1.index t = ![0, 0]
    ∧ win0_2.index t = ![min (t.val / 32) 2 * 6 + 1, 0, 0] ∧ win0_3.index t = ![min (t.val / 32) 2 * 6 + 0, 0, 0]
    ∧ win0_4.index t = ![t.val, 0] := by
  revert t
  decide +kernel

/-- The stream, the norm's weights and the modulation rows. -/
abbrev stream : Vec Ideal S16896x4096 .f32 := m ((c.tc : Thread nD τ).loc main_arg0)
abbrev weights : Vec Ideal S4096 .f32 := m ((c.tc : Thread nD τ).loc main_arg1)
abbrev modulation : Vec Ideal S48x1x4096 .f32 := m ((c.tc : Thread nD τ).loc main_arg2)

/-- The token of a row of the point's block. -/
def row (r : Fin 256) : Fin 16896 := ⟨t.val * 256 + r, by have := lt_66 t; omega⟩

theorem modRow_row (k : ℕ) (hk : k < 6) (r : Fin 256) :
    modRow k hk (row t r) = ⟨min (t.val / 32) 2 * 6 + k, by omega⟩ := Fin.ext (by
  show min ((t.val * 256 + r.val) / 8192) 2 * 6 + k = min (t.val / 32) 2 * 6 + k
  have : (t.val * 256 + r.val) / 8192 = t.val / 32 := by omega
  rw [this])

theorem stream_read (r : Fin 256) (n : Fin 4096) : X0 m c t (ix2 r n) = stream m c (ix2 (row t r) n) := by
  have e : V m c (arrRef spec0 0) = stream m c := V_main_arg0 m c
  show ((cfg0.win 0).blk t).view.read (Elt Ideal) (V m c (arrRef spec0 0)) (ix2 r n) = _
  rw [e]
  blk_ext [idx_in t, row]

/-- The weights as one row: the host's reshape before the call. -/
theorem weights_row (n : Fin 4096) : (V m c main_v0 : Vec Ideal S1x4096 .f32) (ix2 0 n) = weights m c (ix1 n) := by
  have e : (V m c main_v0 : Vec Ideal S1x4096 .f32) = broadcastInDim S1x4096 ![1] bcast_S4096_S1x4096_1 (weights m c) := by
    unfold V
    after_results
  rw [e]
  pointwise []

theorem weights_read (n : Fin 4096) : X1 m c t (ix2 0 n) = weights m c (ix1 n) := by
  rw [← weights_row m c n]
  generalize hv : V m c main_v0 = v
  have e : V m c (arrRef spec0 1) = v := hv
  show ((cfg0.win 1).blk t).view.read (Elt Ideal) (V m c (arrRef spec0 1)) (ix2 0 n) = _
  rw [e]
  blk_ext [idx_in t]

theorem scale_read (r : Fin 256) (n : Fin 4096) :
    X2 m c t (ix3 0 0 n) = modulation m c (ix3 (modRow 1 (by decide) (row t r)) 0 n) := by
  have e : V m c (arrRef spec0 2) = modulation m c := V_main_arg2 m c
  show ((cfg0.win 2).blk t).view.read (Elt Ideal) (V m c (arrRef spec0 2)) (ix3 0 0 n) = _
  rw [e, modRow_row]
  blk_ext [idx_in t]

theorem shift_read (r : Fin 256) (n : Fin 4096) :
    X3 m c t (ix3 0 0 n) = modulation m c (ix3 (modRow 0 (by decide) (row t r)) 0 n) := by
  have e : V m c (arrRef spec0 3) = modulation m c := V_main_arg2 m c
  show ((cfg0.win 3).blk t).view.read (Elt Ideal) (V m c (arrRef spec0 3)) (ix3 0 0 n) = _
  rw [e, modRow_row]
  blk_ext [idx_in t]

/-! ## The result array -/

/-- The normed and modulated entry of a token: the scale and the shift are the `a`-th and the `b`-th of its modulation rows. -/
def entry (a b : ℕ) (ha : a < 6) (hb : b < 6) (x : Vec Ideal S16896x4096 .f32) (g : Vec Ideal S4096 .f32)
    (w : Vec Ideal S48x1x4096 .f32) (s : Fin 16896) (n : Fin 4096) : EReal :=
  x (ix2 s n) * invRms (fun k => x (ix2 s k)) * g (ix1 n) * (1 + w (ix3 (modRow a ha s) 0 n)) + w (ix3 (modRow b hb s) 0 n)

/-- The stream normed and modulated for the token mixer. -/
def modArr (x : Vec Ideal S16896x4096 .f32) (g : Vec Ideal S4096 .f32) (w : Vec Ideal S48x1x4096 .f32) :
    Vec Ideal S16896x4096 .bf16 := fun u => entry 1 0 (by decide) (by decide) x g w (u 0) (u 1)

theorem covers_out : (cfg0.win 4).Covers := by
  refine (cfg0.win 4).covers_of_index_surj rfl (by decide) fun β => ?_
  have b0 : (β 0).val < 66 := lt_of_lt_of_eq (β 0).isLt (by decide)
  have b1 : (β 1).val < 1 := lt_of_lt_of_eq (β 1).isLt (by decide)
  refine ⟨⟨(β 0).val, lt_of_lt_of_eq b0 N_0.symm⟩, fun a => ?_⟩
  refine (congrFun (idx_in ⟨(β 0).val, lt_of_lt_of_eq b0 N_0.symm⟩).2.2.2.2 a).trans ?_
  match a with
  | ⟨0, _⟩ => rfl
  | ⟨1, _⟩ =>
    show 0 = (β 1).val
    omega

theorem result_at (r : Fin 256) (n : Fin 4096) :
    ((cfg0.win 4).blk t).view.emb (ix2 r n) = (ix2 (row t r) n : S16896x4096.Idx) := by
  funext a
  refine Fin.ext ((win0_4.rect_emb_val t (ix2 r n : S256x4096.Idx) a).trans ?_)
  rw [(idx_in t).2.2.2.2]
  match a with
  | ⟨0, _⟩ => rfl
  | ⟨1, _⟩ => show 0 * 4096 + n.val = n.val; omega

theorem result_array : (dats m 0 c).arrAt 4 cfg0.N = modArr (stream m c) (weights m c) (modulation m c) := by
  refine (dats m 0 c).arrAt_eq_of_covers 4 _ covers_out fun t hf y => ?_
  blk_simp
  rw [after0_4]
  frame_out
  obtain ⟨r, n, rfl⟩ : ∃ (r : Fin 256) (n : Fin 4096), y = (ix2 r n : S256x4096.Idx) := ⟨y 0, y 1, by idx_vars y⟩
  refine Eq.trans ?_ (congrArg (modArr (stream m c) (weights m c) (modulation m c)) (result_at t r n).symm)
  refine (modulated_at (X0 m c t) (X1 m c t) (X2 m c t) (X3 m c t) r n).trans ?_
  rw [stream_read, weights_read, scale_read m c t r, shift_read m c t r, funext fun k => stream_read m c t r k]
  rfl

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v1) = modArr (stream m c) (weights m c) (modulation m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 4).trans (result_array m c),
    ((h c).1 0).trans (((dats m 0 c).arrAt_in 0 rfl _).trans ((A_eq m c 0).trans (V_main_arg0 m c))),
    ((h c).2 main_arg1 (mem_restRefs_of main_arg1 (by decide) (by decide))).trans (V_main_arg1 m c),
    ((h c).1 2).trans (((dats m 0 c).arrAt_in 2 rfl _).trans ((A_eq m c 2).trans (V_main_arg2 m c)))⟩

end Cert.Proj.Mod

end
-- ==== Proof.Proj.ModClaim.lean ====
/- The reference's result is the same array as the kernel's, and the claims about the two. -/
module

public import proofs.«01_k».proof.Defs
public import proofs.«01_k».proof.Proof.Proj.Mod
public import proofs.«01_k».proof.Proof.Gen.Reference11Ideal.Run
public import Idealize.ShloMosaic.Lib.Quiescent

@[expose] public section

set_option maxRecDepth 16384

noncomputable section

namespace Cert.Proj.Mod

open Idealize.ShloMosaic Idealize.ShloMosaic.TcCoe Idealize.SL.Sem Cert.Reference11Ideal Cert.Reference11Ideal.Gen

/-- The whole stream normed and weighted. -/
def normedRows (x : FVec Ideal S16896x4096 .f32) (g : FVec Ideal S4096 .f32) : FVec Ideal S16896x4096 .f32 :=
  mulf (mulf x (broadcastInDim S16896x4096 ![0, 1] bcast_S16896x1_S16896x4096_0_1
    (Host.rsqrt (addf (Host.divf (broadcastInDim S16896x1 ![0] bcast_S16896_S16896x1_0
        (Host.reduceAdd (mulf x x) (constant S_ .f32 0x00000000#32) reducesTo_S16896x4096_S16896_d1 h_S_))
      (broadcastInDim S16896x1 ![] bcast_S_S16896x1 (constant S_ .f32 0x45800000#32)))
      (broadcastInDim S16896x1 ![] bcast_S_S16896x1 (constant S_ .f32 0x358637BD#32))))))
    (broadcastInDim S16896x4096 ![0, 1] bcast_S1x4096_S16896x4096_0_1 (broadcastInDim S1x4096 ![1] bcast_S4096_S1x4096_1 g))

theorem normedRows_at (x : FVec Ideal S16896x4096 .f32) (g : FVec Ideal S4096 .f32) (s : Fin 16896) (n : Fin 4096) :
    normedRows x g (ix2 s n) = x (ix2 s n) * invRms (fun k => x (ix2 s k)) * g (ix1 n) := by
  pointwise [normedRows, invRms, inner]

/-- The scale and the shift of every sample and of the context. -/
def scaleRows (w : FVec Ideal S48x1x4096 .f32) : FVec Ideal S8x4096 .f32 :=
  shapeCast S8x4096 (extractStridedSlice S8x1x4096 ![0, 1, 0] (shapeCast S8x6x4096 w shapeCasts_S48x1x4096_S8x6x4096)
    slices_S8x6x4096_S8x1x4096_0_1_0) shapeCasts_S8x1x4096_S8x4096
def shiftRows (w : FVec Ideal S48x1x4096 .f32) : FVec Ideal S8x4096 .f32 :=
  shapeCast S8x4096 (extractStridedSlice S8x1x4096 ![0, 0, 0] (shapeCast S8x6x4096 w shapeCasts_S48x1x4096_S8x6x4096)
    slices_S8x6x4096_S8x1x4096_0_0_0) shapeCasts_S8x1x4096_S8x4096

theorem scaleRows_at (w : FVec Ideal S48x1x4096 .f32) (b : Fin 8) (n : Fin 4096) :
    scaleRows w (ix2 b n) = w (ix3 ⟨b * 6 + 1, by omega⟩ 0 n) := by
  pointwise [scaleRows]

theorem shiftRows_at (w : FVec Ideal S48x1x4096 .f32) (b : Fin 8) (n : Fin 4096) :
    shiftRows w (ix2 b n) = w (ix3 ⟨b * 6 + 0, by omega⟩ 0 n) := by
  pointwise [shiftRows]

/-- The latent rows modulated. -/
def latent (y : FVec Ideal S16896x4096 .f32) (a b : FVec Ideal S8x4096 .f32) : FVec Ideal S16384x4096 .f32 :=
  shapeCast S16384x4096 (addf (mulf
    (shapeCast S2x8192x4096 (extractStridedSlice S16384x4096 ![0, 0] y slices_S16896x4096_S16384x4096_0_0)
      shapeCasts_S16384x4096_S2x8192x4096)
    (broadcastInDim S2x8192x4096 ![0, 1, 2] bcast_S2x1x4096_S2x8192x4096_0_1_2
      (addf (broadcastInDim S2x1x4096 ![] bcast_S_S2x1x4096 (constant S_ .f32 0x3F800000#32))
        (broadcastInDim S2x1x4096 ![0, 2] bcast_S2x4096_S2x1x4096_0_2
          (extractStridedSlice S2x4096 ![0, 0] a slices_S8x4096_S2x4096_0_0)))))
    (broadcastInDim S2x8192x4096 ![0, 1, 2] bcast_S2x1x4096_S2x8192x4096_0_1_2
      (broadcastInDim S2x1x4096 ![0, 2] bcast_S2x4096_S2x1x4096_0_2
        (extractStridedSlice S2x4096 ![0, 0] b slices_S8x4096_S2x4096_0_0))))
    shapeCasts_S2x8192x4096_S16384x4096

theorem latent_at (y : FVec Ideal S16896x4096 .f32) (a b : FVec Ideal S8x4096 .f32) (s : Fin 16384) (n : Fin 4096) :
    latent y a b (ix2 s n) = y (ix2 ⟨s, by omega⟩ n) * (1 + a (ix2 ⟨s / 8192, by omega⟩ n)) + b (ix2 ⟨s / 8192, by omega⟩ n) := by
  pointwise [latent]

/-- The context rows modulated. -/
def context (y : FVec Ideal S16896x4096 .f32) (a b : FVec Ideal S8x4096 .f32) : FVec Ideal S512x4096 .f32 :=
  addf (mulf (extractStridedSlice S512x4096 ![16384, 0] y slices_S16896x4096_S512x4096_16384_0)
      (broadcastInDim S512x4096 ![0, 1] bcast_S1x4096_S512x4096_0_1 (broadcastInDim S1x4096 ![1] bcast_S4096_S1x4096_1
        (addf (broadcastInDim S4096 ![] bcast_S_S4096 (constant S_ .f32 0x3F800000#32))
          (shapeCast S4096 (extractStridedSlice S1x4096 ![2, 0] a slices_S8x4096_S1x4096_2_0) shapeCasts_S1x4096_S4096)))))
    (broadcastInDim S512x4096 ![0, 1] bcast_S1x4096_S512x4096_0_1 (broadcastInDim S1x4096 ![1] bcast_S4096_S1x4096_1
      (shapeCast S4096 (extractStridedSlice S1x4096 ![2, 0] b slices_S8x4096_S1x4096_2_0) shapeCasts_S1x4096_S4096)))

theorem context_at (y : FVec Ideal S16896x4096 .f32) (a b : FVec Ideal S8x4096 .f32) (s : Fin 512) (n : Fin 4096) :
    context y a b (ix2 s n) = y (ix2 ⟨16384 + s, by omega⟩ n) * (1 + a (ix2 2 n)) + b (ix2 2 n) := by
  pointwise [context]

/-- The latent rows and then the context's. -/
def stacked (y : FVec Ideal S16896x4096 .f32) (a b : FVec Ideal S8x4096 .f32) : FVec Ideal S16896x4096 .f32 :=
  concatenate S16896x4096 0 [⟨S16384x4096, latent y a b⟩, ⟨S512x4096, context y a b⟩]
    concatenates_S16384x4096_S512x4096_S16896x4096_d0

theorem stacked_at (y : FVec Ideal S16896x4096 .f32) (a b : FVec Ideal S8x4096 .f32) (s : Fin 16896) (n : Fin 4096) :
    stacked y a b (ix2 s n)
      = if h : s.val < 16384 then latent y a b (ix2 ⟨s, h⟩ n) else context y a b (ix2 ⟨s - 16384, by omega⟩ n) := by
  unfold stacked
  pointwise []

/-- Every token takes its own sample's (or the context's) scale and shift. -/
theorem modulated_rows (y : FVec Ideal S16896x4096 .f32) (a b : FVec Ideal S8x4096 .f32) (s : Fin 16896) (n : Fin 4096) :
    stacked y a b (ix2 s n) = y (ix2 s n) * (1 + a (ix2 ⟨min (s.val / 8192) 2, by omega⟩ n))
      + b (ix2 ⟨min (s.val / 8192) 2, by omega⟩ n) := by
  rw [stacked_at]
  split
  · next h =>
    rw [latent_at]
    have e : (⟨s.val / 8192, by omega⟩ : Fin 8) = ⟨min (s.val / 8192) 2, by omega⟩ :=
      Fin.ext (by show s.val / 8192 = min (s.val / 8192) 2; omega)
    show y (ix2 s n) * (1 + a (ix2 ⟨s.val / 8192, by omega⟩ n)) + b (ix2 ⟨s.val / 8192, by omega⟩ n) = _
    rw [e]
  · next h =>
    rw [context_at]
    have e : (⟨16384 + (s.val - 16384), by omega⟩ : Fin 16896) = s := Fin.ext (by show 16384 + (s.val - 16384) = s.val; omega)
    have e2 : (2 : Fin 8) = ⟨min (s.val / 8192) 2, by omega⟩ :=
      Fin.ext (by show 2 = min (s.val / 8192) 2; omega)
    show y (ix2 ⟨16384 + (s.val - 16384), by omega⟩ n) * (1 + a (ix2 2 n)) + b (ix2 2 n) = _
    rw [e, e2]

theorem reference_array (x : FVec Ideal S16896x4096 .f32) (g : FVec Ideal S4096 .f32) (w : FVec Ideal S48x1x4096 .f32) :
    truncf .bf16 (stacked (normedRows x g) (scaleRows w) (shiftRows w)) bitsLt_bf16_f32 = modArr x g w := by
  funext u
  idx_vars u
  show stacked (normedRows x g) (scaleRows w) (shiftRows w) (ix2 u0 u1) = _
  rw [modulated_rows, normedRows_at, scaleRows_at, shiftRows_at]
  rfl

/-- The kernel and the reference end with equal results. -/
theorem algebraic : @algebraic_Kernel11Ideal_Reference11Ideal Cert.Kernel11Ideal.Gen.facts Cert.Reference11Ideal.Gen.facts := by
  intro m g m' g' _ hm
  refine ⟨fun c => modArr (stream m c) (weights m c) (modulation m c), ?_, ?_⟩
  · exact result_run m g
  · refine (θ_run _ _ _).mono (fun r h c => ?_) (Cert.Reference11Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference11Ideal Cert.Reference11Ideal.Gen.facts := fun m g _ =>
  (θ_run _ _ _).mono (fun r h => ⟨fun c => (h c).2, sem_eq_zero_of_no_sems (by decide) r.2⟩)
    (Cert.Reference11Ideal.Value.run m g)

end Cert.Proj.Mod

end
-- ==== Proof.Proj.Router.lean ====
/- The stream normed and modulated for the experts, and every token's affinity to each of them. -/
module

public import proofs.«01_k».proof.Proof.Proj.Mod
public import proofs.«01_k».proof.Proof.Gen.Kernel12Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Router

open Idealize.ShloMosaic Idealize.ShloMosaic.TcCoe Idealize.SL.Sem Idealize.ShloMosaic.Pipeline Cert.Kernel12Ideal Cert.Kernel12Ideal.Gen

/-- The greatest of sixteen, from -∞ on. -/
def top (v : Fin 16 → EReal) : EReal := (Finset.univ : Finset (Fin 16)).fold max (Ideal.ofBits FTy.f32 0xFF800000#32) v

/-- The softmax of sixteen logits. -/
def softmax (v : Fin 16 → EReal) (e : Fin 16) : EReal :=
  Ideal.div (Ideal.exp (v e - top v)) (∑ f, Ideal.exp (v f - top v))

/-! ## The block's arithmetic -/

theorem modulated_at (x : Vec Ideal S256x4096 .f32) (g : Vec Ideal S1x4096 .f32) (sc sh : Vec Ideal S1x1x4096 .f32) (r : Fin 256)
    (n : Fin 4096) : k0_pay2 x g sc sh (ix2 r n)
      = x (ix2 r n) * invRms (fun k => x (ix2 r k)) * g (ix2 0 n) * (1 + sc (ix3 0 0 n)) + sh (ix3 0 0 n) := by
  pointwise [k0_pay2, invRms, inner]

/-- The block's logits: experts by tokens. -/
def blkLogits (w : FVec Ideal S16x4096 .bf16) (h : FVec Ideal S256x4096 .f32) : FVec Ideal S16x256 .f32 :=
  matmul dot_S16x4096_S256x4096_S16x256_1_1_0_0_n_n none (shapeCast S16x4096 w shapeCasts_S16x4096_S16x4096)
    (truncf .bf16 h bitsLt_bf16_f32) (constant S16x256 .f32 0x00000000#32)

theorem blkLogits_at (w : FVec Ideal S16x4096 .bf16) (h : FVec Ideal S256x4096 .f32) (e : Fin 16) (r : Fin 256) :
    blkLogits w h (ix2 e r) = inner (fun k => h (ix2 r k)) (fun k => w (ix2 e k)) := by
  pointwise [blkLogits, inner]
  simp only [mul_comm]

theorem top_read (l : FVec Ideal S16x256 .f32) (r : Fin 256) :
    multiReduction .maximumf [0] S256 l 0xFF800000#32 reduces_S16x256_S256 (.inl rfl) rfl (ix1 r) = top (fun e => l (ix2 e r)) := by
  refine (Ideal.multiReduction_maximumf_single (s := S16x256) (t := S256) (a := 0) l _ reduces_S16x256_S256 _ _ (ix1 r)).trans ?_
  refine congrArg (Finset.fold max _ · Finset.univ) (funext fun e => congrArg l ?_)
  funext a
  match a with
  | ⟨0, _⟩ => rfl
  | ⟨1, _⟩ => rfl

theorem weight_at (x : Vec Ideal S256x4096 .f32) (g : Vec Ideal S1x4096 .f32) (sc sh : Vec Ideal S1x1x4096 .f32)
    (w : Vec Ideal S16x4096 .bf16) (e : Fin 16) (r : Fin 256) : k0_pay3 x g sc sh w (ix2 e r)
      = Ideal.exp (blkLogits w (k0_pay2 x g sc sh) (ix2 e r) - top (fun f => blkLogits w (k0_pay2 x g sc sh) (ix2 f r))) := by
  rw [← top_read]
  show Ideal.exp (_ - _) = _
  refine congrArg (fun v => Ideal.exp (blkLogits w (k0_pay2 x g sc sh) (ix2 e r) - v)) ?_
  show broadcastTo S16x256 (shapeCast S1x256 (multiReduction .maximumf [0] S256 (blkLogits w (k0_pay2 x g sc sh)) 0xFF800000#32
    reduces_S16x256_S256 (.inl rfl) rfl) shapeCasts_S256_S1x256) broadcasts_S1x256_S16x256 (ix2 e r) = _
  generalize multiReduction .maximumf [0] S256 (blkLogits w (k0_pay2 x g sc sh)) 0xFF800000#32
    reduces_S16x256_S256 (.inl rfl) rfl = v
  pointwise []

theorem total_at (x : Vec Ideal S256x4096 .f32) (g : Vec Ideal S1x4096 .f32) (sc sh : Vec Ideal S1x1x4096 .f32)
    (w : Vec Ideal S16x4096 .bf16) (r : Fin 256) : k0_pay4 x g sc sh w (ix2 0 r) = ∑ f, k0_pay3 x g sc sh w (ix2 f r) := by
  unfold k0_pay4
  generalize k0_pay3 x g sc sh w = v
  pointwise []

theorem affinity_at (x : Vec Ideal S256x4096 .f32) (g : Vec Ideal S1x4096 .f32) (sc sh : Vec Ideal S1x1x4096 .f32)
    (w : Vec Ideal S16x4096 .bf16) (e : Fin 16) (r : Fin 256) :
    k0_pay1 (k0_pay3 x g sc sh w) (k0_pay4 x g sc sh w) (ix2 e r)
      = softmax (fun f => inner (fun k => k0_pay2 x g sc sh (ix2 r k)) (fun k => w (ix2 f k))) e := by
  have h : ∀ (a : FVec Ideal S16x256 .f32) (b : FVec Ideal S1x256 .f32),
      k0_pay1 a b (ix2 e r) = Ideal.div (a (ix2 e r)) (b (ix2 0 r)) := fun a b => by pointwise [k0_pay1]
  rw [h, total_at]
  simp only [weight_at, blkLogits_at]
  rfl

/-! ## What the blocks hold -/

variable (m : (ℓ : Loc nD τ sig) → Buf (Elt Ideal) ℓ) (c : Dev nD) (t : Fin cfg0.N)

theorem lt_66 : t.val < 66 := lt_of_lt_of_eq t.isLt N_0

/-- The point's rows, weights, scales and shifts and the router's weights, as the point finds them. -/
abbrev X0 : Vec Ideal S256x4096 .f32 := iblk m c 0 t
abbrev X1 : Vec Ideal S1x4096 .f32 := iblk m c 1 t
abbrev X2 : Vec Ideal S1x1x4096 .f32 := iblk m c 2 t
abbrev X3 : Vec Ideal S1x1x4096 .f32 := iblk m c 3 t
abbrev X4 : Vec Ideal S16x4096 .bf16 := iblk m c 4 t

theorem idx_in (t : Fin cfg0.N) : win0_0.index t = ![t.val, 0] ∧ win0_1.index t = ![0, 0]
    ∧ win0_2.index t = ![min (t.val / 32) 2 * 6 + 4, 0, 0] ∧ win0_3.index t = ![min (t.val / 32) 2 * 6 + 3, 0, 0]
    ∧ win0_4.index t = ![0, 0] ∧ win0_5.index t = ![t.val, 0] ∧ win0_6.index t = ![0, t.val] := by
  revert t
  decide +kernel

/-- The stream, the norm's weights, the modulation rows and the router's weights. -/
abbrev stream : Vec Ideal S16896x4096 .f32 := m ((c.tc : Thread nD τ).loc main_arg0)
abbrev weights : Vec Ideal S4096 .f32 := m ((c.tc : Thread nD τ).loc main_arg1)
abbrev modulation : Vec Ideal S48x1x4096 .f32 := m ((c.tc : Thread nD τ).loc main_arg2)
abbrev router : Vec Ideal S2x4096x16 .f32 := m ((c.tc : Thread nD τ).loc main_arg3)

/-- The token of a row of the point's block. -/
def row (r : Fin 256) : Fin 16896 := ⟨t.val * 256 + r, by have := lt_66 t; omega⟩

theorem modRow_row (k : ℕ) (hk : k < 6) (r : Fin 256) :
    modRow k hk (row t r) = ⟨min (t.val / 32) 2 * 6 + k, by omega⟩ := Fin.ext (by
  show min ((t.val * 256 + r.val) / 8192) 2 * 6 + k = min (t.val / 32) 2 * 6 + k
  have : (t.val * 256 + r.val) / 8192 = t.val / 32 := by omega
  rw [this])

theorem stream_read (r : Fin 256) (n : Fin 4096) : X0 m c t (ix2 r n) = stream m c (ix2 (row t r) n) := by
  have e : V m c (arrRef spec0 0) = stream m c := V_main_arg0 m c
  show ((cfg0.win 0).blk t).view.read (Elt Ideal) (V m c (arrRef spec0 0)) (ix2 r n) = _
  rw [e]
  blk_ext [idx_in t, row]

/-- The weights as one row: the host's reshape before the call. -/
theorem weights_row (n : Fin 4096) : (V m c main_v0 : Vec Ideal S1x4096 .f32) (ix2 0 n) = weights m c (ix1 n) := by
  have e : (V m c main_v0 : Vec Ideal S1x4096 .f32) = broadcastInDim S1x4096 ![1] bcast_S4096_S1x4096_1 (weights m c) := by
    unfold V
    after_results
  rw [e]
  pointwise []

theorem weights_read (n : Fin 4096) : X1 m c t (ix2 0 n) = weights m c (ix1 n) := by
  rw [← weights_row m c n]
  generalize hv : V m c main_v0 = v
  have e : V m c (arrRef spec0 1) = v := hv
  show ((cfg0.win 1).blk t).view.read (Elt Ideal) (V m c (arrRef spec0 1)) (ix2 0 n) = _
  rw [e]
  blk_ext [idx_in t]

theorem scale_read (r : Fin 256) (n : Fin 4096) :
    X2 m c t (ix3 0 0 n) = modulation m c (ix3 (modRow 4 (by decide) (row t r)) 0 n) := by
  have e : V m c (arrRef spec0 2) = modulation m c := V_main_arg2 m c
  show ((cfg0.win 2).blk t).view.read (Elt Ideal) (V m c (arrRef spec0 2)) (ix3 0 0 n) = _
  rw [e, modRow_row]
  blk_ext [idx_in t]

theorem shift_read (r : Fin 256) (n : Fin 4096) :
    X3 m c t (ix3 0 0 n) = modulation m c (ix3 (modRow 3 (by decide) (row t r)) 0 n) := by
  have e : V m c (arrRef spec0 3) = modulation m c := V_main_arg2 m c
  show ((cfg0.win 3).blk t).view.read (Elt Ideal) (V m c (arrRef spec0 3)) (ix3 0 0 n) = _
  rw [e, modRow_row]
  blk_ext [idx_in t]

/-- The first layer's router weights, transposed: experts by model dimension. -/
def transposed (p : FVec Ideal S2x4096x16 .f32) : FVec Ideal S16x4096 .bf16 :=
  truncf .bf16 (transpose S16x4096 [1, 0] (shapeCast S4096x16 (extractStridedSlice S1x4096x16 ![0, 0, 0] p
    slices_S2x4096x16_S1x4096x16_0_0_0) shapeCasts_S1x4096x16_S4096x16) transposes_S4096x16_S16x4096_1_0) bitsLt_bf16_f32

theorem transposed_at (p : FVec Ideal S2x4096x16 .f32) (e : Fin 16) (k : Fin 4096) :
    transposed p (ix2 e k) = p (ix3 0 k e) := by
  pointwise [transposed]

/-- The host transposes the router's weights before the call. -/
theorem router_rows (e : Fin 16) (k : Fin 4096) : (V m c main_v4 : Vec Ideal S16x4096 .bf16) (ix2 e k) = router m c (ix3 0 k e) := by
  have h : (V m c main_v4 : Vec Ideal S16x4096 .bf16) = transposed (router m c) := by
    unfold V
    after_results
    rfl
  rw [h, transposed_at]

theorem router_read (e : Fin 16) (k : Fin 4096) : X4 m c t (ix2 e k) = router m c (ix3 0 k e) := by
  rw [← router_rows m c e k]
  generalize hv : V m c main_v4 = v
  have h : V m c (arrRef spec0 4) = v := hv
  show ((cfg0.win 4).blk t).view.read (Elt Ideal) (V m c (arrRef spec0 4)) (ix2 e k) = _
  rw [h]
  blk_ext [idx_in t]

/-! ## The result arrays -/

/-- The modulated rows: the scale and the shift are the fifth and the fourth of a token's modulation rows. -/
abbrev entry (x : Vec Ideal S16896x4096 .f32) (g : Vec Ideal S4096 .f32) (w : Vec Ideal S48x1x4096 .f32) (s : Fin 16896)
    (n : Fin 4096) : EReal := Mod.entry 4 3 (by decide) (by decide) x g w s n

def modArr (x : Vec Ideal S16896x4096 .f32) (g : Vec Ideal S4096 .f32) (w : Vec Ideal S48x1x4096 .f32) :
    Vec Ideal S16896x4096 .f32 := fun u => entry x g w (u 0) (u 1)

/-- A token's logits. -/
def logits (x : Vec Ideal S16896x4096 .f32) (g : Vec Ideal S4096 .f32) (w : Vec Ideal S48x1x4096 .f32)
    (p : Vec Ideal S2x4096x16 .f32) (s : Fin 16896) (e : Fin 16) : EReal := inner (fun k => entry x g w s k) (fun k => p (ix3 0 k e))

/-- The affinities: experts by tokens. -/
def affArr (x : Vec Ideal S16896x4096 .f32) (g : Vec Ideal S4096 .f32) (w : Vec Ideal S48x1x4096 .f32)
    (p : Vec Ideal S2x4096x16 .f32) : Vec Ideal S16x16896 .f32 := fun u => softmax (logits x g w p (u 1)) (u 0)

theorem modulated_read (r : Fin 256) (n : Fin 4096) : k0_pay2 (X0 m c t) (X1 m c t) (X2 m c t) (X3 m c t) (ix2 r n)
    = entry (stream m c) (weights m c) (modulation m c) (row t r) n := by
  refine (modulated_at (X0 m c t) (X1 m c t) (X2 m c t) (X3 m c t) r n).trans ?_
  rw [stream_read, weights_read, scale_read m c t r, shift_read m c t r, funext fun k => stream_read m c t r k]
  rfl

theorem covers_rows : (cfg0.win 5).Covers := by
  refine (cfg0.win 5).covers_of_index_surj rfl (by decide) fun β => ?_
  have b0 : (β 0).val < 66 := lt_of_lt_of_eq (β 0).isLt (by decide)
  have b1 : (β 1).val < 1 := lt_of_lt_of_eq (β 1).isLt (by decide)
  refine ⟨⟨(β 0).val, lt_of_lt_of_eq b0 N_0.symm⟩, fun a => ?_⟩
  refine (congrFun (idx_in ⟨(β 0).val, lt_of_lt_of_eq b0 N_0.symm⟩).2.2.2.2.2.1 a).trans ?_
  match a with
  | ⟨0, _⟩ => rfl
  | ⟨1, _⟩ =>
    show 0 = (β 1).val
    omega

theorem covers_affinities : (cfg0.win 6).Covers := by
  refine (cfg0.win 6).covers_of_index_surj rfl (by decide) fun β => ?_
  have b0 : (β 0).val < 1 := lt_of_lt_of_eq (β 0).isLt (by decide)
  have b1 : (β 1).val < 66 := lt_of_lt_of_eq (β 1).isLt (by decide)
  refine ⟨⟨(β 1).val, lt_of_lt_of_eq b1 N_0.symm⟩, fun a => ?_⟩
  refine (congrFun (idx_in ⟨(β 1).val, lt_of_lt_of_eq b1 N_0.symm⟩).2.2.2.2.2.2 a).trans ?_
  match a with
  | ⟨0, _⟩ =>
    show 0 = (β 0).val
    omega
  | ⟨1, _⟩ => rfl

theorem rows_at (r : Fin 256) (n : Fin 4096) :
    ((cfg0.win 5).blk t).view.emb (ix2 r n) = (ix2 (row t r) n : S16896x4096.Idx) := by
  funext a
  refine Fin.ext ((win0_5.rect_emb_val t (ix2 r n : S256x4096.Idx) a).trans ?_)
  rw [(idx_in t).2.2.2.2.2.1]
  match a with
  | ⟨0, _⟩ => rfl
  | ⟨1, _⟩ => show 0 * 4096 + n.val = n.val; omega

theorem affinities_at (e : Fin 16) (r : Fin 256) :
    ((cfg0.win 6).blk t).view.emb (ix2 e r) = (ix2 e (row t r) : S16x16896.Idx) := by
  funext a
  refine Fin.ext ((win0_6.rect_emb_val t (ix2 e r : S16x256.Idx) a).trans ?_)
  rw [(idx_in t).2.2.2.2.2.2]
  match a with
  | ⟨0, _⟩ => show 0 * 16 + e.val = e.val; omega
  | ⟨1, _⟩ => rfl

theorem rows_array : (dats m 0 c).arrAt 5 cfg0.N = modArr (stream m c) (weights m c) (modulation m c) := by
  refine (dats m 0 c).arrAt_eq_of_covers 5 _ covers_rows fun t hf y => ?_
  blk_simp
  rw [after0_5]
  frame_out
  obtain ⟨r, n, rfl⟩ : ∃ (r : Fin 256) (n : Fin 4096), y = (ix2 r n : S256x4096.Idx) := ⟨y 0, y 1, by idx_vars y⟩
  refine Eq.trans ?_ (congrArg (modArr (stream m c) (weights m c) (modulation m c)) (rows_at t r n).symm)
  exact modulated_read m c t r n

theorem affinities_array :
    (dats m 0 c).arrAt 6 cfg0.N = affArr (stream m c) (weights m c) (modulation m c) (router m c) := by
  refine (dats m 0 c).arrAt_eq_of_covers 6 _ covers_affinities fun t hf y => ?_
  blk_simp
  rw [after0_6]
  frame_out
  obtain ⟨e, r, rfl⟩ : ∃ (e : Fin 16) (r : Fin 256), y = (ix2 e r : S16x256.Idx) := ⟨y 0, y 1, by idx_vars y⟩
  refine Eq.trans ?_ (congrArg (affArr (stream m c) (weights m c) (modulation m c) (router m c)) (affinities_at t e r).symm)
  refine (affinity_at (X0 m c t) (X1 m c t) (X2 m c t) (X3 m c t) (X4 m c t) e r).trans ?_
  simp only [modulated_read, router_read]
  rfl

/-- The kernel runs to the two result arrays and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v5_0) = modArr (stream m c) (weights m c) (modulation m c)
    ∧ r.2.mem ((c.tc : Thread nD τ).loc main_v5_1) = affArr (stream m c) (weights m c) (modulation m c) (router m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (run_main m ρ)
  exact ⟨((h c).1 5).trans (rows_array m c), ((h c).1 6).trans (affinities_array m c),
    ((h c).1 0).trans (((dats m 0 c).arrAt_in 0 rfl _).trans ((A_eq m c 0).trans (V_main_arg0 m c))),
    ((h c).2 main_arg1 (mem_restRefs_of main_arg1 (by decide) (by decide))).trans (V_main_arg1 m c),
    ((h c).1 2).trans (((dats m 0 c).arrAt_in 2 rfl _).trans ((A_eq m c 2).trans (V_main_arg2 m c))),
    ((h c).2 main_arg3 (mem_restRefs_of main_arg3 (by decide) (by decide))).trans (V_main_arg3 m c)⟩

end Cert.Proj.Router

end
-- ==== Proof.Proj.RouterClaim.lean ====
/- The reference's two results are the same arrays as the kernel's, and the claims about the two. -/
module

public import proofs.«01_k».proof.Defs
public import proofs.«01_k».proof.Proof.Proj.Router
public import proofs.«01_k».proof.Proof.Proj.ModClaim
public import proofs.«01_k».proof.Proof.Gen.Reference12Ideal.Run
public import Idealize.ShloMosaic.Lib.Quiescent

@[expose] public section

set_option maxRecDepth 16384

noncomputable section

namespace Cert.Proj.Router

open Idealize.ShloMosaic Idealize.ShloMosaic.TcCoe Idealize.SL.Sem Cert.Reference12Ideal Cert.Reference12Ideal.Gen

/-! ## The modulated rows -/

/-- The scale and the shift of every sample and of the context. -/
def scaleRows (w : FVec Ideal S48x1x4096 .f32) : FVec Ideal S8x4096 .f32 :=
  shapeCast S8x4096 (extractStridedSlice S8x1x4096 ![0, 4, 0] (shapeCast S8x6x4096 w shapeCasts_S48x1x4096_S8x6x4096)
    slices_S8x6x4096_S8x1x4096_0_4_0) shapeCasts_S8x1x4096_S8x4096
def shiftRows (w : FVec Ideal S48x1x4096 .f32) : FVec Ideal S8x4096 .f32 :=
  shapeCast S8x4096 (extractStridedSlice S8x1x4096 ![0, 3, 0] (shapeCast S8x6x4096 w shapeCasts_S48x1x4096_S8x6x4096)
    slices_S8x6x4096_S8x1x4096_0_3_0) shapeCasts_S8x1x4096_S8x4096

theorem scaleRows_at (w : FVec Ideal S48x1x4096 .f32) (b : Fin 8) (n : Fin 4096) :
    scaleRows w (ix2 b n) = w (ix3 ⟨b * 6 + 4, by omega⟩ 0 n) := by
  pointwise [scaleRows]

theorem shiftRows_at (w : FVec Ideal S48x1x4096 .f32) (b : Fin 8) (n : Fin 4096) :
    shiftRows w (ix2 b n) = w (ix3 ⟨b * 6 + 3, by omega⟩ 0 n) := by
  pointwise [shiftRows]

/-- The modulated rows as the reference computes them. -/
def rows (x : FVec Ideal S16896x4096 .f32) (g : FVec Ideal S4096 .f32) (w : FVec Ideal S48x1x4096 .f32) :
    FVec Ideal S16896x4096 .f32 := Mod.stacked (Mod.normedRows x g) (scaleRows w) (shiftRows w)

theorem rows_read (x : FVec Ideal S16896x4096 .f32) (g : FVec Ideal S4096 .f32) (w : FVec Ideal S48x1x4096 .f32) (s : Fin 16896)
    (n : Fin 4096) : rows x g w (ix2 s n) = entry x g w s n := by
  unfold rows
  rw [Mod.modulated_rows, Mod.normedRows_at, scaleRows_at, shiftRows_at]
  rfl

theorem reference_rows (x : FVec Ideal S16896x4096 .f32) (g : FVec Ideal S4096 .f32) (w : FVec Ideal S48x1x4096 .f32) :
    rows x g w = modArr x g w := by
  funext u
  idx_vars u
  exact rows_read x g w u0 u1

/-! ## The affinities -/

/-- The rows' product with the first layer's router weights. -/
def product (h : FVec Ideal S16896x4096 .f32) (p : FVec Ideal S2x4096x16 .f32) : FVec Ideal S16896x16 .f32 :=
  Host.dotGeneral dot_S16896x4096_S4096x16_S16896x16_1_0_0_1_n_n none h
    (shapeCast S4096x16 (extractStridedSlice S1x4096x16 ![0, 0, 0] p slices_S2x4096x16_S1x4096x16_0_0_0)
      shapeCasts_S1x4096x16_S4096x16)

theorem product_at (h : FVec Ideal S16896x4096 .f32) (p : FVec Ideal S2x4096x16 .f32) (s : Fin 16896) (e : Fin 16) :
    product h p (ix2 s e) = inner (fun k => h (ix2 s k)) (fun k => p (ix3 0 k e)) := by
  pointwise [product, inner]

/-- A token's greatest logit. -/
def greatest (l : FVec Ideal S16896x16 .f32) : FVec Ideal S16896 .f32 :=
  maximumf (broadcastInDim S16896 ![] bcast_S_S16896 (constant S_ .f32 0xFF800000#32))
    (Host.reduce FloatOps.maximumf l (constant S_ .f32 0xFF800000#32) reducesTo_S16896x16_S16896_d1 h_S_)

theorem greatest_at (l : FVec Ideal S16896x16 .f32) (s : Fin 16896) : greatest l (ix1 s) = top (fun e => l (ix2 s e)) := by
  have hr : Shape.Reduces S16896x16 [1] S16896 := by decide
  have h : Host.reduce (FloatOps.maximumf : Ideal .f32 → Ideal .f32 → Ideal .f32) l (constant S_ .f32 0xFF800000#32)
      reducesTo_S16896x16_S16896_d1 h_S_ (ix1 s) = top (fun e => l (ix2 s e)) := by
    refine (Host.reduce_eq_fold_single (s := S16896x16) (t := S16896) (a := 1) (max : EReal → EReal → EReal) l _ _ hr _ (ix1 s)).trans ?_
    refine congrArg (Finset.fold max _ · Finset.univ) (funext fun e => congrArg l ?_)
    funext a
    match a with
    | ⟨0, _⟩ => rfl
    | ⟨1, _⟩ => rfl
  show max (Ideal.ofBits FTy.f32 0xFF800000#32) (Host.reduce (FloatOps.maximumf : Ideal .f32 → Ideal .f32 → Ideal .f32) l
    (constant S_ .f32 0xFF800000#32) reducesTo_S16896x16_S16896_d1 h_S_ (ix1 s)) = _
  rw [h]
  exact max_eq_right ((Finset.le_fold_max _).mpr (Or.inl le_rfl))

/-- The logits' exponentials, each against its token's greatest. -/
def shares (l : FVec Ideal S16896x16 .f32) : FVec Ideal S16896x16 .f32 :=
  Host.exp (subf l (broadcastInDim S16896x16 ![0, 1] bcast_S16896x1_S16896x16_0_1
    (broadcastInDim S16896x1 ![0] bcast_S16896_S16896x1_0 (greatest l))))

theorem shares_at (l : FVec Ideal S16896x16 .f32) (s : Fin 16896) (e : Fin 16) :
    shares l (ix2 s e) = Ideal.exp (l (ix2 s e) - top (fun f => l (ix2 s f))) := by
  rw [← greatest_at]
  unfold shares
  generalize greatest l = v
  pointwise []

/-- Every share of its token's total: experts by tokens. -/
def affinities (l : FVec Ideal S16896x16 .f32) : FVec Ideal S16x16896 .f32 :=
  transpose S16x16896 [1, 0] (Host.divf (shares l) (broadcastInDim S16896x16 ![0, 1] bcast_S16896x1_S16896x16_0_1
    (broadcastInDim S16896x1 ![0] bcast_S16896_S16896x1_0
      (Host.reduceAdd (shares l) (constant S_ .f32 0x00000000#32) reducesTo_S16896x16_S16896_d1 h_S_))))
    transposes_S16896x16_S16x16896_1_0

theorem affinities_read (l : FVec Ideal S16896x16 .f32) (e : Fin 16) (s : Fin 16896) :
    affinities l (ix2 e s) = softmax (fun f => l (ix2 s f)) e := by
  have h : affinities l (ix2 e s) = Ideal.div (shares l (ix2 s e)) (∑ f, shares l (ix2 s f)) := by
    unfold affinities
    generalize shares l = v
    pointwise []
  rw [h]
  simp only [shares_at]
  rfl

theorem reference_affinities (x : FVec Ideal S16896x4096 .f32) (g : FVec Ideal S4096 .f32) (w : FVec Ideal S48x1x4096 .f32)
    (p : FVec Ideal S2x4096x16 .f32) : affinities (product (rows x g w) p) = affArr x g w p := by
  funext u
  idx_vars u
  refine (affinities_read _ u0 u1).trans ?_
  simp only [product_at, rows_read]
  rfl

/-- The kernel and the reference end with equal results. -/
theorem algebraic : @algebraic_Kernel12Ideal_Reference12Ideal Cert.Kernel12Ideal.Gen.facts Cert.Reference12Ideal.Gen.facts := by
  intro m g m' g' _ hm
  refine ⟨fun c => modArr (stream m c) (weights m c) (modulation m c),
    fun c => affArr (stream m c) (weights m c) (modulation m c) (router m c), ?_, ?_⟩
  · exact result_run m g
  · refine (θ_run _ _ _).mono (fun r h c => ?_) (Cert.Reference12Ideal.Value.run m' g')
    obtain ⟨e0, e1, e2, e3⟩ := hm c
    refine ⟨(h c).1.trans ?_, (h c).2.1.trans ?_, (h c).2.2⟩
    · rw [e0, e1, e2]
      exact reference_rows _ _ _
    · unfold Cert.Reference12Ideal.Value.res_main_v60
      rw [e0, e1, e2, e3]
      exact reference_affinities _ _ _ _

/-- The reference runs, keeps its arguments, and has no semaphore counter that could end off zero. -/
theorem reference_frame : @quiescent_Reference12Ideal Cert.Reference12Ideal.Gen.facts := fun m g _ =>
  (θ_run _ _ _).mono (fun r h => ⟨fun c => (h c).2.2, sem_eq_zero_of_no_sems (by decide) r.2⟩)
    (Cert.Reference12Ideal.Value.run m g)

end Cert.Proj.Router

end
-- ==== Proof.Proj.Ada.lean ====
/- The modulation of both layers: the conditioning rows through silu, times the weights, plus the biases. -/
module

public import proofs.«01_k».proof.Proof.Proj.Spec
public import proofs.«01_k».proof.Proof.Gen.Kernel13Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Ada

open Idealize.ShloMosaic Idealize.ShloMosaic.TcCoe Idealize.SL.Sem Idealize.ShloMosaic.Pipeline Cert.Kernel13Ideal Cert.Kernel13Ideal.Gen

theorem product_at (x : Vec Ideal S8x4096 .f32) (w : Vec Ideal S1x4096x512 .f32) (b : Vec Ideal S1x1x512 .f32) (r : Fin 8)
    (n : Fin 512) : k0_pay1 x w b (ix3 0 r n)
      = inner (fun k => x (ix2 r k) * sigmoid (x (ix2 r k))) (fun k => w (ix3 0 k n)) + b (ix3 0 0 n) := by
  pointwise [k0_pay1, inner, sigmoid]
  simp only [sub_eq_add_neg, zero_add]

/-! ## What the blocks hold -/

variable (m : (ℓ : Loc nD τ sig) → Buf (Elt Ideal) ℓ) (c : Dev nD) (t : Fin cfg0.N)

theorem lt_96 : t.val < 96 := lt_of_lt_of_eq t.isLt N_0

/-- The conditioning rows, the point's weight columns and its biases, as the point finds them. -/
abbrev X0 : Vec Ideal S8x4096 .f32 := iblk m c 0 t
abbrev X1 : Vec Ideal S1x4096x512 .f32 := iblk m c 1 t
abbrev X2 : Vec Ideal S1x1x512 .f32 := iblk m c 2 t

theorem idx_in (t : Fin cfg0.N) : win0_0.index t = ![0, 0] ∧ win0_1.index t = ![t.val / 48, 0, t.val % 48]
    ∧ win0_2.index t = ![t.val / 48, 0, t.val % 48] ∧ win0_3.index t = ![t.val / 48, 0, t.val % 48] := by
  revert t
  decide +kernel

/-- The conditioning rows, the weights and the biases. -/
abbrev cond : Vec Ideal S8x4096 .f32 := m ((c.tc : Thread nD τ).loc main_arg0)
abbrev weights : Vec Ideal S2x4096x24576 .f32 := m ((c.tc : Thread nD τ).loc main_arg1)
abbrev biases : Vec Ideal S2x24576 .f32 := m ((c.tc : Thread nD τ).loc main_arg2)

/-- The layer of a point, and the place of its column. -/
def layer : Fin 2 := ⟨t.val / 48, by have := lt_96 t; omega⟩
def col (n : Fin 512) : Fin 24576 := ⟨t.val % 48 * 512 + n, by omega⟩

theorem cond_read (r : Fin 8) (k : Fin 4096) : X0 m c t (ix2 r k) = cond m c (ix2 r k) := by
  have e : V m c (arrRef spec0 0) = cond m c := V_main_arg0 m c
  show ((cfg0.win 0).blk t).view.read (Elt Ideal) (V m c (arrRef spec0 0)) (ix2 r k) = _
  rw [e]
  blk_ext [idx_in t]

theorem weights_read (k : Fin 4096) (n : Fin 512) : X1 m c t (ix3 0 k n) = weights m c (ix3 (layer t) k (col t n)) := by
  have e : V m c (arrRef spec0 1) = weights m c := V_main_arg1 m c
  show ((cfg0.win 1).blk t).view.read (Elt Ideal) (V m c (arrRef spec0 1)) (ix3 0 k n) = _
  rw [e]
  blk_ext [idx_in t, layer, col]

/-- The biases under a unit axis: the host's reshape before the call. -/
theorem biases_rows (l : Fin 2) (n : Fin 24576) : (V m c main_v0 : Vec Ideal S2x1x24576 .f32) (ix3 l 0 n) = biases m c (ix2 l n) := by
  have e : (V m c main_v0 : Vec Ideal S2x1x24576 .f32) = shapeCast S2x1x24576 (biases m c) shapeCasts_S2x24576_S2x1x24576 := by
    unfold V
    after_results
    rfl
  rw [e]
  pointwise []

theorem biases_read (n : Fin 512) : X2 m c t (ix3 0 0 n) = biases m c (ix2 (layer t) (col t n)) := by
  rw [← biases_rows m c (layer t) (col t n)]
  generalize hv : V m c main_v0 = v
  have e : V m c (arrRef spec0 2) = v := hv
  show ((cfg0.win 2).blk t).view.read (Elt Ideal) (V m c (arrRef spec0 2)) (ix3 0 0 n) = _
  rw [e]
  blk_ext [idx_in t, layer, col]

/-! ## The result array -/

/-- The modulation as an array: layer, conditioning row, column. -/
def modulation (x : Vec Ideal S8x4096 .f32) (w : Vec Ideal S2x4096x24576 .f32) (b : Vec Ideal S2x24576 .f32) :
    Vec Ideal S2x8x24576 .f32 := fun u =>
  inner (fun k => x (ix2 (u 1) k) * sigmoid (x (ix2 (u 1) k))) (fun k => w (ix3 (u 0) k (u 2))) + b (ix2 (u 0) (u 2))

theorem covers_out : (cfg0.win 3).Covers := by
  refine (cfg0.win 3).covers_of_index_surj rfl (by decide) fun β => ?_
  have b0 : (β 0).val < 2 := lt_of_lt_of_eq (β 0).isLt (by decide)
  have b1 : (β 1).val < 1 := lt_of_lt_of_eq (β 1).isLt (by decide)
  have b2 : (β 2).val < 48 := lt_of_lt_of_eq (β 2).isLt (by decide)
  have hlt : (β 0).val * 48 + (β 2).val < 96 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 48 + (β 2).val) / 48 = (β 0).val
    omega
  | ⟨1, _⟩ =>
    show 0 = (β 1).val
    omega
  | ⟨2, _⟩ =>
    show ((β 0).val * 48 + (β 2).val) % 48 = (β 2).val
    omega

theorem result_at (r : Fin 8) (n : Fin 512) :
    ((cfg0.win 3).blk t).view.emb (ix3 0 r n) = (ix3 (layer t) r (col t n) : S2x8x24576.Idx) := by
  funext a
  refine Fin.ext ((win0_3.rect_emb_val t (ix3 0 r n : S1x8x512.Idx) a).trans ?_)
  rw [(idx_in t).2.2.2]
  match a with
  | ⟨0, _⟩ => show t.val / 48 * 1 + 0 = t.val / 48; omega
  | ⟨1, _⟩ => show 0 * 8 + r.val = r.val; omega
  | ⟨2, _⟩ => rfl

theorem result_array : (dats m 0 c).arrAt 3 cfg0.N = modulation (cond m c) (weights m c) (biases m c) := by
  refine (dats m 0 c).arrAt_eq_of_covers 3 _ covers_out fun t hf y => ?_
  blk_simp
  rw [after0_3]
  frame_out
  obtain ⟨r, n, rfl⟩ : ∃ (r : Fin 8) (n : Fin 512), y = (ix3 0 r n : S1x8x512.Idx) :=
    ⟨y 1, y 2, by idx_vars y; rw [Subsingleton.elim y0 0]⟩
  refine Eq.trans ?_ (congrArg (modulation (cond m c) (weights m c) (biases m c)) (result_at t r n).symm)
  refine (product_at (X0 m c t) (X1 m c t) (X2 m c t) r n).trans ?_
  simp only [biases_read, cond_read, weights_read]
  rfl

/-- The kernel runs to the modulation and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v1) = modulation (cond m c) (weights m c) (biases m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 3).trans (result_array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (mem_restRefs_of main_arg2 (by decide) (by decide))).trans (V_main_arg2 m c)⟩

end Cert.Proj.Ada

end
-- ==== Proof.Proj.AdaClaim.lean ====
/- The reference's product is the same array as the kernel's, and the claims about the two. -/
module

public import proofs.«01_k».proof.Defs
public import proofs.«01_k».proof.Proof.Proj.Ada
public import proofs.«01_k».proof.Proof.Gen.Reference13Ideal.Run
public import Idealize.ShloMosaic.Lib.Quiescent

@[expose] public section

set_option maxRecDepth 16384

noncomputable section

namespace Cert.Proj.Ada

open Idealize.ShloMosaic Idealize.ShloMosaic.TcCoe Idealize.SL.Sem Cert.Reference13Ideal Cert.Reference13Ideal.Gen

/-- silu of the conditioning rows. -/
def activated (x : FVec Ideal S8x4096 .f32) : FVec Ideal S8x4096 .f32 :=
  mulf x (Host.divf (broadcastInDim S8x4096 ![] bcast_S_S8x4096 (constant S_ .f32 0x3F800000#32))
    (addf (broadcastInDim S8x4096 ![] bcast_S_S8x4096 (constant S_ .f32 0x3F800000#32)) (Host.exp (Host.negf x))))

theorem activated_at (x : FVec Ideal S8x4096 .f32) (r : Fin 8) (k : Fin 4096) :
    activated x (ix2 r k) = x (ix2 r k) * sigmoid (x (ix2 r k)) := by
  pointwise [activated, sigmoid]

/-- The reference multiplies weights by rows, the kernel rows by weights. -/
theorem reference_array (x : FVec Ideal S8x4096 .f32) (w : FVec Ideal S2x4096x24576 .f32) (b : FVec Ideal S2x24576 .f32) :
    (addf (transpose S2x8x24576 [0, 2, 1] (Host.dotGeneral dot_S2x4096x24576_S8x4096_S2x24576x8_1_1_02_0_n_n none w (activated x))
        transposes_S2x24576x8_S2x8x24576_0_2_1)
      (broadcastInDim S2x8x24576 ![0, 1, 2] bcast_S2x1x24576_S2x8x24576_0_1_2
        (broadcastInDim S2x1x24576 ![0, 2] bcast_S2x24576_S2x1x24576_0_2 b)) : FVec Ideal S2x8x24576 .f32)
      = modulation x w b := by
  funext u
  idx_vars u
  unfold modulation
  generalize ha : activated x = a
  have e : (fun k : Fin 4096 => x (ix2 u1 k) * sigmoid (x (ix2 u1 k))) = fun k => a (ix2 u1 k) :=
    funext fun k => by rw [← ha, activated_at]
  show _ = inner (fun k : Fin 4096 => x (ix2 u1 k) * sigmoid (x (ix2 u1 k))) (fun k => w (ix3 u0 k u2)) + b (ix2 u0 u2)
  rw [e]
  pointwise [inner]
  simp only [mul_comm]

/-- The kernel and the reference end with equal results. -/
theorem algebraic : @algebraic_Kernel13Ideal_Reference13Ideal Cert.Kernel13Ideal.Gen.facts Cert.Reference13Ideal.Gen.facts := by
  intro m g m' g' _ hm
  refine ⟨fun c => modulation (cond m c) (weights m c) (biases m c), ?_, ?_⟩
  · exact result_run m g
  · refine (θ_run _ _ _).mono (fun r h c => ?_) (Cert.Reference13Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference13Ideal Cert.Reference13Ideal.Gen.facts := fun m g _ =>
  (θ_run _ _ _).mono (fun r h => ⟨fun c => (h c).2, sem_eq_zero_of_no_sems (by decide) r.2⟩)
    (Cert.Reference13Ideal.Value.run m g)

end Cert.Proj.Ada

end
-- ==== Proof.Proj.Chan.lean ====
/- The Fourier transform over the channels of every group: the real and the imaginary part, block by block. -/
module

public import proofs.«01_k».proof.Proof.Proj.Spec
public import proofs.«01_k».proof.Proof.Gen.Kernel14Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Chan

open Idealize.ShloMosaic Idealize.ShloMosaic.TcCoe Idealize.SL.Sem Idealize.ShloMosaic.Pipeline Cert.Kernel14Ideal Cert.Kernel14Ideal.Gen
open Idealize.ShloMosaic.StableHlo

/-! ## The table -/

/-- The products of two channel numbers. -/
def products : Vec Ideal S512x512 .i32 :=
  muli (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0)))

/-- The number of channels, a zero replaced by one. -/
def modulus : Vec Ideal S_ .i32 :=
  select (cmpi .eq (id (constantI S_ 32 512#32)) (constantI S_ 32 0#32)) (constantI S_ 32 1#32) (id (constantI S_ 32 512#32))

/-- What the division leaves, with the sign of the product. -/
def rest : Vec Ideal S512x512 .i32 := Host.remsi products (broadcastInDim S512x512 ![] bcast_S_S512x512 modulus)

/-- The products modulo the number of channels, with the sign of the modulus. -/
def reduced : Vec Ideal S512x512 .i32 :=
  select (andi (cmpi .ne (cmpi .slt rest (broadcastInDim S512x512 ![] bcast_S_S512x512 (constantI S_ 32 0#32)))
      (broadcastInDim S512x512 ![] bcast_S_S512x512 (cmpi .slt modulus (constantI S_ 32 0#32))))
    (cmpi .ne rest (broadcastInDim S512x512 ![] bcast_S_S512x512 (constantI S_ 32 0#32))))
    (addi rest (broadcastInDim S512x512 ![] bcast_S_S512x512 modulus)) rest

/-- The angles: the f32 nearest to 2π/512 times those. -/
def angles : FVec Ideal S512x512 .f32 :=
  mulf (broadcastInDim S512x512 ![] bcast_S_S512x512 (constant S_ .f32 0x3C490FDB#32)) (sitofp .f32 reduced)

/-- The cosines and the sines with their sign turned. -/
def cosines : FVec Ideal S512x512 .f32 := Host.cos angles
def sines : FVec Ideal S512x512 .f32 := Host.negf (Host.sin angles)

/-- The two side by side. -/
def table (a b : FVec Ideal S512x512 .f32) : FVec Ideal S512x1024 .bf16 :=
  truncf .bf16 (concatenate S512x1024 1 [⟨S512x512, a⟩, ⟨S512x512, b⟩] concatenates_S512x512_S512x512_S512x1024_d1) bitsLt_bf16_f32

theorem table_left (a b : FVec Ideal S512x512 .f32) (k n : Fin 512) : table a b (ix2 k ⟨n, by omega⟩) = a (ix2 k n) := by
  pointwise [table]

theorem table_right (a b : FVec Ideal S512x512 .f32) (k n : Fin 512) : table a b (ix2 k ⟨512 + n, by omega⟩) = b (ix2 k n) := by
  pointwise [table]

/-! ## The block products -/

theorem real_at (x : Vec Ideal S512x512 .f32) (w : Vec Ideal S512x1024 .bf16) (r n : Fin 512) :
    k0_pay2 x w (ix2 r n) = inner (fun k => x (ix2 r k)) (fun k => w (ix2 k ⟨n, by omega⟩)) := by
  pointwise [k0_pay2, k0_pay1, inner]

theorem imaginary_at (x : Vec Ideal S512x512 .f32) (w : Vec Ideal S512x1024 .bf16) (r n : Fin 512) :
    k0_pay3 x w (ix2 r n) = inner (fun k => x (ix2 r k)) (fun k => w (ix2 k ⟨512 + n, by omega⟩)) := by
  pointwise [k0_pay3, k0_pay1, inner]

/-! ## What the blocks hold -/

variable (m : (ℓ : Loc nD τ sig) → Buf (Elt Ideal) ℓ) (c : Dev nD) (t : Fin cfg0.N)

theorem lt_132 : t.val < 132 := lt_of_lt_of_eq t.isLt N_0

/-- The point's rows and the table, as the point finds them. -/
abbrev X0 : Vec Ideal S512x512 .f32 := iblk m c 0 t
abbrev X1 : Vec Ideal S512x1024 .bf16 := iblk m c 1 t

theorem idx_in (t : Fin cfg0.N) : win0_0.index t = ![t.val / 4, t.val % 4] ∧ win0_1.index t = ![0, 0]
    ∧ win0_2.index t = ![t.val / 4, t.val % 4] ∧ win0_3.index t = ![t.val / 4, t.val % 4] := by
  revert t
  decide +kernel

/-- The projections. -/
abbrev proj : Vec Ideal S16896x8192 .f32 := m ((c.tc : Thread nD τ).loc main_arg0)

/-- The token of a row and the channel of a column of the point's block. -/
def row (r : Fin 512) : Fin 16896 := ⟨t.val / 4 * 512 + r, by have := lt_132 t; omega⟩
def col (n : Fin 512) : Fin 2048 := ⟨t.val % 4 * 512 + n, by omega⟩

/-- The `k`-th channel of a channel's group. -/
def groupCol (j : Fin 2048) (k : Fin 512) : Fin 8192 := ⟨j.val / 512 * 512 + k, by omega⟩

/-- A channel's number within its group. -/
def within (j : Fin 2048) : Fin 512 := ⟨j.val % 512, by omega⟩

theorem within_col (n : Fin 512) : within (col t n) = n := Fin.ext (by
  show (t.val % 4 * 512 + n.val) % 512 = n.val
  omega)

theorem proj_read (r k n : Fin 512) : X0 m c t (ix2 r k) = proj m c (ix2 (row t r) (groupCol (col t n) k)) := by
  have e : V m c (arrRef spec0 0) = proj m c := V_main_arg0 m c
  show ((cfg0.win 0).blk t).view.read (Elt Ideal) (V m c (arrRef spec0 0)) (ix2 r k) = _
  rw [e]
  have h : groupCol (col t n) k = ⟨t.val % 4 * 512 + k, by omega⟩ := Fin.ext (by
    show (t.val % 4 * 512 + n.val) / 512 * 512 + k.val = t.val % 4 * 512 + k.val
    omega)
  rw [h]
  blk_ext [idx_in t, row]

/-- The host builds the table before the call. -/
theorem table_held : (V m c main_v14 : Vec Ideal S512x1024 .bf16) = table cosines sines := by
  unfold V
  simp only [hostOps0, hostOps0_1, hostOps0_2, TRef.binary, TRef.nullary, TRef.ternary, TRef.unary, TRef.toBuf, TRef.ofBuf, cast_eq,
    List.flatten_cons, List.flatten_nil, List.append_nil, List.cons_append, List.nil_append]
  after_results_simp
  rfl

theorem table_read (k : Fin 512) (n : Fin 1024) : X1 m c t (ix2 k n) = table cosines sines (ix2 k n) := by
  rw [← table_held m c]
  generalize hv : V m c main_v14 = v
  have e : V m c (arrRef spec0 1) = v := hv
  show ((cfg0.win 1).blk t).view.read (Elt Ideal) (V m c (arrRef spec0 1)) (ix2 k n) = _
  rw [e]
  blk_ext [idx_in t]

/-! ## The result arrays -/

/-- A table's product with every group's channels. -/
def transformArr (z : Vec Ideal S16896x8192 .f32) (w : FVec Ideal S512x512 .f32) : Vec Ideal S16896x2048 .f32 := fun u =>
  inner (fun k => z (ix2 (u 0) (groupCol (u 1) k))) (fun k => w (ix2 k (within (u 1))))

theorem index_onto (a b : ℕ) (ha : a < 33) (hb : b < 4) : ∃ t : Fin cfg0.N, t.val / 4 = a ∧ t.val % 4 = b := by
  have hlt : a * 4 + b < 132 := by omega
  refine ⟨⟨_, lt_of_lt_of_eq hlt N_0.symm⟩, ?_, ?_⟩
  · show (a * 4 + b) / 4 = a
    omega
  · show (a * 4 + b) % 4 = b
    omega

theorem covers_real : (cfg0.win 2).Covers := by
  refine (cfg0.win 2).covers_of_index_surj rfl (by decide) fun β => ?_
  obtain ⟨t, h0, h1⟩ := index_onto (β 0).val (β 1).val (lt_of_lt_of_eq (β 0).isLt (by decide)) (lt_of_lt_of_eq (β 1).isLt (by decide))
  refine ⟨t, fun a => (congrFun (idx_in t).2.2.1 a).trans ?_⟩
  match a with
  | ⟨0, _⟩ => exact h0
  | ⟨1, _⟩ => exact h1

theorem covers_imaginary : (cfg0.win 3).Covers := by
  refine (cfg0.win 3).covers_of_index_surj rfl (by decide) fun β => ?_
  obtain ⟨t, h0, h1⟩ := index_onto (β 0).val (β 1).val (lt_of_lt_of_eq (β 0).isLt (by decide)) (lt_of_lt_of_eq (β 1).isLt (by decide))
  refine ⟨t, fun a => (congrFun (idx_in t).2.2.2 a).trans ?_⟩
  match a with
  | ⟨0, _⟩ => exact h0
  | ⟨1, _⟩ => exact h1

theorem real_place (r n : Fin 512) :
    ((cfg0.win 2).blk t).view.emb (ix2 r n) = (ix2 (row t r) (col t n) : S16896x2048.Idx) := by
  funext a
  refine Fin.ext ((win0_2.rect_emb_val t (ix2 r n : S512x512.Idx) a).trans ?_)
  rw [(idx_in t).2.2.1]
  match a with
  | ⟨0, _⟩ => rfl
  | ⟨1, _⟩ => rfl

theorem imaginary_place (r n : Fin 512) :
    ((cfg0.win 3).blk t).view.emb (ix2 r n) = (ix2 (row t r) (col t n) : S16896x2048.Idx) := by
  funext a
  refine Fin.ext ((win0_3.rect_emb_val t (ix2 r n : S512x512.Idx) a).trans ?_)
  rw [(idx_in t).2.2.2]
  match a with
  | ⟨0, _⟩ => rfl
  | ⟨1, _⟩ => rfl

theorem real_array : (dats m 0 c).arrAt 2 cfg0.N = transformArr (proj m c) cosines := by
  refine (dats m 0 c).arrAt_eq_of_covers 2 _ covers_real fun t hf y => ?_
  blk_simp
  rw [after0_2]
  frame_out
  obtain ⟨r, n, rfl⟩ : ∃ (r n : Fin 512), y = (ix2 r n : S512x512.Idx) := ⟨y 0, y 1, by idx_vars y⟩
  refine Eq.trans ?_ (congrArg (transformArr (proj m c) cosines) (real_place t r n).symm)
  refine (real_at (X0 m c t) (X1 m c t) r n).trans ?_
  refine congrArg₂ inner (funext fun k => proj_read m c t r k n) (funext fun k => ?_)
  refine (table_read m c t k _).trans ((table_left cosines sines k n).trans (congrArg (fun j => cosines (ix2 k j)) (within_col t n).symm))

theorem imaginary_array : (dats m 0 c).arrAt 3 cfg0.N = transformArr (proj m c) sines := by
  refine (dats m 0 c).arrAt_eq_of_covers 3 _ covers_imaginary fun t hf y => ?_
  blk_simp
  rw [after0_3]
  frame_out
  obtain ⟨r, n, rfl⟩ : ∃ (r n : Fin 512), y = (ix2 r n : S512x512.Idx) := ⟨y 0, y 1, by idx_vars y⟩
  refine Eq.trans ?_ (congrArg (transformArr (proj m c) sines) (imaginary_place t r n).symm)
  refine (imaginary_at (X0 m c t) (X1 m c t) r n).trans ?_
  refine congrArg₂ inner (funext fun k => proj_read m c t r k n) (funext fun k => ?_)
  refine (table_read m c t k _).trans ((table_right cosines sines k n).trans (congrArg (fun j => sines (ix2 k j)) (within_col t n).symm))

/-- The kernel runs to the two parts and keeps its argument. -/
theorem result_run (ρ : Dev nD → PrngReg) : θ_run defs (onTc (τ := τ) (main (F := Ideal))) ⟨m, fun _ => 0, ρ⟩ fun r => ∀ c : Dev nD,
    r.2.mem ((c.tc : Thread nD τ).loc main_v15_0) = transformArr (proj m c) cosines
    ∧ r.2.mem ((c.tc : Thread nD τ).loc main_v15_1) = transformArr (proj m c) sines
    ∧ r.2.mem ((c.tc : Thread nD τ).loc main_arg0) = m ((c.tc : Thread nD τ).loc main_arg0) := by
  refine (θ_run defs _ _).mono (fun r h c => ?_) (run_main m ρ)
  exact ⟨((h c).1 2).trans (real_array m c), ((h c).1 3).trans (imaginary_array m c),
    ((h c).1 0).trans (((dats m 0 c).arrAt_in 0 rfl _).trans ((A_eq m c 0).trans (V_main_arg0 m c)))⟩

end Cert.Proj.Chan

end
-- ==== Proof.Proj.ChanClaim.lean ====
/- The reference's transform over the channels is the same pair of arrays as the kernel's, and the claims about the two. -/
module

public import proofs.«01_k».proof.Defs
public import proofs.«01_k».proof.Proof.Proj.Chan
public import proofs.«01_k».proof.Proof.Gen.Reference14Ideal.Run
public import Idealize.ShloMosaic.Lib.Quiescent

@[expose] public section

set_option maxRecDepth 16384

noncomputable section

namespace Cert.Proj.Chan

open Idealize.ShloMosaic Idealize.ShloMosaic.TcCoe Idealize.SL.Sem Cert.Reference14Ideal Cert.Reference14Ideal.Gen

theorem reference_array (z : FVec Ideal S16896x8192 .f32) (w : FVec Ideal S512x512 .f32) :
    (shapeCast S16896x2048 (Host.dotGeneral dot_S16896x4x512_S512x512_S16896x4x512_2_0_01_1_n_n none
      (shapeCast S16896x4x512 (extractStridedSlice S16896x2048 ![0, 0] z slices_S16896x8192_S16896x2048_0_0)
        shapeCasts_S16896x2048_S16896x4x512) w) shapeCasts_S16896x4x512_S16896x2048 : FVec Ideal S16896x2048 .f32)
      = transformArr z w := by
  funext u
  idx_vars u
  pointwise [transformArr, inner, groupCol, within]

/-- The kernel and the reference end with equal parts. -/
theorem algebraic : @algebraic_Kernel14Ideal_Reference14Ideal Cert.Kernel14Ideal.Gen.facts Cert.Reference14Ideal.Gen.facts := by
  intro m g m' g' _ hm
  refine ⟨fun c => transformArr (proj m c) cosines, fun c => transformArr (proj m c) sines, ?_, ?_⟩
  · exact result_run m g
  · refine (θ_run _ _ _).mono (fun r h c => ?_) (Cert.Reference14Ideal.Value.run m' g')
    refine ⟨(h c).1.trans ?_, (h c).2.1.trans ?_, (h c).2.2⟩
    · rw [hm c]
      exact reference_array _ cosines
    · rw [hm c]
      exact reference_array _ sines

/-- The reference runs, keeps its argument, and has no semaphore counter that could end off zero. -/
theorem reference_frame : @quiescent_Reference14Ideal Cert.Reference14Ideal.Gen.facts := fun m g _ =>
  (θ_run _ _ _).mono (fun r h => ⟨fun c => (h c).2.2, sem_eq_zero_of_no_sems (by decide) r.2⟩)
    (Cert.Reference14Ideal.Value.run m g)

end Cert.Proj.Chan

end
-- ==== Proof.Proj.Ctx.lean ====
/- The Fourier transform over the context's rows of every sample: its real part, scaled, block by block. -/
module

public import proofs.«01_k».proof.Proof.Proj.Spec
public import proofs.«01_k».proof.Proof.Gen.Kernel15Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.Ctx

open Idealize.ShloMosaic Idealize.ShloMosaic.TcCoe Idealize.SL.Sem Idealize.ShloMosaic.Pipeline Cert.Kernel15Ideal Cert.Kernel15Ideal.Gen
open Idealize.ShloMosaic.StableHlo

/-! ## The table -/

/-- The products of two row numbers. -/
def products : Vec Ideal S256x256 .i32 :=
  muli (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))

/-- The number of rows, a zero replaced by one. -/
def modulus : Vec Ideal S_ .i32 :=
  select (cmpi .eq (id (constantI S_ 32 256#32)) (constantI S_ 32 0#32)) (constantI S_ 32 1#32) (id (constantI S_ 32 256#32))

/-- What the division leaves, with the sign of the product. -/
def rest : Vec Ideal S256x256 .i32 := Host.remsi products (broadcastInDim S256x256 ![] bcast_S_S256x256 modulus)

/-- The products modulo the number of rows, with the sign of the modulus. -/
def reduced : Vec Ideal S256x256 .i32 :=
  select (andi (cmpi .ne (cmpi .slt rest (broadcastInDim S256x256 ![] bcast_S_S256x256 (constantI S_ 32 0#32)))
      (broadcastInDim S256x256 ![] bcast_S_S256x256 (cmpi .slt modulus (constantI S_ 32 0#32))))
    (cmpi .ne rest (broadcastInDim S256x256 ![] bcast_S_S256x256 (constantI S_ 32 0#32))))
    (addi rest (broadcastInDim S256x256 ![] bcast_S_S256x256 modulus)) rest

/-- The angles: the f32 nearest to 2π/256 times those. -/
def angles : FVec Ideal S256x256 .f32 :=
  mulf (broadcastInDim S256x256 ![] bcast_S_S256x256 (constant S_ .f32 0x3CC90FDB#32)) (sitofp .f32 reduced)

/-- The cosines and the sines. -/
def cosines : FVec Ideal S256x256 .f32 := Host.cos angles
def sines : FVec Ideal S256x256 .f32 := Host.sin angles

/-- The two side by side. -/
def table (a b : FVec Ideal S256x256 .f32) : FVec Ideal S256x512 .bf16 :=
  truncf .bf16 (concatenate S256x512 1 [⟨S256x256, a⟩, ⟨S256x256, b⟩] concatenates_S256x256_S256x256_S256x512_d1) bitsLt_bf16_f32

/-- The transform's scale: the f32 nearest to 1/√(256·512). -/
def scale : EReal := Ideal.ofBits FTy.f32 0x3B3504F3#32

/-! ## The block's arithmetic -/

theorem block_at (p q : Vec Ideal S256x512 .f32) (a b : FVec Ideal S256x256 .f32) (r : Fin 256) (n : Fin 512) :
    k0_pay1 p q (table a b) (ix2 r n)
      = (inner (fun k => a (ix2 r k)) (fun k => p (ix2 k n)) + inner (fun k => b (ix2 r k)) (fun k => q (ix2 k n))) * scale := by
  pointwise [k0_pay1, table, inner, scale]

/-! ## What the blocks hold -/

variable (m : (ℓ : Loc nD τ sig) → Buf (Elt Ideal) ℓ) (c : Dev nD) (t : Fin cfg0.N)

theorem lt_8 : t.val < 8 := lt_of_lt_of_eq t.isLt N_0

/-- The point's real and imaginary rows and the table, as the point finds them. -/
abbrev X0 : Vec Ideal S256x512 .f32 := iblk m c 0 t
abbrev X1 : Vec Ideal S256x512 .f32 := iblk m c 1 t
abbrev X2 : Vec Ideal S256x512 .bf16 := iblk m c 2 t

theorem idx_in (t : Fin cfg0.N) : win0_0.index t = ![64 + t.val / 4, t.val % 4] ∧ win0_1.index t = ![64 + t.val / 4, t.val % 4]
    ∧ win0_2.index t = ![0, 0] ∧ win0_3.index t = ![t.val / 4, t.val % 4] := by
  revert t
  decide +kernel

/-- The real and the imaginary part of the transform over the channels. -/
abbrev real : Vec Ideal S16896x2048 .f32 := m ((c.tc : Thread nD τ).loc main_arg0)
abbrev imaginary : Vec Ideal S16896x2048 .f32 := m ((c.tc : Thread nD τ).loc main_arg1)

/-- The context row and the column of an entry of the point's block. -/
def row (r : Fin 256) : Fin 512 := ⟨t.val / 4 * 256 + r, by have := lt_8 t; omega⟩
def col (n : Fin 512) : Fin 2048 := ⟨t.val % 4 * 512 + n, by omega⟩

/-- The token of the `k`-th context row of a context row's sample. -/
def sampleRow (s : Fin 512) (k : Fin 256) : Fin 16896 := ⟨16384 + (s.val / 256 * 256 + k), by omega⟩

/-- A context row's number within its sample. -/
def within (s : Fin 512) : Fin 256 := ⟨s.val % 256, by omega⟩

theorem within_row (r : Fin 256) : within (row t r) = r := Fin.ext (by
  show (t.val / 4 * 256 + r.val) % 256 = r.val
  omega)

theorem sampleRow_row (r k : Fin 256) :
    sampleRow (row t r) k = ⟨(64 + t.val / 4) * 256 + k, by have := lt_8 t; omega⟩ := Fin.ext (by
  show 16384 + ((t.val / 4 * 256 + r.val) / 256 * 256 + k.val) = (64 + t.val / 4) * 256 + k.val
  omega)

theorem real_read (r k : Fin 256) (n : Fin 512) : X0 m c t (ix2 k n) = real m c (ix2 (sampleRow (row t r) k) (col t n)) := by
  have e : V m c (arrRef spec0 0) = real m c := V_main_arg0 m c
  show ((cfg0.win 0).blk t).view.read (Elt Ideal) (V m c (arrRef spec0 0)) (ix2 k n) = _
  rw [e, sampleRow_row]
  blk_ext [idx_in t, col]

theorem imaginary_read (r k : Fin 256) (n : Fin 512) :
    X1 m c t (ix2 k n) = imaginary m c (ix2 (sampleRow (row t r) k) (col t n)) := by
  have e : V m c (arrRef spec0 1) = imaginary m c := V_main_arg1 m c
  show ((cfg0.win 1).blk t).view.read (Elt Ideal) (V m c (arrRef spec0 1)) (ix2 k n) = _
  rw [e, sampleRow_row]
  blk_ext [idx_in t, col]

/-- The host builds the table before the call. -/
theorem table_held : (V m c main_v13 : Vec Ideal S256x512 .bf16) = table cosines sines := by
  unfold V
  simp only [hostOps0, hostOps0_1, hostOps0_2, TRef.binary, TRef.nullary, TRef.ternary, TRef.unary, TRef.toBuf, TRef.ofBuf, cast_eq,
    List.flatten_cons, List.flatten_nil, List.append_nil, List.cons_append, List.nil_append]
  after_results_simp
  rfl

theorem table_read : X2 m c t = table cosines sines := by
  rw [← table_held m c]
  generalize hv : V m c main_v13 = v
  have e : V m c (arrRef spec0 2) = v := hv
  funext y
  obtain ⟨k, n, rfl⟩ : ∃ (k : Fin 256) (n : Fin 512), y = (ix2 k n : S256x512.Idx) := ⟨y 0, y 1, by idx_vars y⟩
  show ((cfg0.win 2).blk t).view.read (Elt Ideal) (V m c (arrRef spec0 2)) (ix2 k n) = _
  rw [e]
  blk_ext [idx_in t]

/-! ## The result array -/

/-- The scaled transform as an array: the context's rows of the samples, one sample after the other. -/
def transformArr (p q : Vec Ideal S16896x2048 .f32) (a b : FVec Ideal S256x256 .f32) : Vec Ideal S512x2048 .bf16 := fun u =>
  (inner (fun k => a (ix2 (within (u 0)) k)) (fun k => p (ix2 (sampleRow (u 0) k) (u 1)))
    + inner (fun k => b (ix2 (within (u 0)) k)) (fun k => q (ix2 (sampleRow (u 0) k) (u 1)))) * scale

theorem covers_out : (cfg0.win 3).Covers := by
  refine (cfg0.win 3).covers_of_index_surj rfl (by decide) fun β => ?_
  have b0 : (β 0).val < 2 := lt_of_lt_of_eq (β 0).isLt (by decide)
  have b1 : (β 1).val < 4 := lt_of_lt_of_eq (β 1).isLt (by decide)
  have hlt : (β 0).val * 4 + (β 1).val < 8 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 4 + (β 1).val) / 4 = (β 0).val
    omega
  | ⟨1, _⟩ =>
    show ((β 0).val * 4 + (β 1).val) % 4 = (β 1).val
    omega

theorem result_at (r : Fin 256) (n : Fin 512) :
    ((cfg0.win 3).blk t).view.emb (ix2 r n) = (ix2 (row t r) (col t n) : S512x2048.Idx) := by
  funext a
  refine Fin.ext ((win0_3.rect_emb_val t (ix2 r n : S256x512.Idx) a).trans ?_)
  rw [(idx_in t).2.2.2]
  match a with
  | ⟨0, _⟩ => rfl
  | ⟨1, _⟩ => rfl

theorem result_array : (dats m 0 c).arrAt 3 cfg0.N = transformArr (real m c) (imaginary m c) cosines sines := by
  refine (dats m 0 c).arrAt_eq_of_covers 3 _ covers_out fun t hf y => ?_
  blk_simp
  rw [after0_3]
  frame_out
  obtain ⟨r, n, rfl⟩ : ∃ (r : Fin 256) (n : Fin 512), y = (ix2 r n : S256x512.Idx) := ⟨y 0, y 1, by idx_vars y⟩
  refine Eq.trans ?_ (congrArg (transformArr (real m c) (imaginary m c) cosines sines) (result_at t r n).symm)
  refine (congrArg (fun w => k0_pay1 (X0 m c t) (X1 m c t) w (ix2 r n)) (table_read m c t)).trans ?_
  refine (block_at (X0 m c t) (X1 m c t) cosines sines r n).trans ?_
  rw [funext fun k => real_read m c t r k n, funext fun k => imaginary_read m c t r k n]
  show _ = (inner (fun k => cosines (ix2 (within (row t r)) k)) _ + inner (fun k => sines (ix2 (within (row t r)) k)) _) * scale
  rw [within_row]
  rfl

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v14) = transformArr (real m c) (imaginary m c) cosines sines
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run_main m ρ)
  exact ⟨((h c).1 3).trans (result_array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩

end Cert.Proj.Ctx

end
-- ==== Proof.Proj.CtxClaim.lean ====
/- The reference's transform over the context's rows is the same array as the kernel's, and the claims about the two. -/
module

public import proofs.«01_k».proof.Defs
public import proofs.«01_k».proof.Proof.Proj.Ctx
public import proofs.«01_k».proof.Proof.Gen.Reference15Ideal.Run
public import Idealize.ShloMosaic.Lib.Quiescent

@[expose] public section

set_option maxRecDepth 16384

noncomputable section

namespace Cert.Proj.Ctx

open Idealize.ShloMosaic Idealize.ShloMosaic.TcCoe Idealize.SL.Sem Cert.Reference15Ideal Cert.Reference15Ideal.Gen

/-- A table's product with every sample's context rows. -/
def product (x : FVec Ideal S16896x2048 .f32) (w : FVec Ideal S256x256 .f32) : FVec Ideal S2x256x2048 .f32 :=
  transpose S2x256x2048 [0, 2, 1] (Host.dotGeneral dot_S2x256x2048_S256x256_S2x2048x256_1_1_02_0_n_n none
    (shapeCast S2x256x2048 (extractStridedSlice S512x2048 ![16384, 0] x slices_S16896x2048_S512x2048_16384_0)
      shapeCasts_S512x2048_S2x256x2048) w) transposes_S2x2048x256_S2x256x2048_0_2_1

theorem product_at (x : FVec Ideal S16896x2048 .f32) (w : FVec Ideal S256x256 .f32) (b : Fin 2) (r : Fin 256) (n : Fin 2048) :
    product x w (ix3 b r n) = inner (fun k => w (ix2 r k)) (fun k => x (ix2 ⟨16384 + (b * 256 + k), by omega⟩ n)) := by
  pointwise [product, inner]
  simp only [mul_comm]

/-- The scaled sum as the reference writes it. -/
def scaled (y : FVec Ideal S2x256x2048 .f32) : FVec Ideal S512x2048 .bf16 :=
  truncf .bf16 (shapeCast S512x2048 (mulf y (broadcastInDim S2x256x2048 ![] bcast_S_S2x256x2048 (constant S_ .f32 0x3B3504F3#32)))
    shapeCasts_S2x256x2048_S512x2048) bitsLt_bf16_f32

theorem scaled_at (y : FVec Ideal S2x256x2048 .f32) (s : Fin 512) (n : Fin 2048) :
    scaled y (ix2 s n) = y (ix3 ⟨s / 256, by omega⟩ ⟨s % 256, by omega⟩ n) * scale := by
  pointwise [scaled, scale]

theorem reference_array (p q : FVec Ideal S16896x2048 .f32) (a b : FVec Ideal S256x256 .f32) :
    scaled (addf (product p a) (product q b)) = transformArr p q a b := by
  funext u
  idx_vars u
  rw [scaled_at]
  show (product p a _ + product q b _) * scale = _
  rw [product_at, product_at]
  rfl

/-- The kernel and the reference end with equal results. -/
theorem algebraic : @algebraic_Kernel15Ideal_Reference15Ideal Cert.Kernel15Ideal.Gen.facts Cert.Reference15Ideal.Gen.facts := by
  intro m g m' g' _ hm
  refine ⟨fun c => transformArr (real m c) (imaginary m c) cosines sines, ?_, ?_⟩
  · exact result_run m g
  · refine (θ_run _ _ _).mono (fun r h c => ?_) (Cert.Reference15Ideal.Value.run m' g')
    refine ⟨(h c).1.trans ?_, (h c).2⟩
    unfold Value.res_main_v24
    rw [(hm c).1, (hm c).2]
    exact reference_array _ _ cosines sines

/-- The reference runs, keeps its arguments, and has no semaphore counter that could end off zero. -/
theorem reference_frame : @quiescent_Reference15Ideal Cert.Reference15Ideal.Gen.facts := fun m g _ =>
  (θ_run _ _ _).mono (fun r h => ⟨fun c => (h c).2, sem_eq_zero_of_no_sems (by decide) r.2⟩)
    (Cert.Reference15Ideal.Value.run m g)

end Cert.Proj.Ctx

end
-- ==== Proof.Proj.PostCtx.lean ====
/- The context's rows: the two directions' sum, each head normed, times the heads' weights and the output gate. -/
module

public import proofs.«01_k».proof.Proof.Proj.Spec
public import proofs.«01_k».proof.Proof.Proj.Post
public import proofs.«01_k».proof.Proof.Gen.Kernel16Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.PostCtx

open Cert.Proj.Post (headRms headCol)

open Idealize.ShloMosaic Idealize.ShloMosaic.TcCoe Idealize.SL.Sem Idealize.ShloMosaic.Pipeline Cert.Kernel16Ideal Cert.Kernel16Ideal.Gen

/-! ## The block's arithmetic -/

theorem sum_at (x y : Vec Ideal S1x256x2048 .f32) (r : Fin 256) (j : Fin 2048) :
    k0_pay4 x y (ix2 r j) = x (ix3 0 r j) + y (ix3 0 r j) := by
  pointwise [k0_pay4]

theorem gate_at (z : Vec Ideal S256x2048 .f32) (g : Vec Ideal S1x2048 .f32) (r : Fin 256) (j : Fin 2048) :
    k0_pay5 z g (ix2 r j) = g (ix2 0 j) * (z (ix2 r j) * sigmoid (z (ix2 r j))) := by
  pointwise [k0_pay5, sigmoid]
  simp only [sub_eq_add_neg, zero_add]

/-- A normed and gated entry of the block: `o` the sum, `v` the gate. -/
def blkEntry (o v : FVec Ideal S256x2048 .f32) (r : Fin 256) (j : Fin 2048) : EReal :=
  o (ix2 r j) * headRms (fun k => o (ix2 r (headCol (j.val / 512) (by omega) k))) * v (ix2 r j)

theorem blkEntry_head (o v : FVec Ideal S256x2048 .f32) (r : Fin 256) (q : ℕ) (hq : q < 4) (n : Fin 512) :
    blkEntry o v r (headCol q hq n) = o (ix2 r (headCol q hq n)) * headRms (fun k => o (ix2 r (headCol q hq k)))
      * v (ix2 r (headCol q hq n)) := by
  have e : (headCol q hq n).val / 512 = q := by
    show (q * 512 + n.val) / 512 = q
    omega
  unfold blkEntry
  simp only [e]

theorem head0_at (x y : Vec Ideal S1x256x2048 .f32) (z : Vec Ideal S256x2048 .f32) (g : Vec Ideal S1x2048 .f32) (r : Fin 256)
    (n : Fin 512) : k0_pay6 x y z g (ix2 r n) = blkEntry (k0_pay4 x y) (k0_pay5 z g) r (headCol 0 (by decide) n) := by
  rw [blkEntry_head]
  unfold k0_pay6
  generalize k0_pay4 x y = o
  generalize k0_pay5 z g = v
  pointwise [headRms, inner, headCol]

theorem head1_at (x y : Vec Ideal S1x256x2048 .f32) (v : FVec Ideal S256x2048 .f32) (r : Fin 256) (n : Fin 512) :
    k0_pay1 v (k0_pay7 x y) (k0_pay8 x y) k0_pay9 (ix2 r n) = blkEntry (k0_pay4 x y) v r (headCol 1 (by decide) n) := by
  rw [blkEntry_head]
  unfold k0_pay1 k0_pay8 k0_pay7
  generalize k0_pay4 x y = o
  pointwise [k0_pay9, headRms, inner, headCol]

theorem head2_at (o v : FVec Ideal S256x2048 .f32) (r : Fin 256) (n : Fin 512) :
    k0_pay2 o v (ix2 r n) = blkEntry o v r (headCol 2 (by decide) n) := by
  rw [blkEntry_head]
  pointwise [k0_pay2, headRms, inner, headCol]

theorem head3_at (o v : FVec Ideal S256x2048 .f32) (r : Fin 256) (n : Fin 512) :
    k0_pay3 o v (ix2 r n) = blkEntry o v r (headCol 3 (by decide) n) := by
  rw [blkEntry_head]
  pointwise [k0_pay3, headRms, inner, headCol]

/-- A stored head's entry is the block's at its place. -/
theorem at_place (o v : FVec Ideal S256x2048 .f32) (p : Vec Ideal S256x512 .bf16) (q : ℕ) (hq : q < 4)
    (hp : ∀ (r : Fin 256) (n : Fin 512), p (ix2 r n) = blkEntry o v r (headCol q hq n)) (r : Fin 256) (j : Fin 2048)
    (u : S256x512.Idx) (h0 : r.val = (u 0 : ℕ)) (h1 : j.val = q * 512 + (u 1 : ℕ)) : p u = blkEntry o v r j := by
  idx_vars u
  obtain rfl : r = u0 := Fin.ext h0
  obtain rfl : j = headCol q hq u1 := Fin.ext h1
  exact hp _ _

/-! ## What the blocks hold -/

variable (m : (ℓ : Loc nD τ sig) → Buf (Elt Ideal) ℓ) (c : Dev nD) (t : Fin cfg0.N)

theorem lt_2 : t.val < 2 := lt_of_lt_of_eq t.isLt N_0

/-- The two directions' rows, the gate's rows and the heads' weights, as the point finds them. -/
abbrev X0 : Vec Ideal S1x256x2048 .f32 := iblk m c 0 t
abbrev X1 : Vec Ideal S1x256x2048 .f32 := iblk m c 1 t
abbrev X2 : Vec Ideal S256x2048 .f32 := iblk m c 2 t
abbrev X3 : Vec Ideal S1x2048 .f32 := iblk m c 3 t

/-- What the point leaves in the result's block. -/
theorem block_at (y : S256x2048.Idx) : out0_4 (X0 m c t) (X1 m c t) (X2 m c t) (X3 m c t) y
    = blkEntry (k0_pay4 (X0 m c t) (X1 m c t)) (k0_pay5 (X2 m c t) (X3 m c t)) (y 0) (y 1) := by
  unfold_out out0_4
  frame_out
  canon_tiles x hx
  · exact at_place _ _ _ 3 (by decide) (head3_at _ _) (y 0) (y 1) x hx0 hx1
  · exact at_place _ _ _ 2 (by decide) (head2_at _ _) (y 0) (y 1) x hx0 hx1
  · exact at_place _ _ _ 1 (by decide) (head1_at _ _ _) (y 0) (y 1) x hx0 hx1
  · exact at_place _ _ _ 0 (by decide) (head0_at _ _ _ _) (y 0) (y 1) x hx0 (by simpa using hx1)

theorem idx_in (t : Fin cfg0.N) : win0_0.index t = ![0, t.val, 0] ∧ win0_1.index t = ![1, t.val, 0]
    ∧ win0_2.index t = ![64 + t.val, 3] ∧ win0_3.index t = ![0, 0] ∧ win0_4.index t = ![t.val, 0] := by
  revert t
  decide +kernel

/-- The two directions' outputs, the projections and the heads' weights. -/
abbrev scans : Vec Ideal S2x512x2048 .f32 := m ((c.tc : Thread nD τ).loc main_arg0)
abbrev proj : Vec Ideal S16896x8192 .f32 := m ((c.tc : Thread nD τ).loc main_arg1)
abbrev weights : Vec Ideal S2048 .f32 := m ((c.tc : Thread nD τ).loc main_arg2)

/-- The token of a row of the point's block. -/
def row (r : Fin 256) : Fin 512 := ⟨t.val * 256 + r, by have := lt_2 t; omega⟩

/-- A token's row of the projections, and the output gate's columns in it. -/
def tok (s : Fin 512) : Fin 16896 := ⟨16384 + s, by omega⟩
def gateCol (j : Fin 2048) : Fin 8192 := ⟨6144 + j, by omega⟩

theorem forward_read (r : Fin 256) (j : Fin 2048) : X0 m c t (ix3 0 r j) = scans m c (ix3 0 (row t r) j) := by
  have e : V m c (arrRef spec0 0) = scans m c := V_main_arg0 m c
  show ((cfg0.win 0).blk t).view.read (Elt Ideal) (V m c (arrRef spec0 0)) (ix3 0 r j) = _
  rw [e]
  blk_ext [idx_in t, row]

theorem backward_read (r : Fin 256) (j : Fin 2048) : X1 m c t (ix3 0 r j) = scans m c (ix3 1 (row t r) j) := by
  have e : V m c (arrRef spec0 1) = scans m c := V_main_arg0 m c
  show ((cfg0.win 1).blk t).view.read (Elt Ideal) (V m c (arrRef spec0 1)) (ix3 0 r j) = _
  rw [e]
  blk_ext [idx_in t, row]

theorem gate_read (r : Fin 256) (j : Fin 2048) : X2 m c t (ix2 r j) = proj m c (ix2 (tok (row t r)) (gateCol j)) := by
  have e : V m c (arrRef spec0 2) = proj m c := V_main_arg1 m c
  show ((cfg0.win 2).blk t).view.read (Elt Ideal) (V m c (arrRef spec0 2)) (ix2 r j) = _
  rw [e]
  blk_ext [idx_in t, row, tok, gateCol]

/-- The heads' weights as one row: the host's reshape before the call. -/
theorem weights_row (j : Fin 2048) : (V m c main_v0 : Vec Ideal S1x2048 .f32) (ix2 0 j) = weights m c (ix1 j) := by
  have e : (V m c main_v0 : Vec Ideal S1x2048 .f32) = broadcastInDim S1x2048 ![1] bcast_S2048_S1x2048_1 (weights m c) := by
    unfold V
    after_results
  rw [e]
  pointwise []

theorem weights_read (j : Fin 2048) : X3 m c t (ix2 0 j) = weights m c (ix1 j) := by
  rw [← weights_row m c j]
  generalize hv : V m c main_v0 = v
  have e : V m c (arrRef spec0 3) = v := hv
  show ((cfg0.win 3).blk t).view.read (Elt Ideal) (V m c (arrRef spec0 3)) (ix2 0 j) = _
  rw [e]
  blk_ext [idx_in t]

/-! ## The result array -/

/-- The two directions' sum at a token's column. -/
def added (o : Vec Ideal S2x512x2048 .f32) (s : Fin 512) (j : Fin 2048) : EReal := o (ix3 0 s j) + o (ix3 1 s j)

/-- A token's column: the sum over its head's root mean square, times the weight and silu of the gate. -/
def entry (o : Vec Ideal S2x512x2048 .f32) (z : Vec Ideal S16896x8192 .f32) (g : Vec Ideal S2048 .f32) (s : Fin 512)
    (j : Fin 2048) : EReal :=
  added o s j * headRms (fun k => added o s (headCol (j.val / 512) (by omega) k))
    * (g (ix1 j) * (z (ix2 (tok s) (gateCol j)) * sigmoid (z (ix2 (tok s) (gateCol j)))))

/-- The gated heads as an array. -/
def postArr (o : Vec Ideal S2x512x2048 .f32) (z : Vec Ideal S16896x8192 .f32) (g : Vec Ideal S2048 .f32) :
    Vec Ideal S512x2048 .bf16 := fun u => entry o z g (u 0) (u 1)

theorem covers_out : (cfg0.win 4).Covers := by
  refine (cfg0.win 4).covers_of_index_surj rfl (by decide) fun β => ?_
  have b0 : (β 0).val < 2 := lt_of_lt_of_eq (β 0).isLt (by decide)
  have b1 : (β 1).val < 1 := lt_of_lt_of_eq (β 1).isLt (by decide)
  refine ⟨⟨(β 0).val, lt_of_lt_of_eq b0 N_0.symm⟩, fun a => ?_⟩
  refine (congrFun (idx_in ⟨(β 0).val, lt_of_lt_of_eq b0 N_0.symm⟩).2.2.2.2 a).trans ?_
  match a with
  | ⟨0, _⟩ => rfl
  | ⟨1, _⟩ =>
    show 0 = (β 1).val
    omega

theorem result_at (r : Fin 256) (j : Fin 2048) :
    ((cfg0.win 4).blk t).view.emb (ix2 r j) = (ix2 (row t r) j : S512x2048.Idx) := by
  funext a
  refine Fin.ext ((win0_4.rect_emb_val t (ix2 r j : S256x2048.Idx) a).trans ?_)
  rw [(idx_in t).2.2.2.2]
  match a with
  | ⟨0, _⟩ => rfl
  | ⟨1, _⟩ => show 0 * 2048 + j.val = j.val; omega

theorem result_array : (dats m 0 c).arrAt 4 cfg0.N = postArr (scans m c) (proj m c) (weights m c) := by
  refine (dats m 0 c).arrAt_eq_of_covers 4 _ covers_out fun t hf y => ?_
  blk_simp
  rw [after0_4]
  obtain ⟨r, j, rfl⟩ : ∃ (r : Fin 256) (j : Fin 2048), y = (ix2 r j : S256x2048.Idx) := ⟨y 0, y 1, by idx_vars y⟩
  refine Eq.trans ?_ (congrArg (postArr (scans m c) (proj m c) (weights m c)) (result_at t r j).symm)
  refine (block_at m c t (ix2 r j)).trans ?_
  show blkEntry _ _ r j = _
  simp only [blkEntry, sum_at, gate_at, forward_read, backward_read, gate_read, weights_read]
  rfl

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v1) = postArr (scans m c) (proj m c) (weights m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 4).trans (result_array m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (mem_restRefs_of main_arg2 (by decide) (by decide))).trans (V_main_arg2 m c)⟩

end Cert.Proj.PostCtx

end
-- ==== Proof.Proj.PostCtxClaim.lean ====
/- The reference's product is the same array as the kernel's, and the claims about the two. -/
module

public import proofs.«01_k».proof.Defs
public import proofs.«01_k».proof.Proof.Proj.PostCtx
public import proofs.«01_k».proof.Proof.Gen.Reference16Ideal.Run
public import Idealize.ShloMosaic.Lib.Quiescent

@[expose] public section

set_option maxRecDepth 16384

noncomputable section

namespace Cert.Proj.PostCtx

open Cert.Proj.Post (headRms headCol)

open Idealize.ShloMosaic Idealize.ShloMosaic.TcCoe Idealize.SL.Sem Cert.Reference16Ideal Cert.Reference16Ideal.Gen

/-- The two directions' sum, head by head. -/
def summed (o : FVec Ideal S2x512x2048 .f32) : FVec Ideal S512x4x512 .f32 :=
  shapeCast S512x4x512 (addf
    (shapeCast S512x2048 (extractStridedSlice S1x512x2048 ![0, 0, 0] o slices_S2x512x2048_S1x512x2048_0_0_0)
      shapeCasts_S1x512x2048_S512x2048)
    (shapeCast S512x2048 (extractStridedSlice S1x512x2048 ![1, 0, 0] o slices_S2x512x2048_S1x512x2048_1_0_0)
      shapeCasts_S1x512x2048_S512x2048)) shapeCasts_S512x2048_S512x4x512

theorem summed_at (o : FVec Ideal S2x512x2048 .f32) (s : Fin 512) (q : Fin 4) (k : Fin 512) :
    summed o (ix3 s q k) = added o s (headCol q q.isLt k) := by
  pointwise [summed, added, headCol]

/-- Every head over its root mean square. -/
def normedHeads (o : FVec Ideal S512x4x512 .f32) : FVec Ideal S512x2048 .f32 :=
  shapeCast S512x2048 (mulf o (broadcastInDim S512x4x512 ![0, 1, 2] bcast_S512x4x1_S512x4x512_0_1_2
    (Host.rsqrt (addf (Host.divf (broadcastInDim S512x4x1 ![0, 1] bcast_S512x4_S512x4x1_0_1
        (Host.reduceAdd (mulf o o) (constant S_ .f32 0x00000000#32) reducesTo_S512x4x512_S512x4_d2 h_S_))
      (broadcastInDim S512x4x1 ![] bcast_S_S512x4x1 (constant S_ .f32 0x44000000#32)))
      (broadcastInDim S512x4x1 ![] bcast_S_S512x4x1 (constant S_ .f32 0x358637BD#32))))))
    shapeCasts_S512x4x512_S512x2048

theorem normedHeads_at (o : FVec Ideal S512x4x512 .f32) (s : Fin 512) (j : Fin 2048) :
    normedHeads o (ix2 s j) = o (ix3 s ⟨j / 512, by omega⟩ ⟨j % 512, by omega⟩)
      * headRms (fun k => o (ix3 s ⟨j / 512, by omega⟩ k)) := by
  pointwise [normedHeads, headRms, inner]

/-- silu of the output gate's columns. -/
def gate (z : FVec Ideal S16896x8192 .f32) : FVec Ideal S512x2048 .f32 :=
  mulf (extractStridedSlice S512x2048 ![16384, 6144] z slices_S16896x8192_S512x2048_16384_6144)
    (Host.divf (broadcastInDim S512x2048 ![] bcast_S_S512x2048 (constant S_ .f32 0x3F800000#32))
      (addf (broadcastInDim S512x2048 ![] bcast_S_S512x2048 (constant S_ .f32 0x3F800000#32))
        (Host.exp (Host.negf (extractStridedSlice S512x2048 ![16384, 6144] z slices_S16896x8192_S512x2048_16384_6144)))))

theorem gate_rows (z : FVec Ideal S16896x8192 .f32) (s : Fin 512) (j : Fin 2048) :
    gate z (ix2 s j) = z (ix2 (tok s) (gateCol j)) * sigmoid (z (ix2 (tok s) (gateCol j))) := by
  pointwise [gate, sigmoid, tok, gateCol]

/-- The reference multiplies by the weight and then by the gate, the kernel by their product. -/
theorem reference_array (o : FVec Ideal S2x512x2048 .f32) (z : FVec Ideal S16896x8192 .f32) (g : FVec Ideal S2048 .f32) :
    truncf .bf16 (mulf (mulf (normedHeads (summed o)) (broadcastInDim S512x2048 ![0, 1] bcast_S1x2048_S512x2048_0_1
      (broadcastInDim S1x2048 ![1] bcast_S2048_S1x2048_1 g))) (gate z)) bitsLt_bf16_f32 = postArr o z g := by
  funext u
  idx_vars u
  have hg : (broadcastInDim S512x2048 ![0, 1] bcast_S1x2048_S512x2048_0_1
      (broadcastInDim S1x2048 ![1] bcast_S2048_S1x2048_1 g) : FVec Ideal S512x2048 .f32) (ix2 u0 u1) = g (ix1 u1) := by
    pointwise []
  have e : headCol (u1.val / 512) (by omega) ⟨u1.val % 512, by omega⟩ = u1 :=
    Fin.ext (by show u1.val / 512 * 512 + u1.val % 512 = u1.val; omega)
  show normedHeads (summed o) (ix2 u0 u1) * _ * gate z (ix2 u0 u1) = _
  rw [normedHeads_at, gate_rows, hg, summed_at, mul_assoc]
  simp only [summed_at]
  show added o u0 (headCol (u1.val / 512) _ ⟨u1.val % 512, _⟩) * _ * _ = _
  rw [e]
  rfl

/-- The kernel and the reference end with equal results. -/
theorem algebraic : @algebraic_Kernel16Ideal_Reference16Ideal Cert.Kernel16Ideal.Gen.facts Cert.Reference16Ideal.Gen.facts := by
  intro m g m' g' _ hm
  refine ⟨fun c => postArr (scans m c) (proj m c) (weights m c), ?_, ?_⟩
  · exact result_run m g
  · refine (θ_run _ _ _).mono (fun r h c => ?_) (Cert.Reference16Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference16Ideal Cert.Reference16Ideal.Gen.facts := fun m g _ =>
  (θ_run _ _ _).mono (fun r h => ⟨fun c => (h c).2, sem_eq_zero_of_no_sems (by decide) r.2⟩)
    (Cert.Reference16Ideal.Value.run m g)

end Cert.Proj.PostCtx

end
-- ==== Proof.Proj.UpCtx.lean ====
/- The experts' hidden units for the context's rows: one row block to every weight block. -/
module

public import proofs.«01_k».proof.Proof.Proj.Spec
public import proofs.«01_k».proof.Proof.Gen.Kernel17Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.UpCtx

open Idealize.ShloMosaic Idealize.ShloMosaic.TcCoe Idealize.SL.Sem Idealize.ShloMosaic.Pipeline Cert.Kernel17Ideal Cert.Kernel17Ideal.Gen

/-! ## The block's values -/

theorem cached_at (w : Vec Ideal S1x1x4096x256 .f32) (k : Fin 4096) (f : Fin 256) :
    k0_pay1 w (ix2 k f) = w (ix4 0 0 k f) := by
  pointwise [k0_pay1]

theorem cached'_at (w : Vec Ideal S1x1x4096x256 .f32) (k : Fin 4096) (f : Fin 256) :
    k0_pay2 w (ix2 k f) = w (ix4 0 0 k f) := by
  pointwise [k0_pay2]

theorem hidden_at (x : Vec Ideal S1x64x4096 .bf16) (wg wu : Vec Ideal S4096x256 .bf16) (r : Fin 64) (f : Fin 256) :
    k0_pay3 x wg wu (ix3 0 r f) = swiglu (inner (fun k => x (ix3 0 r k)) (fun k => wg (ix2 k f)))
      (inner (fun k => x (ix3 0 r k)) (fun k => wu (ix2 k f))) := by
  pointwise [k0_pay3]
  rw [zero_sub]
  rfl

/-! ## The points -/

variable (m : (ℓ : Loc nD τ sig) → Buf (Elt Ideal) ℓ) (c : Dev nD) (t : Fin cfg0.N)

theorem lt_64 : t.val < 64 := lt_of_lt_of_eq t.isLt N_0

/-- The point's rows, gate weights and up weights. -/
abbrev X0 : Vec Ideal S1x64x4096 .bf16 := iblk m c 0 t
abbrev X1 : Vec Ideal S1x1x4096x256 .f32 := iblk m c 1 t
abbrev X2 : Vec Ideal S1x1x4096x256 .f32 := iblk m c 2 t

/-- Every point multiplies its rows by the weight blocks that it converts. -/
theorem block_at : outsAt0 m c t = k0_pay3 (X0 m c t) (k0_pay1 (X1 m c t)) (k0_pay2 (X2 m c t)) := by
  unfold outsAt0 out0_A_3
  frame_open
  simp (disch := decide) only [↓ View.readCov_skip, ↓ View.readCov_cons_toLoadRect, ↓ View.readCov_fill]
  frame_out

/-! ## What the blocks hold -/

theorem idx_in (t : Fin cfg0.N) : win0_0.index t = ![t.val / 4, 0, 0]
    ∧ win0_1.index t = ![0, t.val / 4, 0, t.val % 4] ∧ win0_2.index t = ![0, t.val / 4, 0, t.val % 4]
    ∧ win0_3.index t = ![t.val / 4, 0, t.val % 4] := by
  revert t
  decide +kernel

/-- The rows, the gate weights and the up weights. -/
abbrev rows : Vec Ideal S16x64x4096 .bf16 := m ((c.tc : Thread nD τ).loc main_arg0)
abbrev gateW : Vec Ideal S2x16x4096x1024 .f32 := m ((c.tc : Thread nD τ).loc main_arg1)
abbrev upW : Vec Ideal S2x16x4096x1024 .f32 := m ((c.tc : Thread nD τ).loc main_arg2)

/-- The point's expert. -/
def expert : Fin 16 := ⟨t.val / 4, by have := lt_64 t; omega⟩

theorem rows_read (r : Fin 64) (k : Fin 4096) :
    X0 m c t (ix3 0 r k) = rows m c (ix3 (expert t) r k) := by
  blk_ext [iblk, V, idx_in t, expert]

theorem gateW_read (k : Fin 4096) (f : Fin 256) :
    X1 m c t (ix4 0 0 k f) = gateW m c (ix4 0 (expert t) k ⟨t.val % 4 * 256 + f, by omega⟩) := by
  blk_ext [iblk, V, idx_in t, expert]

theorem upW_read (k : Fin 4096) (f : Fin 256) :
    X2 m c t (ix4 0 0 k f) = upW m c (ix4 0 (expert t) k ⟨t.val % 4 * 256 + f, by omega⟩) := by
  blk_ext [iblk, V, idx_in t, expert]

/-! ## The result array -/

/-- The hidden units as an array. -/
def hiddenArr (x : Vec Ideal S16x64x4096 .bf16) (wg wu : Vec Ideal S2x16x4096x1024 .f32) : Vec Ideal S16x64x1024 .bf16 := fun u =>
  swiglu (inner (fun k => x (ix3 (u 0) (u 1) k)) (fun k => wg (ix4 0 (u 0) k (u 2))))
    (inner (fun k => x (ix3 (u 0) (u 1) k)) (fun k => wu (ix4 0 (u 0) k (u 2))))

theorem covers_out : (cfg0.win 3).Covers := by
  refine (cfg0.win 3).covers_of_index_surj rfl (by decide) fun β => ?_
  have b0 : (β 0).val < 16 := lt_of_lt_of_eq (β 0).isLt (by decide)
  have b1 : (β 1).val < 1 := lt_of_lt_of_eq (β 1).isLt (by decide)
  have b2 : (β 2).val < 4 := lt_of_lt_of_eq (β 2).isLt (by decide)
  have hlt : (β 0).val * 4 + (β 2).val < 64 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 4 + (β 2).val) / 4 = (β 0).val
    omega
  | ⟨1, _⟩ =>
    show 0 = (β 1).val
    omega
  | ⟨2, _⟩ =>
    show ((β 0).val * 4 + (β 2).val) % 4 = (β 2).val
    omega

theorem result_at (r : Fin 64) (f : Fin 256) :
    ((cfg0.win 3).blk t).view.emb (ix3 0 r f) = (ix3 (expert t) r
      ⟨t.val % 4 * 256 + f, by omega⟩ : S16x64x1024.Idx) := by
  funext a
  refine Fin.ext ((win0_3.rect_emb_val t (ix3 0 r f : S1x64x256.Idx) a).trans ?_)
  rw [(idx_in t).2.2.2]
  match a with
  | ⟨0, _⟩ => show t.val / 4 * 1 + 0 = t.val / 4; omega
  | ⟨1, _⟩ => show 0 * 64 + r.val = r.val; omega
  | ⟨2, _⟩ => rfl

theorem result_array : (dats m 0 c).arrAt 3 cfg0.N = hiddenArr (rows m c) (gateW m c) (upW m c) := by
  refine (dats m 0 c).arrAt_eq_of_covers 3 _ covers_out fun t hf y => ?_
  blk_simp
  rw [after0_3]
  obtain ⟨r, f, rfl⟩ : ∃ (r : Fin 64) (f : Fin 256), y = (ix3 0 r f : S1x64x256.Idx) := ⟨y 1, y 2, by
    idx_vars y
    rw [Subsingleton.elim y0 0]⟩
  refine Eq.trans ?_ (congrArg (hiddenArr (rows m c) (gateW m c) (upW m c)) (result_at t r f).symm)
  rw [block_at, hidden_at]
  unfold hiddenArr
  have hx : (fun k => X0 m c t (ix3 0 r k)) = fun k => rows m c (ix3 (expert t) r k) :=
    funext fun k => rows_read m c t r k
  rw [hx]
  exact congrArg₂ swiglu (congrArg (inner _) (funext fun k => (cached_at _ k f).trans (gateW_read m c t k f)))
    (congrArg (inner _) (funext fun k => (cached'_at _ k f).trans (upW_read m c t k f)))

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v0) = hiddenArr (rows m c) (gateW m c) (upW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 3).trans (result_array m c),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

end Cert.Proj.UpCtx

end
-- ==== Proof.Proj.UpCtxClaim.lean ====
/- The reference's result is the same array as the kernel's, and the claims about the two. -/
module

public import proofs.«01_k».proof.Defs
public import proofs.«01_k».proof.Proof.Proj.UpCtx
public import proofs.«01_k».proof.Proof.Gen.Reference17Ideal.Run
public import Idealize.ShloMosaic.Lib.Quiescent

@[expose] public section

set_option maxRecDepth 16384

noncomputable section

namespace Cert.Proj.UpCtx

open Idealize.ShloMosaic Idealize.ShloMosaic.TcCoe Idealize.SL.Sem Cert.Reference17Ideal Cert.Reference17Ideal.Gen

/-- The rows' product with the first layer's weights. -/
def product (x : FVec Ideal S16x64x4096 .bf16) (w : FVec Ideal S2x16x4096x1024 .f32) : FVec Ideal S16x64x1024 .f32 :=
  Host.dotGeneral dot_S16x64x4096_S16x4096x1024_S16x64x1024_2_1_1_2_0_0 none (extf .f32 x bitsLt_bf16_f32)
    (shapeCast S16x4096x1024 (extractStridedSlice S1x16x4096x1024 ![0, 0, 0, 0] w slices_S2x16x4096x1024_S1x16x4096x1024_0_0_0_0)
      shapeCasts_S1x16x4096x1024_S16x4096x1024)

theorem product_at (x : FVec Ideal S16x64x4096 .bf16) (w : FVec Ideal S2x16x4096x1024 .f32) (e : Fin 16) (r : Fin 64)
    (f : Fin 1024) : product x w (ix3 e r f) = inner (fun k => x (ix3 e r k)) (fun k => w (ix4 0 e k f)) := by
  pointwise [product, inner]

/-- The gated unit as the reference writes it. -/
def unit (g u : FVec Ideal S16x64x1024 .f32) : FVec Ideal S16x64x1024 .bf16 :=
  truncf .bf16 (mulf (mulf g (Host.divf (broadcastInDim S16x64x1024 ![] bcast_S_S16x64x1024 (constant S_ .f32 0x3F800000#32))
    (addf (broadcastInDim S16x64x1024 ![] bcast_S_S16x64x1024 (constant S_ .f32 0x3F800000#32))
      (Host.exp (Host.negf g))))) u) bitsLt_bf16_f32

theorem unit_at (g u : FVec Ideal S16x64x1024 .f32) (e : Fin 16) (r : Fin 64) (f : Fin 1024) :
    unit g u (ix3 e r f) = swiglu (g (ix3 e r f)) (u (ix3 e r f)) := by
  pointwise [unit]
  rfl

theorem reference_array (x : FVec Ideal S16x64x4096 .bf16) (wg wu : FVec Ideal S2x16x4096x1024 .f32) :
    unit (product x wg) (product x wu) = hiddenArr x wg wu := by
  funext u
  idx_vars u
  rw [unit_at, product_at, product_at]
  rfl

/-- The kernel and the reference end with equal results. -/
theorem algebraic : @algebraic_Kernel17Ideal_Reference17Ideal Cert.Kernel17Ideal.Gen.facts Cert.Reference17Ideal.Gen.facts := by
  intro m g m' g' _ hm
  refine ⟨fun c => hiddenArr (rows m c) (gateW m c) (upW m c), ?_, ?_⟩
  · exact result_run m g
  · refine (θ_run _ _ _).mono (fun r h c => ?_) (Cert.Reference17Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference17Ideal Cert.Reference17Ideal.Gen.facts := fun m g _ =>
  (θ_run _ _ _).mono (fun r h => ⟨fun c => (h c).2, sem_eq_zero_of_no_sems (by decide) r.2⟩)
    (Cert.Reference17Ideal.Value.run m g)

end Cert.Proj.UpCtx

end
-- ==== Proof.Proj.DownCtx.lean ====
/- The experts' gated outputs for the context's rows: one row block to every weight block. -/
module

public import proofs.«01_k».proof.Proof.Proj.Spec
public import proofs.«01_k».proof.Proof.Gen.Kernel18Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.DownCtx

open Idealize.ShloMosaic Idealize.ShloMosaic.TcCoe Idealize.SL.Sem Idealize.ShloMosaic.Pipeline Cert.Kernel18Ideal Cert.Kernel18Ideal.Gen

/-! ## The block's values -/

theorem cached_at (w : Vec Ideal S1x1x1024x1024 .f32) (k n : Fin 1024) : k0_pay1 w (ix2 k n) = w (ix4 0 0 k n) := by
  pointwise [k0_pay1]

theorem gated_at (x : Vec Ideal S1x64x1024 .bf16) (w : Vec Ideal S1024x1024 .bf16) (g : Vec Ideal S1x64x1 .f32) (r : Fin 64)
    (n : Fin 1024) : k0_pay2 x w g (ix3 0 r n) = inner (fun k => x (ix3 0 r k)) (fun k => w (ix2 k n)) * g (ix3 0 r 0) := by
  pointwise [k0_pay2, inner]

/-! ## The points -/

variable (m : (ℓ : Loc nD τ sig) → Buf (Elt Ideal) ℓ) (c : Dev nD) (t : Fin cfg0.N)

theorem lt_64 : t.val < 64 := lt_of_lt_of_eq t.isLt N_0

/-- The point's hidden units, weights and gates. -/
abbrev X0 : Vec Ideal S1x64x1024 .bf16 := iblk m c 0 t
abbrev X1 : Vec Ideal S1x1x1024x1024 .f32 := iblk m c 1 t
abbrev X2 : Vec Ideal S1x64x1 .f32 := iblk m c 2 t

/-- Every point multiplies its rows by the weight block that it converts. -/
theorem block_at : outsAt0 m c t = k0_pay2 (X0 m c t) (k0_pay1 (X1 m c t)) (X2 m c t) := by
  unfold outsAt0 out0_A_3
  frame_open
  simp (disch := decide) only [↓ View.readCov_skip, ↓ View.readCov_cons_toLoadRect, ↓ View.readCov_fill]
  frame_out

/-! ## What the blocks hold -/

theorem idx_in (t : Fin cfg0.N) : win0_0.index t = ![t.val / 4, 0, 0]
    ∧ win0_1.index t = ![0, t.val / 4, 0, t.val % 4] ∧ win0_2.index t = ![t.val / 4, 0, 0]
    ∧ win0_3.index t = ![t.val / 4, 0, t.val % 4] := by
  revert t
  decide +kernel

/-- The hidden units, the weights and the gates. -/
abbrev hidden : Vec Ideal S16x64x1024 .bf16 := m ((c.tc : Thread nD τ).loc main_arg0)
abbrev weights : Vec Ideal S2x16x1024x4096 .f32 := m ((c.tc : Thread nD τ).loc main_arg1)
abbrev gates : Vec Ideal S16x64x1 .f32 := m ((c.tc : Thread nD τ).loc main_arg2)

/-- The point's expert. -/
def expert : Fin 16 := ⟨t.val / 4, by have := lt_64 t; omega⟩

theorem hidden_read (r : Fin 64) (k : Fin 1024) :
    X0 m c t (ix3 0 r k) = hidden m c (ix3 (expert t) r k) := by
  blk_ext [iblk, V, idx_in t, expert]

theorem weights_read (k n : Fin 1024) :
    X1 m c t (ix4 0 0 k n) = weights m c (ix4 0 (expert t) k ⟨t.val % 4 * 1024 + n, by omega⟩) := by
  blk_ext [iblk, V, idx_in t, expert]

theorem gates_read (r : Fin 64) :
    X2 m c t (ix3 0 r 0) = gates m c (ix3 (expert t) r 0) := by
  blk_ext [iblk, V, idx_in t, expert]

/-! ## The result array -/

/-- The experts' gated outputs as an array. -/
def outArr (x : Vec Ideal S16x64x1024 .bf16) (w : Vec Ideal S2x16x1024x4096 .f32) (g : Vec Ideal S16x64x1 .f32) :
    Vec Ideal S16x64x4096 .f32 := fun u =>
  inner (fun k => x (ix3 (u 0) (u 1) k)) (fun k => w (ix4 0 (u 0) k (u 2))) * g (ix3 (u 0) (u 1) 0)

theorem covers_out : (cfg0.win 3).Covers := by
  refine (cfg0.win 3).covers_of_index_surj rfl (by decide) fun β => ?_
  have b0 : (β 0).val < 16 := lt_of_lt_of_eq (β 0).isLt (by decide)
  have b1 : (β 1).val < 1 := lt_of_lt_of_eq (β 1).isLt (by decide)
  have b2 : (β 2).val < 4 := lt_of_lt_of_eq (β 2).isLt (by decide)
  have hlt : (β 0).val * 4 + (β 2).val < 64 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 4 + (β 2).val) / 4 = (β 0).val
    omega
  | ⟨1, _⟩ =>
    show 0 = (β 1).val
    omega
  | ⟨2, _⟩ =>
    show ((β 0).val * 4 + (β 2).val) % 4 = (β 2).val
    omega

theorem result_at (r : Fin 64) (n : Fin 1024) :
    ((cfg0.win 3).blk t).view.emb (ix3 0 r n) = (ix3 (expert t) r
      ⟨t.val % 4 * 1024 + n, by omega⟩ : S16x64x4096.Idx) := by
  funext a
  refine Fin.ext ((win0_3.rect_emb_val t (ix3 0 r n : S1x64x1024.Idx) a).trans ?_)
  rw [(idx_in t).2.2.2]
  match a with
  | ⟨0, _⟩ => show t.val / 4 * 1 + 0 = t.val / 4; omega
  | ⟨1, _⟩ => show 0 * 64 + r.val = r.val; omega
  | ⟨2, _⟩ => rfl

theorem result_array : (dats m 0 c).arrAt 3 cfg0.N = outArr (hidden m c) (weights m c) (gates m c) := by
  refine (dats m 0 c).arrAt_eq_of_covers 3 _ covers_out fun t hf y => ?_
  blk_simp
  rw [after0_3]
  obtain ⟨r, n, rfl⟩ : ∃ (r : Fin 64) (n : Fin 1024), y = (ix3 0 r n : S1x64x1024.Idx) := ⟨y 1, y 2, by
    idx_vars y
    rw [Subsingleton.elim y0 0]⟩
  refine Eq.trans ?_ (congrArg (outArr (hidden m c) (weights m c) (gates m c)) (result_at t r n).symm)
  rw [block_at, gated_at, gates_read]
  unfold outArr
  exact congrArg (· * _) (congrArg₂ inner (funext fun k => hidden_read m c t r k) (funext fun k => (cached_at _ k n).trans (weights_read m c t k n)))

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v0) = outArr (hidden m c) (weights m c) (gates m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run_main m ρ)
  exact ⟨((h c).1 3).trans (result_array m c),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

end Cert.Proj.DownCtx

end
-- ==== Proof.Proj.DownCtxClaim.lean ====
/- The reference's result is the same array as the kernel's, and the claims about the two. -/
module

public import proofs.«01_k».proof.Defs
public import proofs.«01_k».proof.Proof.Proj.DownCtx
public import proofs.«01_k».proof.Proof.Gen.Reference18Ideal.Run
public import Idealize.ShloMosaic.Lib.Quiescent

@[expose] public section

set_option maxRecDepth 16384

noncomputable section

namespace Cert.Proj.DownCtx

open Idealize.ShloMosaic Idealize.ShloMosaic.TcCoe Idealize.SL.Sem Cert.Reference18Ideal Cert.Reference18Ideal.Gen

theorem reference_array (x : FVec Ideal S16x64x1024 .bf16) (w : FVec Ideal S2x16x1024x4096 .f32) (g : FVec Ideal S16x64x1 .f32) :
    (mulf (Host.dotGeneral dot_S16x64x1024_S16x1024x4096_S16x64x4096_2_1_1_2_0_0 none (extf .f32 x bitsLt_bf16_f32)
      (shapeCast S16x1024x4096 (extractStridedSlice S1x16x1024x4096 ![0, 0, 0, 0] w slices_S2x16x1024x4096_S1x16x1024x4096_0_0_0_0)
        shapeCasts_S1x16x1024x4096_S16x1024x4096))
      (broadcastInDim S16x64x4096 ![0, 1, 2] bcast_S16x64x1_S16x64x4096_0_1_2 g) : FVec Ideal S16x64x4096 .f32)
      = outArr x w g := by
  funext u
  idx_vars u
  pointwise [outArr, inner]

/-- The kernel and the reference end with equal results. -/
theorem algebraic : @algebraic_Kernel18Ideal_Reference18Ideal Cert.Kernel18Ideal.Gen.facts Cert.Reference18Ideal.Gen.facts := by
  intro m g m' g' _ hm
  refine ⟨fun c => outArr (hidden m c) (weights m c) (gates m c), ?_, ?_⟩
  · exact result_run m g
  · refine (θ_run _ _ _).mono (fun r h c => ?_) (Cert.Reference18Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference18Ideal Cert.Reference18Ideal.Gen.facts := fun m g _ =>
  (θ_run _ _ _).mono (fun r h => ⟨fun c => (h c).2, sem_eq_zero_of_no_sems (by decide) r.2⟩)
    (Cert.Reference18Ideal.Value.run m g)

end Cert.Proj.DownCtx

end
-- ==== Proof.Proj.WideSecond.lean ====
/- The first 8192 columns of the input projection, block by block, with each weight block converted once and kept: the second layer. -/
module

public import proofs.«01_k».proof.Proof.Proj.Spec
public import proofs.«01_k».proof.Proof.Gen.Kernel19Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.WideSecond

open Idealize.ShloMosaic Idealize.ShloMosaic.TcCoe Idealize.SL.Sem Idealize.ShloMosaic.Pipeline Cert.Kernel19Ideal Cert.Kernel19Ideal.Gen

/-! ## The block products -/

theorem cached_at (w : Vec Ideal S1x4096x512 .f32) (k : Fin 4096) (n : Fin 512) :
    k0_pay1 w (ix2 k n) = w (ix3 0 k n) := by
  pointwise [k0_pay1]

theorem product_at (x : Vec Ideal S512x4096 .bf16) (w : Vec Ideal S4096x512 .bf16) (r : Fin 512) (n : Fin 512) :
    k0_pay2 x w (ix2 r n) = inner (fun k => x (ix2 r k)) (fun k => w (ix2 k n)) := by
  pointwise [k0_pay2, inner]

/-! ## The points -/

variable (m : (ℓ : Loc nD τ sig) → Buf (Elt Ideal) ℓ) (c : Dev nD) (t : Fin cfg0.N)

theorem lt_528 : t.val < 528 := lt_of_lt_of_eq t.isLt N_0

abbrev rowsBlk : Vec Ideal S512x4096 .bf16 := iblk m c 0 t
abbrev colsBlk : Vec Ideal S1x4096x512 .f32 := X0_1 m c t

/-- The weight block that the point before left in the scratch. -/
abbrev before : Vec Ideal S4096x512 .bf16 := (outsAt0 m c (t.val - 1) (Nat.lt_of_le_of_lt (Nat.sub_le _ _) t.isLt)).2

theorem scratch_first (h0 : t.val % 33 = 0) : (outsAt0 m c t.val t.isLt).2 = k0_pay1 (colsBlk m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = before m c t := by
  rw [outsAt0_B m c t h0]
  rfl

theorem block_first (h0 : t.val % 33 = 0) :
    (outsAt0 m c t.val t.isLt).1 = k0_pay2 (rowsBlk m c t) (k0_pay1 (colsBlk m c t)) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (rowsBlk m c t) (before m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (rowsBlk m c t) (outsAt0 m c t.val t.isLt).2 := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![1, 0, t.val / 33]
    ∧ win0_2.index t = ![t.val % 33, t.val / 33] := by
  revert t
  decide +kernel

/-- The activations and the weights. -/
abbrev acts : Vec Ideal S16896x4096 .bf16 := m ((c.tc : Thread nD τ).loc main_arg0)
abbrev weights : Vec Ideal S2x4096x16416 .f32 := m ((c.tc : Thread nD τ).loc main_arg1)

theorem rows_read (r : Fin 512) (k : Fin 4096) :
    rowsBlk m c t (ix2 r k) = acts m c (ix2 ⟨t.val % 33 * 512 + r, by omega⟩ k) := by
  blk_ext [iblk, V, idx_in t]

theorem cols_read (k : Fin 4096) (n : Fin 512) :
    colsBlk m c t (ix3 0 k n) = weights m c (ix3 1 k ⟨t.val / 33 * 512 + n, by have := lt_528 t; omega⟩) := by
  show (cfg0.win 1).fill (cfg0.grid.coords t) dflt0_1 (iblk m c 1 t) (ix3 0 k n : S1x4096x512.Idx) = _
  unfold Window.fill
  rw [dif_pos (moved0_1 t _)]
  refine congrArg (weights m c) (funext fun a => Fin.ext ?_)
  refine (win0_1.rect_emb_val t _ a).trans ?_
  rw [(idx_in t).2.1]
  match a with
  | ⟨0, _⟩ => rfl
  | ⟨1, _⟩ => show 0 * 4096 + k.val = k.val; omega
  | ⟨2, _⟩ => rfl

/-- After every point the scratch holds the weight columns of the point's block column. -/
theorem scratch_read (k : Fin 4096) (n : Fin 512) :
    (outsAt0 m c t.val t.isLt).2 (ix2 k n) = weights m c (ix3 1 k ⟨t.val / 33 * 512 + n, by have := lt_528 t; omega⟩) := by
  obtain ⟨p, hp⟩ := t
  induction p with
  | zero =>
    rw [scratch_first m c ⟨0, hp⟩ rfl, cached_at]
    exact cols_read m c ⟨0, hp⟩ k n
  | succ p ih =>
    by_cases h0 : (p + 1) % 33 = 0
    · rw [scratch_first m c ⟨p + 1, hp⟩ h0, cached_at]
      exact cols_read m c ⟨p + 1, hp⟩ k n
    · rw [scratch_later m c ⟨p + 1, hp⟩ h0]
      refine (ih (Nat.lt_of_succ_lt hp)).trans (congrArg (weights m c) (congrArg (ix3 1 k) (Fin.ext ?_)))
      show (p / 33 * 512 + n.val) = ((p + 1) / 33 * 512 + n.val)
      omega

/-! ## The result array -/

/-- The product as an array. -/
def projArr (x : Vec Ideal S16896x4096 .bf16) (w : Vec Ideal S2x4096x16416 .f32) : Vec Ideal S16896x8192 .f32 := fun u =>
  inner (fun k => x (ix2 (u 0) k)) (fun k => w (ix3 1 k ⟨u 1, by have : (u 1).val < 8192 := (u 1).isLt; omega⟩))

theorem covers_out : (cfg0.win 2).Covers := by
  refine (cfg0.win 2).covers_of_index_surj rfl (by decide) fun β => ?_
  have b0 : (β 0).val < 33 := lt_of_lt_of_eq (β 0).isLt (by decide)
  have b1 : (β 1).val < 16 := lt_of_lt_of_eq (β 1).isLt (by decide)
  have hlt : (β 1).val * 33 + (β 0).val < 528 := by omega
  refine ⟨⟨_, lt_of_lt_of_eq hlt N_0.symm⟩, fun a => ?_⟩
  refine (congrFun (idx_in ⟨_, lt_of_lt_of_eq hlt N_0.symm⟩).2.2 a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) :
    ((cfg0.win 2).blk t).view.emb (ix2 r n) = (ix2 ⟨t.val % 33 * 512 + r, by omega⟩ ⟨t.val / 33 * 512 + n, by have := lt_528 t; omega⟩ : S16896x8192.Idx) := by
  funext a
  refine Fin.ext ((win0_2.rect_emb_val t (ix2 r n : S512x512.Idx) a).trans ?_)
  rw [(idx_in t).2.2]
  match a with
  | ⟨0, _⟩ => rfl
  | ⟨1, _⟩ => rfl

theorem result_array : (dats m 0 c).arrAt 2 cfg0.N = projArr (acts m c) (weights m c) := by
  refine (dats m 0 c).arrAt_eq_of_covers 2 _ covers_out fun t hf y => ?_
  blk_simp
  rw [after0_2]
  obtain ⟨r, n, rfl⟩ : ∃ r n : Fin 512, y = (ix2 r n : S512x512.Idx) := ⟨y 0, y 1, by idx_vars y⟩
  refine Eq.trans ?_ (congrArg (projArr (acts m c) (weights m c)) (result_at t r n).symm)
  rw [block_at, product_at]
  unfold projArr
  refine congrArg₂ inner (funext fun k => rows_read m c t r k) (funext fun k => scratch_read m c t k n)

end Cert.Proj.WideSecond

end
-- ==== Proof.Proj.WideSecondClaim.lean ====
/- The reference's product is the same array as the kernel's, and the claims about the two: the second layer. -/
module

public import proofs.«01_k».proof.Defs
public import proofs.«01_k».proof.Proof.Proj.WideSecond
public import proofs.«01_k».proof.Proof.Gen.Reference19Ideal.Run
public import Idealize.ShloMosaic.Lib.Quiescent

@[expose] public section

set_option maxRecDepth 16384

noncomputable section

namespace Cert.Proj.WideSecond

open Idealize.ShloMosaic Idealize.ShloMosaic.TcCoe Idealize.SL.Sem Cert.Reference19Ideal Cert.Reference19Ideal.Gen

theorem reference_array (x : FVec Ideal S16896x4096 .bf16) (w : FVec Ideal S2x4096x16416 .f32) :
    (extractStridedSlice S16896x8192 ![0, 0] (Host.dotGeneral dot_S16896x4096_S4096x16416_S16896x16416_1_0_0_1_n_n none
      (extf .f32 x bitsLt_bf16_f32) (shapeCast S4096x16416 (extractStridedSlice S1x4096x16416 ![1, 0, 0] w
        slices_S2x4096x16416_S1x4096x16416_1_0_0) shapeCasts_S1x4096x16416_S4096x16416))
      slices_S16896x16416_S16896x8192_0_0 : FVec Ideal S16896x8192 .f32) = projArr x w := by
  funext u
  idx_vars u
  pointwise [projArr, inner]

/-- The kernel and the reference end with equal products. -/
theorem algebraic : @algebraic_Kernel19Ideal_Reference19Ideal Cert.Kernel19Ideal.Gen.facts Cert.Reference19Ideal.Gen.facts := by
  intro m g m' g' _ hm
  refine ⟨fun c => projArr (acts m c) (weights m c), ?_, ?_⟩
  · refine (θ_run _ _ _).mono (fun r h c => ?_) (Cert.Kernel19Ideal.Value.run_blocks m g)
    exact ⟨(h c).1.trans (result_array m c), (h c).2⟩
  · refine (θ_run _ _ _).mono (fun r h c => ?_) (Cert.Reference19Ideal.Value.run m' g')
    refine ⟨(h c).1.trans ?_, (h c).2⟩
    rw [(hm c).1, (hm c).2]
    exact reference_array _ _

/-- The reference runs, keeps its arguments, and has no semaphore counter that could end off zero. -/
theorem reference_frame : @quiescent_Reference19Ideal Cert.Reference19Ideal.Gen.facts := fun m g _ =>
  (θ_run _ _ _).mono (fun r h => ⟨fun c => (h c).2, sem_eq_zero_of_no_sems (by decide) r.2⟩)
    (Cert.Reference19Ideal.Value.run m g)

end Cert.Proj.WideSecond

end
-- ==== Proof.Proj.GatesSecond.lean ====
/- The gate columns of the input projection, block by block, with each weight block kept in the scratch: the second layer. -/
module

public import proofs.«01_k».proof.Proof.Proj.Spec
public import proofs.«01_k».proof.Proof.Gen.Kernel20Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.GatesSecond

open Idealize.ShloMosaic Idealize.ShloMosaic.TcCoe Idealize.SL.Sem Idealize.ShloMosaic.Pipeline Cert.Kernel20Ideal Cert.Kernel20Ideal.Gen

/-! ## The block products -/

theorem cached_at (w : Vec Ideal S4096x512 .bf16) (k : Fin 4096) (n : Fin 512) :
    k0_pay1 w (ix2 k n) = w (ix2 k n) := by
  pointwise [k0_pay1]

theorem product_at (x : Vec Ideal S512x4096 .bf16) (w : Vec Ideal S4096x512 .bf16) (r : Fin 512) (n : Fin 512) :
    k0_pay2 x w (ix2 r n) = inner (fun k => x (ix2 r k)) (fun k => w (ix2 k n)) := by
  pointwise [k0_pay2, inner]

/-! ## The points -/

variable (m : (ℓ : Loc nD τ sig) → Buf (Elt Ideal) ℓ) (c : Dev nD) (t : Fin cfg0.N)

theorem lt_528 : t.val < 528 := lt_of_lt_of_eq t.isLt N_0

abbrev rowsBlk : Vec Ideal S512x4096 .bf16 := iblk m c 0 t
abbrev colsBlk : Vec Ideal S4096x512 .bf16 := iblk m c 1 t

/-- The weight block that the point before left in the scratch. -/
abbrev before : Vec Ideal S4096x512 .bf16 := (outsAt0 m c (t.val - 1) (Nat.lt_of_le_of_lt (Nat.sub_le _ _) t.isLt)).2

theorem scratch_first (h0 : t.val % 33 = 0) : (outsAt0 m c t.val t.isLt).2 = k0_pay1 (colsBlk m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = before m c t := by
  rw [outsAt0_B m c t h0]
  rfl

theorem block_first (h0 : t.val % 33 = 0) :
    (outsAt0 m c t.val t.isLt).1 = k0_pay2 (rowsBlk m c t) (k0_pay1 (colsBlk m c t)) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (rowsBlk m c t) (before m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (rowsBlk m c t) (outsAt0 m c t.val t.isLt).2 := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![0, t.val / 33]
    ∧ win0_2.index t = ![t.val % 33, t.val / 33] := by
  revert t
  decide +kernel

/-- The activations and the weights. -/
abbrev acts : Vec Ideal S16896x4096 .bf16 := m ((c.tc : Thread nD τ).loc main_arg0)
abbrev weights : Vec Ideal S2x4096x16416 .f32 := m ((c.tc : Thread nD τ).loc main_arg1)

theorem rows_read (r : Fin 512) (k : Fin 4096) :
    rowsBlk m c t (ix2 r k) = acts m c (ix2 ⟨t.val % 33 * 512 + r, by omega⟩ k) := by
  blk_ext [iblk, V, idx_in t]

theorem sliced_at (w : Vec Ideal S2x4096x16416 .f32) (k : Fin 4096) (n : Fin 8192) :
    (truncf .bf16 (shapeCast S4096x8192 (extractStridedSlice S1x4096x8192 ![1, 0, 8224] w slices_S2x4096x16416_S1x4096x8192_1_0_8224)
      shapeCasts_S1x4096x8192_S4096x8192) bitsLt_bf16_f32 : FVec Ideal S4096x8192 .bf16) (ix2 k n) = w (ix3 1 k ⟨8224 + n, by omega⟩) := by
  pointwise []

theorem weights_entry : V m c main_v2 = (truncf .bf16 (shapeCast S4096x8192
      (extractStridedSlice S1x4096x8192 ![1, 0, 8224] (weights m c) slices_S2x4096x16416_S1x4096x8192_1_0_8224)
      shapeCasts_S1x4096x8192_S4096x8192) bitsLt_bf16_f32 : FVec Ideal S4096x8192 .bf16) := by
  entry_read
  rfl

theorem cols_read (k : Fin 4096) (n : Fin 512) :
    colsBlk m c t (ix2 k n) = weights m c (ix3 1 k ⟨8224 + (t.val / 33 * 512 + n), by have := lt_528 t; omega⟩) := by
  have h : colsBlk m c t (ix2 k n) = (V m c main_v2 : Vec Ideal S4096x8192 .bf16)
      (ix2 k ⟨t.val / 33 * 512 + n, by have := lt_528 t; omega⟩) := by
    blk_ext [iblk, idx_in t]
  rw [h, weights_entry]
  exact sliced_at _ k _

/-- After every point the scratch holds the weight columns of the point's block column. -/
theorem scratch_read (k : Fin 4096) (n : Fin 512) :
    (outsAt0 m c t.val t.isLt).2 (ix2 k n) = weights m c (ix3 1 k ⟨8224 + (t.val / 33 * 512 + n), by have := lt_528 t; omega⟩) := by
  obtain ⟨p, hp⟩ := t
  induction p with
  | zero =>
    rw [scratch_first m c ⟨0, hp⟩ rfl, cached_at]
    exact cols_read m c ⟨0, hp⟩ k n
  | succ p ih =>
    by_cases h0 : (p + 1) % 33 = 0
    · rw [scratch_first m c ⟨p + 1, hp⟩ h0, cached_at]
      exact cols_read m c ⟨p + 1, hp⟩ k n
    · rw [scratch_later m c ⟨p + 1, hp⟩ h0]
      refine (ih (Nat.lt_of_succ_lt hp)).trans (congrArg (weights m c) (congrArg (ix3 1 k) (Fin.ext ?_)))
      show 8224 + (p / 33 * 512 + n.val) = 8224 + ((p + 1) / 33 * 512 + n.val)
      omega

/-! ## The result array -/

/-- The product as an array. -/
def projArr (x : Vec Ideal S16896x4096 .bf16) (w : Vec Ideal S2x4096x16416 .f32) : Vec Ideal S16896x8192 .f32 := fun u =>
  inner (fun k => x (ix2 (u 0) k)) (fun k => w (ix3 1 k ⟨8224 + u 1, by have : (u 1).val < 8192 := (u 1).isLt; omega⟩))

theorem covers_out : (cfg0.win 2).Covers := by
  refine (cfg0.win 2).covers_of_index_surj rfl (by decide) fun β => ?_
  have b0 : (β 0).val < 33 := lt_of_lt_of_eq (β 0).isLt (by decide)
  have b1 : (β 1).val < 16 := lt_of_lt_of_eq (β 1).isLt (by decide)
  have hlt : (β 1).val * 33 + (β 0).val < 528 := by omega
  refine ⟨⟨_, lt_of_lt_of_eq hlt N_0.symm⟩, fun a => ?_⟩
  refine (congrFun (idx_in ⟨_, lt_of_lt_of_eq hlt N_0.symm⟩).2.2 a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) :
    ((cfg0.win 2).blk t).view.emb (ix2 r n) = (ix2 ⟨t.val % 33 * 512 + r, by omega⟩ ⟨t.val / 33 * 512 + n, by have := lt_528 t; omega⟩ : S16896x8192.Idx) := by
  funext a
  refine Fin.ext ((win0_2.rect_emb_val t (ix2 r n : S512x512.Idx) a).trans ?_)
  rw [(idx_in t).2.2]
  match a with
  | ⟨0, _⟩ => rfl
  | ⟨1, _⟩ => rfl

theorem result_array : (dats m 0 c).arrAt 2 cfg0.N = projArr (acts m c) (weights m c) := by
  refine (dats m 0 c).arrAt_eq_of_covers 2 _ covers_out fun t hf y => ?_
  blk_simp
  rw [after0_2]
  obtain ⟨r, n, rfl⟩ : ∃ r n : Fin 512, y = (ix2 r n : S512x512.Idx) := ⟨y 0, y 1, by idx_vars y⟩
  refine Eq.trans ?_ (congrArg (projArr (acts m c) (weights m c)) (result_at t r n).symm)
  rw [block_at, product_at]
  unfold projArr
  refine congrArg₂ inner (funext fun k => rows_read m c t r k) (funext fun k => scratch_read m c t k n)

end Cert.Proj.GatesSecond

end
-- ==== Proof.Proj.GatesSecondClaim.lean ====
/- The reference's product is the same array as the kernel's, and the claims about the two: the second layer. -/
module

public import proofs.«01_k».proof.Defs
public import proofs.«01_k».proof.Proof.Proj.GatesSecond
public import proofs.«01_k».proof.Proof.Gen.Reference20Ideal.Run
public import Idealize.ShloMosaic.Lib.Quiescent

@[expose] public section

set_option maxRecDepth 16384

noncomputable section

namespace Cert.Proj.GatesSecond

open Idealize.ShloMosaic Idealize.ShloMosaic.TcCoe Idealize.SL.Sem Cert.Reference20Ideal Cert.Reference20Ideal.Gen

theorem reference_array (x : FVec Ideal S16896x4096 .bf16) (w : FVec Ideal S2x4096x16416 .f32) :
    (extractStridedSlice S16896x8192 ![0, 8224] (Host.dotGeneral dot_S16896x4096_S4096x16416_S16896x16416_1_0_0_1_n_n none
      (extf .f32 x bitsLt_bf16_f32) (shapeCast S4096x16416 (extractStridedSlice S1x4096x16416 ![1, 0, 0] w
        slices_S2x4096x16416_S1x4096x16416_1_0_0) shapeCasts_S1x4096x16416_S4096x16416))
      slices_S16896x16416_S16896x8192_0_8224 : FVec Ideal S16896x8192 .f32) = projArr x w := by
  funext u
  idx_vars u
  pointwise [projArr, inner]

/-- The kernel and the reference end with equal products. -/
theorem algebraic : @algebraic_Kernel20Ideal_Reference20Ideal Cert.Kernel20Ideal.Gen.facts Cert.Reference20Ideal.Gen.facts := by
  intro m g m' g' _ hm
  refine ⟨fun c => projArr (acts m c) (weights m c), ?_, ?_⟩
  · refine (θ_run _ _ _).mono (fun r h c => ?_) (Cert.Kernel20Ideal.Value.run_blocks m g)
    exact ⟨(h c).1.trans (result_array m c), (h c).2⟩
  · refine (θ_run _ _ _).mono (fun r h c => ?_) (Cert.Reference20Ideal.Value.run m' g')
    refine ⟨(h c).1.trans ?_, (h c).2⟩
    rw [(hm c).1, (hm c).2]
    exact reference_array _ _

/-- The reference runs, keeps its arguments, and has no semaphore counter that could end off zero. -/
theorem reference_frame : @quiescent_Reference20Ideal Cert.Reference20Ideal.Gen.facts := fun m g _ =>
  (θ_run _ _ _).mono (fun r h => ⟨fun c => (h c).2, sem_eq_zero_of_no_sems (by decide) r.2⟩)
    (Cert.Reference20Ideal.Value.run m g)

end Cert.Proj.GatesSecond

end
-- ==== Proof.Proj.UpSecond.lean ====
/- The experts' hidden units, block by block, with the two weight blocks converted once and kept: the second layer. -/
module

public import proofs.«01_k».proof.Proof.Proj.Spec
public import proofs.«01_k».proof.Proof.Gen.Kernel21Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.UpSecond

open Idealize.ShloMosaic Idealize.ShloMosaic.TcCoe Idealize.SL.Sem Idealize.ShloMosaic.Pipeline Cert.Kernel21Ideal Cert.Kernel21Ideal.Gen

/-! ## The block's values -/

theorem cached_at (w : Vec Ideal S1x1x4096x256 .f32) (k : Fin 4096) (f : Fin 256) :
    k0_pay1 w (ix2 k f) = w (ix4 0 0 k f) := by
  pointwise [k0_pay1]

theorem cached'_at (w : Vec Ideal S1x1x4096x256 .f32) (k : Fin 4096) (f : Fin 256) :
    k0_pay2 w (ix2 k f) = w (ix4 0 0 k f) := by
  pointwise [k0_pay2]

theorem hidden_at (x : Vec Ideal S1x512x4096 .bf16) (wg wu : Vec Ideal S4096x256 .bf16) (r : Fin 512) (f : Fin 256) :
    k0_pay3 x wg wu (ix3 0 r f) = swiglu (inner (fun k => x (ix3 0 r k)) (fun k => wg (ix2 k f)))
      (inner (fun k => x (ix3 0 r k)) (fun k => wu (ix2 k f))) := by
  pointwise [k0_pay3]
  rw [zero_sub]
  rfl

/-! ## The points -/

variable (m : (ℓ : Loc nD τ sig) → Buf (Elt Ideal) ℓ) (c : Dev nD) (t : Fin cfg0.N)

theorem lt_256 : t.val < 256 := lt_of_lt_of_eq t.isLt N_0

/-- The point's rows, gate weights and up weights. -/
abbrev X0 : Vec Ideal S1x512x4096 .bf16 := iblk m c 0 t
abbrev X1 : Vec Ideal S1x1x4096x256 .f32 := iblk m c 1 t
abbrev X2 : Vec Ideal S1x1x4096x256 .f32 := iblk m c 2 t

/-- What the point before left: the output block and the two weight blocks. -/
abbrev before := outsAt0 m c (t.val - 1) (Nat.lt_of_le_of_lt (Nat.sub_le _ _) t.isLt)

theorem gate_first (h0 : t.val % 4 = 0) : (outsAt0 m c t.val t.isLt).2.1 = k0_pay1 (X1 m c t) := by
  rw [outsAt0_A m c t h0 h0]
  frame_open
  simp (disch := decide) only [↓ View.readCov_skip, ↓ View.readCov_cons_toLoadRect, ↓ View.readCov_fill]
  frame_out

theorem gate_later (h0 : ¬t.val % 4 = 0) : (outsAt0 m c t.val t.isLt).2.1 = (before m c t).2.1 := by
  rw [outsAt0_B m c t h0 h0]
  rfl

theorem up_first (h0 : t.val % 4 = 0) : (outsAt0 m c t.val t.isLt).2.2 = k0_pay2 (X2 m c t) := by
  rw [outsAt0_A m c t h0 h0]
  frame_open
  simp (disch := decide) only [↓ View.readCov_skip, ↓ View.readCov_cons_toLoadRect, ↓ View.readCov_fill]
  frame_out

theorem up_later (h0 : ¬t.val % 4 = 0) : (outsAt0 m c t.val t.isLt).2.2 = (before m c t).2.2 := by
  rw [outsAt0_B m c t h0 h0]
  rfl

theorem block_first (h0 : t.val % 4 = 0) :
    (outsAt0 m c t.val t.isLt).1 = k0_pay3 (X0 m c t) (k0_pay1 (X1 m c t)) (k0_pay2 (X2 m c t)) := by
  rw [outsAt0_A m c t h0 h0]
  frame_open
  simp (disch := decide) only [↓ View.readCov_skip, ↓ View.readCov_cons_toLoadRect, ↓ View.readCov_fill]
  frame_out

theorem block_later (h0 : ¬t.val % 4 = 0) :
    (outsAt0 m c t.val t.isLt).1 = k0_pay3 (X0 m c t) (before m c t).2.1 (before m c t).2.2 := by
  rw [outsAt0_B m c t h0 h0]
  frame_open
  simp (disch := decide) only [↓ View.readCov_skip, ↓ View.readCov_cons_toLoadRect, ↓ View.readCov_fill]
  frame_out
  simp only [read_unread_whole]

/-- Every point multiplies its rows by the weight blocks that it leaves in the scratch. -/
theorem block_at : (outsAt0 m c t.val t.isLt).1
    = k0_pay3 (X0 m c t) (outsAt0 m c t.val t.isLt).2.1 (outsAt0 m c t.val t.isLt).2.2 := by
  by_cases h0 : t.val % 4 = 0
  · rw [block_first m c t h0, gate_first m c t h0, up_first m c t h0]
  · rw [block_later m c t h0, gate_later m c t h0, up_later m c t h0]

/-! ## What the blocks hold -/

theorem idx_in (t : Fin cfg0.N) : win0_0.index t = ![t.val / 16, t.val % 4, 0]
    ∧ win0_1.index t = ![1, t.val / 16, 0, t.val / 4 % 4] ∧ win0_2.index t = ![1, t.val / 16, 0, t.val / 4 % 4]
    ∧ win0_3.index t = ![t.val / 16, t.val % 4, t.val / 4 % 4] := by
  revert t
  decide +kernel

/-- The rows, the gate weights and the up weights. -/
abbrev rows : Vec Ideal S16x2048x4096 .bf16 := m ((c.tc : Thread nD τ).loc main_arg0)
abbrev gateW : Vec Ideal S2x16x4096x1024 .f32 := m ((c.tc : Thread nD τ).loc main_arg1)
abbrev upW : Vec Ideal S2x16x4096x1024 .f32 := m ((c.tc : Thread nD τ).loc main_arg2)

/-- The point's expert. -/
def expert : Fin 16 := ⟨t.val / 16, by have := lt_256 t; omega⟩

theorem rows_read (r : Fin 512) (k : Fin 4096) :
    X0 m c t (ix3 0 r k) = rows m c (ix3 (expert t) ⟨t.val % 4 * 512 + r, by omega⟩ k) := by
  blk_ext [iblk, V, idx_in t, expert]

theorem gateW_read (k : Fin 4096) (f : Fin 256) :
    X1 m c t (ix4 0 0 k f) = gateW m c (ix4 1 (expert t) k ⟨t.val / 4 % 4 * 256 + f, by omega⟩) := by
  blk_ext [iblk, V, idx_in t, expert]

theorem upW_read (k : Fin 4096) (f : Fin 256) :
    X2 m c t (ix4 0 0 k f) = upW m c (ix4 1 (expert t) k ⟨t.val / 4 % 4 * 256 + f, by omega⟩) := by
  blk_ext [iblk, V, idx_in t, expert]

/-- A point that does not start a block column has the expert and the column of the point before it. -/
theorem same_column (p : ℕ) (hp : p + 1 < cfg0.N) (h0 : ¬(p + 1) % 4 = 0) (w : Vec Ideal S2x16x4096x1024 .f32)
    (k : Fin 4096) (f : Fin 256) :
    w (ix4 1 (expert ⟨p, Nat.lt_of_succ_lt hp⟩) k ⟨p / 4 % 4 * 256 + f, by omega⟩)
      = w (ix4 1 (expert ⟨p + 1, hp⟩) k ⟨(p + 1) / 4 % 4 * 256 + f, by omega⟩) := by
  have e0 : expert ⟨p, Nat.lt_of_succ_lt hp⟩ = expert ⟨p + 1, hp⟩ :=
    Fin.ext (by show p / 16 = (p + 1) / 16; omega)
  have e1 : p / 4 % 4 = (p + 1) / 4 % 4 := by omega
  simp only [e0, e1]

/-- After every point the scratches hold the expert's weight columns of the point's block column. -/
theorem scratch_read (k : Fin 4096) (f : Fin 256) :
    (outsAt0 m c t.val t.isLt).2.1 (ix2 k f) = gateW m c (ix4 1 (expert t) k ⟨t.val / 4 % 4 * 256 + f, by omega⟩)
    ∧ (outsAt0 m c t.val t.isLt).2.2 (ix2 k f) = upW m c (ix4 1 (expert t) k ⟨t.val / 4 % 4 * 256 + f, by omega⟩) := by
  obtain ⟨p, hp⟩ := t
  induction p with
  | zero =>
    rw [gate_first m c ⟨0, hp⟩ rfl, up_first m c ⟨0, hp⟩ rfl, cached_at, cached'_at]
    exact ⟨gateW_read m c ⟨0, hp⟩ k f, upW_read m c ⟨0, hp⟩ k f⟩
  | succ p ih =>
    by_cases h0 : (p + 1) % 4 = 0
    · rw [gate_first m c ⟨p + 1, hp⟩ h0, up_first m c ⟨p + 1, hp⟩ h0, cached_at, cached'_at]
      exact ⟨gateW_read m c ⟨p + 1, hp⟩ k f, upW_read m c ⟨p + 1, hp⟩ k f⟩
    · rw [gate_later m c ⟨p + 1, hp⟩ h0, up_later m c ⟨p + 1, hp⟩ h0]
      exact ⟨(ih (Nat.lt_of_succ_lt hp)).1.trans (same_column p hp h0 _ k f),
        (ih (Nat.lt_of_succ_lt hp)).2.trans (same_column p hp h0 _ k f)⟩

/-! ## The result array -/

/-- The hidden units as an array. -/
def hiddenArr (x : Vec Ideal S16x2048x4096 .bf16) (wg wu : Vec Ideal S2x16x4096x1024 .f32) : Vec Ideal S16x2048x1024 .bf16 := fun u =>
  swiglu (inner (fun k => x (ix3 (u 0) (u 1) k)) (fun k => wg (ix4 1 (u 0) k (u 2))))
    (inner (fun k => x (ix3 (u 0) (u 1) k)) (fun k => wu (ix4 1 (u 0) k (u 2))))

theorem covers_out : (cfg0.win 3).Covers := by
  refine (cfg0.win 3).covers_of_index_surj rfl (by decide) fun β => ?_
  have b0 : (β 0).val < 16 := lt_of_lt_of_eq (β 0).isLt (by decide)
  have b1 : (β 1).val < 4 := lt_of_lt_of_eq (β 1).isLt (by decide)
  have b2 : (β 2).val < 4 := lt_of_lt_of_eq (β 2).isLt (by decide)
  have hlt : (β 0).val * 16 + (β 2).val * 4 + (β 1).val < 256 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 16 + (β 2).val * 4 + (β 1).val) / 16 = (β 0).val
    omega
  | ⟨1, _⟩ =>
    show ((β 0).val * 16 + (β 2).val * 4 + (β 1).val) % 4 = (β 1).val
    omega
  | ⟨2, _⟩ =>
    show ((β 0).val * 16 + (β 2).val * 4 + (β 1).val) / 4 % 4 = (β 2).val
    omega

theorem result_at (r : Fin 512) (f : Fin 256) :
    ((cfg0.win 3).blk t).view.emb (ix3 0 r f) = (ix3 (expert t) ⟨t.val % 4 * 512 + r, by omega⟩
      ⟨t.val / 4 % 4 * 256 + f, by omega⟩ : S16x2048x1024.Idx) := by
  funext a
  refine Fin.ext ((win0_3.rect_emb_val t (ix3 0 r f : S1x512x256.Idx) a).trans ?_)
  rw [(idx_in t).2.2.2]
  match a with
  | ⟨0, _⟩ => show t.val / 16 * 1 + 0 = t.val / 16; omega
  | ⟨1, _⟩ => rfl
  | ⟨2, _⟩ => rfl

theorem result_array : (dats m 0 c).arrAt 3 cfg0.N = hiddenArr (rows m c) (gateW m c) (upW m c) := by
  refine (dats m 0 c).arrAt_eq_of_covers 3 _ covers_out fun t hf y => ?_
  blk_simp
  rw [after0_3]
  obtain ⟨r, f, rfl⟩ : ∃ (r : Fin 512) (f : Fin 256), y = (ix3 0 r f : S1x512x256.Idx) := ⟨y 1, y 2, by
    idx_vars y
    rw [Subsingleton.elim y0 0]⟩
  refine Eq.trans ?_ (congrArg (hiddenArr (rows m c) (gateW m c) (upW m c)) (result_at t r f).symm)
  rw [block_at, hidden_at]
  unfold hiddenArr
  have hx : (fun k => X0 m c t (ix3 0 r k)) = fun k => rows m c (ix3 (expert t) ⟨t.val % 4 * 512 + r, by omega⟩ k) :=
    funext fun k => rows_read m c t r k
  rw [hx]
  exact congrArg₂ swiglu (congrArg (inner _) (funext fun k => (scratch_read m c t k f).1))
    (congrArg (inner _) (funext fun k => (scratch_read m c t k f).2))

end Cert.Proj.UpSecond

end
-- ==== Proof.Proj.UpSecondClaim.lean ====
/- The reference's result is the same array as the kernel's, and the claims about the two: the second layer. -/
module

public import proofs.«01_k».proof.Defs
public import proofs.«01_k».proof.Proof.Proj.UpSecond
public import proofs.«01_k».proof.Proof.Gen.Reference21Ideal.Run
public import Idealize.ShloMosaic.Lib.Quiescent

@[expose] public section

set_option maxRecDepth 16384

noncomputable section

namespace Cert.Proj.UpSecond

open Idealize.ShloMosaic Idealize.ShloMosaic.TcCoe Idealize.SL.Sem Cert.Reference21Ideal Cert.Reference21Ideal.Gen

/-- The rows' product with the second layer's weights. -/
def product (x : FVec Ideal S16x2048x4096 .bf16) (w : FVec Ideal S2x16x4096x1024 .f32) : FVec Ideal S16x2048x1024 .f32 :=
  Host.dotGeneral dot_S16x2048x4096_S16x4096x1024_S16x2048x1024_2_1_1_2_0_0 none (extf .f32 x bitsLt_bf16_f32)
    (shapeCast S16x4096x1024 (extractStridedSlice S1x16x4096x1024 ![1, 0, 0, 0] w slices_S2x16x4096x1024_S1x16x4096x1024_1_0_0_0)
      shapeCasts_S1x16x4096x1024_S16x4096x1024)

theorem product_at (x : FVec Ideal S16x2048x4096 .bf16) (w : FVec Ideal S2x16x4096x1024 .f32) (e : Fin 16) (r : Fin 2048)
    (f : Fin 1024) : product x w (ix3 e r f) = inner (fun k => x (ix3 e r k)) (fun k => w (ix4 1 e k f)) := by
  pointwise [product, inner]

/-- The gated unit as the reference writes it. -/
def unit (g u : FVec Ideal S16x2048x1024 .f32) : FVec Ideal S16x2048x1024 .bf16 :=
  truncf .bf16 (mulf (mulf g (Host.divf (broadcastInDim S16x2048x1024 ![] bcast_S_S16x2048x1024 (constant S_ .f32 0x3F800000#32))
    (addf (broadcastInDim S16x2048x1024 ![] bcast_S_S16x2048x1024 (constant S_ .f32 0x3F800000#32))
      (Host.exp (Host.negf g))))) u) bitsLt_bf16_f32

theorem unit_at (g u : FVec Ideal S16x2048x1024 .f32) (e : Fin 16) (r : Fin 2048) (f : Fin 1024) :
    unit g u (ix3 e r f) = swiglu (g (ix3 e r f)) (u (ix3 e r f)) := by
  pointwise [unit]
  rfl

theorem reference_array (x : FVec Ideal S16x2048x4096 .bf16) (wg wu : FVec Ideal S2x16x4096x1024 .f32) :
    unit (product x wg) (product x wu) = hiddenArr x wg wu := by
  funext u
  idx_vars u
  rw [unit_at, product_at, product_at]
  rfl

/-- The kernel and the reference end with equal results. -/
theorem algebraic : @algebraic_Kernel21Ideal_Reference21Ideal Cert.Kernel21Ideal.Gen.facts Cert.Reference21Ideal.Gen.facts := by
  intro m g m' g' _ hm
  refine ⟨fun c => hiddenArr (rows m c) (gateW m c) (upW m c), ?_, ?_⟩
  · refine (θ_run _ _ _).mono (fun r h c => ?_) (Cert.Kernel21Ideal.Value.run_blocks m g)
    exact ⟨(h c).1.trans (result_array m c), (h c).2⟩
  · refine (θ_run _ _ _).mono (fun r h c => ?_) (Cert.Reference21Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference21Ideal Cert.Reference21Ideal.Gen.facts := fun m g _ =>
  (θ_run _ _ _).mono (fun r h => ⟨fun c => (h c).2, sem_eq_zero_of_no_sems (by decide) r.2⟩)
    (Cert.Reference21Ideal.Value.run m g)

end Cert.Proj.UpSecond

end
-- ==== Proof.Proj.DownSecond.lean ====
/- The experts' gated outputs, block by block, with each weight block converted once and kept: the second layer. -/
module

public import proofs.«01_k».proof.Proof.Proj.Spec
public import proofs.«01_k».proof.Proof.Gen.Kernel22Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.DownSecond

open Idealize.ShloMosaic Idealize.ShloMosaic.TcCoe Idealize.SL.Sem Idealize.ShloMosaic.Pipeline Cert.Kernel22Ideal Cert.Kernel22Ideal.Gen

/-! ## The block's values -/

theorem cached_at (w : Vec Ideal S1x1x1024x1024 .f32) (k n : Fin 1024) : k0_pay1 w (ix2 k n) = w (ix4 0 0 k n) := by
  pointwise [k0_pay1]

theorem gated_at (x : Vec Ideal S1x512x1024 .bf16) (w : Vec Ideal S1024x1024 .bf16) (g : Vec Ideal S1x512x1 .f32) (r : Fin 512)
    (n : Fin 1024) : k0_pay2 x w g (ix3 0 r n) = inner (fun k => x (ix3 0 r k)) (fun k => w (ix2 k n)) * g (ix3 0 r 0) := by
  pointwise [k0_pay2, inner]

/-! ## The points -/

variable (m : (ℓ : Loc nD τ sig) → Buf (Elt Ideal) ℓ) (c : Dev nD) (t : Fin cfg0.N)

theorem lt_256 : t.val < 256 := lt_of_lt_of_eq t.isLt N_0

/-- The point's hidden units, weights and gates. -/
abbrev X0 : Vec Ideal S1x512x1024 .bf16 := iblk m c 0 t
abbrev X1 : Vec Ideal S1x1x1024x1024 .f32 := iblk m c 1 t
abbrev X2 : Vec Ideal S1x512x1 .f32 := iblk m c 2 t

/-- What the point before left: the output block and the weight block. -/
abbrev before := outsAt0 m c (t.val - 1) (Nat.lt_of_le_of_lt (Nat.sub_le _ _) t.isLt)

theorem scratch_first (h0 : t.val % 4 = 0) : (outsAt0 m c t.val t.isLt).2 = k0_pay1 (X1 m c t) := by
  rw [outsAt0_A m c t h0]
  frame_open
  simp (disch := decide) only [↓ View.readCov_skip, ↓ View.readCov_cons_toLoadRect, ↓ View.readCov_fill]
  frame_out

theorem scratch_later (h0 : ¬t.val % 4 = 0) : (outsAt0 m c t.val t.isLt).2 = (before m c t).2 := by
  rw [outsAt0_B m c t h0]
  rfl

theorem block_first (h0 : t.val % 4 = 0) :
    (outsAt0 m c t.val t.isLt).1 = k0_pay2 (X0 m c t) (k0_pay1 (X1 m c t)) (X2 m c t) := by
  rw [outsAt0_A m c t h0]
  frame_open
  simp (disch := decide) only [↓ View.readCov_skip, ↓ View.readCov_cons_toLoadRect, ↓ View.readCov_fill]
  frame_out

theorem block_later (h0 : ¬t.val % 4 = 0) :
    (outsAt0 m c t.val t.isLt).1 = k0_pay2 (X0 m c t) (before m c t).2 (X2 m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (X0 m c t) (outsAt0 m c t.val t.isLt).2 (X2 m c t) := by
  by_cases h0 : t.val % 4 = 0
  · rw [block_first m c t h0, scratch_first m c t h0]
  · rw [block_later m c t h0, scratch_later m c t h0]

/-! ## What the blocks hold -/

theorem idx_in (t : Fin cfg0.N) : win0_0.index t = ![t.val / 16, t.val % 4, 0]
    ∧ win0_1.index t = ![1, t.val / 16, 0, t.val / 4 % 4] ∧ win0_2.index t = ![t.val / 16, t.val % 4, 0]
    ∧ win0_3.index t = ![t.val / 16, t.val % 4, t.val / 4 % 4] := by
  revert t
  decide +kernel

/-- The hidden units, the weights and the gates. -/
abbrev hidden : Vec Ideal S16x2048x1024 .bf16 := m ((c.tc : Thread nD τ).loc main_arg0)
abbrev weights : Vec Ideal S2x16x1024x4096 .f32 := m ((c.tc : Thread nD τ).loc main_arg1)
abbrev gates : Vec Ideal S16x2048x1 .f32 := m ((c.tc : Thread nD τ).loc main_arg2)

/-- The point's expert. -/
def expert : Fin 16 := ⟨t.val / 16, by have := lt_256 t; omega⟩

theorem hidden_read (r : Fin 512) (k : Fin 1024) :
    X0 m c t (ix3 0 r k) = hidden m c (ix3 (expert t) ⟨t.val % 4 * 512 + r, by omega⟩ k) := by
  blk_ext [iblk, V, idx_in t, expert]

theorem weights_read (k n : Fin 1024) :
    X1 m c t (ix4 0 0 k n) = weights m c (ix4 1 (expert t) k ⟨t.val / 4 % 4 * 1024 + n, by omega⟩) := by
  blk_ext [iblk, V, idx_in t, expert]

theorem gates_read (r : Fin 512) :
    X2 m c t (ix3 0 r 0) = gates m c (ix3 (expert t) ⟨t.val % 4 * 512 + r, by omega⟩ 0) := by
  blk_ext [iblk, V, idx_in t, expert]

/-- After every point the scratch holds the expert's weight columns of the point's block column. -/
theorem scratch_read (k n : Fin 1024) :
    (outsAt0 m c t.val t.isLt).2 (ix2 k n) = weights m c (ix4 1 (expert t) k ⟨t.val / 4 % 4 * 1024 + n, by omega⟩) := by
  obtain ⟨p, hp⟩ := t
  induction p with
  | zero =>
    rw [scratch_first m c ⟨0, hp⟩ rfl, cached_at]
    exact weights_read m c ⟨0, hp⟩ k n
  | succ p ih =>
    by_cases h0 : (p + 1) % 4 = 0
    · rw [scratch_first m c ⟨p + 1, hp⟩ h0, cached_at]
      exact weights_read m c ⟨p + 1, hp⟩ k n
    · rw [scratch_later m c ⟨p + 1, hp⟩ h0]
      refine (ih (Nat.lt_of_succ_lt hp)).trans ?_
      have e0 : expert ⟨p, Nat.lt_of_succ_lt hp⟩ = expert ⟨p + 1, hp⟩ :=
        Fin.ext (by show p / 16 = (p + 1) / 16; omega)
      have e1 : p / 4 % 4 = (p + 1) / 4 % 4 := by omega
      simp only [e0, e1]

/-! ## The result array -/

/-- The experts' gated outputs as an array. -/
def outArr (x : Vec Ideal S16x2048x1024 .bf16) (w : Vec Ideal S2x16x1024x4096 .f32) (g : Vec Ideal S16x2048x1 .f32) :
    Vec Ideal S16x2048x4096 .f32 := fun u =>
  inner (fun k => x (ix3 (u 0) (u 1) k)) (fun k => w (ix4 1 (u 0) k (u 2))) * g (ix3 (u 0) (u 1) 0)

theorem covers_out : (cfg0.win 3).Covers := by
  refine (cfg0.win 3).covers_of_index_surj rfl (by decide) fun β => ?_
  have b0 : (β 0).val < 16 := lt_of_lt_of_eq (β 0).isLt (by decide)
  have b1 : (β 1).val < 4 := lt_of_lt_of_eq (β 1).isLt (by decide)
  have b2 : (β 2).val < 4 := lt_of_lt_of_eq (β 2).isLt (by decide)
  have hlt : (β 0).val * 16 + (β 2).val * 4 + (β 1).val < 256 := by omega
  refine ⟨⟨_, lt_of_lt_of_eq hlt N_0.symm⟩, fun a => ?_⟩
  refine (congrFun (idx_in ⟨_, lt_of_lt_of_eq hlt N_0.symm⟩).2.2.2 a).trans ?_
  match a with
  | ⟨0, _⟩ =>
    show ((β 0).val * 16 + (β 2).val * 4 + (β 1).val) / 16 = (β 0).val
    omega
  | ⟨1, _⟩ =>
    show ((β 0).val * 16 + (β 2).val * 4 + (β 1).val) % 4 = (β 1).val
    omega
  | ⟨2, _⟩ =>
    show ((β 0).val * 16 + (β 2).val * 4 + (β 1).val) / 4 % 4 = (β 2).val
    omega

theorem result_at (r : Fin 512) (n : Fin 1024) :
    ((cfg0.win 3).blk t).view.emb (ix3 0 r n) = (ix3 (expert t) ⟨t.val % 4 * 512 + r, by omega⟩
      ⟨t.val / 4 % 4 * 1024 + n, by omega⟩ : S16x2048x4096.Idx) := by
  funext a
  refine Fin.ext ((win0_3.rect_emb_val t (ix3 0 r n : S1x512x1024.Idx) a).trans ?_)
  rw [(idx_in t).2.2.2]
  match a with
  | ⟨0, _⟩ => show t.val / 16 * 1 + 0 = t.val / 16; omega
  | ⟨1, _⟩ => rfl
  | ⟨2, _⟩ => rfl

theorem result_array : (dats m 0 c).arrAt 3 cfg0.N = outArr (hidden m c) (weights m c) (gates m c) := by
  refine (dats m 0 c).arrAt_eq_of_covers 3 _ covers_out fun t hf y => ?_
  blk_simp
  rw [after0_3]
  obtain ⟨r, n, rfl⟩ : ∃ (r : Fin 512) (n : Fin 1024), y = (ix3 0 r n : S1x512x1024.Idx) := ⟨y 1, y 2, by
    idx_vars y
    rw [Subsingleton.elim y0 0]⟩
  refine Eq.trans ?_ (congrArg (outArr (hidden m c) (weights m c) (gates m c)) (result_at t r n).symm)
  rw [block_at, gated_at, gates_read]
  unfold outArr
  exact congrArg (· * _) (congrArg₂ inner (funext fun k => hidden_read m c t r k) (funext fun k => scratch_read m c t k n))

end Cert.Proj.DownSecond

end
-- ==== Proof.Proj.DownSecondClaim.lean ====
/- The reference's result is the same array as the kernel's, and the claims about the two: the second layer. -/
module

public import proofs.«01_k».proof.Defs
public import proofs.«01_k».proof.Proof.Proj.DownSecond
public import proofs.«01_k».proof.Proof.Gen.Reference22Ideal.Run
public import Idealize.ShloMosaic.Lib.Quiescent

@[expose] public section

set_option maxRecDepth 16384

noncomputable section

namespace Cert.Proj.DownSecond

open Idealize.ShloMosaic Idealize.ShloMosaic.TcCoe Idealize.SL.Sem Cert.Reference22Ideal Cert.Reference22Ideal.Gen

theorem reference_array (x : FVec Ideal S16x2048x1024 .bf16) (w : FVec Ideal S2x16x1024x4096 .f32) (g : FVec Ideal S16x2048x1 .f32) :
    (mulf (Host.dotGeneral dot_S16x2048x1024_S16x1024x4096_S16x2048x4096_2_1_1_2_0_0 none (extf .f32 x bitsLt_bf16_f32)
      (shapeCast S16x1024x4096 (extractStridedSlice S1x16x1024x4096 ![1, 0, 0, 0] w slices_S2x16x1024x4096_S1x16x1024x4096_1_0_0_0)
        shapeCasts_S1x16x1024x4096_S16x1024x4096))
      (broadcastInDim S16x2048x4096 ![0, 1, 2] bcast_S16x2048x1_S16x2048x4096_0_1_2 g) : FVec Ideal S16x2048x4096 .f32)
      = outArr x w g := by
  funext u
  idx_vars u
  pointwise [outArr, inner]

/-- The kernel and the reference end with equal results. -/
theorem algebraic : @algebraic_Kernel22Ideal_Reference22Ideal Cert.Kernel22Ideal.Gen.facts Cert.Reference22Ideal.Gen.facts := by
  intro m g m' g' _ hm
  refine ⟨fun c => outArr (hidden m c) (weights m c) (gates m c), ?_, ?_⟩
  · refine (θ_run _ _ _).mono (fun r h c => ?_) (Cert.Kernel22Ideal.Value.run_blocks m g)
    exact ⟨(h c).1.trans (result_array m c), (h c).2⟩
  · refine (θ_run _ _ _).mono (fun r h c => ?_) (Cert.Reference22Ideal.Value.run m' g')
    refine ⟨(h c).1.trans ?_, (h c).2⟩
    obtain ⟨e0, e1, e2⟩ := hm c
    rw [e0, e1, e2]
    exact reference_array _ _ _

/-- The reference runs, keeps its arguments, and has no semaphore counter that could end off zero. -/
theorem reference_frame : @quiescent_Reference22Ideal Cert.Reference22Ideal.Gen.facts := fun m g _ =>
  (θ_run _ _ _).mono (fun r h => ⟨fun c => (h c).2, sem_eq_zero_of_no_sems (by decide) r.2⟩)
    (Cert.Reference22Ideal.Value.run m g)

end Cert.Proj.DownSecond

end
-- ==== Proof.Proj.MergeSecond.lean ====
/- The gated sum of the two branches, block by block, with the two weight blocks converted once and kept: the second layer. -/
module

public import proofs.«01_k».proof.Proof.Proj.Spec
public import proofs.«01_k».proof.Proof.Gen.Kernel23Ideal.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.MergeSecond

open Idealize.ShloMosaic Idealize.ShloMosaic.TcCoe Idealize.SL.Sem Idealize.ShloMosaic.Pipeline Cert.Kernel23Ideal Cert.Kernel23Ideal.Gen

/-! ## The block's values -/

theorem cached_at (w : Vec Ideal S1x2048x512 .f32) (k : Fin 2048) (n : Fin 512) : k0_pay1 w (ix2 k n) = w (ix3 0 k n) := by
  pointwise [k0_pay1]

theorem cached'_at (w : Vec Ideal S1x2048x512 .f32) (k : Fin 2048) (n : Fin 512) : k0_pay2 w (ix2 k n) = w (ix3 0 k n) := by
  pointwise [k0_pay2]

section Values

variable (x : Vec Ideal S512x2048 .bf16) (wa : Vec Ideal S2048x512 .bf16) (y : Vec Ideal S512x2048 .bf16)
  (wb : Vec Ideal S2048x512 .bf16) (ga gb : Vec Ideal S512x512 .f32) (r n : Fin 512)

theorem merged_at : k0_pay3 x wa y wb ga gb (ix2 r n)
    = sigmoid (ga (ix2 r n)) * inner (fun k => x (ix2 r k)) (fun k => wa (ix2 k n))
      + sigmoid (gb (ix2 r n)) * inner (fun k => y (ix2 r k)) (fun k => wb (ix2 k n)) := by
  pointwise [k0_pay3]
  simp only [zero_sub]
  rfl

theorem merged'_at : k0_pay4 x wa y wb ga gb (ix2 r n)
    = sigmoid (ga (ix2 r n)) * inner (fun k => x (ix2 r k)) (fun k => wa (ix2 k n))
      + sigmoid (gb (ix2 r n)) * inner (fun k => y (ix2 r k)) (fun k => wb (ix2 k n)) := by
  pointwise [k0_pay4]
  simp only [zero_sub]
  rfl

end Values

/-! ## The points -/

variable (m : (ℓ : Loc nD τ sig) → Buf (Elt Ideal) ℓ) (c : Dev nD) (t : Fin cfg0.N)

theorem lt_264 : t.val < 264 := lt_of_lt_of_eq t.isLt N_0

/-- The point's Fourier rows (latent, context), attention rows (latent, context), weights and gates. -/
abbrev X0 : Vec Ideal S512x2048 .bf16 := iblk m c 0 t
abbrev X1 : Vec Ideal S512x2048 .bf16 := iblk m c 1 t
abbrev X2 : Vec Ideal S512x2048 .bf16 := iblk m c 2 t
abbrev X3 : Vec Ideal S512x2048 .bf16 := iblk m c 3 t
abbrev X4 : Vec Ideal S1x2048x512 .f32 := iblk m c 4 t
abbrev X5 : Vec Ideal S1x2048x512 .f32 := iblk m c 5 t
abbrev X6 : Vec Ideal S512x512 .f32 := iblk m c 6 t
abbrev X7 : Vec Ideal S512x512 .f32 := iblk m c 7 t

/-- What the point before left: the output block and the two weight blocks. -/
abbrev before := outsAt0 m c (t.val - 1) (Nat.lt_of_le_of_lt (Nat.sub_le _ _) t.isLt)

theorem first_lat (h0 : t.val % 33 = 0) : t.val % 33 ≤ 31 ∧ ¬t.val % 33 = 32 := by omega

theorem a_first (h0 : t.val % 33 = 0) : (outsAt0 m c t.val t.isLt).2.1 = k0_pay1 (X4 m c t) := by
  rw [outsAt0_A m c t h0 h0 (first_lat t h0).1 (first_lat t h0).2]
  frame_open
  simp (disch := decide) only [↓ View.readCov_skip, ↓ View.readCov_cons_toLoadRect, ↓ View.readCov_fill]
  frame_out

theorem b_first (h0 : t.val % 33 = 0) : (outsAt0 m c t.val t.isLt).2.2 = k0_pay2 (X5 m c t) := by
  rw [outsAt0_A m c t h0 h0 (first_lat t h0).1 (first_lat t h0).2]
  frame_open
  simp (disch := decide) only [↓ View.readCov_skip, ↓ View.readCov_cons_toLoadRect, ↓ View.readCov_fill]
  frame_out

theorem a_later (h0 : ¬t.val % 33 = 0) : (outsAt0 m c t.val t.isLt).2.1 = (before m c t).2.1 := by
  by_cases h2 : t.val % 33 ≤ 31
  · rw [outsAt0_B m c t h0 h0 h2 (by omega)]
    rfl
  · rw [outsAt0_C m c t h0 h0 h2 (by omega)]
    rfl

theorem b_later (h0 : ¬t.val % 33 = 0) : (outsAt0 m c t.val t.isLt).2.2 = (before m c t).2.2 := by
  by_cases h2 : t.val % 33 ≤ 31
  · rw [outsAt0_B m c t h0 h0 h2 (by omega)]
    rfl
  · rw [outsAt0_C m c t h0 h0 h2 (by omega)]
    rfl

theorem block_first (h0 : t.val % 33 = 0) : (outsAt0 m c t.val t.isLt).1
    = k0_pay3 (X0 m c t) (k0_pay1 (X4 m c t)) (X2 m c t) (k0_pay2 (X5 m c t)) (X6 m c t) (X7 m c t) := by
  rw [outsAt0_A m c t h0 h0 (first_lat t h0).1 (first_lat t h0).2]
  frame_open
  simp (disch := decide) only [↓ View.readCov_skip, ↓ View.readCov_cons_toLoadRect, ↓ View.readCov_fill]
  frame_out

theorem block_later (h0 : ¬t.val % 33 = 0) (h2 : t.val % 33 ≤ 31) (h3 : ¬t.val % 33 = 32) : (outsAt0 m c t.val t.isLt).1
    = k0_pay3 (X0 m c t) (before m c t).2.1 (X2 m c t) (before m c t).2.2 (X6 m c t) (X7 m c t) := by
  rw [outsAt0_B m c t h0 h0 h2 h3]
  frame_open
  simp (disch := decide) only [↓ View.readCov_skip, ↓ View.readCov_cons_toLoadRect, ↓ View.readCov_fill]
  frame_out
  simp only [read_unread_whole]

theorem block_last (h0 : ¬t.val % 33 = 0) (h2 : ¬t.val % 33 ≤ 31) (h3 : t.val % 33 = 32) : (outsAt0 m c t.val t.isLt).1
    = k0_pay4 (X1 m c t) (before m c t).2.1 (X3 m c t) (before m c t).2.2 (X6 m c t) (X7 m c t) := by
  rw [outsAt0_C m c t h0 h0 h2 h3]
  frame_open
  simp (disch := decide) only [↓ View.readCov_skip, ↓ View.readCov_cons_toLoadRect, ↓ View.readCov_fill]
  frame_out
  simp only [read_unread_whole]

/-- Every latent point merges its rows through the weight blocks that it leaves in the scratches. -/
theorem block_lat (h2 : t.val % 33 ≤ 31) : (outsAt0 m c t.val t.isLt).1 = k0_pay3 (X0 m c t) (outsAt0 m c t.val t.isLt).2.1
    (X2 m c t) (outsAt0 m c t.val t.isLt).2.2 (X6 m c t) (X7 m c t) := by
  by_cases h0 : t.val % 33 = 0
  · rw [block_first m c t h0, a_first m c t h0, b_first m c t h0]
  · rw [block_later m c t h0 h2 (by omega), a_later m c t h0, b_later m c t h0]

/-- Every context point does so with the context's rows. -/
theorem block_ctx (h3 : t.val % 33 = 32) : (outsAt0 m c t.val t.isLt).1 = k0_pay4 (X1 m c t) (outsAt0 m c t.val t.isLt).2.1
    (X3 m c t) (outsAt0 m c t.val t.isLt).2.2 (X6 m c t) (X7 m c t) := by
  have h0 : ¬t.val % 33 = 0 := by omega
  rw [block_last m c t h0 (by omega) h3, a_later m c t h0, b_later m c t h0]

/-! ## What the blocks hold -/

theorem idx_in (t : Fin cfg0.N) : win0_0.index t = ![min (t.val % 33) 31, 0] ∧ win0_1.index t = ![0, 0]
    ∧ win0_2.index t = ![min (t.val % 33) 31, 0] ∧ win0_3.index t = ![0, 0] ∧ win0_4.index t = ![1, 0, t.val / 33]
    ∧ win0_5.index t = ![1, 0, t.val / 33] ∧ win0_6.index t = ![t.val % 33, t.val / 33]
    ∧ win0_7.index t = ![t.val % 33, 8 + t.val / 33] := by
  revert t
  decide +kernel

theorem idx_out (t : Fin cfg0.N) : win0_8.index t = ![t.val % 33, t.val / 33] := by
  revert t
  decide +kernel

/-- The two branches' rows (latent, context), the two weights and the gates. -/
abbrev fourLat : Vec Ideal S16384x2048 .bf16 := m ((c.tc : Thread nD τ).loc main_arg0)
abbrev fourCtx : Vec Ideal S512x2048 .bf16 := m ((c.tc : Thread nD τ).loc main_arg1)
abbrev attnLat : Vec Ideal S16384x2048 .bf16 := m ((c.tc : Thread nD τ).loc main_arg2)
abbrev attnCtx : Vec Ideal S512x2048 .bf16 := m ((c.tc : Thread nD τ).loc main_arg3)
abbrev weightsA : Vec Ideal S2x2048x4096 .f32 := m ((c.tc : Thread nD τ).loc main_arg4)
abbrev weightsB : Vec Ideal S2x2048x4096 .f32 := m ((c.tc : Thread nD τ).loc main_arg5)
abbrev gates : Vec Ideal S16896x8192 .f32 := m ((c.tc : Thread nD τ).loc main_arg6)

/-- The token and the channel of an entry of the point's output block. -/
def row (r : Fin 512) : Fin 16896 := ⟨t.val % 33 * 512 + r, by omega⟩
def col (n : Fin 512) : Fin 4096 := ⟨t.val / 33 * 512 + n, by have := lt_264 t; omega⟩

/-- The latent rows and then the context's. -/
def rows (lat : Vec Ideal S16384x2048 .bf16) (ctx : Vec Ideal S512x2048 .bf16) (s : Fin 16896) (k : Fin 2048) : EReal :=
  if h : s.val < 16384 then lat (ix2 ⟨s.val, h⟩ k) else ctx (ix2 ⟨s.val - 16384, by omega⟩ k)

theorem X0_read (h2 : t.val % 33 ≤ 31) (r : Fin 512) (k : Fin 2048) :
    X0 m c t (ix2 r k) = rows (fourLat m c) (fourCtx m c) (row t r) k := by
  have hs : (row t r).val < 16384 := by show t.val % 33 * 512 + r.val < 16384; omega
  have e : min (t.val % 33) 31 = t.val % 33 := by omega
  unfold rows
  rw [dif_pos hs]
  blk_ext [iblk, V, idx_in t, row, e]

theorem X2_read (h2 : t.val % 33 ≤ 31) (r : Fin 512) (k : Fin 2048) :
    X2 m c t (ix2 r k) = rows (attnLat m c) (attnCtx m c) (row t r) k := by
  have hs : (row t r).val < 16384 := by show t.val % 33 * 512 + r.val < 16384; omega
  have e : min (t.val % 33) 31 = t.val % 33 := by omega
  unfold rows
  rw [dif_pos hs]
  blk_ext [iblk, V, idx_in t, row, e]

theorem X1_read (h3 : t.val % 33 = 32) (r : Fin 512) (k : Fin 2048) :
    X1 m c t (ix2 r k) = rows (fourLat m c) (fourCtx m c) (row t r) k := by
  have hs : ¬(row t r).val < 16384 := by show ¬t.val % 33 * 512 + r.val < 16384; omega
  have e : (⟨(row t r).val - 16384, by have := (row t r).isLt; omega⟩ : Fin 512) = r :=
    Fin.ext (by show t.val % 33 * 512 + r.val - 16384 = r.val; omega)
  unfold rows
  rw [dif_neg hs, e]
  blk_ext [iblk, V, idx_in t]

theorem X3_read (h3 : t.val % 33 = 32) (r : Fin 512) (k : Fin 2048) :
    X3 m c t (ix2 r k) = rows (attnLat m c) (attnCtx m c) (row t r) k := by
  have hs : ¬(row t r).val < 16384 := by show ¬t.val % 33 * 512 + r.val < 16384; omega
  have e : (⟨(row t r).val - 16384, by have := (row t r).isLt; omega⟩ : Fin 512) = r :=
    Fin.ext (by show t.val % 33 * 512 + r.val - 16384 = r.val; omega)
  unfold rows
  rw [dif_neg hs, e]
  blk_ext [iblk, V, idx_in t]

theorem weightsA_read (k : Fin 2048) (n : Fin 512) : X4 m c t (ix3 0 k n) = weightsA m c (ix3 1 k (col t n)) := by
  blk_ext [iblk, V, idx_in t, col]

theorem weightsB_read (k : Fin 2048) (n : Fin 512) : X5 m c t (ix3 0 k n) = weightsB m c (ix3 1 k (col t n)) := by
  blk_ext [iblk, V, idx_in t, col]

theorem gateA_read (r n : Fin 512) :
    X6 m c t (ix2 r n) = gates m c (ix2 (row t r) ⟨col t n, by have := (col t n).isLt; omega⟩) := by
  blk_ext [iblk, V, idx_in t, row, col]

theorem gateB_read (r n : Fin 512) :
    X7 m c t (ix2 r n) = gates m c (ix2 (row t r) ⟨4096 + col t n, by have := (col t n).isLt; omega⟩) := by
  have e : (⟨4096 + col t n, by have := (col t n).isLt; omega⟩ : Fin 8192)
      = ⟨(8 + t.val / 33) * 512 + n, by have := lt_264 t; omega⟩ :=
    Fin.ext (by show 4096 + (t.val / 33 * 512 + n.val) = (8 + t.val / 33) * 512 + n.val; omega)
  rw [e]
  blk_ext [iblk, V, idx_in t, row]

/-- After every point the scratches hold the weight columns of the point's block column. -/
theorem scratchA_read (k : Fin 2048) (n : Fin 512) :
    (outsAt0 m c t.val t.isLt).2.1 (ix2 k n) = weightsA m c (ix3 1 k (col t n)) := by
  obtain ⟨p, hp⟩ := t
  induction p with
  | zero =>
    rw [a_first m c ⟨0, hp⟩ rfl, cached_at]
    exact weightsA_read m c ⟨0, hp⟩ k n
  | succ p ih =>
    by_cases h0 : (p + 1) % 33 = 0
    · rw [a_first m c ⟨p + 1, hp⟩ h0, cached_at]
      exact weightsA_read m c ⟨p + 1, hp⟩ k n
    · rw [a_later m c ⟨p + 1, hp⟩ h0]
      refine (ih (Nat.lt_of_succ_lt hp)).trans (congrArg (weightsA m c) (congrArg (ix3 1 k) (Fin.ext ?_)))
      show p / 33 * 512 + n.val = (p + 1) / 33 * 512 + n.val
      omega

theorem scratchB_read (k : Fin 2048) (n : Fin 512) :
    (outsAt0 m c t.val t.isLt).2.2 (ix2 k n) = weightsB m c (ix3 1 k (col t n)) := by
  obtain ⟨p, hp⟩ := t
  induction p with
  | zero =>
    rw [b_first m c ⟨0, hp⟩ rfl, cached'_at]
    exact weightsB_read m c ⟨0, hp⟩ k n
  | succ p ih =>
    by_cases h0 : (p + 1) % 33 = 0
    · rw [b_first m c ⟨p + 1, hp⟩ h0, cached'_at]
      exact weightsB_read m c ⟨p + 1, hp⟩ k n
    · rw [b_later m c ⟨p + 1, hp⟩ h0]
      refine (ih (Nat.lt_of_succ_lt hp)).trans (congrArg (weightsB m c) (congrArg (ix3 1 k) (Fin.ext ?_)))
      show p / 33 * 512 + n.val = (p + 1) / 33 * 512 + n.val
      omega

/-! ## The result array -/

/-- The two branches' gated sum. -/
def mergeArr (fl : Vec Ideal S16384x2048 .bf16) (fc : Vec Ideal S512x2048 .bf16) (al : Vec Ideal S16384x2048 .bf16)
    (ac : Vec Ideal S512x2048 .bf16) (wa wb : Vec Ideal S2x2048x4096 .f32) (g : Vec Ideal S16896x8192 .f32) :
    Vec Ideal S16896x4096 .bf16 := fun u =>
  sigmoid (g (ix2 (u 0) ⟨u 1, by have : (u 1).val < 4096 := (u 1).isLt; omega⟩))
      * inner (rows fl fc (u 0)) (fun k => wa (ix3 1 k (u 1)))
    + sigmoid (g (ix2 (u 0) ⟨4096 + u 1, by have : (u 1).val < 4096 := (u 1).isLt; omega⟩))
      * inner (rows al ac (u 0)) (fun k => wb (ix3 1 k (u 1)))

theorem covers_out : (cfg0.win 8).Covers := by
  refine (cfg0.win 8).covers_of_index_surj rfl (by decide) fun β => ?_
  have b0 : (β 0).val < 33 := lt_of_lt_of_eq (β 0).isLt (by decide)
  have b1 : (β 1).val < 8 := lt_of_lt_of_eq (β 1).isLt (by decide)
  have hlt : (β 1).val * 33 + (β 0).val < 264 := by omega
  refine ⟨⟨_, lt_of_lt_of_eq hlt N_0.symm⟩, fun a => ?_⟩
  refine (congrFun (idx_out ⟨_, lt_of_lt_of_eq hlt N_0.symm⟩) a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) : ((cfg0.win 8).blk t).view.emb (ix2 r n) = (ix2 (row t r) (col t n) : S16896x4096.Idx) := by
  funext a
  refine Fin.ext ((win0_8.rect_emb_val t (ix2 r n : S512x512.Idx) a).trans ?_)
  rw [idx_out t]
  match a with
  | ⟨0, _⟩ => rfl
  | ⟨1, _⟩ => rfl

/-- The kernel's result, from its arguments. -/
abbrev result : Vec Ideal S16896x4096 .bf16 :=
  mergeArr (fourLat m c) (fourCtx m c) (attnLat m c) (attnCtx m c) (weightsA m c) (weightsB m c) (gates m c)

theorem result_array : (dats m 0 c).arrAt 8 cfg0.N = result m c := by
  refine (dats m 0 c).arrAt_eq_of_covers 8 _ covers_out fun t hf y => ?_
  blk_simp
  rw [after0_8]
  obtain ⟨r, n, rfl⟩ : ∃ r n : Fin 512, y = (ix2 r n : S512x512.Idx) := ⟨y 0, y 1, by idx_vars y⟩
  refine Eq.trans ?_ (congrArg (result m c) (result_at t r n).symm)
  have hA : (fun k => (outsAt0 m c t.val t.isLt).2.1 (ix2 k n)) = fun k => weightsA m c (ix3 1 k (col t n)) :=
    funext fun k => scratchA_read m c t k n
  have hB : (fun k => (outsAt0 m c t.val t.isLt).2.2 (ix2 k n)) = fun k => weightsB m c (ix3 1 k (col t n)) :=
    funext fun k => scratchB_read m c t k n
  unfold result mergeArr
  by_cases h2 : t.val % 33 ≤ 31
  · rw [block_lat m c t h2, merged_at, hA, hB, gateA_read, gateB_read]
    exact congrArg₂ (· + ·)
      (congrArg₂ (· * ·) rfl (congrArg (inner · _) (funext fun k => X0_read m c t h2 r k)))
      (congrArg₂ (· * ·) rfl (congrArg (inner · _) (funext fun k => X2_read m c t h2 r k)))
  · have h3 : t.val % 33 = 32 := by omega
    rw [block_ctx m c t h3, merged'_at, hA, hB, gateA_read, gateB_read]
    exact congrArg₂ (· + ·)
      (congrArg₂ (· * ·) rfl (congrArg (inner · _) (funext fun k => X1_read m c t h3 r k)))
      (congrArg₂ (· * ·) rfl (congrArg (inner · _) (funext fun k => X3_read m c t h3 r k)))

end Cert.Proj.MergeSecond

end
-- ==== Proof.Proj.MergeSecondClaim.lean ====
/- The reference's result is the same array as the kernel's, and the claims about the two: the second layer. -/
module

public import proofs.«01_k».proof.Defs
public import proofs.«01_k».proof.Proof.Proj.MergeSecond
public import proofs.«01_k».proof.Proof.Gen.Reference23Ideal.Run
public import Idealize.ShloMosaic.Lib.Quiescent

@[expose] public section

set_option maxRecDepth 16384

noncomputable section

namespace Cert.Proj.MergeSecond

open Idealize.ShloMosaic Idealize.ShloMosaic.TcCoe Idealize.SL.Sem Cert.Reference23Ideal Cert.Reference23Ideal.Gen

/-- The latent rows and then the context's, times the second layer's weights. -/
def product (lat : FVec Ideal S16384x2048 .bf16) (ctx : FVec Ideal S512x2048 .bf16) (w : FVec Ideal S2x2048x4096 .f32) :
    FVec Ideal S16896x4096 .f32 :=
  Host.dotGeneral dot_S16896x2048_S2048x4096_S16896x4096_1_0_0_1_n_n none (extf .f32 (concatenate S16896x2048 0
      [⟨S16384x2048, lat⟩, ⟨S512x2048, ctx⟩] concatenates_S16384x2048_S512x2048_S16896x2048_d0) bitsLt_bf16_f32)
    (shapeCast S2048x4096 (extractStridedSlice S1x2048x4096 ![1, 0, 0] w slices_S2x2048x4096_S1x2048x4096_1_0_0)
      shapeCasts_S1x2048x4096_S2048x4096)

theorem product_at (lat : FVec Ideal S16384x2048 .bf16) (ctx : FVec Ideal S512x2048 .bf16) (w : FVec Ideal S2x2048x4096 .f32)
    (s : Fin 16896) (n : Fin 4096) : product lat ctx w (ix2 s n) = inner (rows lat ctx s) (fun k => w (ix3 1 k n)) := by
  pointwise [product, inner, rows]

/-- The gated sum as the reference writes it. -/
def gated (g : FVec Ideal S16896x8192 .f32) (ya yb : FVec Ideal S16896x4096 .f32) : FVec Ideal S16896x4096 .bf16 :=
  truncf .bf16 (addf
    (mulf (Host.divf (broadcastInDim S16896x4096 ![] bcast_S_S16896x4096 (constant S_ .f32 0x3F800000#32))
      (addf (broadcastInDim S16896x4096 ![] bcast_S_S16896x4096 (constant S_ .f32 0x3F800000#32)) (Host.exp (Host.negf
        (extractStridedSlice S16896x4096 ![0, 0] g slices_S16896x8192_S16896x4096_0_0))))) ya)
    (mulf (Host.divf (broadcastInDim S16896x4096 ![] bcast_S_S16896x4096 (constant S_ .f32 0x3F800000#32))
      (addf (broadcastInDim S16896x4096 ![] bcast_S_S16896x4096 (constant S_ .f32 0x3F800000#32)) (Host.exp (Host.negf
        (extractStridedSlice S16896x4096 ![0, 4096] g slices_S16896x8192_S16896x4096_0_4096))))) yb)) bitsLt_bf16_f32

theorem gated_at (g : FVec Ideal S16896x8192 .f32) (ya yb : FVec Ideal S16896x4096 .f32) (s : Fin 16896) (n : Fin 4096) :
    gated g ya yb (ix2 s n) = sigmoid (g (ix2 s ⟨n, by omega⟩)) * ya (ix2 s n)
      + sigmoid (g (ix2 s ⟨4096 + n, by omega⟩)) * yb (ix2 s n) := by
  pointwise [gated]
  rfl

theorem reference_array (fl : FVec Ideal S16384x2048 .bf16) (fc : FVec Ideal S512x2048 .bf16) (al : FVec Ideal S16384x2048 .bf16)
    (ac : FVec Ideal S512x2048 .bf16) (wa wb : FVec Ideal S2x2048x4096 .f32) (g : FVec Ideal S16896x8192 .f32) :
    gated g (product fl fc wa) (product al ac wb) = mergeArr fl fc al ac wa wb g := by
  funext u
  idx_vars u
  rw [gated_at, product_at, product_at]
  rfl

/-- The kernel and the reference end with equal results. -/
theorem algebraic : @algebraic_Kernel23Ideal_Reference23Ideal Cert.Kernel23Ideal.Gen.facts Cert.Reference23Ideal.Gen.facts := by
  intro m g m' g' _ hm
  refine ⟨fun c => result m c, ?_, ?_⟩
  · refine (θ_run _ _ _).mono (fun r h c => ?_) (Cert.Kernel23Ideal.Value.run_blocks m g)
    exact ⟨(h c).1.trans (result_array m c), (h c).2⟩
  · refine (θ_run _ _ _).mono (fun r h c => ?_) (Cert.Reference23Ideal.Value.run m' g')
    refine ⟨(h c).1.trans ?_, (h c).2⟩
    obtain ⟨e0, e1, e2, e3, e4, e5, e6⟩ := hm c
    rw [e0, e1, e2, e3, e4, e5, e6]
    exact reference_array _ _ _ _ _ _ _

/-- The reference runs, keeps its arguments, and has no semaphore counter that could end off zero. -/
theorem reference_frame : @quiescent_Reference23Ideal Cert.Reference23Ideal.Gen.facts := fun m g _ =>
  (θ_run _ _ _).mono (fun r h => ⟨fun c => (h c).2, sem_eq_zero_of_no_sems (by decide) r.2⟩)
    (Cert.Reference23Ideal.Value.run m g)

end Cert.Proj.MergeSecond

end
-- ==== Proof.Proj.OutSecond.lean ====
/- The output projection's gated residual, block by block, with each weight block converted once and kept: the second layer. -/
module

public import proofs.«01_k».proof.Proof.Proj.Spec
public import proofs.«01_k».proof.Proof.Gen.Kernel24Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.OutSecond

open Idealize.ShloMosaic Idealize.ShloMosaic.TcCoe Idealize.SL.Sem Idealize.ShloMosaic.Pipeline Cert.Kernel24Ideal Cert.Kernel24Ideal.Gen

/-! ## The block's values -/

theorem cached_at (w : Vec Ideal S1x4096x512 .f32) (k : Fin 4096) (n : Fin 512) : k0_pay1 w (ix2 k n) = w (ix3 0 k n) := by
  pointwise [k0_pay1]

theorem residual_at (a : Vec Ideal S512x4096 .bf16) (w : Vec Ideal S4096x512 .bf16) (x : Vec Ideal S512x512 .f32)
    (g : Vec Ideal S1x1x512 .f32) (r n : Fin 512) :
    k0_pay2 a w x g (ix2 r n) = x (ix2 r n) + g (ix3 0 0 n) * inner (fun k => a (ix2 r k)) (fun k => w (ix2 k n)) := by
  pointwise [k0_pay2, inner]

/-! ## The points -/

variable (m : (ℓ : Loc nD τ sig) → Buf (Elt Ideal) ℓ) (c : Dev nD) (t : Fin cfg0.N)

theorem lt_264 : t.val < 264 := lt_of_lt_of_eq t.isLt N_0

/-- The point's merged rows, weights, stream and gates. -/
abbrev X0 : Vec Ideal S512x4096 .bf16 := iblk m c 0 t
abbrev X1 : Vec Ideal S1x4096x512 .f32 := iblk m c 1 t
abbrev X2 : Vec Ideal S512x512 .f32 := iblk m c 2 t
abbrev X3 : Vec Ideal S1x1x512 .f32 := iblk m c 3 t

/-- What the point before left: the output block and the weight block. -/
abbrev before := outsAt0 m c (t.val - 1) (Nat.lt_of_le_of_lt (Nat.sub_le _ _) t.isLt)

theorem scratch_first (h0 : t.val % 33 = 0) : (outsAt0 m c t.val t.isLt).2 = k0_pay1 (X1 m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = (before m c t).2 := by
  rw [outsAt0_B m c t h0]
  rfl

theorem block_first (h0 : t.val % 33 = 0) :
    (outsAt0 m c t.val t.isLt).1 = k0_pay2 (X0 m c t) (k0_pay1 (X1 m c t)) (X2 m c t) (X3 m c t) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (X0 m c t) (before m c t).2 (X2 m c t) (X3 m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1
    = k0_pay2 (X0 m c t) (outsAt0 m c t.val t.isLt).2 (X2 m c t) (X3 m c t) := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![1, 0, t.val / 33]
    ∧ win0_2.index t = ![t.val % 33, t.val / 33] ∧ win0_3.index t = ![min (t.val % 33 / 16) 2 * 6 + 2, 0, t.val / 33] := by
  revert t
  decide +kernel

theorem idx_out (t : Fin cfg0.N) : win0_4.index t = ![t.val % 33, t.val / 33] := by
  revert t
  decide +kernel

/-- The merged rows, the weights, the stream and the modulation rows. -/
abbrev merged : Vec Ideal S16896x4096 .bf16 := m ((c.tc : Thread nD τ).loc main_arg0)
abbrev weights : Vec Ideal S2x4096x4096 .f32 := m ((c.tc : Thread nD τ).loc main_arg1)
abbrev stream : Vec Ideal S16896x4096 .f32 := m ((c.tc : Thread nD τ).loc main_arg2)
abbrev modulation : Vec Ideal S48x1x4096 .f32 := m ((c.tc : Thread nD τ).loc main_arg3)

/-- The token and the channel of an entry of the point's output block. -/
def row (r : Fin 512) : Fin 16896 := ⟨t.val % 33 * 512 + r, by omega⟩
def col (n : Fin 512) : Fin 4096 := ⟨t.val / 33 * 512 + n, by have := lt_264 t; omega⟩

/-- The modulation row that gates a token: the third of the six of its sample, the context's for a context token. -/
def gateRow (s : Fin 16896) : Fin 48 := ⟨min (s.val / 8192) 2 * 6 + 2, by omega⟩

theorem merged_read (r : Fin 512) (k : Fin 4096) : X0 m c t (ix2 r k) = merged m c (ix2 (row t r) k) := by
  blk_ext [iblk, V, idx_in t, row]

theorem weights_read (k : Fin 4096) (n : Fin 512) : X1 m c t (ix3 0 k n) = weights m c (ix3 1 k (col t n)) := by
  blk_ext [iblk, V, idx_in t, col]

theorem stream_read (r n : Fin 512) : X2 m c t (ix2 r n) = stream m c (ix2 (row t r) (col t n)) := by
  blk_ext [iblk, V, idx_in t, row, col]

theorem gate_read (r n : Fin 512) : X3 m c t (ix3 0 0 n) = modulation m c (ix3 (gateRow (row t r)) 0 (col t n)) := by
  have e : gateRow (row t r) = ⟨min (t.val % 33 / 16) 2 * 6 + 2, by omega⟩ := Fin.ext (by
    show min ((t.val % 33 * 512 + r.val) / 8192) 2 * 6 + 2 = min (t.val % 33 / 16) 2 * 6 + 2
    have : (t.val % 33 * 512 + r.val) / 8192 = t.val % 33 / 16 := by omega
    rw [this])
  rw [e]
  blk_ext [iblk, V, idx_in t, col]

/-- After every point the scratch holds the weight columns of the point's block column. -/
theorem scratch_read (k : Fin 4096) (n : Fin 512) :
    (outsAt0 m c t.val t.isLt).2 (ix2 k n) = weights m c (ix3 1 k (col t n)) := by
  obtain ⟨p, hp⟩ := t
  induction p with
  | zero =>
    rw [scratch_first m c ⟨0, hp⟩ rfl, cached_at]
    exact weights_read m c ⟨0, hp⟩ k n
  | succ p ih =>
    by_cases h0 : (p + 1) % 33 = 0
    · rw [scratch_first m c ⟨p + 1, hp⟩ h0, cached_at]
      exact weights_read m c ⟨p + 1, hp⟩ k n
    · rw [scratch_later m c ⟨p + 1, hp⟩ h0]
      refine (ih (Nat.lt_of_succ_lt hp)).trans (congrArg (weights m c) (congrArg (ix3 1 k) (Fin.ext ?_)))
      show p / 33 * 512 + n.val = (p + 1) / 33 * 512 + n.val
      omega

/-! ## The result array -/

/-- The stream after the output projection's gated residual. -/
def streamArr (a : Vec Ideal S16896x4096 .bf16) (w : Vec Ideal S2x4096x4096 .f32) (x : Vec Ideal S16896x4096 .f32)
    (g : Vec Ideal S48x1x4096 .f32) : Vec Ideal S16896x4096 .f32 := fun u =>
  x (ix2 (u 0) (u 1)) + g (ix3 (gateRow (u 0)) 0 (u 1)) * inner (fun k => a (ix2 (u 0) k)) (fun k => w (ix3 1 k (u 1)))

theorem covers_out : (cfg0.win 4).Covers := by
  refine (cfg0.win 4).covers_of_index_surj rfl (by decide) fun β => ?_
  have b0 : (β 0).val < 33 := lt_of_lt_of_eq (β 0).isLt (by decide)
  have b1 : (β 1).val < 8 := lt_of_lt_of_eq (β 1).isLt (by decide)
  have hlt : (β 1).val * 33 + (β 0).val < 264 := by omega
  refine ⟨⟨_, lt_of_lt_of_eq hlt N_0.symm⟩, fun a => ?_⟩
  refine (congrFun (idx_out ⟨_, lt_of_lt_of_eq hlt N_0.symm⟩) a).trans ?_
  match a with
  | ⟨0, _⟩ =>
    show ((β 1).val * 33 + (β 0).val) % 33 = (β 0).val
    omega
  | ⟨1, _⟩ =>
    show ((β 1).val * 33 + (β 0).val) / 33 = (β 1).val
    omega

theorem result_at (r n : Fin 512) : ((cfg0.win 4).blk t).view.emb (ix2 r n) = (ix2 (row t r) (col t n) : S16896x4096.Idx) := by
  funext a
  refine Fin.ext ((win0_4.rect_emb_val t (ix2 r n : S512x512.Idx) a).trans ?_)
  rw [idx_out t]
  match a with
  | ⟨0, _⟩ => rfl
  | ⟨1, _⟩ => rfl

theorem result_array : (dats m 0 c).arrAt 4 cfg0.N = streamArr (merged m c) (weights m c) (stream m c) (modulation m c) := by
  refine (dats m 0 c).arrAt_eq_of_covers 4 _ covers_out fun t hf y => ?_
  blk_simp
  rw [after0_4]
  obtain ⟨r, n, rfl⟩ : ∃ r n : Fin 512, y = (ix2 r n : S512x512.Idx) := ⟨y 0, y 1, by idx_vars y⟩
  refine Eq.trans ?_ (congrArg (streamArr (merged m c) (weights m c) (stream m c) (modulation m c)) (result_at t r n).symm)
  rw [block_at, residual_at, stream_read, gate_read m c t r n]
  unfold streamArr
  exact congrArg₂ (· + ·) rfl (congrArg₂ (· * ·) rfl
    (congrArg₂ inner (funext fun k => merged_read m c t r k) (funext fun k => scratch_read m c t k n)))

/-- The kernel runs to the result array and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v0) = streamArr (merged m c) (weights m c) (stream m c) (modulation m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  have keep : ∀ (c : Dev nD) (w : Fin 5), (cfg0.win w).isOut = false →
      (dats m 0 c).arrAt w cfg0.N = V m c (arrRef spec0 w) := fun c w hw =>
    ((dats m 0 c).arrAt_in w hw _).trans (A_eq m c w)
  refine (θ_run defs _ _).mono (fun r h c => ?_) (run_main m ρ)
  have hw := (h c).1
  exact ⟨(hw 4).trans (result_array m c), (hw 0).trans (keep c 0 rfl), (hw 1).trans (keep c 1 rfl),
    (hw 2).trans (keep c 2 rfl), (hw 3).trans (keep c 3 rfl)⟩

end Cert.Proj.OutSecond

end
-- ==== Proof.Proj.OutSecondClaim.lean ====
/- The reference's result is the same array as the kernel's, and the claims about the two: the second layer. -/
module

public import proofs.«01_k».proof.Defs
public import proofs.«01_k».proof.Proof.Proj.OutSecond
public import proofs.«01_k».proof.Proof.Gen.Reference24Ideal.Run
public import Idealize.ShloMosaic.Lib.Quiescent

@[expose] public section

set_option maxRecDepth 16384

noncomputable section

namespace Cert.Proj.OutSecond

open Idealize.ShloMosaic Idealize.ShloMosaic.TcCoe Idealize.SL.Sem Cert.Reference24Ideal Cert.Reference24Ideal.Gen

/-- The merged rows' product with the second layer's weights. -/
def product (a : FVec Ideal S16896x4096 .bf16) (w : FVec Ideal S2x4096x4096 .f32) : FVec Ideal S16896x4096 .f32 :=
  Host.dotGeneral dot_S16896x4096_S4096x4096_S16896x4096_1_0_0_1_n_n none (extf .f32 a bitsLt_bf16_f32)
    (shapeCast S4096x4096 (extractStridedSlice S1x4096x4096 ![1, 0, 0] w slices_S2x4096x4096_S1x4096x4096_1_0_0)
      shapeCasts_S1x4096x4096_S4096x4096)

theorem product_at (a : FVec Ideal S16896x4096 .bf16) (w : FVec Ideal S2x4096x4096 .f32) (s : Fin 16896) (n : Fin 4096) :
    product a w (ix2 s n) = inner (fun k => a (ix2 s k)) (fun k => w (ix3 1 k n)) := by
  pointwise [product, inner]

/-- The gate of every sample and of the context. -/
def gateRows (g : FVec Ideal S48x1x4096 .f32) : FVec Ideal S8x4096 .f32 :=
  shapeCast S8x4096 (extractStridedSlice S8x1x4096 ![0, 2, 0] (shapeCast S8x6x4096 g shapeCasts_S48x1x4096_S8x6x4096)
    slices_S8x6x4096_S8x1x4096_0_2_0) shapeCasts_S8x1x4096_S8x4096

theorem gateRows_at (g : FVec Ideal S48x1x4096 .f32) (b : Fin 8) (n : Fin 4096) :
    gateRows g (ix2 b n) = g (ix3 ⟨b * 6 + 2, by omega⟩ 0 n) := by
  pointwise [gateRows]

/-- The latent rows' gated residual. -/
def latent (x : FVec Ideal S16896x4096 .f32) (g : FVec Ideal S8x4096 .f32) (y : FVec Ideal S16896x4096 .f32) :
    FVec Ideal S16384x4096 .f32 :=
  shapeCast S16384x4096 (addf
    (shapeCast S2x8192x4096 (extractStridedSlice S16384x4096 ![0, 0] x slices_S16896x4096_S16384x4096_0_0)
      shapeCasts_S16384x4096_S2x8192x4096)
    (mulf (broadcastInDim S2x8192x4096 ![0, 1, 2] bcast_S2x1x4096_S2x8192x4096_0_1_2
        (broadcastInDim S2x1x4096 ![0, 2] bcast_S2x4096_S2x1x4096_0_2
          (extractStridedSlice S2x4096 ![0, 0] g slices_S8x4096_S2x4096_0_0)))
      (shapeCast S2x8192x4096 (extractStridedSlice S16384x4096 ![0, 0] y slices_S16896x4096_S16384x4096_0_0)
        shapeCasts_S16384x4096_S2x8192x4096)))
    shapeCasts_S2x8192x4096_S16384x4096

theorem latent_at (x : FVec Ideal S16896x4096 .f32) (g : FVec Ideal S8x4096 .f32) (y : FVec Ideal S16896x4096 .f32)
    (s : Fin 16384) (n : Fin 4096) : latent x g y (ix2 s n)
      = x (ix2 ⟨s, by omega⟩ n) + g (ix2 ⟨s / 8192, by omega⟩ n) * y (ix2 ⟨s, by omega⟩ n) := by
  pointwise [latent]

/-- The context rows' gated residual. -/
def context (x : FVec Ideal S16896x4096 .f32) (g : FVec Ideal S8x4096 .f32) (y : FVec Ideal S16896x4096 .f32) :
    FVec Ideal S512x4096 .f32 :=
  addf (extractStridedSlice S512x4096 ![16384, 0] x slices_S16896x4096_S512x4096_16384_0)
    (mulf (broadcastInDim S512x4096 ![0, 1] bcast_S1x4096_S512x4096_0_1 (broadcastInDim S1x4096 ![1] bcast_S4096_S1x4096_1
        (shapeCast S4096 (extractStridedSlice S1x4096 ![2, 0] g slices_S8x4096_S1x4096_2_0) shapeCasts_S1x4096_S4096)))
      (extractStridedSlice S512x4096 ![16384, 0] y slices_S16896x4096_S512x4096_16384_0))

theorem context_at (x : FVec Ideal S16896x4096 .f32) (g : FVec Ideal S8x4096 .f32) (y : FVec Ideal S16896x4096 .f32)
    (s : Fin 512) (n : Fin 4096) : context x g y (ix2 s n)
      = x (ix2 ⟨16384 + s, by omega⟩ n) + g (ix2 2 n) * y (ix2 ⟨16384 + s, by omega⟩ n) := by
  pointwise [context]

/-- The latent rows and then the context's. -/
theorem stacked_at (l : FVec Ideal S16384x4096 .f32) (x : FVec Ideal S512x4096 .f32) (s : Fin 16896) (n : Fin 4096) :
    (concatenate S16896x4096 0 [⟨S16384x4096, l⟩, ⟨S512x4096, x⟩] concatenates_S16384x4096_S512x4096_S16896x4096_d0
      : FVec Ideal S16896x4096 .f32) (ix2 s n)
      = if h : s.val < 16384 then l (ix2 ⟨s, h⟩ n) else x (ix2 ⟨s - 16384, by omega⟩ n) := by
  pointwise []

theorem reference_array (a : FVec Ideal S16896x4096 .bf16) (w : FVec Ideal S2x4096x4096 .f32) (x : FVec Ideal S16896x4096 .f32)
    (g : FVec Ideal S48x1x4096 .f32) :
    (concatenate S16896x4096 0 [⟨S16384x4096, latent x (gateRows g) (product a w)⟩,
      ⟨S512x4096, context x (gateRows g) (product a w)⟩] concatenates_S16384x4096_S512x4096_S16896x4096_d0
      : FVec Ideal S16896x4096 .f32) = streamArr a w x g := by
  funext u
  idx_vars u
  rw [stacked_at]
  unfold streamArr
  split
  · next h =>
    rw [latent_at, product_at, gateRows_at]
    have e : (⟨u0.val / 8192 * 6 + 2, by omega⟩ : Fin 48) = gateRow u0 :=
      Fin.ext (by show u0.val / 8192 * 6 + 2 = min (u0.val / 8192) 2 * 6 + 2; omega)
    exact congrArg₂ (· + ·) rfl (congrArg₂ (· * ·) (congrArg g (congrArg (ix3 · 0 u1) e)) rfl)
  · next h =>
    rw [context_at, product_at, gateRows_at]
    have e : (⟨16384 + (u0.val - 16384), by omega⟩ : Fin 16896) = u0 := Fin.ext (by show 16384 + (u0.val - 16384) = u0.val; omega)
    have e2 : (⟨(2 : Fin 8).val * 6 + 2, by decide⟩ : Fin 48) = gateRow u0 :=
      Fin.ext (by show 2 * 6 + 2 = min (u0.val / 8192) 2 * 6 + 2; omega)
    rw [e]
    exact congrArg₂ (· + ·) rfl (congrArg₂ (· * ·) (congrArg g (congrArg (ix3 · 0 u1) e2)) rfl)

/-- The kernel and the reference end with equal results. -/
theorem algebraic : @algebraic_Kernel24Ideal_Reference24Ideal Cert.Kernel24Ideal.Gen.facts Cert.Reference24Ideal.Gen.facts := by
  intro m g m' g' _ hm
  refine ⟨fun c => streamArr (merged m c) (weights m c) (stream m c) (modulation m c), ?_, ?_⟩
  · exact result_run m g
  · refine (θ_run _ _ _).mono (fun r h c => ?_) (Cert.Reference24Ideal.Value.run m' g')
    refine ⟨(h c).1.trans ?_, (h c).2⟩
    obtain ⟨e0, e1, e2, e3⟩ := hm c
    rw [e0, e1, e2, e3]
    exact reference_array _ _ _ _

/-- The reference runs, keeps its arguments, and has no semaphore counter that could end off zero. -/
theorem reference_frame : @quiescent_Reference24Ideal Cert.Reference24Ideal.Gen.facts := fun m g _ =>
  (θ_run _ _ _).mono (fun r h => ⟨fun c => (h c).2, sem_eq_zero_of_no_sems (by decide) r.2⟩)
    (Cert.Reference24Ideal.Value.run m g)

end Cert.Proj.OutSecond

end
-- ==== Proof.Proj.LrSecond.lean ====
/- The input projection's columns from 8192 on that feed the low-rank gates, with the weight block converted once and kept: the second layer. -/
module

public import proofs.«01_k».proof.Proof.Proj.Spec
public import proofs.«01_k».proof.Proof.Gen.Kernel25Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.LrSecond

open Idealize.ShloMosaic Idealize.ShloMosaic.TcCoe Idealize.SL.Sem Idealize.ShloMosaic.Pipeline Cert.Kernel25Ideal Cert.Kernel25Ideal.Gen

/-! ## The block products -/

theorem cached_at (w : Vec Ideal S1x4096x128 .f32) (k : Fin 4096) (n : Fin 128) :
    k0_pay1 w (ix2 k n) = w (ix3 0 k n) := by
  pointwise [k0_pay1]

theorem product_at (x : Vec Ideal S512x4096 .bf16) (w : Vec Ideal S4096x128 .bf16) (r : Fin 512) (n : Fin 128) :
    k0_pay2 x w (ix2 r n) = inner (fun k => x (ix2 r k)) (fun k => w (ix2 k n)) := by
  pointwise [k0_pay2, inner]

/-! ## The points -/

variable (m : (ℓ : Loc nD τ sig) → Buf (Elt Ideal) ℓ) (c : Dev nD) (t : Fin cfg0.N)

theorem lt_33 : t.val < 33 := lt_of_lt_of_eq t.isLt N_0

abbrev rowsBlk : Vec Ideal S512x4096 .bf16 := iblk m c 0 t
abbrev colsBlk : Vec Ideal S1x4096x128 .f32 := X0_1 m c t

/-- The weight block that the point before left in the scratch. -/
abbrev before : Vec Ideal S4096x128 .bf16 := (outsAt0 m c (t.val - 1) (Nat.lt_of_le_of_lt (Nat.sub_le _ _) t.isLt)).2

theorem scratch_first (h0 : t.val % 33 = 0) : (outsAt0 m c t.val t.isLt).2 = k0_pay1 (colsBlk m c t) := by
  rw [outsAt0_A m c t h0]
  frame_open
  simp (disch := decide) only [↓ View.readCov_skip, ↓ View.readCov_cons_toLoadRect, ↓ View.readCov_fill]
  frame_out

theorem scratch_later (h0 : ¬t.val % 33 = 0) : (outsAt0 m c t.val t.isLt).2 = before m c t := by
  rw [outsAt0_B m c t h0]
  rfl

theorem block_first (h0 : t.val % 33 = 0) :
    (outsAt0 m c t.val t.isLt).1 = k0_pay2 (rowsBlk m c t) (k0_pay1 (colsBlk m c t)) := by
  rw [outsAt0_A m c t h0]
  frame_open
  simp (disch := decide) only [↓ View.readCov_skip, ↓ View.readCov_cons_toLoadRect, ↓ View.readCov_fill]
  frame_out

theorem block_later (h0 : ¬t.val % 33 = 0) :
    (outsAt0 m c t.val t.isLt).1 = k0_pay2 (rowsBlk m c t) (before m c t) := by
  rw [outsAt0_B m c t h0]
  frame_open
  simp (disch := decide) only [↓ View.readCov_skip, ↓ View.readCov_cons_toLoadRect, ↓ View.readCov_fill]
  frame_out
  simp only [read_unread_whole]

/-- Every point multiplies its rows by the weight block that it leaves in the scratch. -/
theorem block_at : (outsAt0 m c t.val t.isLt).1 = k0_pay2 (rowsBlk m c t) (outsAt0 m c t.val t.isLt).2 := by
  by_cases h0 : t.val % 33 = 0
  · rw [block_first m c t h0, scratch_first m c t h0]
  · rw [block_later m c t h0, scratch_later m c t h0]

/-! ## What the blocks hold -/

theorem idx_in (t : Fin cfg0.N) : win0_0.index t = ![t.val % 33, 0] ∧ win0_1.index t = ![1, 0, 64]
    ∧ win0_2.index t = ![t.val % 33, 0] := by
  revert t
  decide +kernel

/-- The activations and the weights. -/
abbrev acts : Vec Ideal S16896x4096 .bf16 := m ((c.tc : Thread nD τ).loc main_arg0)
abbrev weights : Vec Ideal S2x4096x16416 .f32 := m ((c.tc : Thread nD τ).loc main_arg1)

theorem rows_read (r : Fin 512) (k : Fin 4096) :
    rowsBlk m c t (ix2 r k) = acts m c (ix2 ⟨t.val % 33 * 512 + r, by omega⟩ k) := by
  blk_ext [iblk, V, idx_in t]

theorem cols_read (k : Fin 4096) (n : Fin 128) :
    colsBlk m c t (ix3 0 k n) = weights m c (ix3 1 k ⟨8192 + n, by omega⟩) := by
  show (cfg0.win 1).fill (cfg0.grid.coords t) dflt0_1 (iblk m c 1 t) (ix3 0 k n : S1x4096x128.Idx) = _
  unfold Window.fill
  rw [dif_pos (moved0_1 t _)]
  refine congrArg (weights m c) (funext fun a => Fin.ext ?_)
  refine (win0_1.rect_emb_val t _ a).trans ?_
  rw [(idx_in t).2.1]
  match a with
  | ⟨0, _⟩ => rfl
  | ⟨1, _⟩ => show 0 * 4096 + k.val = k.val; omega
  | ⟨2, _⟩ => rfl

/-- After every point the scratch holds the weight columns of the point's block column. -/
theorem scratch_read (k : Fin 4096) (n : Fin 128) :
    (outsAt0 m c t.val t.isLt).2 (ix2 k n) = weights m c (ix3 1 k ⟨8192 + n, by omega⟩) := by
  obtain ⟨p, hp⟩ := t
  induction p with
  | zero =>
    rw [scratch_first m c ⟨0, hp⟩ rfl, cached_at]
    exact cols_read m c ⟨0, hp⟩ k n
  | succ p ih =>
    by_cases h0 : (p + 1) % 33 = 0
    · rw [scratch_first m c ⟨p + 1, hp⟩ h0, cached_at]
      exact cols_read m c ⟨p + 1, hp⟩ k n
    · rw [scratch_later m c ⟨p + 1, hp⟩ h0]
      refine (ih (Nat.lt_of_succ_lt hp)).trans rfl

/-! ## The result array -/

/-- The product as an array. -/
def projArr (x : Vec Ideal S16896x4096 .bf16) (w : Vec Ideal S2x4096x16416 .f32) : Vec Ideal S16896x128 .f32 := fun u =>
  inner (fun k => x (ix2 (u 0) k)) (fun k => w (ix3 1 k ⟨8192 + (u 1).val, by have : (u 1).val < 128 := (u 1).isLt; omega⟩))

theorem covers_out : (cfg0.win 2).Covers := by
  refine (cfg0.win 2).covers_of_index_surj rfl (by decide) fun β => ?_
  have b0 : (β 0).val < 33 := lt_of_lt_of_eq (β 0).isLt (by decide)
  have b1 : (β 1).val < 1 := lt_of_lt_of_eq (β 1).isLt (by decide)
  refine ⟨⟨_, lt_of_lt_of_eq b0 N_0.symm⟩, fun a => ?_⟩
  refine (congrFun (idx_in ⟨_, lt_of_lt_of_eq b0 N_0.symm⟩).2.2 a).trans ?_
  match a with
  | ⟨0, _⟩ =>
    show (β 0).val % 33 = (β 0).val
    omega
  | ⟨1, _⟩ =>
    show 0 = (β 1).val
    omega

theorem result_at (r : Fin 512) (n : Fin 128) :
    ((cfg0.win 2).blk t).view.emb (ix2 r n) = (ix2 ⟨t.val % 33 * 512 + r, by omega⟩ n : S16896x128.Idx) := by
  funext a
  refine Fin.ext ((win0_2.rect_emb_val t (ix2 r n : S512x128.Idx) a).trans ?_)
  rw [(idx_in t).2.2]
  match a with
  | ⟨0, _⟩ => rfl
  | ⟨1, _⟩ => show 0 * 128 + n.val = n.val; omega

theorem result_array : (dats m 0 c).arrAt 2 cfg0.N = projArr (acts m c) (weights m c) := by
  refine (dats m 0 c).arrAt_eq_of_covers 2 _ covers_out fun t hf y => ?_
  blk_simp
  rw [after0_2]
  obtain ⟨r, n, rfl⟩ : ∃ (r : Fin 512) (n : Fin 128), y = (ix2 r n : S512x128.Idx) := ⟨y 0, y 1, by idx_vars y⟩
  refine Eq.trans ?_ (congrArg (projArr (acts m c) (weights m c)) (result_at t r n).symm)
  rw [block_at, product_at]
  unfold projArr
  refine congrArg₂ inner (funext fun k => rows_read m c t r k) (funext fun k => scratch_read m c t k n)

/-- The kernel runs to the product and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v0) = projArr (acts m c) (weights m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run_main m ρ)
  exact ⟨((h c).1 2).trans (result_array m c),
    ((h c).1 0).trans (((dats m 0 c).arrAt_in 0 rfl _).trans (A_eq m c 0)),
    ((h c).1 1).trans (((dats m 0 c).arrAt_in 1 rfl _).trans (A_eq m c 1))⟩

end Cert.Proj.LrSecond

end
-- ==== Proof.Proj.LrSecondClaim.lean ====
/- The reference's product is the same array as the kernel's, and the claims about the two: the second layer. -/
module

public import proofs.«01_k».proof.Defs
public import proofs.«01_k».proof.Proof.Proj.LrSecond
public import proofs.«01_k».proof.Proof.Gen.Reference25Ideal.Run
public import Idealize.ShloMosaic.Lib.Quiescent

@[expose] public section

set_option maxRecDepth 16384

noncomputable section

namespace Cert.Proj.LrSecond

open Idealize.ShloMosaic Idealize.ShloMosaic.TcCoe Idealize.SL.Sem Cert.Reference25Ideal Cert.Reference25Ideal.Gen

theorem reference_array (x : FVec Ideal S16896x4096 .bf16) (w : FVec Ideal S2x4096x16416 .f32) :
    (extractStridedSlice S16896x128 ![0, 8192] (Host.dotGeneral dot_S16896x4096_S4096x16416_S16896x16416_1_0_0_1_n_n none
      (extf .f32 x bitsLt_bf16_f32) (shapeCast S4096x16416 (extractStridedSlice S1x4096x16416 ![1, 0, 0] w
        slices_S2x4096x16416_S1x4096x16416_1_0_0) shapeCasts_S1x4096x16416_S4096x16416))
      slices_S16896x16416_S16896x128_0_8192 : FVec Ideal S16896x128 .f32) = projArr x w := by
  funext u
  idx_vars u
  pointwise [projArr, inner]

/-- The kernel and the reference end with equal products. -/
theorem algebraic : @algebraic_Kernel25Ideal_Reference25Ideal Cert.Kernel25Ideal.Gen.facts Cert.Reference25Ideal.Gen.facts := by
  intro m g m' g' _ hm
  refine ⟨fun c => projArr (acts m c) (weights m c), ?_, ?_⟩
  · exact result_run m g
  · refine (θ_run _ _ _).mono (fun r h c => ?_) (Cert.Reference25Ideal.Value.run m' g')
    refine ⟨(h c).1.trans ?_, (h c).2⟩
    rw [(hm c).1, (hm c).2]
    exact reference_array _ _

/-- The reference runs, keeps its arguments, and has no semaphore counter that could end off zero. -/
theorem reference_frame : @quiescent_Reference25Ideal Cert.Reference25Ideal.Gen.facts := fun m g _ =>
  (θ_run _ _ _).mono (fun r h => ⟨fun c => (h c).2, sem_eq_zero_of_no_sems (by decide) r.2⟩)
    (Cert.Reference25Ideal.Value.run m g)

end Cert.Proj.LrSecond

end
-- ==== Proof.Proj.RouterSecond.lean ====
/- The stream normed and modulated for the experts, and every token's affinity to each of them: the second layer. -/
module

public import proofs.«01_k».proof.Proof.Proj.Mod
public import proofs.«01_k».proof.Proof.Gen.Kernel26Ideal.Frame
public import Idealize.ShloMosaic.Lib.Pipeline.Value
public import Idealize.ShloMosaic.Lib.Pipeline.ReadBack
public import Idealize.ShloMosaic.Lib.Pipeline.ValueKit
public import Idealize.ShloMosaic.Lib.Pipeline.Covers

@[expose] public section

set_option maxRecDepth 16384
set_option maxHeartbeats 1000000

noncomputable section

namespace Cert.Proj.RouterSecond

open Idealize.ShloMosaic Idealize.ShloMosaic.TcCoe Idealize.SL.Sem Idealize.ShloMosaic.Pipeline Cert.Kernel26Ideal Cert.Kernel26Ideal.Gen

/-- The greatest of sixteen, from -∞ on. -/
def top (v : Fin 16 → EReal) : EReal := (Finset.univ : Finset (Fin 16)).fold max (Ideal.ofBits FTy.f32 0xFF800000#32) v

/-- The softmax of sixteen logits. -/
def softmax (v : Fin 16 → EReal) (e : Fin 16) : EReal :=
  Ideal.div (Ideal.exp (v e - top v)) (∑ f, Ideal.exp (v f - top v))

/-! ## The block's arithmetic -/

theorem modulated_at (x : Vec Ideal S256x4096 .f32) (g : Vec Ideal S1x4096 .f32) (sc sh : Vec Ideal S1x1x4096 .f32) (r : Fin 256)
    (n : Fin 4096) : k0_pay2 x g sc sh (ix2 r n)
      = x (ix2 r n) * invRms (fun k => x (ix2 r k)) * g (ix2 0 n) * (1 + sc (ix3 0 0 n)) + sh (ix3 0 0 n) := by
  pointwise [k0_pay2, invRms, inner]

/-- The block's logits: experts by tokens. -/
def blkLogits (w : FVec Ideal S16x4096 .bf16) (h : FVec Ideal S256x4096 .f32) : FVec Ideal S16x256 .f32 :=
  matmul dot_S16x4096_S256x4096_S16x256_1_1_0_0_n_n none (shapeCast S16x4096 w shapeCasts_S16x4096_S16x4096)
    (truncf .bf16 h bitsLt_bf16_f32) (constant S16x256 .f32 0x00000000#32)

theorem blkLogits_at (w : FVec Ideal S16x4096 .bf16) (h : FVec Ideal S256x4096 .f32) (e : Fin 16) (r : Fin 256) :
    blkLogits w h (ix2 e r) = inner (fun k => h (ix2 r k)) (fun k => w (ix2 e k)) := by
  pointwise [blkLogits, inner]
  simp only [mul_comm]

theorem top_read (l : FVec Ideal S16x256 .f32) (r : Fin 256) :
    multiReduction .maximumf [0] S256 l 0xFF800000#32 reduces_S16x256_S256 (.inl rfl) rfl (ix1 r) = top (fun e => l (ix2 e r)) := by
  refine (Ideal.multiReduction_maximumf_single (s := S16x256) (t := S256) (a := 0) l _ reduces_S16x256_S256 _ _ (ix1 r)).trans ?_
  refine congrArg (Finset.fold max _ · Finset.univ) (funext fun e => congrArg l ?_)
  funext a
  match a with
  | ⟨0, _⟩ => rfl
  | ⟨1, _⟩ => rfl

theorem weight_at (x : Vec Ideal S256x4096 .f32) (g : Vec Ideal S1x4096 .f32) (sc sh : Vec Ideal S1x1x4096 .f32)
    (w : Vec Ideal S16x4096 .bf16) (e : Fin 16) (r : Fin 256) : k0_pay3 x g sc sh w (ix2 e r)
      = Ideal.exp (blkLogits w (k0_pay2 x g sc sh) (ix2 e r) - top (fun f => blkLogits w (k0_pay2 x g sc sh) (ix2 f r))) := by
  rw [← top_read]
  show Ideal.exp (_ - _) = _
  refine congrArg (fun v => Ideal.exp (blkLogits w (k0_pay2 x g sc sh) (ix2 e r) - v)) ?_
  show broadcastTo S16x256 (shapeCast S1x256 (multiReduction .maximumf [0] S256 (blkLogits w (k0_pay2 x g sc sh)) 0xFF800000#32
    reduces_S16x256_S256 (.inl rfl) rfl) shapeCasts_S256_S1x256) broadcasts_S1x256_S16x256 (ix2 e r) = _
  generalize multiReduction .maximumf [0] S256 (blkLogits w (k0_pay2 x g sc sh)) 0xFF800000#32
    reduces_S16x256_S256 (.inl rfl) rfl = v
  pointwise []

theorem total_at (x : Vec Ideal S256x4096 .f32) (g : Vec Ideal S1x4096 .f32) (sc sh : Vec Ideal S1x1x4096 .f32)
    (w : Vec Ideal S16x4096 .bf16) (r : Fin 256) : k0_pay4 x g sc sh w (ix2 0 r) = ∑ f, k0_pay3 x g sc sh w (ix2 f r) := by
  unfold k0_pay4
  generalize k0_pay3 x g sc sh w = v
  pointwise []

theorem affinity_at (x : Vec Ideal S256x4096 .f32) (g : Vec Ideal S1x4096 .f32) (sc sh : Vec Ideal S1x1x4096 .f32)
    (w : Vec Ideal S16x4096 .bf16) (e : Fin 16) (r : Fin 256) :
    k0_pay1 (k0_pay3 x g sc sh w) (k0_pay4 x g sc sh w) (ix2 e r)
      = softmax (fun f => inner (fun k => k0_pay2 x g sc sh (ix2 r k)) (fun k => w (ix2 f k))) e := by
  have h : ∀ (a : FVec Ideal S16x256 .f32) (b : FVec Ideal S1x256 .f32),
      k0_pay1 a b (ix2 e r) = Ideal.div (a (ix2 e r)) (b (ix2 0 r)) := fun a b => by pointwise [k0_pay1]
  rw [h, total_at]
  simp only [weight_at, blkLogits_at]
  rfl

/-! ## What the blocks hold -/

variable (m : (ℓ : Loc nD τ sig) → Buf (Elt Ideal) ℓ) (c : Dev nD) (t : Fin cfg0.N)

theorem lt_66 : t.val < 66 := lt_of_lt_of_eq t.isLt N_0

/-- The point's rows, weights, scales and shifts and the router's weights, as the point finds them. -/
abbrev X0 : Vec Ideal S256x4096 .f32 := iblk m c 0 t
abbrev X1 : Vec Ideal S1x4096 .f32 := iblk m c 1 t
abbrev X2 : Vec Ideal S1x1x4096 .f32 := iblk m c 2 t
abbrev X3 : Vec Ideal S1x1x4096 .f32 := iblk m c 3 t
abbrev X4 : Vec Ideal S16x4096 .bf16 := iblk m c 4 t

theorem idx_in (t : Fin cfg0.N) : win0_0.index t = ![t.val, 0] ∧ win0_1.index t = ![0, 0]
    ∧ win0_2.index t = ![min (t.val / 32) 2 * 6 + 4, 0, 0] ∧ win0_3.index t = ![min (t.val / 32) 2 * 6 + 3, 0, 0]
    ∧ win0_4.index t = ![0, 0] ∧ win0_5.index t = ![t.val, 0] ∧ win0_6.index t = ![0, t.val] := by
  revert t
  decide +kernel

/-- The stream, the norm's weights, the modulation rows and the router's weights. -/
abbrev stream : Vec Ideal S16896x4096 .f32 := m ((c.tc : Thread nD τ).loc main_arg0)
abbrev weights : Vec Ideal S4096 .f32 := m ((c.tc : Thread nD τ).loc main_arg1)
abbrev modulation : Vec Ideal S48x1x4096 .f32 := m ((c.tc : Thread nD τ).loc main_arg2)
abbrev router : Vec Ideal S2x4096x16 .f32 := m ((c.tc : Thread nD τ).loc main_arg3)

/-- The token of a row of the point's block. -/
def row (r : Fin 256) : Fin 16896 := ⟨t.val * 256 + r, by have := lt_66 t; omega⟩

theorem modRow_row (k : ℕ) (hk : k < 6) (r : Fin 256) :
    modRow k hk (row t r) = ⟨min (t.val / 32) 2 * 6 + k, by omega⟩ := Fin.ext (by
  show min ((t.val * 256 + r.val) / 8192) 2 * 6 + k = min (t.val / 32) 2 * 6 + k
  have : (t.val * 256 + r.val) / 8192 = t.val / 32 := by omega
  rw [this])

theorem stream_read (r : Fin 256) (n : Fin 4096) : X0 m c t (ix2 r n) = stream m c (ix2 (row t r) n) := by
  have e : V m c (arrRef spec0 0) = stream m c := V_main_arg0 m c
  show ((cfg0.win 0).blk t).view.read (Elt Ideal) (V m c (arrRef spec0 0)) (ix2 r n) = _
  rw [e]
  blk_ext [idx_in t, row]

/-- The weights as one row: the host's reshape before the call. -/
theorem weights_row (n : Fin 4096) : (V m c main_v0 : Vec Ideal S1x4096 .f32) (ix2 0 n) = weights m c (ix1 n) := by
  have e : (V m c main_v0 : Vec Ideal S1x4096 .f32) = broadcastInDim S1x4096 ![1] bcast_S4096_S1x4096_1 (weights m c) := by
    unfold V
    after_results
  rw [e]
  pointwise []

theorem weights_read (n : Fin 4096) : X1 m c t (ix2 0 n) = weights m c (ix1 n) := by
  rw [← weights_row m c n]
  generalize hv : V m c main_v0 = v
  have e : V m c (arrRef spec0 1) = v := hv
  show ((cfg0.win 1).blk t).view.read (Elt Ideal) (V m c (arrRef spec0 1)) (ix2 0 n) = _
  rw [e]
  blk_ext [idx_in t]

theorem scale_read (r : Fin 256) (n : Fin 4096) :
    X2 m c t (ix3 0 0 n) = modulation m c (ix3 (modRow 4 (by decide) (row t r)) 0 n) := by
  have e : V m c (arrRef spec0 2) = modulation m c := V_main_arg2 m c
  show ((cfg0.win 2).blk t).view.read (Elt Ideal) (V m c (arrRef spec0 2)) (ix3 0 0 n) = _
  rw [e, modRow_row]
  blk_ext [idx_in t]

theorem shift_read (r : Fin 256) (n : Fin 4096) :
    X3 m c t (ix3 0 0 n) = modulation m c (ix3 (modRow 3 (by decide) (row t r)) 0 n) := by
  have e : V m c (arrRef spec0 3) = modulation m c := V_main_arg2 m c
  show ((cfg0.win 3).blk t).view.read (Elt Ideal) (V m c (arrRef spec0 3)) (ix3 0 0 n) = _
  rw [e, modRow_row]
  blk_ext [idx_in t]

/-- The first layer's router weights, transposed: experts by model dimension. -/
def transposed (p : FVec Ideal S2x4096x16 .f32) : FVec Ideal S16x4096 .bf16 :=
  truncf .bf16 (transpose S16x4096 [1, 0] (shapeCast S4096x16 (extractStridedSlice S1x4096x16 ![1, 0, 0] p
    slices_S2x4096x16_S1x4096x16_1_0_0) shapeCasts_S1x4096x16_S4096x16) transposes_S4096x16_S16x4096_1_0) bitsLt_bf16_f32

theorem transposed_at (p : FVec Ideal S2x4096x16 .f32) (e : Fin 16) (k : Fin 4096) :
    transposed p (ix2 e k) = p (ix3 1 k e) := by
  pointwise [transposed]

/-- The host transposes the router's weights before the call. -/
theorem router_rows (e : Fin 16) (k : Fin 4096) : (V m c main_v4 : Vec Ideal S16x4096 .bf16) (ix2 e k) = router m c (ix3 1 k e) := by
  have h : (V m c main_v4 : Vec Ideal S16x4096 .bf16) = transposed (router m c) := by
    unfold V
    after_results
    rfl
  rw [h, transposed_at]

theorem router_read (e : Fin 16) (k : Fin 4096) : X4 m c t (ix2 e k) = router m c (ix3 1 k e) := by
  rw [← router_rows m c e k]
  generalize hv : V m c main_v4 = v
  have h : V m c (arrRef spec0 4) = v := hv
  show ((cfg0.win 4).blk t).view.read (Elt Ideal) (V m c (arrRef spec0 4)) (ix2 e k) = _
  rw [h]
  blk_ext [idx_in t]

/-! ## The result arrays -/

/-- The modulated rows: the scale and the shift are the fifth and the fourth of a token's modulation rows. -/
abbrev entry (x : Vec Ideal S16896x4096 .f32) (g : Vec Ideal S4096 .f32) (w : Vec Ideal S48x1x4096 .f32) (s : Fin 16896)
    (n : Fin 4096) : EReal := Mod.entry 4 3 (by decide) (by decide) x g w s n

def modArr (x : Vec Ideal S16896x4096 .f32) (g : Vec Ideal S4096 .f32) (w : Vec Ideal S48x1x4096 .f32) :
    Vec Ideal S16896x4096 .f32 := fun u => entry x g w (u 0) (u 1)

/-- A token's logits. -/
def logits (x : Vec Ideal S16896x4096 .f32) (g : Vec Ideal S4096 .f32) (w : Vec Ideal S48x1x4096 .f32)
    (p : Vec Ideal S2x4096x16 .f32) (s : Fin 16896) (e : Fin 16) : EReal := inner (fun k => entry x g w s k) (fun k => p (ix3 1 k e))

/-- The affinities: experts by tokens. -/
def affArr (x : Vec Ideal S16896x4096 .f32) (g : Vec Ideal S4096 .f32) (w : Vec Ideal S48x1x4096 .f32)
    (p : Vec Ideal S2x4096x16 .f32) : Vec Ideal S16x16896 .f32 := fun u => softmax (logits x g w p (u 1)) (u 0)

theorem modulated_read (r : Fin 256) (n : Fin 4096) : k0_pay2 (X0 m c t) (X1 m c t) (X2 m c t) (X3 m c t) (ix2 r n)
    = entry (stream m c) (weights m c) (modulation m c) (row t r) n := by
  refine (modulated_at (X0 m c t) (X1 m c t) (X2 m c t) (X3 m c t) r n).trans ?_
  rw [stream_read, weights_read, scale_read m c t r, shift_read m c t r, funext fun k => stream_read m c t r k]
  rfl

theorem covers_rows : (cfg0.win 5).Covers := by
  refine (cfg0.win 5).covers_of_index_surj rfl (by decide) fun β => ?_
  have b0 : (β 0).val < 66 := lt_of_lt_of_eq (β 0).isLt (by decide)
  have b1 : (β 1).val < 1 := lt_of_lt_of_eq (β 1).isLt (by decide)
  refine ⟨⟨(β 0).val, lt_of_lt_of_eq b0 N_0.symm⟩, fun a => ?_⟩
  refine (congrFun (idx_in ⟨(β 0).val, lt_of_lt_of_eq b0 N_0.symm⟩).2.2.2.2.2.1 a).trans ?_
  match a with
  | ⟨0, _⟩ => rfl
  | ⟨1, _⟩ =>
    show 0 = (β 1).val
    omega

theorem covers_affinities : (cfg0.win 6).Covers := by
  refine (cfg0.win 6).covers_of_index_surj rfl (by decide) fun β => ?_
  have b0 : (β 0).val < 1 := lt_of_lt_of_eq (β 0).isLt (by decide)
  have b1 : (β 1).val < 66 := lt_of_lt_of_eq (β 1).isLt (by decide)
  refine ⟨⟨(β 1).val, lt_of_lt_of_eq b1 N_0.symm⟩, fun a => ?_⟩
  refine (congrFun (idx_in ⟨(β 1).val, lt_of_lt_of_eq b1 N_0.symm⟩).2.2.2.2.2.2 a).trans ?_
  match a with
  | ⟨0, _⟩ =>
    show 0 = (β 0).val
    omega
  | ⟨1, _⟩ => rfl

theorem rows_at (r : Fin 256) (n : Fin 4096) :
    ((cfg0.win 5).blk t).view.emb (ix2 r n) = (ix2 (row t r) n : S16896x4096.Idx) := by
  funext a
  refine Fin.ext ((win0_5.rect_emb_val t (ix2 r n : S256x4096.Idx) a).trans ?_)
  rw [(idx_in t).2.2.2.2.2.1]
  match a with
  | ⟨0, _⟩ => rfl
  | ⟨1, _⟩ => show 0 * 4096 + n.val = n.val; omega

theorem affinities_at (e : Fin 16) (r : Fin 256) :
    ((cfg0.win 6).blk t).view.emb (ix2 e r) = (ix2 e (row t r) : S16x16896.Idx) := by
  funext a
  refine Fin.ext ((win0_6.rect_emb_val t (ix2 e r : S16x256.Idx) a).trans ?_)
  rw [(idx_in t).2.2.2.2.2.2]
  match a with
  | ⟨0, _⟩ => show 0 * 16 + e.val = e.val; omega
  | ⟨1, _⟩ => rfl

theorem rows_array : (dats m 0 c).arrAt 5 cfg0.N = modArr (stream m c) (weights m c) (modulation m c) := by
  refine (dats m 0 c).arrAt_eq_of_covers 5 _ covers_rows fun t hf y => ?_
  blk_simp
  rw [after0_5]
  frame_out
  obtain ⟨r, n, rfl⟩ : ∃ (r : Fin 256) (n : Fin 4096), y = (ix2 r n : S256x4096.Idx) := ⟨y 0, y 1, by idx_vars y⟩
  refine Eq.trans ?_ (congrArg (modArr (stream m c) (weights m c) (modulation m c)) (rows_at t r n).symm)
  exact modulated_read m c t r n

theorem affinities_array :
    (dats m 0 c).arrAt 6 cfg0.N = affArr (stream m c) (weights m c) (modulation m c) (router m c) := by
  refine (dats m 0 c).arrAt_eq_of_covers 6 _ covers_affinities fun t hf y => ?_
  blk_simp
  rw [after0_6]
  frame_out
  obtain ⟨e, r, rfl⟩ : ∃ (e : Fin 16) (r : Fin 256), y = (ix2 e r : S16x256.Idx) := ⟨y 0, y 1, by idx_vars y⟩
  refine Eq.trans ?_ (congrArg (affArr (stream m c) (weights m c) (modulation m c) (router m c)) (affinities_at t e r).symm)
  refine (affinity_at (X0 m c t) (X1 m c t) (X2 m c t) (X3 m c t) (X4 m c t) e r).trans ?_
  simp only [modulated_read, router_read]
  rfl

/-- The kernel runs to the two result arrays and keeps its arguments. -/
theorem result_run (ρ : Dev nD → PrngReg) : θ_run defs (onTc (τ := τ) (main (F := Ideal))) ⟨m, fun _ => 0, ρ⟩ fun r => ∀ c : Dev nD,
    r.2.mem ((c.tc : Thread nD τ).loc main_v5_0) = modArr (stream m c) (weights m c) (modulation m c)
    ∧ r.2.mem ((c.tc : Thread nD τ).loc main_v5_1) = affArr (stream m c) (weights m c) (modulation m c) (router m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (run_main m ρ)
  exact ⟨((h c).1 5).trans (rows_array m c), ((h c).1 6).trans (affinities_array m c),
    ((h c).1 0).trans (((dats m 0 c).arrAt_in 0 rfl _).trans ((A_eq m c 0).trans (V_main_arg0 m c))),
    ((h c).2 main_arg1 (mem_restRefs_of main_arg1 (by decide) (by decide))).trans (V_main_arg1 m c),
    ((h c).1 2).trans (((dats m 0 c).arrAt_in 2 rfl _).trans ((A_eq m c 2).trans (V_main_arg2 m c))),
    ((h c).2 main_arg3 (mem_restRefs_of main_arg3 (by decide) (by decide))).trans (V_main_arg3 m c)⟩

end Cert.Proj.RouterSecond

end
-- ==== Proof.Proj.RouterSecondClaim.lean ====
/- The reference's two results are the same arrays as the kernel's, and the claims about the two: the second layer. -/
module

public import proofs.«01_k».proof.Defs
public import proofs.«01_k».proof.Proof.Proj.RouterSecond
public import proofs.«01_k».proof.Proof.Proj.ModClaim
public import proofs.«01_k».proof.Proof.Gen.Reference26Ideal.Run
public import Idealize.ShloMosaic.Lib.Quiescent

@[expose] public section

set_option maxRecDepth 16384

noncomputable section

namespace Cert.Proj.RouterSecond

open Idealize.ShloMosaic Idealize.ShloMosaic.TcCoe Idealize.SL.Sem Cert.Reference26Ideal Cert.Reference26Ideal.Gen

/-! ## The modulated rows -/

/-- The scale and the shift of every sample and of the context. -/
def scaleRows (w : FVec Ideal S48x1x4096 .f32) : FVec Ideal S8x4096 .f32 :=
  shapeCast S8x4096 (extractStridedSlice S8x1x4096 ![0, 4, 0] (shapeCast S8x6x4096 w shapeCasts_S48x1x4096_S8x6x4096)
    slices_S8x6x4096_S8x1x4096_0_4_0) shapeCasts_S8x1x4096_S8x4096
def shiftRows (w : FVec Ideal S48x1x4096 .f32) : FVec Ideal S8x4096 .f32 :=
  shapeCast S8x4096 (extractStridedSlice S8x1x4096 ![0, 3, 0] (shapeCast S8x6x4096 w shapeCasts_S48x1x4096_S8x6x4096)
    slices_S8x6x4096_S8x1x4096_0_3_0) shapeCasts_S8x1x4096_S8x4096

theorem scaleRows_at (w : FVec Ideal S48x1x4096 .f32) (b : Fin 8) (n : Fin 4096) :
    scaleRows w (ix2 b n) = w (ix3 ⟨b * 6 + 4, by omega⟩ 0 n) := by
  pointwise [scaleRows]

theorem shiftRows_at (w : FVec Ideal S48x1x4096 .f32) (b : Fin 8) (n : Fin 4096) :
    shiftRows w (ix2 b n) = w (ix3 ⟨b * 6 + 3, by omega⟩ 0 n) := by
  pointwise [shiftRows]

/-- The modulated rows as the reference computes them. -/
def rows (x : FVec Ideal S16896x4096 .f32) (g : FVec Ideal S4096 .f32) (w : FVec Ideal S48x1x4096 .f32) :
    FVec Ideal S16896x4096 .f32 := Mod.stacked (Mod.normedRows x g) (scaleRows w) (shiftRows w)

theorem rows_read (x : FVec Ideal S16896x4096 .f32) (g : FVec Ideal S4096 .f32) (w : FVec Ideal S48x1x4096 .f32) (s : Fin 16896)
    (n : Fin 4096) : rows x g w (ix2 s n) = entry x g w s n := by
  unfold rows
  rw [Mod.modulated_rows, Mod.normedRows_at, scaleRows_at, shiftRows_at]
  rfl

theorem reference_rows (x : FVec Ideal S16896x4096 .f32) (g : FVec Ideal S4096 .f32) (w : FVec Ideal S48x1x4096 .f32) :
    rows x g w = modArr x g w := by
  funext u
  idx_vars u
  exact rows_read x g w u0 u1

/-! ## The affinities -/

/-- The rows' product with the first layer's router weights. -/
def product (h : FVec Ideal S16896x4096 .f32) (p : FVec Ideal S2x4096x16 .f32) : FVec Ideal S16896x16 .f32 :=
  Host.dotGeneral dot_S16896x4096_S4096x16_S16896x16_1_0_0_1_n_n none h
    (shapeCast S4096x16 (extractStridedSlice S1x4096x16 ![1, 0, 0] p slices_S2x4096x16_S1x4096x16_1_0_0)
      shapeCasts_S1x4096x16_S4096x16)

theorem product_at (h : FVec Ideal S16896x4096 .f32) (p : FVec Ideal S2x4096x16 .f32) (s : Fin 16896) (e : Fin 16) :
    product h p (ix2 s e) = inner (fun k => h (ix2 s k)) (fun k => p (ix3 1 k e)) := by
  pointwise [product, inner]

/-- A token's greatest logit. -/
def greatest (l : FVec Ideal S16896x16 .f32) : FVec Ideal S16896 .f32 :=
  maximumf (broadcastInDim S16896 ![] bcast_S_S16896 (constant S_ .f32 0xFF800000#32))
    (Host.reduce FloatOps.maximumf l (constant S_ .f32 0xFF800000#32) reducesTo_S16896x16_S16896_d1 h_S_)

theorem greatest_at (l : FVec Ideal S16896x16 .f32) (s : Fin 16896) : greatest l (ix1 s) = top (fun e => l (ix2 s e)) := by
  have hr : Shape.Reduces S16896x16 [1] S16896 := by decide
  have h : Host.reduce (FloatOps.maximumf : Ideal .f32 → Ideal .f32 → Ideal .f32) l (constant S_ .f32 0xFF800000#32)
      reducesTo_S16896x16_S16896_d1 h_S_ (ix1 s) = top (fun e => l (ix2 s e)) := by
    refine (Host.reduce_eq_fold_single (s := S16896x16) (t := S16896) (a := 1) (max : EReal → EReal → EReal) l _ _ hr _ (ix1 s)).trans ?_
    refine congrArg (Finset.fold max _ · Finset.univ) (funext fun e => congrArg l ?_)
    funext a
    match a with
    | ⟨0, _⟩ => rfl
    | ⟨1, _⟩ => rfl
  show max (Ideal.ofBits FTy.f32 0xFF800000#32) (Host.reduce (FloatOps.maximumf : Ideal .f32 → Ideal .f32 → Ideal .f32) l
    (constant S_ .f32 0xFF800000#32) reducesTo_S16896x16_S16896_d1 h_S_ (ix1 s)) = _
  rw [h]
  exact max_eq_right ((Finset.le_fold_max _).mpr (Or.inl le_rfl))

/-- The logits' exponentials, each against its token's greatest. -/
def shares (l : FVec Ideal S16896x16 .f32) : FVec Ideal S16896x16 .f32 :=
  Host.exp (subf l (broadcastInDim S16896x16 ![0, 1] bcast_S16896x1_S16896x16_0_1
    (broadcastInDim S16896x1 ![0] bcast_S16896_S16896x1_0 (greatest l))))

theorem shares_at (l : FVec Ideal S16896x16 .f32) (s : Fin 16896) (e : Fin 16) :
    shares l (ix2 s e) = Ideal.exp (l (ix2 s e) - top (fun f => l (ix2 s f))) := by
  rw [← greatest_at]
  unfold shares
  generalize greatest l = v
  pointwise []

/-- Every share of its token's total: experts by tokens. -/
def affinities (l : FVec Ideal S16896x16 .f32) : FVec Ideal S16x16896 .f32 :=
  transpose S16x16896 [1, 0] (Host.divf (shares l) (broadcastInDim S16896x16 ![0, 1] bcast_S16896x1_S16896x16_0_1
    (broadcastInDim S16896x1 ![0] bcast_S16896_S16896x1_0
      (Host.reduceAdd (shares l) (constant S_ .f32 0x00000000#32) reducesTo_S16896x16_S16896_d1 h_S_))))
    transposes_S16896x16_S16x16896_1_0

theorem affinities_read (l : FVec Ideal S16896x16 .f32) (e : Fin 16) (s : Fin 16896) :
    affinities l (ix2 e s) = softmax (fun f => l (ix2 s f)) e := by
  have h : affinities l (ix2 e s) = Ideal.div (shares l (ix2 s e)) (∑ f, shares l (ix2 s f)) := by
    unfold affinities
    generalize shares l = v
    pointwise []
  rw [h]
  simp only [shares_at]
  rfl

theorem reference_affinities (x : FVec Ideal S16896x4096 .f32) (g : FVec Ideal S4096 .f32) (w : FVec Ideal S48x1x4096 .f32)
    (p : FVec Ideal S2x4096x16 .f32) : affinities (product (rows x g w) p) = affArr x g w p := by
  funext u
  idx_vars u
  refine (affinities_read _ u0 u1).trans ?_
  simp only [product_at, rows_read]
  rfl

/-- The kernel and the reference end with equal results. -/
theorem algebraic : @algebraic_Kernel26Ideal_Reference26Ideal Cert.Kernel26Ideal.Gen.facts Cert.Reference26Ideal.Gen.facts := by
  intro m g m' g' _ hm
  refine ⟨fun c => modArr (stream m c) (weights m c) (modulation m c),
    fun c => affArr (stream m c) (weights m c) (modulation m c) (router m c), ?_, ?_⟩
  · exact result_run m g
  · refine (θ_run _ _ _).mono (fun r h c => ?_) (Cert.Reference26Ideal.Value.run m' g')
    obtain ⟨e0, e1, e2, e3⟩ := hm c
    refine ⟨(h c).1.trans ?_, (h c).2.1.trans ?_, (h c).2.2⟩
    · rw [e0, e1, e2]
      exact reference_rows _ _ _
    · unfold Cert.Reference26Ideal.Value.res_main_v60
      rw [e0, e1, e2, e3]
      exact reference_affinities _ _ _ _

/-- The reference runs, keeps its arguments, and has no semaphore counter that could end off zero. -/
theorem reference_frame : @quiescent_Reference26Ideal Cert.Reference26Ideal.Gen.facts := fun m g _ =>
  (θ_run _ _ _).mono (fun r h => ⟨fun c => (h c).2.2, sem_eq_zero_of_no_sems (by decide) r.2⟩)
    (Cert.Reference26Ideal.Value.run m g)

end Cert.Proj.RouterSecond

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gla.Equal
public import proofs.«01_k».proof.Proof.Gla.Trips
public import proofs.«01_k».proof.Proof.Proj.WideClaim
public import proofs.«01_k».proof.Proof.Proj.GatesClaim
public import proofs.«01_k».proof.Proof.Proj.UpClaim
public import proofs.«01_k».proof.Proof.Proj.DownClaim
public import proofs.«01_k».proof.Proof.Proj.MergeClaim
public import proofs.«01_k».proof.Proof.Proj.OutClaim
public import proofs.«01_k».proof.Proof.Proj.NormClaim
public import proofs.«01_k».proof.Proof.Proj.LrClaim
public import proofs.«01_k».proof.Proof.Proj.PostClaim
public import proofs.«01_k».proof.Proof.Proj.ModClaim
public import proofs.«01_k».proof.Proof.Proj.RouterClaim
public import proofs.«01_k».proof.Proof.Proj.AdaClaim
public import proofs.«01_k».proof.Proof.Proj.ChanClaim
public import proofs.«01_k».proof.Proof.Proj.CtxClaim
public import proofs.«01_k».proof.Proof.Proj.PostCtxClaim
public import proofs.«01_k».proof.Proof.Proj.UpCtxClaim
public import proofs.«01_k».proof.Proof.Proj.DownCtxClaim
public import proofs.«01_k».proof.Proof.Proj.WideSecondClaim
public import proofs.«01_k».proof.Proof.Proj.GatesSecondClaim
public import proofs.«01_k».proof.Proof.Proj.UpSecondClaim
public import proofs.«01_k».proof.Proof.Proj.DownSecondClaim
public import proofs.«01_k».proof.Proof.Proj.MergeSecondClaim
public import proofs.«01_k».proof.Proof.Proj.OutSecondClaim
public import proofs.«01_k».proof.Proof.Proj.LrSecondClaim
public import proofs.«01_k».proof.Proof.Proj.RouterSecondClaim
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The named arrays are the same whichever program's memory they are read from. -/
theorem named_eq (m : (ℓ : Loc KernelIdeal.nD KernelIdeal.τ KernelIdeal.sig) → Buf (Elt Ideal) ℓ) (c : Dev KernelIdeal.nD) :
    Cert.Gla.Reference.named (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4)) = Cert.Gla.arrays m c := rfl

/-- The scan of the kernel and the scan of the reference end with equal results. -/
theorem scan_algebraic : @algebraic_KernelIdeal_ReferenceIdeal Cert.KernelIdeal.Gen.facts Cert.ReferenceIdeal.Gen.facts := by
  intro m g m' g' _ hm
  refine ⟨fun c => Cert.Gla.rowsArr (Cert.Gla.arrays m c), fun c => Cert.Gla.lastArr (Cert.Gla.arrays m c), ?_, ?_⟩
  · refine (θ_run _ _ _).mono (fun r h c => ?_) (Cert.KernelIdeal.Value.run_blocks m g)
    obtain ⟨h7, h8, ha⟩ := h c
    exact ⟨h7.trans (Cert.Gla.rows_array m c), h8.trans (Cert.Gla.last_array m c), ha⟩
  · refine (θ_run _ _ _).mono (fun r h c => ?_) (Cert.Gla.Trips.run_trips m' g')
    obtain ⟨h7, h8, ha⟩ := h c
    obtain ⟨e0, e1, e2, e3, e4⟩ := hm c
    have hs : Cert.Gla.Trips.start m' c = Cert.ReferenceIdeal.Step.init
        (m ((c.tc : Thread KernelIdeal.nD KernelIdeal.τ).loc KernelIdeal.main_arg0))
        (m ((c.tc : Thread KernelIdeal.nD KernelIdeal.τ).loc KernelIdeal.main_arg1))
        (m ((c.tc : Thread KernelIdeal.nD KernelIdeal.τ).loc KernelIdeal.main_arg2))
        (m ((c.tc : Thread KernelIdeal.nD KernelIdeal.τ).loc KernelIdeal.main_arg3))
        (m ((c.tc : Thread KernelIdeal.nD KernelIdeal.τ).loc KernelIdeal.main_arg4)) := by
      unfold Cert.Gla.Trips.start
      rw [e0, e1, e2, e3, e4]
    refine ⟨h7.trans ?_, h8.trans ?_, ha⟩
    · rw [hs, Cert.Gla.Reference.rows_result, named_eq]
    · rw [hs, Cert.Gla.Reference.last_result, named_eq]

/-- The reference runs, keeps its arguments, and has no semaphore counter that could end off zero. -/
theorem scan_reference_frame : @quiescent_ReferenceIdeal Cert.ReferenceIdeal.Gen.facts := fun m g _ =>
  (θ_run _ _ _).mono (fun r h => ⟨fun c => (h c).2.2, sem_eq_zero_of_no_sems (by decide) r.2⟩)
    (Cert.Gla.Trips.run_trips m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  fun m ρ _ => Cert.Kernel.Gen.frame m ρ, fun m ρ _ => Cert.KernelIdeal.Gen.frame m ρ, scan_reference_frame,
  fun m ρ _ => Cert.Kernel2.Gen.frame m ρ, fun m ρ _ => Cert.Kernel2Ideal.Gen.frame m ρ, Cert.Proj.Wide.reference_frame,
  fun m ρ _ => Cert.Kernel3.Gen.frame m ρ, fun m ρ _ => Cert.Kernel3Ideal.Gen.frame m ρ, Cert.Proj.Gates.reference_frame,
  fun m ρ _ => Cert.Kernel4.Gen.frame m ρ, fun m ρ _ => Cert.Kernel4Ideal.Gen.frame m ρ, Cert.Proj.Up.reference_frame,
  fun m ρ _ => Cert.Kernel5.Gen.frame m ρ, fun m ρ _ => Cert.Kernel5Ideal.Gen.frame m ρ, Cert.Proj.Down.reference_frame,
  fun m ρ _ => Cert.Kernel6.Gen.frame m ρ, fun m ρ _ => Cert.Kernel6Ideal.Gen.frame m ρ, Cert.Proj.Merge.reference_frame,
  fun m ρ _ => Cert.Kernel7.Gen.frame m ρ, fun m ρ _ => Cert.Kernel7Ideal.Gen.frame m ρ, Cert.Proj.Out.reference_frame,
  fun m ρ _ => Cert.Kernel8.Gen.frame m ρ, fun m ρ _ => Cert.Kernel8Ideal.Gen.frame m ρ, Cert.Proj.Norm.reference_frame,
  fun m ρ _ => Cert.Kernel9.Gen.frame m ρ, fun m ρ _ => Cert.Kernel9Ideal.Gen.frame m ρ, Cert.Proj.Lr.reference_frame,
  fun m ρ _ => Cert.Kernel10.Gen.frame m ρ, fun m ρ _ => Cert.Kernel10Ideal.Gen.frame m ρ, Cert.Proj.Post.reference_frame,
  fun m ρ _ => Cert.Kernel11.Gen.frame m ρ, fun m ρ _ => Cert.Kernel11Ideal.Gen.frame m ρ, Cert.Proj.Mod.reference_frame,
  fun m ρ _ => Cert.Kernel12.Gen.frame m ρ, fun m ρ _ => Cert.Kernel12Ideal.Gen.frame m ρ, Cert.Proj.Router.reference_frame,
  fun m ρ _ => Cert.Kernel13.Gen.frame m ρ, fun m ρ _ => Cert.Kernel13Ideal.Gen.frame m ρ, Cert.Proj.Ada.reference_frame,
  fun m ρ _ => Cert.Kernel14.Gen.frame m ρ, fun m ρ _ => Cert.Kernel14Ideal.Gen.frame m ρ, Cert.Proj.Chan.reference_frame,
  fun m ρ _ => Cert.Kernel15.Gen.frame m ρ, fun m ρ _ => Cert.Kernel15Ideal.Gen.frame m ρ, Cert.Proj.Ctx.reference_frame,
  fun m ρ _ => Cert.Kernel16.Gen.frame m ρ, fun m ρ _ => Cert.Kernel16Ideal.Gen.frame m ρ, Cert.Proj.PostCtx.reference_frame,
  fun m ρ _ => Cert.Kernel17.Gen.frame m ρ, fun m ρ _ => Cert.Kernel17Ideal.Gen.frame m ρ, Cert.Proj.UpCtx.reference_frame,
  fun m ρ _ => Cert.Kernel18.Gen.frame m ρ, fun m ρ _ => Cert.Kernel18Ideal.Gen.frame m ρ, Cert.Proj.DownCtx.reference_frame,
  fun m ρ _ => Cert.Kernel19.Gen.frame m ρ, fun m ρ _ => Cert.Kernel19Ideal.Gen.frame m ρ, Cert.Proj.WideSecond.reference_frame,
  fun m ρ _ => Cert.Kernel20.Gen.frame m ρ, fun m ρ _ => Cert.Kernel20Ideal.Gen.frame m ρ, Cert.Proj.GatesSecond.reference_frame,
  fun m ρ _ => Cert.Kernel21.Gen.frame m ρ, fun m ρ _ => Cert.Kernel21Ideal.Gen.frame m ρ, Cert.Proj.UpSecond.reference_frame,
  fun m ρ _ => Cert.Kernel22.Gen.frame m ρ, fun m ρ _ => Cert.Kernel22Ideal.Gen.frame m ρ, Cert.Proj.DownSecond.reference_frame,
  fun m ρ _ => Cert.Kernel23.Gen.frame m ρ, fun m ρ _ => Cert.Kernel23Ideal.Gen.frame m ρ, Cert.Proj.MergeSecond.reference_frame,
  fun m ρ _ => Cert.Kernel24.Gen.frame m ρ, fun m ρ _ => Cert.Kernel24Ideal.Gen.frame m ρ, Cert.Proj.OutSecond.reference_frame,
  fun m ρ _ => Cert.Kernel25.Gen.frame m ρ, fun m ρ _ => Cert.Kernel25Ideal.Gen.frame m ρ, Cert.Proj.LrSecond.reference_frame,
  fun m ρ _ => Cert.Kernel26.Gen.frame m ρ, fun m ρ _ => Cert.Kernel26Ideal.Gen.frame m ρ, Cert.Proj.RouterSecond.reference_frame,
  trivial, scan_algebraic, trivial, Cert.Proj.Wide.algebraic, trivial, Cert.Proj.Gates.algebraic,
  trivial, Cert.Proj.Up.algebraic, trivial, Cert.Proj.Down.algebraic, trivial, Cert.Proj.Merge.algebraic, trivial, Cert.Proj.Out.algebraic,
  trivial, Cert.Proj.Norm.algebraic,
  trivial, Cert.Proj.Lr.algebraic, trivial, Cert.Proj.Post.algebraic, trivial, Cert.Proj.Mod.algebraic, trivial, Cert.Proj.Router.algebraic, trivial, Cert.Proj.Ada.algebraic,
  trivial, Cert.Proj.Chan.algebraic, trivial, Cert.Proj.Ctx.algebraic, trivial, Cert.Proj.PostCtx.algebraic, trivial, Cert.Proj.UpCtx.algebraic, trivial, Cert.Proj.DownCtx.algebraic,
  trivial, Cert.Proj.WideSecond.algebraic, trivial, Cert.Proj.GatesSecond.algebraic, trivial, Cert.Proj.UpSecond.algebraic, trivial, Cert.Proj.DownSecond.algebraic, trivial, Cert.Proj.MergeSecond.algebraic, trivial, Cert.Proj.OutSecond.algebraic,
  trivial, Cert.Proj.LrSecond.algebraic, trivial, Cert.Proj.RouterSecond.algebraic⟩

end Cert.Proof

end
